-- ==== Defs.lean ====
def Pre_Kernel [hPre_ids_in_range : Cert.Pre_ids_in_range.Facts] (m : (ℓ : Loc Cert.Kernel.nD Cert.Kernel.τ Cert.Kernel.sig) → Buf (Elt Bits) ℓ) : Prop :=
  ∀ c : Dev Cert.Kernel.nD,
    (Cert.Pre_ids_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_ids_in_range : Cert.Pre_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_KernelIdeal_ids_distinct [hPre_ids_distinct : Cert.Pre_ids_distinct.Facts] (m : (ℓ : Loc Cert.KernelIdeal.nD Cert.KernelIdeal.τ Cert.KernelIdeal.sig) → Buf (Elt Ideal) ℓ) : Prop :=
  ∀ c : Dev Cert.KernelIdeal.nD,
    (Cert.Pre_ids_distinct.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_distinct [hPre_ids_distinct : Cert.Pre_ids_distinct.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_distinct.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] [hPre_ids_in_range : Cert.Pre_ids_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_ids_distinct [hKernelIdeal : Cert.KernelIdeal.Facts] [hPre_ids_distinct : Cert.Pre_ids_distinct.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_distinct m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_ids_distinct [hReferenceIdeal : Cert.ReferenceIdeal.Facts] [hPre_ids_distinct : Cert.Pre_ids_distinct.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_distinct m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_ids_distinct [hKernelIdeal : Cert.KernelIdeal.Facts] [hReferenceIdeal : Cert.ReferenceIdeal.Facts] [hPre_ids_distinct : Cert.Pre_ids_distinct.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_distinct m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_ids_in_range : Cert.Pre_ids_in_range.Facts) (hPre_ids_distinct : Cert.Pre_ids_distinct.Facts),
    quiescent_Kernel (hKernel := hKernel) (hPre_ids_in_range := hPre_ids_in_range)
    ∧ quiescent_KernelIdeal (hKernelIdeal := hKernelIdeal) (hPre_ids_in_range := hPre_ids_in_range)
    ∧ quiescent_KernelIdeal_pre_ids_distinct (hKernelIdeal := hKernelIdeal) (hPre_ids_distinct := hPre_ids_distinct)
    ∧ quiescent_ReferenceIdeal (hReferenceIdeal := hReferenceIdeal)
    ∧ quiescent_ReferenceIdeal_pre_ids_distinct (hReferenceIdeal := hReferenceIdeal) (hPre_ids_distinct := hPre_ids_distinct)
    ∧ preserves_Kernel_KernelIdeal
    ∧ algebraic_KernelIdeal_ReferenceIdeal_pre_ids_distinct (hKernelIdeal := hKernelIdeal) (hReferenceIdeal := hReferenceIdeal) (hPre_ids_distinct := hPre_ids_distinct)
-- ==== Pre_ids_distinct.lean ====
abbrev S24x1x2816 : Shape := ⟨3, ![24, 1, 2816]⟩
abbrev S24x1x6 : Shape := ⟨3, ![24, 1, 6]⟩
abbrev S32x1408x2816 : Shape := ⟨3, ![32, 1408, 2816]⟩
abbrev S32x22x2816 : Shape := ⟨3, ![32, 22, 2816]⟩
abbrev S32x704x2816 : Shape := ⟨3, ![32, 704, 2816]⟩
abbrev S32x11x2816 : Shape := ⟨3, ![32, 11, 2816]⟩
abbrev S24x1x6x1 : Shape := ⟨4, ![24, 1, 6, 1]⟩
abbrev S24x1x1x6 : Shape := ⟨4, ![24, 1, 1, 6]⟩
abbrev S24x1x6x6 : Shape := ⟨4, ![24, 1, 6, 6]⟩
abbrev S6 : Shape := ⟨1, ![6]⟩
abbrev S6x1 : Shape := ⟨2, ![6, 1]⟩
abbrev S1x6 : Shape := ⟨2, ![1, 6]⟩
abbrev S6x6 : Shape := ⟨2, ![6, 6]⟩
abbrev S1x1x6x6 : Shape := ⟨4, ![1, 1, 6, 6]⟩
abbrev S_ : Shape := ⟨0, ![]⟩

class Facts : Prop where
  bcast_S24x1x6_S24x1x6x1_0_1_2 : S24x1x6.BroadcastsInDim S24x1x6x1 (![0, 1, 2] : Fin 3 → Fin S24x1x6x1.rank)
  bcast_S24x1x6_S24x1x1x6_0_1_3 : S24x1x6.BroadcastsInDim S24x1x1x6 (![0, 1, 3] : Fin 3 → Fin S24x1x1x6.rank)
  bcast_S24x1x6x1_S24x1x6x6_0_1_2_3 : S24x1x6x1.BroadcastsInDim S24x1x6x6 (![0, 1, 2, 3] : Fin 4 → Fin S24x1x6x6.rank)
  bcast_S24x1x1x6_S24x1x6x6_0_1_2_3 : S24x1x1x6.BroadcastsInDim S24x1x6x6 (![0, 1, 2, 3] : Fin 4 → Fin S24x1x6x6.rank)
  bcast_S6_S6x1_0 : S6.BroadcastsInDim S6x1 (![0] : Fin 1 → Fin S6x1.rank)
  bcast_S6_S1x6_1 : S6.BroadcastsInDim S1x6 (![1] : Fin 1 → Fin S1x6.rank)
  bcast_S6x1_S6x6_0_1 : S6x1.BroadcastsInDim S6x6 (![0, 1] : Fin 2 → Fin S6x6.rank)
  bcast_S1x6_S6x6_0_1 : S1x6.BroadcastsInDim S6x6 (![0, 1] : Fin 2 → Fin S6x6.rank)
  bcast_S6x6_S1x1x6x6_2_3 : S6x6.BroadcastsInDim S1x1x6x6 (![2, 3] : Fin 2 → Fin S1x1x6x6.rank)
  bcast_S1x1x6x6_S24x1x6x6_0_1_2_3 : S1x1x6x6.BroadcastsInDim S24x1x6x6 (![0, 1, 2, 3] : Fin 4 → Fin S24x1x6x6.rank)
  reducesTo_S24x1x6x6_S_d0_1_2_3 : S24x1x6x6.ReducesTo [0, 1, 2, 3] S_
  h_S_ : 0 < S_.numel
  bcast_S_S24x1x6 : S_.BroadcastsInDim S24x1x6 (![] : Fin 0 → Fin S24x1x6.rank)
  reducesTo_S24x1x6_S_d0_1_2 : S24x1x6.ReducesTo [0, 1, 2] S_

variable [Facts]

def fn_part1 {F : FTy → Type} [FloatOps F] (main_v14 : IVec S_ 1) (main_v19 : IVec S24x1x6 1) (main_c_2 : IVec S_ 1) : IVec S_ 1 :=
  let main_v20 : IVec S_ 1 := (fun x v => Host.reduce IntOp.andi x v reducesTo_S24x1x6_S_d0_1_2 h_S_) main_v19 main_c_2
  let main_v21 : IVec S_ 1 := andi main_v14 main_v20
  main_v21

def fn {F : FTy → Type} [FloatOps F] (main_arg0 : FVec F S24x1x2816 .bf16) (main_arg1 : IVec S24x1x6 32) (main_arg2 : FVec F S24x1x6 .f32) (main_arg3 : IVec S32x1408x2816 8) (main_arg4 : FVec F S32x22x2816 .bf16) (main_arg5 : IVec S32x704x2816 8) (main_arg6 : FVec F S32x11x2816 .bf16) : IVec S_ 1 :=
  let main_v0 : IVec S24x1x6x1 32 := broadcastInDim S24x1x6x1 ![0, 1, 2] bcast_S24x1x6_S24x1x6x1_0_1_2 main_arg1
  let main_v1 : IVec S24x1x1x6 32 := broadcastInDim S24x1x1x6 ![0, 1, 3] bcast_S24x1x6_S24x1x1x6_0_1_3 main_arg1
  let main_v2 : IVec S24x1x6x6 32 := broadcastInDim S24x1x6x6 ![0, 1, 2, 3] bcast_S24x1x6x1_S24x1x6x6_0_1_2_3 main_v0
  let main_v3 : IVec S24x1x6x6 32 := broadcastInDim S24x1x6x6 ![0, 1, 2, 3] bcast_S24x1x1x6_S24x1x6x6_0_1_2_3 main_v1
  let main_v4 : IVec S24x1x6x6 1 := cmpi .eq main_v2 main_v3
  let main_v5 : IVec S6 32 := iotaInDim S6 32 0
  let main_v6 : IVec S6x1 32 := broadcastInDim S6x1 ![0] bcast_S6_S6x1_0 main_v5
  let main_v7 : IVec S1x6 32 := broadcastInDim S1x6 ![1] bcast_S6_S1x6_1 main_v5
  let main_v8 : IVec S6x6 32 := broadcastInDim S6x6 ![0, 1] bcast_S6x1_S6x6_0_1 main_v6
  let main_v9 : IVec S6x6 32 := broadcastInDim S6x6 ![0, 1] bcast_S1x6_S6x6_0_1 main_v7
  let main_v10 : IVec S6x6 1 := cmpi .eq main_v8 main_v9
  let main_v11 : IVec S1x1x6x6 1 := broadcastInDim S1x1x6x6 ![2, 3] bcast_S6x6_S1x1x6x6_2_3 main_v10
  let main_v12 : IVec S24x1x6x6 1 := broadcastInDim S24x1x6x6 ![0, 1, 2, 3] bcast_S1x1x6x6_S24x1x6x6_0_1_2_3 main_v11
  let main_v13 : IVec S24x1x6x6 1 := cmpi .eq main_v4 main_v12
  let main_c : IVec S_ 1 := constantI S_ 1 1#1
  let main_v14 : IVec S_ 1 := (fun x v => Host.reduce IntOp.andi x v reducesTo_S24x1x6x6_S_d0_1_2_3 h_S_) main_v13 main_c
  let main_c_0 : IVec S_ 32 := constantI S_ 32 0#32
  let main_v15 : IVec S24x1x6 32 := broadcastInDim S24x1x6 ![] bcast_S_S24x1x6 main_c_0
  let main_v16 : IVec S24x1x6 1 := cmpi .sge main_arg1 main_v15
  let main_c_1 : IVec S_ 32 := constantI S_ 32 32#32
  let main_v17 : IVec S24x1x6 32 := broadcastInDim S24x1x6 ![] bcast_S_S24x1x6 main_c_1
  let main_v18 : IVec S24x1x6 1 := cmpi .slt main_arg1 main_v17
  let main_v19 : IVec S24x1x6 1 := andi main_v16 main_v18
  let main_c_2 : IVec S_ 1 := constantI S_ 1 1#1
  fn_part1 (F := F) main_v14 main_v19 main_c_2
-- ==== Pre_ids_in_range.lean ====
abbrev S24x1x2816 : Shape := ⟨3, ![24, 1, 2816]⟩
abbrev S24x1x6 : Shape := ⟨3, ![24, 1, 6]⟩
abbrev S32x1408x2816 : Shape := ⟨3, ![32, 1408, 2816]⟩
abbrev S32x22x2816 : Shape := ⟨3, ![32, 22, 2816]⟩
abbrev S32x704x2816 : Shape := ⟨3, ![32, 704, 2816]⟩
abbrev S32x11x2816 : Shape := ⟨3, ![32, 11, 2816]⟩
abbrev S_ : Shape := ⟨0, ![]⟩

class Facts : Prop where
  bcast_S_S24x1x6 : S_.BroadcastsInDim S24x1x6 (![] : Fin 0 → Fin S24x1x6.rank)
  reducesTo_S24x1x6_S_d0_1_2 : S24x1x6.ReducesTo [0, 1, 2] S_
  h_S_ : 0 < S_.numel

variable [Facts]

def fn {F : FTy → Type} [FloatOps F] (main_arg0 : FVec F S24x1x2816 .bf16) (main_arg1 : IVec S24x1x6 32) (main_arg2 : FVec F S24x1x6 .f32) (main_arg3 : IVec S32x1408x2816 8) (main_arg4 : FVec F S32x22x2816 .bf16) (main_arg5 : IVec S32x704x2816 8) (main_arg6 : FVec F S32x11x2816 .bf16) : IVec S_ 1 :=
  let main_c : IVec S_ 32 := constantI S_ 32 0#32
  let main_v0 : IVec S24x1x6 32 := broadcastInDim S24x1x6 ![] bcast_S_S24x1x6 main_c
  let main_v1 : IVec S24x1x6 1 := cmpi .sge main_arg1 main_v0
  let main_c_0 : IVec S_ 32 := constantI S_ 32 32#32
  let main_v2 : IVec S24x1x6 32 := broadcastInDim S24x1x6 ![] bcast_S_S24x1x6 main_c_0
  let main_v3 : IVec S24x1x6 1 := cmpi .slt main_arg1 main_v2
  let main_v4 : IVec S24x1x6 1 := andi main_v1 main_v3
  let main_c_1 : IVec S_ 1 := constantI S_ 1 1#1
  let main_v5 : IVec S_ 1 := (fun x v => Host.reduce IntOp.andi x v reducesTo_S24x1x6_S_d0_1_2 h_S_) main_v4 main_c_1
  main_v5
-- ==== Kernel.lean ====
abbrev S24x1x2816 : Shape := ⟨3, ![24, 1, 2816]⟩
abbrev S24x1x6 : Shape := ⟨3, ![24, 1, 6]⟩
abbrev S32x1408x2816 : Shape := ⟨3, ![32, 1408, 2816]⟩
abbrev S32x22x2816 : Shape := ⟨3, ![32, 22, 2816]⟩
abbrev S32x704x2816 : Shape := ⟨3, ![32, 704, 2816]⟩
abbrev S32x11x2816 : Shape := ⟨3, ![32, 11, 2816]⟩
abbrev S24x6 : Shape := ⟨2, ![24, 6]⟩
abbrev S144 : Shape := ⟨1, ![144]⟩
abbrev S24x2816 : Shape := ⟨2, ![24, 2816]⟩
abbrev S2x1408x2816 : Shape := ⟨3, ![2, 1408, 2816]⟩
abbrev S2x22x2816 : Shape := ⟨3, ![2, 22, 2816]⟩
abbrev S2x704x2816 : Shape := ⟨3, ![2, 704, 2816]⟩
abbrev S2x11x2816 : Shape := ⟨3, ![2, 11, 2816]⟩
abbrev S24x1408 : Shape := ⟨2, ![24, 1408]⟩
abbrev S33 : Shape := ⟨1, ![33]⟩
abbrev S2x4 : Shape := ⟨2, ![2, 4]⟩
abbrev S1 : Shape := ⟨1, ![1]⟩
abbrev S1x1 : Shape := ⟨2, ![1, 1]⟩
abbrev S_ : Shape := ⟨0, ![]⟩
abbrev S1x1408x2816 : Shape := ⟨3, ![1, 1408, 2816]⟩
abbrev S1408x2816 : Shape := ⟨2, ![1408, 2816]⟩
abbrev S1x22x2816 : Shape := ⟨3, ![1, 22, 2816]⟩
abbrev S22x2816 : Shape := ⟨2, ![22, 2816]⟩
abbrev S1x704x2816 : Shape := ⟨3, ![1, 704, 2816]⟩
abbrev S704x2816 : Shape := ⟨2, ![704, 2816]⟩
abbrev S1x11x2816 : Shape := ⟨3, ![1, 11, 2816]⟩
abbrev S11x2816 : Shape := ⟨2, ![11, 2816]⟩
abbrev S24 : Shape := ⟨1, ![24]⟩
abbrev S24x1 : Shape := ⟨2, ![24, 1]⟩
abbrev S1x1408x128 : Shape := ⟨3, ![1, 1408, 128]⟩
abbrev S1408x128 : Shape := ⟨2, ![1408, 128]⟩
abbrev S1x22x128 : Shape := ⟨3, ![1, 22, 128]⟩
abbrev S22x128 : Shape := ⟨2, ![22, 128]⟩
abbrev S1408x1x128 : Shape := ⟨3, ![1408, 1, 128]⟩
abbrev S1408x2x128 : Shape := ⟨3, ![1408, 2, 128]⟩
abbrev S2816x128 : Shape := ⟨2, ![2816, 128]⟩
abbrev S22x128x128 : Shape := ⟨3, ![22, 128, 128]⟩
abbrev S22x1x128 : Shape := ⟨3, ![22, 1, 128]⟩
abbrev S2816x256 : Shape := ⟨2, ![2816, 256]⟩
abbrev S24x256 : Shape := ⟨2, ![24, 256]⟩
abbrev S24x128 : Shape := ⟨2, ![24, 128]⟩
abbrev S1x704x256 : Shape := ⟨3, ![1, 704, 256]⟩
abbrev S704x256 : Shape := ⟨2, ![704, 256]⟩
abbrev S1x11x256 : Shape := ⟨3, ![1, 11, 256]⟩
abbrev S11x256 : Shape := ⟨2, ![11, 256]⟩
abbrev S704x1x256 : Shape := ⟨3, ![704, 1, 256]⟩
abbrev S704x2x256 : Shape := ⟨3, ![704, 2, 256]⟩
abbrev S1408x256 : Shape := ⟨2, ![1408, 256]⟩
abbrev S11x128x256 : Shape := ⟨3, ![11, 128, 256]⟩
abbrev S11x1x256 : Shape := ⟨3, ![11, 1, 256]⟩

abbrev nBuf : Space → Nat
  | .hbm => 13
  | .vmem => 10
  | .smem => 2
  | _ => 0

abbrev bufTy : (tb : Table) → Fin (tcTables nBuf tb) → BufTy
  | .hbm, ⟨0, _⟩ => ⟨S24x1x2816, .bf16⟩
  | .hbm, ⟨1, _⟩ => ⟨S24x1x6, .i32⟩
  | .hbm, ⟨2, _⟩ => ⟨S24x1x6, .f32⟩
  | .hbm, ⟨3, _⟩ => ⟨S32x1408x2816, .i8⟩
  | .hbm, ⟨4, _⟩ => ⟨S32x22x2816, .bf16⟩
  | .hbm, ⟨5, _⟩ => ⟨S32x704x2816, .i8⟩
  | .hbm, ⟨6, _⟩ => ⟨S32x11x2816, .bf16⟩
  | .hbm, ⟨7, _⟩ => ⟨S24x6, .i32⟩
  | .hbm, ⟨8, _⟩ => ⟨S24x6, .f32⟩
  | .hbm, ⟨9, _⟩ => ⟨S144, .i32⟩
  | .hbm, ⟨10, _⟩ => ⟨S24x2816, .bf16⟩
  | .hbm, ⟨11, _⟩ => ⟨S24x2816, .bf16⟩
  | .hbm, ⟨12, _⟩ => ⟨S24x1x2816, .bf16⟩
  | .local _ .vmem, ⟨0, _⟩ => ⟨S24x2816, .bf16⟩
  | .local _ .vmem, ⟨1, _⟩ => ⟨S24x6, .i32⟩
  | .local _ .vmem, ⟨2, _⟩ => ⟨S24x6, .f32⟩
  | .local _ .vmem, ⟨3, _⟩ => ⟨S24x2816, .bf16⟩
  | .local _ .vmem, ⟨4, _⟩ => ⟨S2x1408x2816, .i8⟩
  | .local _ .vmem, ⟨5, _⟩ => ⟨S2x22x2816, .bf16⟩
  | .local _ .vmem, ⟨6, _⟩ => ⟨S2x704x2816, .i8⟩
  | .local _ .vmem, ⟨7, _⟩ => ⟨S2x11x2816, .bf16⟩
  | .local _ .vmem, ⟨8, _⟩ => ⟨S24x1408, .bf16⟩
  | .local _ .vmem, ⟨9, _⟩ => ⟨S24x2816, .f32⟩
  | .local _ .smem, ⟨0, _⟩ => ⟨S144, .i32⟩
  | .local _ .smem, ⟨1, _⟩ => ⟨S33, .i32⟩
  | _, _ => ⟨S24x1x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_stg0_0 : Ref sig .tc := ⟨.smem, 0, rfl⟩
abbrev cc0_scratch6 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

@[reducible] def k0_t1_loop : Scf.Loop 32 :=
  let c0_i32_0 : BitVec 32 := 0#32
  let c144_i32 : BitVec 32 := 144#32
  let v0 : BitVec 32 := Scalar.addi c0_i32_0 c144_i32
  let c1_i32 : BitVec 32 := 1#32
  ⟨c0_i32_0, v0, c1_i32⟩
def k0_off1 (k0_t1 : Fin k0_t1_loop.trips) : Fin 1 → Nat :=
  let c0_i32_0 : BitVec 32 := 0#32
  let c1_i32 : BitVec 32 := 1#32
  let arg17 : BitVec 32 := Scf.iv c0_i32_0 c1_i32 k0_t1
  let v41 : Index := Scalar.indexCast arg17
  ![v41.toNat]
@[reducible] def k0_t2_loop : Scf.Loop 32 :=
  let c0_i32_3 : BitVec 32 := 0#32
  let c32_i32 : BitVec 32 := 32#32
  let v2 : BitVec 32 := Scalar.addi c0_i32_3 c32_i32
  let c1_i32_4 : BitVec 32 := 1#32
  ⟨c0_i32_3, v2, c1_i32_4⟩
def k0_off2 (arg18 : BitVec 32) : Fin 1 → Nat :=
  let v41 : Index := Scalar.indexCast arg18
  ![v41.toNat]

def k0_chk1 (arg18 : BitVec 32) : Prop :=
  (∀ a, (k0_off2 arg18) a + S1.size a ≤ S33.size a)
theorem k0_off2_inb : ∀ (arg18 : BitVec 32) (k0_hw1 : k0_chk1 arg18), ∀ a, (k0_off2 arg18) a + S1.size a ≤ S33.size a := fun arg18 k0_hw1 => k0_hw1

def k0_off3 (v4 : BitVec 32) : Fin 3 → Nat :=
  let c0_i32_11 : BitVec 32 := 0#32
  let c0_i32_12 : BitVec 32 := 0#32
  ![v4.toNat, 0, 0]

def k0_off4 (v4 : BitVec 32) : Fin 3 → Nat :=
  let c0_i32_18 : BitVec 32 := 0#32
  let c0_i32_19 : BitVec 32 := 0#32
  ![v4.toNat, 0, 0]
def k0_off5 (v4 : BitVec 32) : Fin 3 → Nat :=
  let c0_i32_24 : BitVec 32 := 0#32
  let c0_i32_25 : BitVec 32 := 0#32
  ![v4.toNat, 0, 0]
def k0_off6 (v4 : BitVec 32) : Fin 3 → Nat :=
  let c0_i32_30 : BitVec 32 := 0#32
  let c0_i32_31 : BitVec 32 := 0#32
  ![v4.toNat, 0, 0]

def k0_chk2 (v4 : BitVec 32) : Prop :=
  (∀ a, (k0_off3 v4) a + S1x1408x2816.size a ≤ S32x1408x2816.size a) ∧
  (∀ (hinb : ∀ a, (k0_off3 v4) a + S1x1408x2816.size a ≤ S32x1408x2816.size a), (Rect.unit (s := S32x1408x2816) (k0_off3 v4) S1x1408x2816.size hinb).WholeWords (EltTy.packing .i8)) ∧
  (∀ a, (k0_off4 v4) a + S1x22x2816.size a ≤ S32x22x2816.size a) ∧
  (∀ (hinb : ∀ a, (k0_off4 v4) a + S1x22x2816.size a ≤ S32x22x2816.size a), (Rect.unit (s := S32x22x2816) (k0_off4 v4) S1x22x2816.size hinb).WholeWords (EltTy.packing .bf16)) ∧
  (∀ a, (k0_off5 v4) a + S1x704x2816.size a ≤ S32x704x2816.size a) ∧
  (∀ (hinb : ∀ a, (k0_off5 v4) a + S1x704x2816.size a ≤ S32x704x2816.size a), (Rect.unit (s := S32x704x2816) (k0_off5 v4) S1x704x2816.size hinb).WholeWords (EltTy.packing .i8)) ∧
  (∀ a, (k0_off6 v4) a + S1x11x2816.size a ≤ S32x11x2816.size a) ∧
  (∀ (hinb : ∀ a, (k0_off6 v4) a + S1x11x2816.size a ≤ S32x11x2816.size a), (Rect.unit (s := S32x11x2816) (k0_off6 v4) S1x11x2816.size hinb).WholeWords (EltTy.packing .bf16))
theorem k0_off3_inb : ∀ (v4 : BitVec 32) (k0_hw2 : k0_chk2 v4), ∀ a, (k0_off3 v4) a + S1x1408x2816.size a ≤ S32x1408x2816.size a := fun v4 k0_hw2 => k0_hw2.1
theorem k0_off3_wordsi8 : ∀ (v4 : BitVec 32) (k0_hw2 : k0_chk2 v4), (Rect.unit (s := S32x1408x2816) (k0_off3 v4) S1x1408x2816.size (k0_off3_inb v4 k0_hw2)).WholeWords (EltTy.packing .i8) := fun v4 k0_hw2 => k0_hw2.2.1 (k0_off3_inb v4 k0_hw2)
theorem k0_off4_inb : ∀ (v4 : BitVec 32) (k0_hw2 : k0_chk2 v4), ∀ a, (k0_off4 v4) a + S1x22x2816.size a ≤ S32x22x2816.size a := fun v4 k0_hw2 => k0_hw2.2.2.1
theorem k0_off4_wordsbf16 : ∀ (v4 : BitVec 32) (k0_hw2 : k0_chk2 v4), (Rect.unit (s := S32x22x2816) (k0_off4 v4) S1x22x2816.size (k0_off4_inb v4 k0_hw2)).WholeWords (EltTy.packing .bf16) := fun v4 k0_hw2 => k0_hw2.2.2.2.1 (k0_off4_inb v4 k0_hw2)
theorem k0_off5_inb : ∀ (v4 : BitVec 32) (k0_hw2 : k0_chk2 v4), ∀ a, (k0_off5 v4) a + S1x704x2816.size a ≤ S32x704x2816.size a := fun v4 k0_hw2 => k0_hw2.2.2.2.2.1
theorem k0_off5_wordsi8 : ∀ (v4 : BitVec 32) (k0_hw2 : k0_chk2 v4), (Rect.unit (s := S32x704x2816) (k0_off5 v4) S1x704x2816.size (k0_off5_inb v4 k0_hw2)).WholeWords (EltTy.packing .i8) := fun v4 k0_hw2 => k0_hw2.2.2.2.2.2.1 (k0_off5_inb v4 k0_hw2)
theorem k0_off6_inb : ∀ (v4 : BitVec 32) (k0_hw2 : k0_chk2 v4), ∀ a, (k0_off6 v4) a + S1x11x2816.size a ≤ S32x11x2816.size a := fun v4 k0_hw2 => k0_hw2.2.2.2.2.2.2.1
theorem k0_off6_wordsbf16 : ∀ (v4 : BitVec 32) (k0_hw2 : k0_chk2 v4), (Rect.unit (s := S32x11x2816) (k0_off6 v4) S1x11x2816.size (k0_off6_inb v4 k0_hw2)).WholeWords (EltTy.packing .bf16) := fun v4 k0_hw2 => k0_hw2.2.2.2.2.2.2.2 (k0_off6_inb v4 k0_hw2)

@[reducible] def k0_t3_loop (v3 : BitVec 32) : Scf.Loop 32 :=
  let c0_i32_35 : BitVec 32 := 0#32
  let v33 : BitVec 32 := Scalar.subi v3 c0_i32_35
  let c1_i32_36 : BitVec 32 := 1#32
  let v35 : BitVec 32 := Scalar.divsi v33 c1_i32_36
  let v36 : BitVec 32 := Scalar.muli v35 c1_i32_36
  let v37 : BitVec 32 := Scalar.addi c0_i32_35 v36
  let c1_i32_37 : BitVec 32 := 1#32
  ⟨c0_i32_35, v37, c1_i32_37⟩

def k0_off7 (v3 : BitVec 32) (k0_t3 : Fin (k0_t3_loop v3).trips) : Fin 1 → Nat :=
  let c0_i32_35 : BitVec 32 := 0#32
  let c1_i32_37 : BitVec 32 := 1#32
  let arg17 : BitVec 32 := Scf.iv c0_i32_35 c1_i32_37 k0_t3
  let c1_i32_420 : BitVec 32 := 1#32
  let v1172 : BitVec 32 := Scalar.addi arg17 c1_i32_420
  let v1174 : Index := Scalar.indexCast v1172
  ![v1174.toNat]
def k0_cond1 (v3 : BitVec 32) (k0_t3 : Fin (k0_t3_loop v3).trips) : BitVec 1 :=
  let c0_i32_35 : BitVec 32 := 0#32
  let c1_i32_37 : BitVec 32 := 1#32
  let arg17 : BitVec 32 := Scf.iv c0_i32_35 c1_i32_37 k0_t3
  let c1_i32_44 : BitVec 32 := 1#32
  let v42 : BitVec 32 := Scalar.addi arg17 c1_i32_44
  let v43 : BitVec 1 := Scalar.cmpi .slt v42 v3
  let v44 : BitVec 32 := Scalar.extui v43
  let c0_i32_45 : BitVec 32 := 0#32
  let v45 : BitVec 1 := Scalar.cmpi .ne v44 c0_i32_45
  v45

def k0_off8 (v3 : BitVec 32) (k0_t3 : Fin (k0_t3_loop v3).trips) : Fin 2 → Nat :=
  let c1_i32_421 : BitVec 32 := 1#32
  let c0_i32_35 : BitVec 32 := 0#32
  let c1_i32_37 : BitVec 32 := 1#32
  let arg17 : BitVec 32 := Scf.iv c0_i32_35 c1_i32_37 k0_t3
  let c2_i32_43 : BitVec 32 := 2#32
  let v41 : BitVec 32 := Scalar.remsi arg17 c2_i32_43
  let v1173 : BitVec 32 := Scalar.subi c1_i32_421 v41
  let c0_i32_422 : BitVec 32 := 0#32
  ![v1173.toNat, 0]
def k0_off9 (v3 : BitVec 32) (k0_t3 : Fin (k0_t3_loop v3).trips) : Fin 3 → Nat :=
  let c1_i32_421 : BitVec 32 := 1#32
  let c0_i32_35 : BitVec 32 := 0#32
  let c1_i32_37 : BitVec 32 := 1#32
  let arg17 : BitVec 32 := Scf.iv c0_i32_35 c1_i32_37 k0_t3
  let c2_i32_43 : BitVec 32 := 2#32
  let v41 : BitVec 32 := Scalar.remsi arg17 c2_i32_43
  let v1173 : BitVec 32 := Scalar.subi c1_i32_421 v41
  let c0_i32_423 : BitVec 32 := 0#32
  let c0_i32_424 : BitVec 32 := 0#32
  ![v1173.toNat, 0, 0]
def k0_off10 (v1175 : BitVec 32) : Fin 3 → Nat :=
  let c0_i32_425 : BitVec 32 := 0#32
  let c0_i32_426 : BitVec 32 := 0#32
  ![v1175.toNat, 0, 0]

def k0_off11 (v3 : BitVec 32) (k0_t3 : Fin (k0_t3_loop v3).trips) : Fin 2 → Nat :=
  let c1_i32_421 : BitVec 32 := 1#32
  let c0_i32_35 : BitVec 32 := 0#32
  let c1_i32_37 : BitVec 32 := 1#32
  let arg17 : BitVec 32 := Scf.iv c0_i32_35 c1_i32_37 k0_t3
  let c2_i32_43 : BitVec 32 := 2#32
  let v41 : BitVec 32 := Scalar.remsi arg17 c2_i32_43
  let v1173 : BitVec 32 := Scalar.subi c1_i32_421 v41
  let c1_i32_427 : BitVec 32 := 1#32
  ![v1173.toNat, 1]
def k0_off12 (v3 : BitVec 32) (k0_t3 : Fin (k0_t3_loop v3).trips) : Fin 3 → Nat :=
  let c1_i32_421 : BitVec 32 := 1#32
  let c0_i32_35 : BitVec 32 := 0#32
  let c1_i32_37 : BitVec 32 := 1#32
  let arg17 : BitVec 32 := Scf.iv c0_i32_35 c1_i32_37 k0_t3
  let c2_i32_43 : BitVec 32 := 2#32
  let v41 : BitVec 32 := Scalar.remsi arg17 c2_i32_43
  let v1173 : BitVec 32 := Scalar.subi c1_i32_421 v41
  let c0_i32_428 : BitVec 32 := 0#32
  let c0_i32_429 : BitVec 32 := 0#32
  ![v1173.toNat, 0, 0]
def k0_off13 (v1175 : BitVec 32) : Fin 3 → Nat :=
  let c0_i32_430 : BitVec 32 := 0#32
  let c0_i32_431 : BitVec 32 := 0#32
  ![v1175.toNat, 0, 0]
def k0_off14 (v3 : BitVec 32) (k0_t3 : Fin (k0_t3_loop v3).trips) : Fin 2 → Nat :=
  let c1_i32_421 : BitVec 32 := 1#32
  let c0_i32_35 : BitVec 32 := 0#32
  let c1_i32_37 : BitVec 32 := 1#32
  let arg17 : BitVec 32 := Scf.iv c0_i32_35 c1_i32_37 k0_t3
  let c2_i32_43 : BitVec 32 := 2#32
  let v41 : BitVec 32 := Scalar.remsi arg17 c2_i32_43
  let v1173 : BitVec 32 := Scalar.subi c1_i32_421 v41
  let c2_i32_432 : BitVec 32 := 2#32
  ![v1173.toNat, 2]
def k0_off15 (v3 : BitVec 32) (k0_t3 : Fin (k0_t3_loop v3).trips) : Fin 3 → Nat :=
  let c1_i32_421 : BitVec 32 := 1#32
  let c0_i32_35 : BitVec 32 := 0#32
  let c1_i32_37 : BitVec 32 := 1#32
  let arg17 : BitVec 32 := Scf.iv c0_i32_35 c1_i32_37 k0_t3
  let c2_i32_43 : BitVec 32 := 2#32
  let v41 : BitVec 32 := Scalar.remsi arg17 c2_i32_43
  let v1173 : BitVec 32 := Scalar.subi c1_i32_421 v41
  let c0_i32_433 : BitVec 32 := 0#32
  let c0_i32_434 : BitVec 32 := 0#32
  ![v1173.toNat, 0, 0]
def k0_off16 (v1175 : BitVec 32) : Fin 3 → Nat :=
  let c0_i32_435 : BitVec 32 := 0#32
  let c0_i32_436 : BitVec 32 := 0#32
  ![v1175.toNat, 0, 0]
def k0_off17 (v3 : BitVec 32) (k0_t3 : Fin (k0_t3_loop v3).trips) : Fin 2 → Nat :=
  let c1_i32_421 : BitVec 32 := 1#32
  let c0_i32_35 : BitVec 32 := 0#32
  let c1_i32_37 : BitVec 32 := 1#32
  let arg17 : BitVec 32 := Scf.iv c0_i32_35 c1_i32_37 k0_t3
  let c2_i32_43 : BitVec 32 := 2#32
  let v41 : BitVec 32 := Scalar.remsi arg17 c2_i32_43
  let v1173 : BitVec 32 := Scalar.subi c1_i32_421 v41
  let c3_i32_437 : BitVec 32 := 3#32
  ![v1173.toNat, 3]
def k0_off18 (v3 : BitVec 32) (k0_t3 : Fin (k0_t3_loop v3).trips) : Fin 3 → Nat :=
  let c1_i32_421 : BitVec 32 := 1#32
  let c0_i32_35 : BitVec 32 := 0#32
  let c1_i32_37 : BitVec 32 := 1#32
  let arg17 : BitVec 32 := Scf.iv c0_i32_35 c1_i32_37 k0_t3
  let c2_i32_43 : BitVec 32 := 2#32
  let v41 : BitVec 32 := Scalar.remsi arg17 c2_i32_43
  let v1173 : BitVec 32 := Scalar.subi c1_i32_421 v41
  let c0_i32_438 : BitVec 32 := 0#32
  let c0_i32_439 : BitVec 32 := 0#32
  ![v1173.toNat, 0, 0]
def k0_off19 (v1175 : BitVec 32) : Fin 3 → Nat :=
  let c0_i32_440 : BitVec 32 := 0#32
  let c0_i32_441 : BitVec 32 := 0#32
  ![v1175.toNat, 0, 0]

def k0_chk4 (v3 : BitVec 32) (k0_t3 : Fin (k0_t3_loop v3).trips) (v1175 : BitVec 32) : Prop :=
  (∀ (k0_h1 : k0_cond1 v3 k0_t3 = 1#1), ∀ a, (k0_off10 v1175) a + S1x1408x2816.size a ≤ S32x1408x2816.size a) ∧
  (∀ (k0_h1 : k0_cond1 v3 k0_t3 = 1#1), ∀ (hinb : ∀ a, (k0_off10 v1175) a + S1x1408x2816.size a ≤ S32x1408x2816.size a), (Rect.unit (s := S32x1408x2816) (k0_off10 v1175) S1x1408x2816.size hinb).WholeWords (EltTy.packing .i8)) ∧
  (∀ (k0_h1 : k0_cond1 v3 k0_t3 = 1#1), ∀ a, (k0_off13 v1175) a + S1x22x2816.size a ≤ S32x22x2816.size a) ∧
  (∀ (k0_h1 : k0_cond1 v3 k0_t3 = 1#1), ∀ (hinb : ∀ a, (k0_off13 v1175) a + S1x22x2816.size a ≤ S32x22x2816.size a), (Rect.unit (s := S32x22x2816) (k0_off13 v1175) S1x22x2816.size hinb).WholeWords (EltTy.packing .bf16)) ∧
  (∀ (k0_h1 : k0_cond1 v3 k0_t3 = 1#1), ∀ a, (k0_off16 v1175) a + S1x704x2816.size a ≤ S32x704x2816.size a) ∧
  (∀ (k0_h1 : k0_cond1 v3 k0_t3 = 1#1), ∀ (hinb : ∀ a, (k0_off16 v1175) a + S1x704x2816.size a ≤ S32x704x2816.size a), (Rect.unit (s := S32x704x2816) (k0_off16 v1175) S1x704x2816.size hinb).WholeWords (EltTy.packing .i8)) ∧
  (∀ (k0_h1 : k0_cond1 v3 k0_t3 = 1#1), ∀ a, (k0_off19 v1175) a + S1x11x2816.size a ≤ S32x11x2816.size a) ∧
  (∀ (k0_h1 : k0_cond1 v3 k0_t3 = 1#1), ∀ (hinb : ∀ a, (k0_off19 v1175) a + S1x11x2816.size a ≤ S32x11x2816.size a), (Rect.unit (s := S32x11x2816) (k0_off19 v1175) S1x11x2816.size hinb).WholeWords (EltTy.packing .bf16))
theorem k0_off10_inb : ∀ (v3 : BitVec 32) (k0_t3 : Fin (k0_t3_loop v3).trips) (v1175 : BitVec 32) (k0_hw4 : k0_chk4 v3 k0_t3 v1175), ∀ (k0_h1 : k0_cond1 v3 k0_t3 = 1#1), ∀ a, (k0_off10 v1175) a + S1x1408x2816.size a ≤ S32x1408x2816.size a := fun v3 k0_t3 v1175 k0_hw4 k0_h1 => k0_hw4.1 k0_h1
theorem k0_off10_wordsi8 : ∀ (v3 : BitVec 32) (k0_t3 : Fin (k0_t3_loop v3).trips) (v1175 : BitVec 32) (k0_hw4 : k0_chk4 v3 k0_t3 v1175), ∀ (k0_h1 : k0_cond1 v3 k0_t3 = 1#1), (Rect.unit (s := S32x1408x2816) (k0_off10 v1175) S1x1408x2816.size (k0_off10_inb v3 k0_t3 v1175 k0_hw4 k0_h1)).WholeWords (EltTy.packing .i8) := fun v3 k0_t3 v1175 k0_hw4 k0_h1 => k0_hw4.2.1 k0_h1 (k0_off10_inb v3 k0_t3 v1175 k0_hw4 k0_h1)
theorem k0_off13_inb : ∀ (v3 : BitVec 32) (k0_t3 : Fin (k0_t3_loop v3).trips) (v1175 : BitVec 32) (k0_hw4 : k0_chk4 v3 k0_t3 v1175), ∀ (k0_h1 : k0_cond1 v3 k0_t3 = 1#1), ∀ a, (k0_off13 v1175) a + S1x22x2816.size a ≤ S32x22x2816.size a := fun v3 k0_t3 v1175 k0_hw4 k0_h1 => k0_hw4.2.2.1 k0_h1
theorem k0_off13_wordsbf16 : ∀ (v3 : BitVec 32) (k0_t3 : Fin (k0_t3_loop v3).trips) (v1175 : BitVec 32) (k0_hw4 : k0_chk4 v3 k0_t3 v1175), ∀ (k0_h1 : k0_cond1 v3 k0_t3 = 1#1), (Rect.unit (s := S32x22x2816) (k0_off13 v1175) S1x22x2816.size (k0_off13_inb v3 k0_t3 v1175 k0_hw4 k0_h1)).WholeWords (EltTy.packing .bf16) := fun v3 k0_t3 v1175 k0_hw4 k0_h1 => k0_hw4.2.2.2.1 k0_h1 (k0_off13_inb v3 k0_t3 v1175 k0_hw4 k0_h1)
theorem k0_off16_inb : ∀ (v3 : BitVec 32) (k0_t3 : Fin (k0_t3_loop v3).trips) (v1175 : BitVec 32) (k0_hw4 : k0_chk4 v3 k0_t3 v1175), ∀ (k0_h1 : k0_cond1 v3 k0_t3 = 1#1), ∀ a, (k0_off16 v1175) a + S1x704x2816.size a ≤ S32x704x2816.size a := fun v3 k0_t3 v1175 k0_hw4 k0_h1 => k0_hw4.2.2.2.2.1 k0_h1
theorem k0_off16_wordsi8 : ∀ (v3 : BitVec 32) (k0_t3 : Fin (k0_t3_loop v3).trips) (v1175 : BitVec 32) (k0_hw4 : k0_chk4 v3 k0_t3 v1175), ∀ (k0_h1 : k0_cond1 v3 k0_t3 = 1#1), (Rect.unit (s := S32x704x2816) (k0_off16 v1175) S1x704x2816.size (k0_off16_inb v3 k0_t3 v1175 k0_hw4 k0_h1)).WholeWords (EltTy.packing .i8) := fun v3 k0_t3 v1175 k0_hw4 k0_h1 => k0_hw4.2.2.2.2.2.1 k0_h1 (k0_off16_inb v3 k0_t3 v1175 k0_hw4 k0_h1)
theorem k0_off19_inb : ∀ (v3 : BitVec 32) (k0_t3 : Fin (k0_t3_loop v3).trips) (v1175 : BitVec 32) (k0_hw4 : k0_chk4 v3 k0_t3 v1175), ∀ (k0_h1 : k0_cond1 v3 k0_t3 = 1#1), ∀ a, (k0_off19 v1175) a + S1x11x2816.size a ≤ S32x11x2816.size a := fun v3 k0_t3 v1175 k0_hw4 k0_h1 => k0_hw4.2.2.2.2.2.2.1 k0_h1
theorem k0_off19_wordsbf16 : ∀ (v3 : BitVec 32) (k0_t3 : Fin (k0_t3_loop v3).trips) (v1175 : BitVec 32) (k0_hw4 : k0_chk4 v3 k0_t3 v1175), ∀ (k0_h1 : k0_cond1 v3 k0_t3 = 1#1), (Rect.unit (s := S32x11x2816) (k0_off19 v1175) S1x11x2816.size (k0_off19_inb v3 k0_t3 v1175 k0_hw4 k0_h1)).WholeWords (EltTy.packing .bf16) := fun v3 k0_t3 v1175 k0_hw4 k0_h1 => k0_hw4.2.2.2.2.2.2.2 k0_h1 (k0_off19_inb v3 k0_t3 v1175 k0_hw4 k0_h1)

def k0_off20 (v3 : BitVec 32) (k0_t3 : Fin (k0_t3_loop v3).trips) : Fin 1 → Nat :=
  let c0_i32_35 : BitVec 32 := 0#32
  let c1_i32_37 : BitVec 32 := 1#32
  let arg17 : BitVec 32 := Scf.iv c0_i32_35 c1_i32_37 k0_t3
  let v46 : Index := Scalar.indexCast arg17
  ![v46.toNat]
def k0_off21 (v3 : BitVec 32) (k0_t3 : Fin (k0_t3_loop v3).trips) : Fin 2 → Nat :=
  let c0_i32_35 : BitVec 32 := 0#32
  let c1_i32_37 : BitVec 32 := 1#32
  let arg17 : BitVec 32 := Scf.iv c0_i32_35 c1_i32_37 k0_t3
  let c2_i32_43 : BitVec 32 := 2#32
  let v41 : BitVec 32 := Scalar.remsi arg17 c2_i32_43
  let c0_i32_46 : BitVec 32 := 0#32
  ![v41.toNat, 0]
def k0_off22 (v3 : BitVec 32) (k0_t3 : Fin (k0_t3_loop v3).trips) : Fin 3 → Nat :=
  let c0_i32_35 : BitVec 32 := 0#32
  let c1_i32_37 : BitVec 32 := 1#32
  let arg17 : BitVec 32 := Scf.iv c0_i32_35 c1_i32_37 k0_t3
  let c2_i32_43 : BitVec 32 := 2#32
  let v41 : BitVec 32 := Scalar.remsi arg17 c2_i32_43
  let c0_i32_47 : BitVec 32 := 0#32
  let c0_i32_48 : BitVec 32 := 0#32
  ![v41.toNat, 0, 0]
def k0_off23 (v47 : BitVec 32) : Fin 3 → Nat :=
  let c0_i32_49 : BitVec 32 := 0#32
  let c0_i32_50 : BitVec 32 := 0#32
  ![v47.toNat, 0, 0]

def k0_off24 (v3 : BitVec 32) (k0_t3 : Fin (k0_t3_loop v3).trips) : Fin 2 → Nat :=
  let c0_i32_35 : BitVec 32 := 0#32
  let c1_i32_37 : BitVec 32 := 1#32
  let arg17 : BitVec 32 := Scf.iv c0_i32_35 c1_i32_37 k0_t3
  let c2_i32_43 : BitVec 32 := 2#32
  let v41 : BitVec 32 := Scalar.remsi arg17 c2_i32_43
  let c1_i32_51 : BitVec 32 := 1#32
  ![v41.toNat, 1]
def k0_off25 (v3 : BitVec 32) (k0_t3 : Fin (k0_t3_loop v3).trips) : Fin 3 → Nat :=
  let c0_i32_35 : BitVec 32 := 0#32
  let c1_i32_37 : BitVec 32 := 1#32
  let arg17 : BitVec 32 := Scf.iv c0_i32_35 c1_i32_37 k0_t3
  let c2_i32_43 : BitVec 32 := 2#32
  let v41 : BitVec 32 := Scalar.remsi arg17 c2_i32_43
  let c0_i32_52 : BitVec 32 := 0#32
  let c0_i32_53 : BitVec 32 := 0#32
  ![v41.toNat, 0, 0]
def k0_off26 (v47 : BitVec 32) : Fin 3 → Nat :=
  let c0_i32_54 : BitVec 32 := 0#32
  let c0_i32_55 : BitVec 32 := 0#32
  ![v47.toNat, 0, 0]
def k0_off27 (v3 : BitVec 32) (k0_t3 : Fin (k0_t3_loop v3).trips) : Fin 2 → Nat :=
  let c0_i32_35 : BitVec 32 := 0#32
  let c1_i32_37 : BitVec 32 := 1#32
  let arg17 : BitVec 32 := Scf.iv c0_i32_35 c1_i32_37 k0_t3
  let c2_i32_43 : BitVec 32 := 2#32
  let v41 : BitVec 32 := Scalar.remsi arg17 c2_i32_43
  let c2_i32_56 : BitVec 32 := 2#32
  ![v41.toNat, 2]
def k0_off28 (v3 : BitVec 32) (k0_t3 : Fin (k0_t3_loop v3).trips) : Fin 3 → Nat :=
  let c0_i32_35 : BitVec 32 := 0#32
  let c1_i32_37 : BitVec 32 := 1#32
  let arg17 : BitVec 32 := Scf.iv c0_i32_35 c1_i32_37 k0_t3
  let c2_i32_43 : BitVec 32 := 2#32
  let v41 : BitVec 32 := Scalar.remsi arg17 c2_i32_43
  let c0_i32_57 : BitVec 32 := 0#32
  let c0_i32_58 : BitVec 32 := 0#32
  ![v41.toNat, 0, 0]
def k0_off29 (v47 : BitVec 32) : Fin 3 → Nat :=
  let c0_i32_59 : BitVec 32 := 0#32
  let c0_i32_60 : BitVec 32 := 0#32
  ![v47.toNat, 0, 0]
def k0_off30 (v3 : BitVec 32) (k0_t3 : Fin (k0_t3_loop v3).trips) : Fin 2 → Nat :=
  let c0_i32_35 : BitVec 32 := 0#32
  let c1_i32_37 : BitVec 32 := 1#32
  let arg17 : BitVec 32 := Scf.iv c0_i32_35 c1_i32_37 k0_t3
  let c2_i32_43 : BitVec 32 := 2#32
  let v41 : BitVec 32 := Scalar.remsi arg17 c2_i32_43
  let c3_i32_61 : BitVec 32 := 3#32
  ![v41.toNat, 3]
def k0_off31 (v3 : BitVec 32) (k0_t3 : Fin (k0_t3_loop v3).trips) : Fin 3 → Nat :=
  let c0_i32_35 : BitVec 32 := 0#32
  let c1_i32_37 : BitVec 32 := 1#32
  let arg17 : BitVec 32 := Scf.iv c0_i32_35 c1_i32_37 k0_t3
  let c2_i32_43 : BitVec 32 := 2#32
  let v41 : BitVec 32 := Scalar.remsi arg17 c2_i32_43
  let c0_i32_62 : BitVec 32 := 0#32
  let c0_i32_63 : BitVec 32 := 0#32
  ![v41.toNat, 0, 0]
def k0_off32 (v47 : BitVec 32) : Fin 3 → Nat :=
  let c0_i32_64 : BitVec 32 := 0#32
  let c0_i32_65 : BitVec 32 := 0#32
  ![v47.toNat, 0, 0]

def k0_chk5 (v47 : BitVec 32) : Prop :=
  (∀ a, (k0_off23 v47) a + S1x1408x2816.size a ≤ S32x1408x2816.size a) ∧
  (∀ (hinb : ∀ a, (k0_off23 v47) a + S1x1408x2816.size a ≤ S32x1408x2816.size a), (Rect.unit (s := S32x1408x2816) (k0_off23 v47) S1x1408x2816.size hinb).WholeWords (EltTy.packing .i8)) ∧
  (∀ a, (k0_off26 v47) a + S1x22x2816.size a ≤ S32x22x2816.size a) ∧
  (∀ (hinb : ∀ a, (k0_off26 v47) a + S1x22x2816.size a ≤ S32x22x2816.size a), (Rect.unit (s := S32x22x2816) (k0_off26 v47) S1x22x2816.size hinb).WholeWords (EltTy.packing .bf16)) ∧
  (∀ a, (k0_off29 v47) a + S1x704x2816.size a ≤ S32x704x2816.size a) ∧
  (∀ (hinb : ∀ a, (k0_off29 v47) a + S1x704x2816.size a ≤ S32x704x2816.size a), (Rect.unit (s := S32x704x2816) (k0_off29 v47) S1x704x2816.size hinb).WholeWords (EltTy.packing .i8)) ∧
  (∀ a, (k0_off32 v47) a + S1x11x2816.size a ≤ S32x11x2816.size a) ∧
  (∀ (hinb : ∀ a, (k0_off32 v47) a + S1x11x2816.size a ≤ S32x11x2816.size a), (Rect.unit (s := S32x11x2816) (k0_off32 v47) S1x11x2816.size hinb).WholeWords (EltTy.packing .bf16))
theorem k0_off23_inb : ∀ (v47 : BitVec 32) (k0_hw5 : k0_chk5 v47), ∀ a, (k0_off23 v47) a + S1x1408x2816.size a ≤ S32x1408x2816.size a := fun v47 k0_hw5 => k0_hw5.1
theorem k0_off23_wordsi8 : ∀ (v47 : BitVec 32) (k0_hw5 : k0_chk5 v47), (Rect.unit (s := S32x1408x2816) (k0_off23 v47) S1x1408x2816.size (k0_off23_inb v47 k0_hw5)).WholeWords (EltTy.packing .i8) := fun v47 k0_hw5 => k0_hw5.2.1 (k0_off23_inb v47 k0_hw5)
theorem k0_off26_inb : ∀ (v47 : BitVec 32) (k0_hw5 : k0_chk5 v47), ∀ a, (k0_off26 v47) a + S1x22x2816.size a ≤ S32x22x2816.size a := fun v47 k0_hw5 => k0_hw5.2.2.1
theorem k0_off26_wordsbf16 : ∀ (v47 : BitVec 32) (k0_hw5 : k0_chk5 v47), (Rect.unit (s := S32x22x2816) (k0_off26 v47) S1x22x2816.size (k0_off26_inb v47 k0_hw5)).WholeWords (EltTy.packing .bf16) := fun v47 k0_hw5 => k0_hw5.2.2.2.1 (k0_off26_inb v47 k0_hw5)
theorem k0_off29_inb : ∀ (v47 : BitVec 32) (k0_hw5 : k0_chk5 v47), ∀ a, (k0_off29 v47) a + S1x704x2816.size a ≤ S32x704x2816.size a := fun v47 k0_hw5 => k0_hw5.2.2.2.2.1
theorem k0_off29_wordsi8 : ∀ (v47 : BitVec 32) (k0_hw5 : k0_chk5 v47), (Rect.unit (s := S32x704x2816) (k0_off29 v47) S1x704x2816.size (k0_off29_inb v47 k0_hw5)).WholeWords (EltTy.packing .i8) := fun v47 k0_hw5 => k0_hw5.2.2.2.2.2.1 (k0_off29_inb v47 k0_hw5)
theorem k0_off32_inb : ∀ (v47 : BitVec 32) (k0_hw5 : k0_chk5 v47), ∀ a, (k0_off32 v47) a + S1x11x2816.size a ≤ S32x11x2816.size a := fun v47 k0_hw5 => k0_hw5.2.2.2.2.2.2.1
theorem k0_off32_wordsbf16 : ∀ (v47 : BitVec 32) (k0_hw5 : k0_chk5 v47), (Rect.unit (s := S32x11x2816) (k0_off32 v47) S1x11x2816.size (k0_off32_inb v47 k0_hw5)).WholeWords (EltTy.packing .bf16) := fun v47 k0_hw5 => k0_hw5.2.2.2.2.2.2.2 (k0_off32_inb v47 k0_hw5)

def k0_off33 (v3 : BitVec 32) (k0_t3 : Fin (k0_t3_loop v3).trips) : Fin 1 → Nat :=
  let c0_i32_35 : BitVec 32 := 0#32
  let c1_i32_37 : BitVec 32 := 1#32
  let arg17 : BitVec 32 := Scf.iv c0_i32_35 c1_i32_37 k0_t3
  let v72 : Index := Scalar.indexCast arg17
  ![v72.toNat]
def k0_off34 (v3 : BitVec 32) (k0_t3 : Fin (k0_t3_loop v3).trips) : Fin 3 → Nat :=
  let c0_i32_35 : BitVec 32 := 0#32
  let c1_i32_37 : BitVec 32 := 1#32
  let arg17 : BitVec 32 := Scf.iv c0_i32_35 c1_i32_37 k0_t3
  let c2_i32_43 : BitVec 32 := 2#32
  let v41 : BitVec 32 := Scalar.remsi arg17 c2_i32_43
  let v93 : Index := Scalar.indexCast v41
  let c0_78 : Index := 0#32
  let c0_79 : Index := 0#32
  ![v93.toNat, 0, 0]
def k0_off35 (v3 : BitVec 32) (k0_t3 : Fin (k0_t3_loop v3).trips) : Fin 3 → Nat :=
  let c0_i32_35 : BitVec 32 := 0#32
  let c1_i32_37 : BitVec 32 := 1#32
  let arg17 : BitVec 32 := Scf.iv c0_i32_35 c1_i32_37 k0_t3
  let c2_i32_43 : BitVec 32 := 2#32
  let v41 : BitVec 32 := Scalar.remsi arg17 c2_i32_43
  let v96 : Index := Scalar.indexCast v41
  let c0_80 : Index := 0#32
  let c0_81 : Index := 0#32
  ![v96.toNat, 0, 0]
def k0_off36 (v3 : BitVec 32) (k0_t3 : Fin (k0_t3_loop v3).trips) : Fin 3 → Nat :=
  let c0_i32_35 : BitVec 32 := 0#32
  let c1_i32_37 : BitVec 32 := 1#32
  let arg17 : BitVec 32 := Scf.iv c0_i32_35 c1_i32_37 k0_t3
  let c2_i32_43 : BitVec 32 := 2#32
  let v41 : BitVec 32 := Scalar.remsi arg17 c2_i32_43
  let v118 : Index := Scalar.indexCast v41
  let c0_84 : Index := 0#32
  let c1408 : Index := 1408#32
  ![v118.toNat, 0, 1408]
def k0_off37 (v3 : BitVec 32) (k0_t3 : Fin (k0_t3_loop v3).trips) : Fin 3 → Nat :=
  let c0_i32_35 : BitVec 32 := 0#32
  let c1_i32_37 : BitVec 32 := 1#32
  let arg17 : BitVec 32 := Scf.iv c0_i32_35 c1_i32_37 k0_t3
  let c2_i32_43 : BitVec 32 := 2#32
  let v41 : BitVec 32 := Scalar.remsi arg17 c2_i32_43
  let v121 : Index := Scalar.indexCast v41
  let c0_85 : Index := 0#32
  let c1408_86 : Index := 1408#32
  ![v121.toNat, 0, 1408]
def k0_off38 (v3 : BitVec 32) (k0_t3 : Fin (k0_t3_loop v3).trips) : Fin 3 → Nat :=
  let c0_i32_35 : BitVec 32 := 0#32
  let c1_i32_37 : BitVec 32 := 1#32
  let arg17 : BitVec 32 := Scf.iv c0_i32_35 c1_i32_37 k0_t3
  let c2_i32_43 : BitVec 32 := 2#32
  let v41 : BitVec 32 := Scalar.remsi arg17 c2_i32_43
  let v154 : Index := Scalar.indexCast v41
  let c0_94 : Index := 0#32
  let c128 : Index := 128#32
  ![v154.toNat, 0, 128]
def k0_off39 (v3 : BitVec 32) (k0_t3 : Fin (k0_t3_loop v3).trips) : Fin 3 → Nat :=
  let c0_i32_35 : BitVec 32 := 0#32
  let c1_i32_37 : BitVec 32 := 1#32
  let arg17 : BitVec 32 := Scf.iv c0_i32_35 c1_i32_37 k0_t3
  let c2_i32_43 : BitVec 32 := 2#32
  let v41 : BitVec 32 := Scalar.remsi arg17 c2_i32_43
  let v157 : Index := Scalar.indexCast v41
  let c0_95 : Index := 0#32
  let c128_96 : Index := 128#32
  ![v157.toNat, 0, 128]
def k0_off40 (v3 : BitVec 32) (k0_t3 : Fin (k0_t3_loop v3).trips) : Fin 3 → Nat :=
  let c0_i32_35 : BitVec 32 := 0#32
  let c1_i32_37 : BitVec 32 := 1#32
  let arg17 : BitVec 32 := Scf.iv c0_i32_35 c1_i32_37 k0_t3
  let c2_i32_43 : BitVec 32 := 2#32
  let v41 : BitVec 32 := Scalar.remsi arg17 c2_i32_43
  let v179 : Index := Scalar.indexCast v41
  let c0_101 : Index := 0#32
  let c1536 : Index := 1536#32
  ![v179.toNat, 0, 1536]
def k0_off41 (v3 : BitVec 32) (k0_t3 : Fin (k0_t3_loop v3).trips) : Fin 3 → Nat :=
  let c0_i32_35 : BitVec 32 := 0#32
  let c1_i32_37 : BitVec 32 := 1#32
  let arg17 : BitVec 32 := Scf.iv c0_i32_35 c1_i32_37 k0_t3
  let c2_i32_43 : BitVec 32 := 2#32
  let v41 : BitVec 32 := Scalar.remsi arg17 c2_i32_43
  let v182 : Index := Scalar.indexCast v41
  let c0_102 : Index := 0#32
  let c1536_103 : Index := 1536#32
  ![v182.toNat, 0, 1536]
def k0_off42 (v3 : BitVec 32) (k0_t3 : Fin (k0_t3_loop v3).trips) : Fin 3 → Nat :=
  let c0_i32_35 : BitVec 32 := 0#32
  let c1_i32_37 : BitVec 32 := 1#32
  let arg17 : BitVec 32 := Scf.iv c0_i32_35 c1_i32_37 k0_t3
  let c2_i32_43 : BitVec 32 := 2#32
  let v41 : BitVec 32 := Scalar.remsi arg17 c2_i32_43
  let v215 : Index := Scalar.indexCast v41
  let c0_111 : Index := 0#32
  let c256 : Index := 256#32
  ![v215.toNat, 0, 256]
def k0_off43 (v3 : BitVec 32) (k0_t3 : Fin (k0_t3_loop v3).trips) : Fin 3 → Nat :=
  let c0_i32_35 : BitVec 32 := 0#32
  let c1_i32_37 : BitVec 32 := 1#32
  let arg17 : BitVec 32 := Scf.iv c0_i32_35 c1_i32_37 k0_t3
  let c2_i32_43 : BitVec 32 := 2#32
  let v41 : BitVec 32 := Scalar.remsi arg17 c2_i32_43
  let v218 : Index := Scalar.indexCast v41
  let c0_112 : Index := 0#32
  let c256_113 : Index := 256#32
  ![v218.toNat, 0, 256]
def k0_off44 (v3 : BitVec 32) (k0_t3 : Fin (k0_t3_loop v3).trips) : Fin 3 → Nat :=
  let c0_i32_35 : BitVec 32 := 0#32
  let c1_i32_37 : BitVec 32 := 1#32
  let arg17 : BitVec 32 := Scf.iv c0_i32_35 c1_i32_37 k0_t3
  let c2_i32_43 : BitVec 32 := 2#32
  let v41 : BitVec 32 := Scalar.remsi arg17 c2_i32_43
  let v240 : Index := Scalar.indexCast v41
  let c0_118 : Index := 0#32
  let c1664 : Index := 1664#32
  ![v240.toNat, 0, 1664]
def k0_off45 (v3 : BitVec 32) (k0_t3 : Fin (k0_t3_loop v3).trips) : Fin 3 → Nat :=
  let c0_i32_35 : BitVec 32 := 0#32
  let c1_i32_37 : BitVec 32 := 1#32
  let arg17 : BitVec 32 := Scf.iv c0_i32_35 c1_i32_37 k0_t3
  let c2_i32_43 : BitVec 32 := 2#32
  let v41 : BitVec 32 := Scalar.remsi arg17 c2_i32_43
  let v243 : Index := Scalar.indexCast v41
  let c0_119 : Index := 0#32
  let c1664_120 : Index := 1664#32
  ![v243.toNat, 0, 1664]
def k0_off46 (v3 : BitVec 32) (k0_t3 : Fin (k0_t3_loop v3).trips) : Fin 3 → Nat :=
  let c0_i32_35 : BitVec 32 := 0#32
  let c1_i32_37 : BitVec 32 := 1#32
  let arg17 : BitVec 32 := Scf.iv c0_i32_35 c1_i32_37 k0_t3
  let c2_i32_43 : BitVec 32 := 2#32
  let v41 : BitVec 32 := Scalar.remsi arg17 c2_i32_43
  let v276 : Index := Scalar.indexCast v41
  let c0_128 : Index := 0#32
  let c384 : Index := 384#32
  ![v276.toNat, 0, 384]
def k0_off47 (v3 : BitVec 32) (k0_t3 : Fin (k0_t3_loop v3).trips) : Fin 3 → Nat :=
  let c0_i32_35 : BitVec 32 := 0#32
  let c1_i32_37 : BitVec 32 := 1#32
  let arg17 : BitVec 32 := Scf.iv c0_i32_35 c1_i32_37 k0_t3
  let c2_i32_43 : BitVec 32 := 2#32
  let v41 : BitVec 32 := Scalar.remsi arg17 c2_i32_43
  let v279 : Index := Scalar.indexCast v41
  let c0_129 : Index := 0#32
  let c384_130 : Index := 384#32
  ![v279.toNat, 0, 384]
def k0_off48 (v3 : BitVec 32) (k0_t3 : Fin (k0_t3_loop v3).trips) : Fin 3 → Nat :=
  let c0_i32_35 : BitVec 32 := 0#32
  let c1_i32_37 : BitVec 32 := 1#32
  let arg17 : BitVec 32 := Scf.iv c0_i32_35 c1_i32_37 k0_t3
  let c2_i32_43 : BitVec 32 := 2#32
  let v41 : BitVec 32 := Scalar.remsi arg17 c2_i32_43
  let v301 : Index := Scalar.indexCast v41
  let c0_135 : Index := 0#32
  let c1792 : Index := 1792#32
  ![v301.toNat, 0, 1792]
def k0_off49 (v3 : BitVec 32) (k0_t3 : Fin (k0_t3_loop v3).trips) : Fin 3 → Nat :=
  let c0_i32_35 : BitVec 32 := 0#32
  let c1_i32_37 : BitVec 32 := 1#32
  let arg17 : BitVec 32 := Scf.iv c0_i32_35 c1_i32_37 k0_t3
  let c2_i32_43 : BitVec 32 := 2#32
  let v41 : BitVec 32 := Scalar.remsi arg17 c2_i32_43
  let v304 : Index := Scalar.indexCast v41
  let c0_136 : Index := 0#32
  let c1792_137 : Index := 1792#32
  ![v304.toNat, 0, 1792]
def k0_off50 (v3 : BitVec 32) (k0_t3 : Fin (k0_t3_loop v3).trips) : Fin 3 → Nat :=
  let c0_i32_35 : BitVec 32 := 0#32
  let c1_i32_37 : BitVec 32 := 1#32
  let arg17 : BitVec 32 := Scf.iv c0_i32_35 c1_i32_37 k0_t3
  let c2_i32_43 : BitVec 32 := 2#32
  let v41 : BitVec 32 := Scalar.remsi arg17 c2_i32_43
  let v337 : Index := Scalar.indexCast v41
  let c0_145 : Index := 0#32
  let c512 : Index := 512#32
  ![v337.toNat, 0, 512]
def k0_off51 (v3 : BitVec 32) (k0_t3 : Fin (k0_t3_loop v3).trips) : Fin 3 → Nat :=
  let c0_i32_35 : BitVec 32 := 0#32
  let c1_i32_37 : BitVec 32 := 1#32
  let arg17 : BitVec 32 := Scf.iv c0_i32_35 c1_i32_37 k0_t3
  let c2_i32_43 : BitVec 32 := 2#32
  let v41 : BitVec 32 := Scalar.remsi arg17 c2_i32_43
  let v340 : Index := Scalar.indexCast v41
  let c0_146 : Index := 0#32
  let c512_147 : Index := 512#32
  ![v340.toNat, 0, 512]
def k0_off52 (v3 : BitVec 32) (k0_t3 : Fin (k0_t3_loop v3).trips) : Fin 3 → Nat :=
  let c0_i32_35 : BitVec 32 := 0#32
  let c1_i32_37 : BitVec 32 := 1#32
  let arg17 : BitVec 32 := Scf.iv c0_i32_35 c1_i32_37 k0_t3
  let c2_i32_43 : BitVec 32 := 2#32
  let v41 : BitVec 32 := Scalar.remsi arg17 c2_i32_43
  let v362 : Index := Scalar.indexCast v41
  let c0_152 : Index := 0#32
  let c1920 : Index := 1920#32
  ![v362.toNat, 0, 1920]
def k0_off53 (v3 : BitVec 32) (k0_t3 : Fin (k0_t3_loop v3).trips) : Fin 3 → Nat :=
  let c0_i32_35 : BitVec 32 := 0#32
  let c1_i32_37 : BitVec 32 := 1#32
  let arg17 : BitVec 32 := Scf.iv c0_i32_35 c1_i32_37 k0_t3
  let c2_i32_43 : BitVec 32 := 2#32
  let v41 : BitVec 32 := Scalar.remsi arg17 c2_i32_43
  let v365 : Index := Scalar.indexCast v41
  let c0_153 : Index := 0#32
  let c1920_154 : Index := 1920#32
  ![v365.toNat, 0, 1920]
def k0_off54 (v3 : BitVec 32) (k0_t3 : Fin (k0_t3_loop v3).trips) : Fin 3 → Nat :=
  let c0_i32_35 : BitVec 32 := 0#32
  let c1_i32_37 : BitVec 32 := 1#32
  let arg17 : BitVec 32 := Scf.iv c0_i32_35 c1_i32_37 k0_t3
  let c2_i32_43 : BitVec 32 := 2#32
  let v41 : BitVec 32 := Scalar.remsi arg17 c2_i32_43
  let v398 : Index := Scalar.indexCast v41
  let c0_162 : Index := 0#32
  let c640 : Index := 640#32
  ![v398.toNat, 0, 640]
def k0_off55 (v3 : BitVec 32) (k0_t3 : Fin (k0_t3_loop v3).trips) : Fin 3 → Nat :=
  let c0_i32_35 : BitVec 32 := 0#32
  let c1_i32_37 : BitVec 32 := 1#32
  let arg17 : BitVec 32 := Scf.iv c0_i32_35 c1_i32_37 k0_t3
  let c2_i32_43 : BitVec 32 := 2#32
  let v41 : BitVec 32 := Scalar.remsi arg17 c2_i32_43
  let v401 : Index := Scalar.indexCast v41
  let c0_163 : Index := 0#32
  let c640_164 : Index := 640#32
  ![v401.toNat, 0, 640]
def k0_off56 (v3 : BitVec 32) (k0_t3 : Fin (k0_t3_loop v3).trips) : Fin 3 → Nat :=
  let c0_i32_35 : BitVec 32 := 0#32
  let c1_i32_37 : BitVec 32 := 1#32
  let arg17 : BitVec 32 := Scf.iv c0_i32_35 c1_i32_37 k0_t3
  let c2_i32_43 : BitVec 32 := 2#32
  let v41 : BitVec 32 := Scalar.remsi arg17 c2_i32_43
  let v423 : Index := Scalar.indexCast v41
  let c0_169 : Index := 0#32
  let c2048 : Index := 2048#32
  ![v423.toNat, 0, 2048]
def k0_off57 (v3 : BitVec 32) (k0_t3 : Fin (k0_t3_loop v3).trips) : Fin 3 → Nat :=
  let c0_i32_35 : BitVec 32 := 0#32
  let c1_i32_37 : BitVec 32 := 1#32
  let arg17 : BitVec 32 := Scf.iv c0_i32_35 c1_i32_37 k0_t3
  let c2_i32_43 : BitVec 32 := 2#32
  let v41 : BitVec 32 := Scalar.remsi arg17 c2_i32_43
  let v426 : Index := Scalar.indexCast v41
  let c0_170 : Index := 0#32
  let c2048_171 : Index := 2048#32
  ![v426.toNat, 0, 2048]
def k0_off58 (v3 : BitVec 32) (k0_t3 : Fin (k0_t3_loop v3).trips) : Fin 3 → Nat :=
  let c0_i32_35 : BitVec 32 := 0#32
  let c1_i32_37 : BitVec 32 := 1#32
  let arg17 : BitVec 32 := Scf.iv c0_i32_35 c1_i32_37 k0_t3
  let c2_i32_43 : BitVec 32 := 2#32
  let v41 : BitVec 32 := Scalar.remsi arg17 c2_i32_43
  let v459 : Index := Scalar.indexCast v41
  let c0_179 : Index := 0#32
  let c768 : Index := 768#32
  ![v459.toNat, 0, 768]
def k0_off59 (v3 : BitVec 32) (k0_t3 : Fin (k0_t3_loop v3).trips) : Fin 3 → Nat :=
  let c0_i32_35 : BitVec 32 := 0#32
  let c1_i32_37 : BitVec 32 := 1#32
  let arg17 : BitVec 32 := Scf.iv c0_i32_35 c1_i32_37 k0_t3
  let c2_i32_43 : BitVec 32 := 2#32
  let v41 : BitVec 32 := Scalar.remsi arg17 c2_i32_43
  let v462 : Index := Scalar.indexCast v41
  let c0_180 : Index := 0#32
  let c768_181 : Index := 768#32
  ![v462.toNat, 0, 768]
def k0_off60 (v3 : BitVec 32) (k0_t3 : Fin (k0_t3_loop v3).trips) : Fin 3 → Nat :=
  let c0_i32_35 : BitVec 32 := 0#32
  let c1_i32_37 : BitVec 32 := 1#32
  let arg17 : BitVec 32 := Scf.iv c0_i32_35 c1_i32_37 k0_t3
  let c2_i32_43 : BitVec 32 := 2#32
  let v41 : BitVec 32 := Scalar.remsi arg17 c2_i32_43
  let v484 : Index := Scalar.indexCast v41
  let c0_186 : Index := 0#32
  let c2176 : Index := 2176#32
  ![v484.toNat, 0, 2176]
def k0_off61 (v3 : BitVec 32) (k0_t3 : Fin (k0_t3_loop v3).trips) : Fin 3 → Nat :=
  let c0_i32_35 : BitVec 32 := 0#32
  let c1_i32_37 : BitVec 32 := 1#32
  let arg17 : BitVec 32 := Scf.iv c0_i32_35 c1_i32_37 k0_t3
  let c2_i32_43 : BitVec 32 := 2#32
  let v41 : BitVec 32 := Scalar.remsi arg17 c2_i32_43
  let v487 : Index := Scalar.indexCast v41
  let c0_187 : Index := 0#32
  let c2176_188 : Index := 2176#32
  ![v487.toNat, 0, 2176]
def k0_off62 (v3 : BitVec 32) (k0_t3 : Fin (k0_t3_loop v3).trips) : Fin 3 → Nat :=
  let c0_i32_35 : BitVec 32 := 0#32
  let c1_i32_37 : BitVec 32 := 1#32
  let arg17 : BitVec 32 := Scf.iv c0_i32_35 c1_i32_37 k0_t3
  let c2_i32_43 : BitVec 32 := 2#32
  let v41 : BitVec 32 := Scalar.remsi arg17 c2_i32_43
  let v520 : Index := Scalar.indexCast v41
  let c0_196 : Index := 0#32
  let c896 : Index := 896#32
  ![v520.toNat, 0, 896]
def k0_off63 (v3 : BitVec 32) (k0_t3 : Fin (k0_t3_loop v3).trips) : Fin 3 → Nat :=
  let c0_i32_35 : BitVec 32 := 0#32
  let c1_i32_37 : BitVec 32 := 1#32
  let arg17 : BitVec 32 := Scf.iv c0_i32_35 c1_i32_37 k0_t3
  let c2_i32_43 : BitVec 32 := 2#32
  let v41 : BitVec 32 := Scalar.remsi arg17 c2_i32_43
  let v523 : Index := Scalar.indexCast v41
  let c0_197 : Index := 0#32
  let c896_198 : Index := 896#32
  ![v523.toNat, 0, 896]
def k0_off64 (v3 : BitVec 32) (k0_t3 : Fin (k0_t3_loop v3).trips) : Fin 3 → Nat :=
  let c0_i32_35 : BitVec 32 := 0#32
  let c1_i32_37 : BitVec 32 := 1#32
  let arg17 : BitVec 32 := Scf.iv c0_i32_35 c1_i32_37 k0_t3
  let c2_i32_43 : BitVec 32 := 2#32
  let v41 : BitVec 32 := Scalar.remsi arg17 c2_i32_43
  let v545 : Index := Scalar.indexCast v41
  let c0_203 : Index := 0#32
  let c2304 : Index := 2304#32
  ![v545.toNat, 0, 2304]
def k0_off65 (v3 : BitVec 32) (k0_t3 : Fin (k0_t3_loop v3).trips) : Fin 3 → Nat :=
  let c0_i32_35 : BitVec 32 := 0#32
  let c1_i32_37 : BitVec 32 := 1#32
  let arg17 : BitVec 32 := Scf.iv c0_i32_35 c1_i32_37 k0_t3
  let c2_i32_43 : BitVec 32 := 2#32
  let v41 : BitVec 32 := Scalar.remsi arg17 c2_i32_43
  let v548 : Index := Scalar.indexCast v41
  let c0_204 : Index := 0#32
  let c2304_205 : Index := 2304#32
  ![v548.toNat, 0, 2304]
def k0_off66 (v3 : BitVec 32) (k0_t3 : Fin (k0_t3_loop v3).trips) : Fin 3 → Nat :=
  let c0_i32_35 : BitVec 32 := 0#32
  let c1_i32_37 : BitVec 32 := 1#32
  let arg17 : BitVec 32 := Scf.iv c0_i32_35 c1_i32_37 k0_t3
  let c2_i32_43 : BitVec 32 := 2#32
  let v41 : BitVec 32 := Scalar.remsi arg17 c2_i32_43
  let v581 : Index := Scalar.indexCast v41
  let c0_213 : Index := 0#32
  let c1024 : Index := 1024#32
  ![v581.toNat, 0, 1024]
def k0_off67 (v3 : BitVec 32) (k0_t3 : Fin (k0_t3_loop v3).trips) : Fin 3 → Nat :=
  let c0_i32_35 : BitVec 32 := 0#32
  let c1_i32_37 : BitVec 32 := 1#32
  let arg17 : BitVec 32 := Scf.iv c0_i32_35 c1_i32_37 k0_t3
  let c2_i32_43 : BitVec 32 := 2#32
  let v41 : BitVec 32 := Scalar.remsi arg17 c2_i32_43
  let v584 : Index := Scalar.indexCast v41
  let c0_214 : Index := 0#32
  let c1024_215 : Index := 1024#32
  ![v584.toNat, 0, 1024]
def k0_off68 (v3 : BitVec 32) (k0_t3 : Fin (k0_t3_loop v3).trips) : Fin 3 → Nat :=
  let c0_i32_35 : BitVec 32 := 0#32
  let c1_i32_37 : BitVec 32 := 1#32
  let arg17 : BitVec 32 := Scf.iv c0_i32_35 c1_i32_37 k0_t3
  let c2_i32_43 : BitVec 32 := 2#32
  let v41 : BitVec 32 := Scalar.remsi arg17 c2_i32_43
  let v606 : Index := Scalar.indexCast v41
  let c0_220 : Index := 0#32
  let c2432 : Index := 2432#32
  ![v606.toNat, 0, 2432]
def k0_off69 (v3 : BitVec 32) (k0_t3 : Fin (k0_t3_loop v3).trips) : Fin 3 → Nat :=
  let c0_i32_35 : BitVec 32 := 0#32
  let c1_i32_37 : BitVec 32 := 1#32
  let arg17 : BitVec 32 := Scf.iv c0_i32_35 c1_i32_37 k0_t3
  let c2_i32_43 : BitVec 32 := 2#32
  let v41 : BitVec 32 := Scalar.remsi arg17 c2_i32_43
  let v609 : Index := Scalar.indexCast v41
  let c0_221 : Index := 0#32
  let c2432_222 : Index := 2432#32
  ![v609.toNat, 0, 2432]
def k0_off70 (v3 : BitVec 32) (k0_t3 : Fin (k0_t3_loop v3).trips) : Fin 3 → Nat :=
  let c0_i32_35 : BitVec 32 := 0#32
  let c1_i32_37 : BitVec 32 := 1#32
  let arg17 : BitVec 32 := Scf.iv c0_i32_35 c1_i32_37 k0_t3
  let c2_i32_43 : BitVec 32 := 2#32
  let v41 : BitVec 32 := Scalar.remsi arg17 c2_i32_43
  let v642 : Index := Scalar.indexCast v41
  let c0_230 : Index := 0#32
  let c1152 : Index := 1152#32
  ![v642.toNat, 0, 1152]
def k0_off71 (v3 : BitVec 32) (k0_t3 : Fin (k0_t3_loop v3).trips) : Fin 3 → Nat :=
  let c0_i32_35 : BitVec 32 := 0#32
  let c1_i32_37 : BitVec 32 := 1#32
  let arg17 : BitVec 32 := Scf.iv c0_i32_35 c1_i32_37 k0_t3
  let c2_i32_43 : BitVec 32 := 2#32
  let v41 : BitVec 32 := Scalar.remsi arg17 c2_i32_43
  let v645 : Index := Scalar.indexCast v41
  let c0_231 : Index := 0#32
  let c1152_232 : Index := 1152#32
  ![v645.toNat, 0, 1152]
def k0_off72 (v3 : BitVec 32) (k0_t3 : Fin (k0_t3_loop v3).trips) : Fin 3 → Nat :=
  let c0_i32_35 : BitVec 32 := 0#32
  let c1_i32_37 : BitVec 32 := 1#32
  let arg17 : BitVec 32 := Scf.iv c0_i32_35 c1_i32_37 k0_t3
  let c2_i32_43 : BitVec 32 := 2#32
  let v41 : BitVec 32 := Scalar.remsi arg17 c2_i32_43
  let v667 : Index := Scalar.indexCast v41
  let c0_237 : Index := 0#32
  let c2560 : Index := 2560#32
  ![v667.toNat, 0, 2560]
def k0_off73 (v3 : BitVec 32) (k0_t3 : Fin (k0_t3_loop v3).trips) : Fin 3 → Nat :=
  let c0_i32_35 : BitVec 32 := 0#32
  let c1_i32_37 : BitVec 32 := 1#32
  let arg17 : BitVec 32 := Scf.iv c0_i32_35 c1_i32_37 k0_t3
  let c2_i32_43 : BitVec 32 := 2#32
  let v41 : BitVec 32 := Scalar.remsi arg17 c2_i32_43
  let v670 : Index := Scalar.indexCast v41
  let c0_238 : Index := 0#32
  let c2560_239 : Index := 2560#32
  ![v670.toNat, 0, 2560]
def k0_off74 (v3 : BitVec 32) (k0_t3 : Fin (k0_t3_loop v3).trips) : Fin 3 → Nat :=
  let c0_i32_35 : BitVec 32 := 0#32
  let c1_i32_37 : BitVec 32 := 1#32
  let arg17 : BitVec 32 := Scf.iv c0_i32_35 c1_i32_37 k0_t3
  let c2_i32_43 : BitVec 32 := 2#32
  let v41 : BitVec 32 := Scalar.remsi arg17 c2_i32_43
  let v703 : Index := Scalar.indexCast v41
  let c0_247 : Index := 0#32
  let c1280 : Index := 1280#32
  ![v703.toNat, 0, 1280]
def k0_off75 (v3 : BitVec 32) (k0_t3 : Fin (k0_t3_loop v3).trips) : Fin 3 → Nat :=
  let c0_i32_35 : BitVec 32 := 0#32
  let c1_i32_37 : BitVec 32 := 1#32
  let arg17 : BitVec 32 := Scf.iv c0_i32_35 c1_i32_37 k0_t3
  let c2_i32_43 : BitVec 32 := 2#32
  let v41 : BitVec 32 := Scalar.remsi arg17 c2_i32_43
  let v706 : Index := Scalar.indexCast v41
  let c0_248 : Index := 0#32
  let c1280_249 : Index := 1280#32
  ![v706.toNat, 0, 1280]
def k0_off76 (v3 : BitVec 32) (k0_t3 : Fin (k0_t3_loop v3).trips) : Fin 3 → Nat :=
  let c0_i32_35 : BitVec 32 := 0#32
  let c1_i32_37 : BitVec 32 := 1#32
  let arg17 : BitVec 32 := Scf.iv c0_i32_35 c1_i32_37 k0_t3
  let c2_i32_43 : BitVec 32 := 2#32
  let v41 : BitVec 32 := Scalar.remsi arg17 c2_i32_43
  let v728 : Index := Scalar.indexCast v41
  let c0_254 : Index := 0#32
  let c2688 : Index := 2688#32
  ![v728.toNat, 0, 2688]
def k0_off77 (v3 : BitVec 32) (k0_t3 : Fin (k0_t3_loop v3).trips) : Fin 3 → Nat :=
  let c0_i32_35 : BitVec 32 := 0#32
  let c1_i32_37 : BitVec 32 := 1#32
  let arg17 : BitVec 32 := Scf.iv c0_i32_35 c1_i32_37 k0_t3
  let c2_i32_43 : BitVec 32 := 2#32
  let v41 : BitVec 32 := Scalar.remsi arg17 c2_i32_43
  let v731 : Index := Scalar.indexCast v41
  let c0_255 : Index := 0#32
  let c2688_256 : Index := 2688#32
  ![v731.toNat, 0, 2688]
def k0_off78 (v3 : BitVec 32) (k0_t3 : Fin (k0_t3_loop v3).trips) : Fin 3 → Nat :=
  let c0_i32_35 : BitVec 32 := 0#32
  let c1_i32_37 : BitVec 32 := 1#32
  let arg17 : BitVec 32 := Scf.iv c0_i32_35 c1_i32_37 k0_t3
  let c2_i32_43 : BitVec 32 := 2#32
  let v41 : BitVec 32 := Scalar.remsi arg17 c2_i32_43
  let v765 : Index := Scalar.indexCast v41
  let c0_266 : Index := 0#32
  let c0_267 : Index := 0#32
  ![v765.toNat, 0, 0]
def k0_off79 (v3 : BitVec 32) (k0_t3 : Fin (k0_t3_loop v3).trips) : Fin 3 → Nat :=
  let c0_i32_35 : BitVec 32 := 0#32
  let c1_i32_37 : BitVec 32 := 1#32
  let arg17 : BitVec 32 := Scf.iv c0_i32_35 c1_i32_37 k0_t3
  let c2_i32_43 : BitVec 32 := 2#32
  let v41 : BitVec 32 := Scalar.remsi arg17 c2_i32_43
  let v768 : Index := Scalar.indexCast v41
  let c0_268 : Index := 0#32
  let c0_269 : Index := 0#32
  ![v768.toNat, 0, 0]
def k0_off80 (v3 : BitVec 32) (k0_t3 : Fin (k0_t3_loop v3).trips) : Fin 3 → Nat :=
  let c0_i32_35 : BitVec 32 := 0#32
  let c1_i32_37 : BitVec 32 := 1#32
  let arg17 : BitVec 32 := Scf.iv c0_i32_35 c1_i32_37 k0_t3
  let c2_i32_43 : BitVec 32 := 2#32
  let v41 : BitVec 32 := Scalar.remsi arg17 c2_i32_43
  let v802 : Index := Scalar.indexCast v41
  let c0_280 : Index := 0#32
  let c256_281 : Index := 256#32
  ![v802.toNat, 0, 256]
def k0_off81 (v3 : BitVec 32) (k0_t3 : Fin (k0_t3_loop v3).trips) : Fin 3 → Nat :=
  let c0_i32_35 : BitVec 32 := 0#32
  let c1_i32_37 : BitVec 32 := 1#32
  let arg17 : BitVec 32 := Scf.iv c0_i32_35 c1_i32_37 k0_t3
  let c2_i32_43 : BitVec 32 := 2#32
  let v41 : BitVec 32 := Scalar.remsi arg17 c2_i32_43
  let v805 : Index := Scalar.indexCast v41
  let c0_282 : Index := 0#32
  let c256_283 : Index := 256#32
  ![v805.toNat, 0, 256]
def k0_off82 (v3 : BitVec 32) (k0_t3 : Fin (k0_t3_loop v3).trips) : Fin 3 → Nat :=
  let c0_i32_35 : BitVec 32 := 0#32
  let c1_i32_37 : BitVec 32 := 1#32
  let arg17 : BitVec 32 := Scf.iv c0_i32_35 c1_i32_37 k0_t3
  let c2_i32_43 : BitVec 32 := 2#32
  let v41 : BitVec 32 := Scalar.remsi arg17 c2_i32_43
  let v839 : Index := Scalar.indexCast v41
  let c0_294 : Index := 0#32
  let c512_295 : Index := 512#32
  ![v839.toNat, 0, 512]
def k0_off83 (v3 : BitVec 32) (k0_t3 : Fin (k0_t3_loop v3).trips) : Fin 3 → Nat :=
  let c0_i32_35 : BitVec 32 := 0#32
  let c1_i32_37 : BitVec 32 := 1#32
  let arg17 : BitVec 32 := Scf.iv c0_i32_35 c1_i32_37 k0_t3
  let c2_i32_43 : BitVec 32 := 2#32
  let v41 : BitVec 32 := Scalar.remsi arg17 c2_i32_43
  let v842 : Index := Scalar.indexCast v41
  let c0_296 : Index := 0#32
  let c512_297 : Index := 512#32
  ![v842.toNat, 0, 512]
def k0_off84 (v3 : BitVec 32) (k0_t3 : Fin (k0_t3_loop v3).trips) : Fin 3 → Nat :=
  let c0_i32_35 : BitVec 32 := 0#32
  let c1_i32_37 : BitVec 32 := 1#32
  let arg17 : BitVec 32 := Scf.iv c0_i32_35 c1_i32_37 k0_t3
  let c2_i32_43 : BitVec 32 := 2#32
  let v41 : BitVec 32 := Scalar.remsi arg17 c2_i32_43
  let v876 : Index := Scalar.indexCast v41
  let c0_308 : Index := 0#32
  let c768_309 : Index := 768#32
  ![v876.toNat, 0, 768]
def k0_off85 (v3 : BitVec 32) (k0_t3 : Fin (k0_t3_loop v3).trips) : Fin 3 → Nat :=
  let c0_i32_35 : BitVec 32 := 0#32
  let c1_i32_37 : BitVec 32 := 1#32
  let arg17 : BitVec 32 := Scf.iv c0_i32_35 c1_i32_37 k0_t3
  let c2_i32_43 : BitVec 32 := 2#32
  let v41 : BitVec 32 := Scalar.remsi arg17 c2_i32_43
  let v879 : Index := Scalar.indexCast v41
  let c0_310 : Index := 0#32
  let c768_311 : Index := 768#32
  ![v879.toNat, 0, 768]
def k0_off86 (v3 : BitVec 32) (k0_t3 : Fin (k0_t3_loop v3).trips) : Fin 3 → Nat :=
  let c0_i32_35 : BitVec 32 := 0#32
  let c1_i32_37 : BitVec 32 := 1#32
  let arg17 : BitVec 32 := Scf.iv c0_i32_35 c1_i32_37 k0_t3
  let c2_i32_43 : BitVec 32 := 2#32
  let v41 : BitVec 32 := Scalar.remsi arg17 c2_i32_43
  let v913 : Index := Scalar.indexCast v41
  let c0_322 : Index := 0#32
  let c1024_323 : Index := 1024#32
  ![v913.toNat, 0, 1024]
def k0_off87 (v3 : BitVec 32) (k0_t3 : Fin (k0_t3_loop v3).trips) : Fin 3 → Nat :=
  let c0_i32_35 : BitVec 32 := 0#32
  let c1_i32_37 : BitVec 32 := 1#32
  let arg17 : BitVec 32 := Scf.iv c0_i32_35 c1_i32_37 k0_t3
  let c2_i32_43 : BitVec 32 := 2#32
  let v41 : BitVec 32 := Scalar.remsi arg17 c2_i32_43
  let v916 : Index := Scalar.indexCast v41
  let c0_324 : Index := 0#32
  let c1024_325 : Index := 1024#32
  ![v916.toNat, 0, 1024]
def k0_off88 (v3 : BitVec 32) (k0_t3 : Fin (k0_t3_loop v3).trips) : Fin 3 → Nat :=
  let c0_i32_35 : BitVec 32 := 0#32
  let c1_i32_37 : BitVec 32 := 1#32
  let arg17 : BitVec 32 := Scf.iv c0_i32_35 c1_i32_37 k0_t3
  let c2_i32_43 : BitVec 32 := 2#32
  let v41 : BitVec 32 := Scalar.remsi arg17 c2_i32_43
  let v950 : Index := Scalar.indexCast v41
  let c0_336 : Index := 0#32
  let c1280_337 : Index := 1280#32
  ![v950.toNat, 0, 1280]
def k0_off89 (v3 : BitVec 32) (k0_t3 : Fin (k0_t3_loop v3).trips) : Fin 3 → Nat :=
  let c0_i32_35 : BitVec 32 := 0#32
  let c1_i32_37 : BitVec 32 := 1#32
  let arg17 : BitVec 32 := Scf.iv c0_i32_35 c1_i32_37 k0_t3
  let c2_i32_43 : BitVec 32 := 2#32
  let v41 : BitVec 32 := Scalar.remsi arg17 c2_i32_43
  let v953 : Index := Scalar.indexCast v41
  let c0_338 : Index := 0#32
  let c1280_339 : Index := 1280#32
  ![v953.toNat, 0, 1280]
def k0_off90 (v3 : BitVec 32) (k0_t3 : Fin (k0_t3_loop v3).trips) : Fin 3 → Nat :=
  let c0_i32_35 : BitVec 32 := 0#32
  let c1_i32_37 : BitVec 32 := 1#32
  let arg17 : BitVec 32 := Scf.iv c0_i32_35 c1_i32_37 k0_t3
  let c2_i32_43 : BitVec 32 := 2#32
  let v41 : BitVec 32 := Scalar.remsi arg17 c2_i32_43
  let v987 : Index := Scalar.indexCast v41
  let c0_350 : Index := 0#32
  let c1536_351 : Index := 1536#32
  ![v987.toNat, 0, 1536]
def k0_off91 (v3 : BitVec 32) (k0_t3 : Fin (k0_t3_loop v3).trips) : Fin 3 → Nat :=
  let c0_i32_35 : BitVec 32 := 0#32
  let c1_i32_37 : BitVec 32 := 1#32
  let arg17 : BitVec 32 := Scf.iv c0_i32_35 c1_i32_37 k0_t3
  let c2_i32_43 : BitVec 32 := 2#32
  let v41 : BitVec 32 := Scalar.remsi arg17 c2_i32_43
  let v990 : Index := Scalar.indexCast v41
  let c0_352 : Index := 0#32
  let c1536_353 : Index := 1536#32
  ![v990.toNat, 0, 1536]
def k0_off92 (v3 : BitVec 32) (k0_t3 : Fin (k0_t3_loop v3).trips) : Fin 3 → Nat :=
  let c0_i32_35 : BitVec 32 := 0#32
  let c1_i32_37 : BitVec 32 := 1#32
  let arg17 : BitVec 32 := Scf.iv c0_i32_35 c1_i32_37 k0_t3
  let c2_i32_43 : BitVec 32 := 2#32
  let v41 : BitVec 32 := Scalar.remsi arg17 c2_i32_43
  let v1024 : Index := Scalar.indexCast v41
  let c0_364 : Index := 0#32
  let c1792_365 : Index := 1792#32
  ![v1024.toNat, 0, 1792]
def k0_off93 (v3 : BitVec 32) (k0_t3 : Fin (k0_t3_loop v3).trips) : Fin 3 → Nat :=
  let c0_i32_35 : BitVec 32 := 0#32
  let c1_i32_37 : BitVec 32 := 1#32
  let arg17 : BitVec 32 := Scf.iv c0_i32_35 c1_i32_37 k0_t3
  let c2_i32_43 : BitVec 32 := 2#32
  let v41 : BitVec 32 := Scalar.remsi arg17 c2_i32_43
  let v1027 : Index := Scalar.indexCast v41
  let c0_366 : Index := 0#32
  let c1792_367 : Index := 1792#32
  ![v1027.toNat, 0, 1792]
def k0_off94 (v3 : BitVec 32) (k0_t3 : Fin (k0_t3_loop v3).trips) : Fin 3 → Nat :=
  let c0_i32_35 : BitVec 32 := 0#32
  let c1_i32_37 : BitVec 32 := 1#32
  let arg17 : BitVec 32 := Scf.iv c0_i32_35 c1_i32_37 k0_t3
  let c2_i32_43 : BitVec 32 := 2#32
  let v41 : BitVec 32 := Scalar.remsi arg17 c2_i32_43
  let v1061 : Index := Scalar.indexCast v41
  let c0_378 : Index := 0#32
  let c2048_379 : Index := 2048#32
  ![v1061.toNat, 0, 2048]
def k0_off95 (v3 : BitVec 32) (k0_t3 : Fin (k0_t3_loop v3).trips) : Fin 3 → Nat :=
  let c0_i32_35 : BitVec 32 := 0#32
  let c1_i32_37 : BitVec 32 := 1#32
  let arg17 : BitVec 32 := Scf.iv c0_i32_35 c1_i32_37 k0_t3
  let c2_i32_43 : BitVec 32 := 2#32
  let v41 : BitVec 32 := Scalar.remsi arg17 c2_i32_43
  let v1064 : Index := Scalar.indexCast v41
  let c0_380 : Index := 0#32
  let c2048_381 : Index := 2048#32
  ![v1064.toNat, 0, 2048]
def k0_off96 (v3 : BitVec 32) (k0_t3 : Fin (k0_t3_loop v3).trips) : Fin 3 → Nat :=
  let c0_i32_35 : BitVec 32 := 0#32
  let c1_i32_37 : BitVec 32 := 1#32
  let arg17 : BitVec 32 := Scf.iv c0_i32_35 c1_i32_37 k0_t3
  let c2_i32_43 : BitVec 32 := 2#32
  let v41 : BitVec 32 := Scalar.remsi arg17 c2_i32_43
  let v1098 : Index := Scalar.indexCast v41
  let c0_392 : Index := 0#32
  let c2304_393 : Index := 2304#32
  ![v1098.toNat, 0, 2304]
def k0_off97 (v3 : BitVec 32) (k0_t3 : Fin (k0_t3_loop v3).trips) : Fin 3 → Nat :=
  let c0_i32_35 : BitVec 32 := 0#32
  let c1_i32_37 : BitVec 32 := 1#32
  let arg17 : BitVec 32 := Scf.iv c0_i32_35 c1_i32_37 k0_t3
  let c2_i32_43 : BitVec 32 := 2#32
  let v41 : BitVec 32 := Scalar.remsi arg17 c2_i32_43
  let v1101 : Index := Scalar.indexCast v41
  let c0_394 : Index := 0#32
  let c2304_395 : Index := 2304#32
  ![v1101.toNat, 0, 2304]
def k0_off98 (v3 : BitVec 32) (k0_t3 : Fin (k0_t3_loop v3).trips) : Fin 3 → Nat :=
  let c0_i32_35 : BitVec 32 := 0#32
  let c1_i32_37 : BitVec 32 := 1#32
  let arg17 : BitVec 32 := Scf.iv c0_i32_35 c1_i32_37 k0_t3
  let c2_i32_43 : BitVec 32 := 2#32
  let v41 : BitVec 32 := Scalar.remsi arg17 c2_i32_43
  let v1135 : Index := Scalar.indexCast v41
  let c0_406 : Index := 0#32
  let c2560_407 : Index := 2560#32
  ![v1135.toNat, 0, 2560]
def k0_off99 (v3 : BitVec 32) (k0_t3 : Fin (k0_t3_loop v3).trips) : Fin 3 → Nat :=
  let c0_i32_35 : BitVec 32 := 0#32
  let c1_i32_37 : BitVec 32 := 1#32
  let arg17 : BitVec 32 := Scf.iv c0_i32_35 c1_i32_37 k0_t3
  let c2_i32_43 : BitVec 32 := 2#32
  let v41 : BitVec 32 := Scalar.remsi arg17 c2_i32_43
  let v1138 : Index := Scalar.indexCast v41
  let c0_408 : Index := 0#32
  let c2560_409 : Index := 2560#32
  ![v1138.toNat, 0, 2560]
@[reducible] def k0_t4_loop (v3 : BitVec 32) : Scf.Loop 32 :=
  let c0_i32_35 : BitVec 32 := 0#32
  let v33 : BitVec 32 := Scalar.subi v3 c0_i32_35
  let c1_i32_36 : BitVec 32 := 1#32
  let v35 : BitVec 32 := Scalar.divsi v33 c1_i32_36
  let v36 : BitVec 32 := Scalar.muli v35 c1_i32_36
  let v37 : BitVec 32 := Scalar.addi c0_i32_35 v36
  let v34 : BitVec 32 := Scalar.addi c0_i32_35 v33
  let c1_i32_38 : BitVec 32 := 1#32
  ⟨v37, v34, c1_i32_38⟩
def k0_off100 (v3 : BitVec 32) (k0_t4 : Fin (k0_t4_loop v3).trips) : Fin 1 → Nat :=
  let c0_i32_35 : BitVec 32 := 0#32
  let v33 : BitVec 32 := Scalar.subi v3 c0_i32_35
  let c1_i32_36 : BitVec 32 := 1#32
  let v35 : BitVec 32 := Scalar.divsi v33 c1_i32_36
  let v36 : BitVec 32 := Scalar.muli v35 c1_i32_36
  let v37 : BitVec 32 := Scalar.addi c0_i32_35 v36
  let c1_i32_38 : BitVec 32 := 1#32
  let arg17 : BitVec 32 := Scf.iv v37 c1_i32_38 k0_t4
  let c1_i32_420 : BitVec 32 := 1#32
  let v1172 : BitVec 32 := Scalar.addi arg17 c1_i32_420
  let v1174 : Index := Scalar.indexCast v1172
  ![v1174.toNat]
def k0_cond2 (v3 : BitVec 32) (k0_t4 : Fin (k0_t4_loop v3).trips) : BitVec 1 :=
  let c0_i32_35 : BitVec 32 := 0#32
  let v33 : BitVec 32 := Scalar.subi v3 c0_i32_35
  let c1_i32_36 : BitVec 32 := 1#32
  let v35 : BitVec 32 := Scalar.divsi v33 c1_i32_36
  let v36 : BitVec 32 := Scalar.muli v35 c1_i32_36
  let v37 : BitVec 32 := Scalar.addi c0_i32_35 v36
  let c1_i32_38 : BitVec 32 := 1#32
  let arg17 : BitVec 32 := Scf.iv v37 c1_i32_38 k0_t4
  let c1_i32_44 : BitVec 32 := 1#32
  let v42 : BitVec 32 := Scalar.addi arg17 c1_i32_44
  let v43 : BitVec 1 := Scalar.cmpi .slt v42 v3
  let v44 : BitVec 32 := Scalar.extui v43
  let c0_i32_45 : BitVec 32 := 0#32
  let v45 : BitVec 1 := Scalar.cmpi .ne v44 c0_i32_45
  v45

def k0_off101 (v3 : BitVec 32) (k0_t4 : Fin (k0_t4_loop v3).trips) : Fin 2 → Nat :=
  let c1_i32_421 : BitVec 32 := 1#32
  let c0_i32_35 : BitVec 32 := 0#32
  let v33 : BitVec 32 := Scalar.subi v3 c0_i32_35
  let c1_i32_36 : BitVec 32 := 1#32
  let v35 : BitVec 32 := Scalar.divsi v33 c1_i32_36
  let v36 : BitVec 32 := Scalar.muli v35 c1_i32_36
  let v37 : BitVec 32 := Scalar.addi c0_i32_35 v36
  let c1_i32_38 : BitVec 32 := 1#32
  let arg17 : BitVec 32 := Scf.iv v37 c1_i32_38 k0_t4
  let c2_i32_43 : BitVec 32 := 2#32
  let v41 : BitVec 32 := Scalar.remsi arg17 c2_i32_43
  let v1173 : BitVec 32 := Scalar.subi c1_i32_421 v41
  let c0_i32_422 : BitVec 32 := 0#32
  ![v1173.toNat, 0]
def k0_off102 (v3 : BitVec 32) (k0_t4 : Fin (k0_t4_loop v3).trips) : Fin 3 → Nat :=
  let c1_i32_421 : BitVec 32 := 1#32
  let c0_i32_35 : BitVec 32 := 0#32
  let v33 : BitVec 32 := Scalar.subi v3 c0_i32_35
  let c1_i32_36 : BitVec 32 := 1#32
  let v35 : BitVec 32 := Scalar.divsi v33 c1_i32_36
  let v36 : BitVec 32 := Scalar.muli v35 c1_i32_36
  let v37 : BitVec 32 := Scalar.addi c0_i32_35 v36
  let c1_i32_38 : BitVec 32 := 1#32
  let arg17 : BitVec 32 := Scf.iv v37 c1_i32_38 k0_t4
  let c2_i32_43 : BitVec 32 := 2#32
  let v41 : BitVec 32 := Scalar.remsi arg17 c2_i32_43
  let v1173 : BitVec 32 := Scalar.subi c1_i32_421 v41
  let c0_i32_423 : BitVec 32 := 0#32
  let c0_i32_424 : BitVec 32 := 0#32
  ![v1173.toNat, 0, 0]
def k0_off103 (v1175 : BitVec 32) : Fin 3 → Nat :=
  let c0_i32_425 : BitVec 32 := 0#32
  let c0_i32_426 : BitVec 32 := 0#32
  ![v1175.toNat, 0, 0]

def k0_off104 (v3 : BitVec 32) (k0_t4 : Fin (k0_t4_loop v3).trips) : Fin 2 → Nat :=
  let c1_i32_421 : BitVec 32 := 1#32
  let c0_i32_35 : BitVec 32 := 0#32
  let v33 : BitVec 32 := Scalar.subi v3 c0_i32_35
  let c1_i32_36 : BitVec 32 := 1#32
  let v35 : BitVec 32 := Scalar.divsi v33 c1_i32_36
  let v36 : BitVec 32 := Scalar.muli v35 c1_i32_36
  let v37 : BitVec 32 := Scalar.addi c0_i32_35 v36
  let c1_i32_38 : BitVec 32 := 1#32
  let arg17 : BitVec 32 := Scf.iv v37 c1_i32_38 k0_t4
  let c2_i32_43 : BitVec 32 := 2#32
  let v41 : BitVec 32 := Scalar.remsi arg17 c2_i32_43
  let v1173 : BitVec 32 := Scalar.subi c1_i32_421 v41
  let c1_i32_427 : BitVec 32 := 1#32
  ![v1173.toNat, 1]
def k0_off105 (v3 : BitVec 32) (k0_t4 : Fin (k0_t4_loop v3).trips) : Fin 3 → Nat :=
  let c1_i32_421 : BitVec 32 := 1#32
  let c0_i32_35 : BitVec 32 := 0#32
  let v33 : BitVec 32 := Scalar.subi v3 c0_i32_35
  let c1_i32_36 : BitVec 32 := 1#32
  let v35 : BitVec 32 := Scalar.divsi v33 c1_i32_36
  let v36 : BitVec 32 := Scalar.muli v35 c1_i32_36
  let v37 : BitVec 32 := Scalar.addi c0_i32_35 v36
  let c1_i32_38 : BitVec 32 := 1#32
  let arg17 : BitVec 32 := Scf.iv v37 c1_i32_38 k0_t4
  let c2_i32_43 : BitVec 32 := 2#32
  let v41 : BitVec 32 := Scalar.remsi arg17 c2_i32_43
  let v1173 : BitVec 32 := Scalar.subi c1_i32_421 v41
  let c0_i32_428 : BitVec 32 := 0#32
  let c0_i32_429 : BitVec 32 := 0#32
  ![v1173.toNat, 0, 0]
def k0_off106 (v1175 : BitVec 32) : Fin 3 → Nat :=
  let c0_i32_430 : BitVec 32 := 0#32
  let c0_i32_431 : BitVec 32 := 0#32
  ![v1175.toNat, 0, 0]
def k0_off107 (v3 : BitVec 32) (k0_t4 : Fin (k0_t4_loop v3).trips) : Fin 2 → Nat :=
  let c1_i32_421 : BitVec 32 := 1#32
  let c0_i32_35 : BitVec 32 := 0#32
  let v33 : BitVec 32 := Scalar.subi v3 c0_i32_35
  let c1_i32_36 : BitVec 32 := 1#32
  let v35 : BitVec 32 := Scalar.divsi v33 c1_i32_36
  let v36 : BitVec 32 := Scalar.muli v35 c1_i32_36
  let v37 : BitVec 32 := Scalar.addi c0_i32_35 v36
  let c1_i32_38 : BitVec 32 := 1#32
  let arg17 : BitVec 32 := Scf.iv v37 c1_i32_38 k0_t4
  let c2_i32_43 : BitVec 32 := 2#32
  let v41 : BitVec 32 := Scalar.remsi arg17 c2_i32_43
  let v1173 : BitVec 32 := Scalar.subi c1_i32_421 v41
  let c2_i32_432 : BitVec 32 := 2#32
  ![v1173.toNat, 2]
def k0_off108 (v3 : BitVec 32) (k0_t4 : Fin (k0_t4_loop v3).trips) : Fin 3 → Nat :=
  let c1_i32_421 : BitVec 32 := 1#32
  let c0_i32_35 : BitVec 32 := 0#32
  let v33 : BitVec 32 := Scalar.subi v3 c0_i32_35
  let c1_i32_36 : BitVec 32 := 1#32
  let v35 : BitVec 32 := Scalar.divsi v33 c1_i32_36
  let v36 : BitVec 32 := Scalar.muli v35 c1_i32_36
  let v37 : BitVec 32 := Scalar.addi c0_i32_35 v36
  let c1_i32_38 : BitVec 32 := 1#32
  let arg17 : BitVec 32 := Scf.iv v37 c1_i32_38 k0_t4
  let c2_i32_43 : BitVec 32 := 2#32
  let v41 : BitVec 32 := Scalar.remsi arg17 c2_i32_43
  let v1173 : BitVec 32 := Scalar.subi c1_i32_421 v41
  let c0_i32_433 : BitVec 32 := 0#32
  let c0_i32_434 : BitVec 32 := 0#32
  ![v1173.toNat, 0, 0]
def k0_off109 (v1175 : BitVec 32) : Fin 3 → Nat :=
  let c0_i32_435 : BitVec 32 := 0#32
  let c0_i32_436 : BitVec 32 := 0#32
  ![v1175.toNat, 0, 0]
def k0_off110 (v3 : BitVec 32) (k0_t4 : Fin (k0_t4_loop v3).trips) : Fin 2 → Nat :=
  let c1_i32_421 : BitVec 32 := 1#32
  let c0_i32_35 : BitVec 32 := 0#32
  let v33 : BitVec 32 := Scalar.subi v3 c0_i32_35
  let c1_i32_36 : BitVec 32 := 1#32
  let v35 : BitVec 32 := Scalar.divsi v33 c1_i32_36
  let v36 : BitVec 32 := Scalar.muli v35 c1_i32_36
  let v37 : BitVec 32 := Scalar.addi c0_i32_35 v36
  let c1_i32_38 : BitVec 32 := 1#32
  let arg17 : BitVec 32 := Scf.iv v37 c1_i32_38 k0_t4
  let c2_i32_43 : BitVec 32 := 2#32
  let v41 : BitVec 32 := Scalar.remsi arg17 c2_i32_43
  let v1173 : BitVec 32 := Scalar.subi c1_i32_421 v41
  let c3_i32_437 : BitVec 32 := 3#32
  ![v1173.toNat, 3]
def k0_off111 (v3 : BitVec 32) (k0_t4 : Fin (k0_t4_loop v3).trips) : Fin 3 → Nat :=
  let c1_i32_421 : BitVec 32 := 1#32
  let c0_i32_35 : BitVec 32 := 0#32
  let v33 : BitVec 32 := Scalar.subi v3 c0_i32_35
  let c1_i32_36 : BitVec 32 := 1#32
  let v35 : BitVec 32 := Scalar.divsi v33 c1_i32_36
  let v36 : BitVec 32 := Scalar.muli v35 c1_i32_36
  let v37 : BitVec 32 := Scalar.addi c0_i32_35 v36
  let c1_i32_38 : BitVec 32 := 1#32
  let arg17 : BitVec 32 := Scf.iv v37 c1_i32_38 k0_t4
  let c2_i32_43 : BitVec 32 := 2#32
  let v41 : BitVec 32 := Scalar.remsi arg17 c2_i32_43
  let v1173 : BitVec 32 := Scalar.subi c1_i32_421 v41
  let c0_i32_438 : BitVec 32 := 0#32
  let c0_i32_439 : BitVec 32 := 0#32
  ![v1173.toNat, 0, 0]
def k0_off112 (v1175 : BitVec 32) : Fin 3 → Nat :=
  let c0_i32_440 : BitVec 32 := 0#32
  let c0_i32_441 : BitVec 32 := 0#32
  ![v1175.toNat, 0, 0]

def k0_chk6 (v3 : BitVec 32) (k0_t4 : Fin (k0_t4_loop v3).trips) (v1175 : BitVec 32) : Prop :=
  (∀ (k0_h2 : k0_cond2 v3 k0_t4 = 1#1), ∀ a, (k0_off103 v1175) a + S1x1408x2816.size a ≤ S32x1408x2816.size a) ∧
  (∀ (k0_h2 : k0_cond2 v3 k0_t4 = 1#1), ∀ (hinb : ∀ a, (k0_off103 v1175) a + S1x1408x2816.size a ≤ S32x1408x2816.size a), (Rect.unit (s := S32x1408x2816) (k0_off103 v1175) S1x1408x2816.size hinb).WholeWords (EltTy.packing .i8)) ∧
  (∀ (k0_h2 : k0_cond2 v3 k0_t4 = 1#1), ∀ a, (k0_off106 v1175) a + S1x22x2816.size a ≤ S32x22x2816.size a) ∧
  (∀ (k0_h2 : k0_cond2 v3 k0_t4 = 1#1), ∀ (hinb : ∀ a, (k0_off106 v1175) a + S1x22x2816.size a ≤ S32x22x2816.size a), (Rect.unit (s := S32x22x2816) (k0_off106 v1175) S1x22x2816.size hinb).WholeWords (EltTy.packing .bf16)) ∧
  (∀ (k0_h2 : k0_cond2 v3 k0_t4 = 1#1), ∀ a, (k0_off109 v1175) a + S1x704x2816.size a ≤ S32x704x2816.size a) ∧
  (∀ (k0_h2 : k0_cond2 v3 k0_t4 = 1#1), ∀ (hinb : ∀ a, (k0_off109 v1175) a + S1x704x2816.size a ≤ S32x704x2816.size a), (Rect.unit (s := S32x704x2816) (k0_off109 v1175) S1x704x2816.size hinb).WholeWords (EltTy.packing .i8)) ∧
  (∀ (k0_h2 : k0_cond2 v3 k0_t4 = 1#1), ∀ a, (k0_off112 v1175) a + S1x11x2816.size a ≤ S32x11x2816.size a) ∧
  (∀ (k0_h2 : k0_cond2 v3 k0_t4 = 1#1), ∀ (hinb : ∀ a, (k0_off112 v1175) a + S1x11x2816.size a ≤ S32x11x2816.size a), (Rect.unit (s := S32x11x2816) (k0_off112 v1175) S1x11x2816.size hinb).WholeWords (EltTy.packing .bf16))
theorem k0_off103_inb : ∀ (v3 : BitVec 32) (k0_t4 : Fin (k0_t4_loop v3).trips) (v1175 : BitVec 32) (k0_hw6 : k0_chk6 v3 k0_t4 v1175), ∀ (k0_h2 : k0_cond2 v3 k0_t4 = 1#1), ∀ a, (k0_off103 v1175) a + S1x1408x2816.size a ≤ S32x1408x2816.size a := fun v3 k0_t4 v1175 k0_hw6 k0_h2 => k0_hw6.1 k0_h2
theorem k0_off103_wordsi8 : ∀ (v3 : BitVec 32) (k0_t4 : Fin (k0_t4_loop v3).trips) (v1175 : BitVec 32) (k0_hw6 : k0_chk6 v3 k0_t4 v1175), ∀ (k0_h2 : k0_cond2 v3 k0_t4 = 1#1), (Rect.unit (s := S32x1408x2816) (k0_off103 v1175) S1x1408x2816.size (k0_off103_inb v3 k0_t4 v1175 k0_hw6 k0_h2)).WholeWords (EltTy.packing .i8) := fun v3 k0_t4 v1175 k0_hw6 k0_h2 => k0_hw6.2.1 k0_h2 (k0_off103_inb v3 k0_t4 v1175 k0_hw6 k0_h2)
theorem k0_off106_inb : ∀ (v3 : BitVec 32) (k0_t4 : Fin (k0_t4_loop v3).trips) (v1175 : BitVec 32) (k0_hw6 : k0_chk6 v3 k0_t4 v1175), ∀ (k0_h2 : k0_cond2 v3 k0_t4 = 1#1), ∀ a, (k0_off106 v1175) a + S1x22x2816.size a ≤ S32x22x2816.size a := fun v3 k0_t4 v1175 k0_hw6 k0_h2 => k0_hw6.2.2.1 k0_h2
theorem k0_off106_wordsbf16 : ∀ (v3 : BitVec 32) (k0_t4 : Fin (k0_t4_loop v3).trips) (v1175 : BitVec 32) (k0_hw6 : k0_chk6 v3 k0_t4 v1175), ∀ (k0_h2 : k0_cond2 v3 k0_t4 = 1#1), (Rect.unit (s := S32x22x2816) (k0_off106 v1175) S1x22x2816.size (k0_off106_inb v3 k0_t4 v1175 k0_hw6 k0_h2)).WholeWords (EltTy.packing .bf16) := fun v3 k0_t4 v1175 k0_hw6 k0_h2 => k0_hw6.2.2.2.1 k0_h2 (k0_off106_inb v3 k0_t4 v1175 k0_hw6 k0_h2)
theorem k0_off109_inb : ∀ (v3 : BitVec 32) (k0_t4 : Fin (k0_t4_loop v3).trips) (v1175 : BitVec 32) (k0_hw6 : k0_chk6 v3 k0_t4 v1175), ∀ (k0_h2 : k0_cond2 v3 k0_t4 = 1#1), ∀ a, (k0_off109 v1175) a + S1x704x2816.size a ≤ S32x704x2816.size a := fun v3 k0_t4 v1175 k0_hw6 k0_h2 => k0_hw6.2.2.2.2.1 k0_h2
theorem k0_off109_wordsi8 : ∀ (v3 : BitVec 32) (k0_t4 : Fin (k0_t4_loop v3).trips) (v1175 : BitVec 32) (k0_hw6 : k0_chk6 v3 k0_t4 v1175), ∀ (k0_h2 : k0_cond2 v3 k0_t4 = 1#1), (Rect.unit (s := S32x704x2816) (k0_off109 v1175) S1x704x2816.size (k0_off109_inb v3 k0_t4 v1175 k0_hw6 k0_h2)).WholeWords (EltTy.packing .i8) := fun v3 k0_t4 v1175 k0_hw6 k0_h2 => k0_hw6.2.2.2.2.2.1 k0_h2 (k0_off109_inb v3 k0_t4 v1175 k0_hw6 k0_h2)
theorem k0_off112_inb : ∀ (v3 : BitVec 32) (k0_t4 : Fin (k0_t4_loop v3).trips) (v1175 : BitVec 32) (k0_hw6 : k0_chk6 v3 k0_t4 v1175), ∀ (k0_h2 : k0_cond2 v3 k0_t4 = 1#1), ∀ a, (k0_off112 v1175) a + S1x11x2816.size a ≤ S32x11x2816.size a := fun v3 k0_t4 v1175 k0_hw6 k0_h2 => k0_hw6.2.2.2.2.2.2.1 k0_h2
theorem k0_off112_wordsbf16 : ∀ (v3 : BitVec 32) (k0_t4 : Fin (k0_t4_loop v3).trips) (v1175 : BitVec 32) (k0_hw6 : k0_chk6 v3 k0_t4 v1175), ∀ (k0_h2 : k0_cond2 v3 k0_t4 = 1#1), (Rect.unit (s := S32x11x2816) (k0_off112 v1175) S1x11x2816.size (k0_off112_inb v3 k0_t4 v1175 k0_hw6 k0_h2)).WholeWords (EltTy.packing .bf16) := fun v3 k0_t4 v1175 k0_hw6 k0_h2 => k0_hw6.2.2.2.2.2.2.2 k0_h2 (k0_off112_inb v3 k0_t4 v1175 k0_hw6 k0_h2)

def k0_off113 (v3 : BitVec 32) (k0_t4 : Fin (k0_t4_loop v3).trips) : Fin 1 → Nat :=
  let c0_i32_35 : BitVec 32 := 0#32
  let v33 : BitVec 32 := Scalar.subi v3 c0_i32_35
  let c1_i32_36 : BitVec 32 := 1#32
  let v35 : BitVec 32 := Scalar.divsi v33 c1_i32_36
  let v36 : BitVec 32 := Scalar.muli v35 c1_i32_36
  let v37 : BitVec 32 := Scalar.addi c0_i32_35 v36
  let c1_i32_38 : BitVec 32 := 1#32
  let arg17 : BitVec 32 := Scf.iv v37 c1_i32_38 k0_t4
  let v46 : Index := Scalar.indexCast arg17
  ![v46.toNat]
def k0_off114 (v3 : BitVec 32) (k0_t4 : Fin (k0_t4_loop v3).trips) : Fin 2 → Nat :=
  let c0_i32_35 : BitVec 32 := 0#32
  let v33 : BitVec 32 := Scalar.subi v3 c0_i32_35
  let c1_i32_36 : BitVec 32 := 1#32
  let v35 : BitVec 32 := Scalar.divsi v33 c1_i32_36
  let v36 : BitVec 32 := Scalar.muli v35 c1_i32_36
  let v37 : BitVec 32 := Scalar.addi c0_i32_35 v36
  let c1_i32_38 : BitVec 32 := 1#32
  let arg17 : BitVec 32 := Scf.iv v37 c1_i32_38 k0_t4
  let c2_i32_43 : BitVec 32 := 2#32
  let v41 : BitVec 32 := Scalar.remsi arg17 c2_i32_43
  let c0_i32_46 : BitVec 32 := 0#32
  ![v41.toNat, 0]
def k0_off115 (v3 : BitVec 32) (k0_t4 : Fin (k0_t4_loop v3).trips) : Fin 3 → Nat :=
  let c0_i32_35 : BitVec 32 := 0#32
  let v33 : BitVec 32 := Scalar.subi v3 c0_i32_35
  let c1_i32_36 : BitVec 32 := 1#32
  let v35 : BitVec 32 := Scalar.divsi v33 c1_i32_36
  let v36 : BitVec 32 := Scalar.muli v35 c1_i32_36
  let v37 : BitVec 32 := Scalar.addi c0_i32_35 v36
  let c1_i32_38 : BitVec 32 := 1#32
  let arg17 : BitVec 32 := Scf.iv v37 c1_i32_38 k0_t4
  let c2_i32_43 : BitVec 32 := 2#32
  let v41 : BitVec 32 := Scalar.remsi arg17 c2_i32_43
  let c0_i32_47 : BitVec 32 := 0#32
  let c0_i32_48 : BitVec 32 := 0#32
  ![v41.toNat, 0, 0]
def k0_off116 (v47 : BitVec 32) : Fin 3 → Nat :=
  let c0_i32_49 : BitVec 32 := 0#32
  let c0_i32_50 : BitVec 32 := 0#32
  ![v47.toNat, 0, 0]

def k0_off117 (v3 : BitVec 32) (k0_t4 : Fin (k0_t4_loop v3).trips) : Fin 2 → Nat :=
  let c0_i32_35 : BitVec 32 := 0#32
  let v33 : BitVec 32 := Scalar.subi v3 c0_i32_35
  let c1_i32_36 : BitVec 32 := 1#32
  let v35 : BitVec 32 := Scalar.divsi v33 c1_i32_36
  let v36 : BitVec 32 := Scalar.muli v35 c1_i32_36
  let v37 : BitVec 32 := Scalar.addi c0_i32_35 v36
  let c1_i32_38 : BitVec 32 := 1#32
  let arg17 : BitVec 32 := Scf.iv v37 c1_i32_38 k0_t4
  let c2_i32_43 : BitVec 32 := 2#32
  let v41 : BitVec 32 := Scalar.remsi arg17 c2_i32_43
  let c1_i32_51 : BitVec 32 := 1#32
  ![v41.toNat, 1]
def k0_off118 (v3 : BitVec 32) (k0_t4 : Fin (k0_t4_loop v3).trips) : Fin 3 → Nat :=
  let c0_i32_35 : BitVec 32 := 0#32
  let v33 : BitVec 32 := Scalar.subi v3 c0_i32_35
  let c1_i32_36 : BitVec 32 := 1#32
  let v35 : BitVec 32 := Scalar.divsi v33 c1_i32_36
  let v36 : BitVec 32 := Scalar.muli v35 c1_i32_36
  let v37 : BitVec 32 := Scalar.addi c0_i32_35 v36
  let c1_i32_38 : BitVec 32 := 1#32
  let arg17 : BitVec 32 := Scf.iv v37 c1_i32_38 k0_t4
  let c2_i32_43 : BitVec 32 := 2#32
  let v41 : BitVec 32 := Scalar.remsi arg17 c2_i32_43
  let c0_i32_52 : BitVec 32 := 0#32
  let c0_i32_53 : BitVec 32 := 0#32
  ![v41.toNat, 0, 0]
def k0_off119 (v47 : BitVec 32) : Fin 3 → Nat :=
  let c0_i32_54 : BitVec 32 := 0#32
  let c0_i32_55 : BitVec 32 := 0#32
  ![v47.toNat, 0, 0]
def k0_off120 (v3 : BitVec 32) (k0_t4 : Fin (k0_t4_loop v3).trips) : Fin 2 → Nat :=
  let c0_i32_35 : BitVec 32 := 0#32
  let v33 : BitVec 32 := Scalar.subi v3 c0_i32_35
  let c1_i32_36 : BitVec 32 := 1#32
  let v35 : BitVec 32 := Scalar.divsi v33 c1_i32_36
  let v36 : BitVec 32 := Scalar.muli v35 c1_i32_36
  let v37 : BitVec 32 := Scalar.addi c0_i32_35 v36
  let c1_i32_38 : BitVec 32 := 1#32
  let arg17 : BitVec 32 := Scf.iv v37 c1_i32_38 k0_t4
  let c2_i32_43 : BitVec 32 := 2#32
  let v41 : BitVec 32 := Scalar.remsi arg17 c2_i32_43
  let c2_i32_56 : BitVec 32 := 2#32
  ![v41.toNat, 2]
def k0_off121 (v3 : BitVec 32) (k0_t4 : Fin (k0_t4_loop v3).trips) : Fin 3 → Nat :=
  let c0_i32_35 : BitVec 32 := 0#32
  let v33 : BitVec 32 := Scalar.subi v3 c0_i32_35
  let c1_i32_36 : BitVec 32 := 1#32
  let v35 : BitVec 32 := Scalar.divsi v33 c1_i32_36
  let v36 : BitVec 32 := Scalar.muli v35 c1_i32_36
  let v37 : BitVec 32 := Scalar.addi c0_i32_35 v36
  let c1_i32_38 : BitVec 32 := 1#32
  let arg17 : BitVec 32 := Scf.iv v37 c1_i32_38 k0_t4
  let c2_i32_43 : BitVec 32 := 2#32
  let v41 : BitVec 32 := Scalar.remsi arg17 c2_i32_43
  let c0_i32_57 : BitVec 32 := 0#32
  let c0_i32_58 : BitVec 32 := 0#32
  ![v41.toNat, 0, 0]
def k0_off122 (v47 : BitVec 32) : Fin 3 → Nat :=
  let c0_i32_59 : BitVec 32 := 0#32
  let c0_i32_60 : BitVec 32 := 0#32
  ![v47.toNat, 0, 0]
def k0_off123 (v3 : BitVec 32) (k0_t4 : Fin (k0_t4_loop v3).trips) : Fin 2 → Nat :=
  let c0_i32_35 : BitVec 32 := 0#32
  let v33 : BitVec 32 := Scalar.subi v3 c0_i32_35
  let c1_i32_36 : BitVec 32 := 1#32
  let v35 : BitVec 32 := Scalar.divsi v33 c1_i32_36
  let v36 : BitVec 32 := Scalar.muli v35 c1_i32_36
  let v37 : BitVec 32 := Scalar.addi c0_i32_35 v36
  let c1_i32_38 : BitVec 32 := 1#32
  let arg17 : BitVec 32 := Scf.iv v37 c1_i32_38 k0_t4
  let c2_i32_43 : BitVec 32 := 2#32
  let v41 : BitVec 32 := Scalar.remsi arg17 c2_i32_43
  let c3_i32_61 : BitVec 32 := 3#32
  ![v41.toNat, 3]
def k0_off124 (v3 : BitVec 32) (k0_t4 : Fin (k0_t4_loop v3).trips) : Fin 3 → Nat :=
  let c0_i32_35 : BitVec 32 := 0#32
  let v33 : BitVec 32 := Scalar.subi v3 c0_i32_35
  let c1_i32_36 : BitVec 32 := 1#32
  let v35 : BitVec 32 := Scalar.divsi v33 c1_i32_36
  let v36 : BitVec 32 := Scalar.muli v35 c1_i32_36
  let v37 : BitVec 32 := Scalar.addi c0_i32_35 v36
  let c1_i32_38 : BitVec 32 := 1#32
  let arg17 : BitVec 32 := Scf.iv v37 c1_i32_38 k0_t4
  let c2_i32_43 : BitVec 32 := 2#32
  let v41 : BitVec 32 := Scalar.remsi arg17 c2_i32_43
  let c0_i32_62 : BitVec 32 := 0#32
  let c0_i32_63 : BitVec 32 := 0#32
  ![v41.toNat, 0, 0]
def k0_off125 (v47 : BitVec 32) : Fin 3 → Nat :=
  let c0_i32_64 : BitVec 32 := 0#32
  let c0_i32_65 : BitVec 32 := 0#32
  ![v47.toNat, 0, 0]

def k0_chk7 (v47 : BitVec 32) : Prop :=
  (∀ a, (k0_off116 v47) a + S1x1408x2816.size a ≤ S32x1408x2816.size a) ∧
  (∀ (hinb : ∀ a, (k0_off116 v47) a + S1x1408x2816.size a ≤ S32x1408x2816.size a), (Rect.unit (s := S32x1408x2816) (k0_off116 v47) S1x1408x2816.size hinb).WholeWords (EltTy.packing .i8)) ∧
  (∀ a, (k0_off119 v47) a + S1x22x2816.size a ≤ S32x22x2816.size a) ∧
  (∀ (hinb : ∀ a, (k0_off119 v47) a + S1x22x2816.size a ≤ S32x22x2816.size a), (Rect.unit (s := S32x22x2816) (k0_off119 v47) S1x22x2816.size hinb).WholeWords (EltTy.packing .bf16)) ∧
  (∀ a, (k0_off122 v47) a + S1x704x2816.size a ≤ S32x704x2816.size a) ∧
  (∀ (hinb : ∀ a, (k0_off122 v47) a + S1x704x2816.size a ≤ S32x704x2816.size a), (Rect.unit (s := S32x704x2816) (k0_off122 v47) S1x704x2816.size hinb).WholeWords (EltTy.packing .i8)) ∧
  (∀ a, (k0_off125 v47) a + S1x11x2816.size a ≤ S32x11x2816.size a) ∧
  (∀ (hinb : ∀ a, (k0_off125 v47) a + S1x11x2816.size a ≤ S32x11x2816.size a), (Rect.unit (s := S32x11x2816) (k0_off125 v47) S1x11x2816.size hinb).WholeWords (EltTy.packing .bf16))
theorem k0_off116_inb : ∀ (v47 : BitVec 32) (k0_hw7 : k0_chk7 v47), ∀ a, (k0_off116 v47) a + S1x1408x2816.size a ≤ S32x1408x2816.size a := fun v47 k0_hw7 => k0_hw7.1
theorem k0_off116_wordsi8 : ∀ (v47 : BitVec 32) (k0_hw7 : k0_chk7 v47), (Rect.unit (s := S32x1408x2816) (k0_off116 v47) S1x1408x2816.size (k0_off116_inb v47 k0_hw7)).WholeWords (EltTy.packing .i8) := fun v47 k0_hw7 => k0_hw7.2.1 (k0_off116_inb v47 k0_hw7)
theorem k0_off119_inb : ∀ (v47 : BitVec 32) (k0_hw7 : k0_chk7 v47), ∀ a, (k0_off119 v47) a + S1x22x2816.size a ≤ S32x22x2816.size a := fun v47 k0_hw7 => k0_hw7.2.2.1
theorem k0_off119_wordsbf16 : ∀ (v47 : BitVec 32) (k0_hw7 : k0_chk7 v47), (Rect.unit (s := S32x22x2816) (k0_off119 v47) S1x22x2816.size (k0_off119_inb v47 k0_hw7)).WholeWords (EltTy.packing .bf16) := fun v47 k0_hw7 => k0_hw7.2.2.2.1 (k0_off119_inb v47 k0_hw7)
theorem k0_off122_inb : ∀ (v47 : BitVec 32) (k0_hw7 : k0_chk7 v47), ∀ a, (k0_off122 v47) a + S1x704x2816.size a ≤ S32x704x2816.size a := fun v47 k0_hw7 => k0_hw7.2.2.2.2.1
theorem k0_off122_wordsi8 : ∀ (v47 : BitVec 32) (k0_hw7 : k0_chk7 v47), (Rect.unit (s := S32x704x2816) (k0_off122 v47) S1x704x2816.size (k0_off122_inb v47 k0_hw7)).WholeWords (EltTy.packing .i8) := fun v47 k0_hw7 => k0_hw7.2.2.2.2.2.1 (k0_off122_inb v47 k0_hw7)
theorem k0_off125_inb : ∀ (v47 : BitVec 32) (k0_hw7 : k0_chk7 v47), ∀ a, (k0_off125 v47) a + S1x11x2816.size a ≤ S32x11x2816.size a := fun v47 k0_hw7 => k0_hw7.2.2.2.2.2.2.1
theorem k0_off125_wordsbf16 : ∀ (v47 : BitVec 32) (k0_hw7 : k0_chk7 v47), (Rect.unit (s := S32x11x2816) (k0_off125 v47) S1x11x2816.size (k0_off125_inb v47 k0_hw7)).WholeWords (EltTy.packing .bf16) := fun v47 k0_hw7 => k0_hw7.2.2.2.2.2.2.2 (k0_off125_inb v47 k0_hw7)

def k0_off126 (v3 : BitVec 32) (k0_t4 : Fin (k0_t4_loop v3).trips) : Fin 1 → Nat :=
  let c0_i32_35 : BitVec 32 := 0#32
  let v33 : BitVec 32 := Scalar.subi v3 c0_i32_35
  let c1_i32_36 : BitVec 32 := 1#32
  let v35 : BitVec 32 := Scalar.divsi v33 c1_i32_36
  let v36 : BitVec 32 := Scalar.muli v35 c1_i32_36
  let v37 : BitVec 32 := Scalar.addi c0_i32_35 v36
  let c1_i32_38 : BitVec 32 := 1#32
  let arg17 : BitVec 32 := Scf.iv v37 c1_i32_38 k0_t4
  let v72 : Index := Scalar.indexCast arg17
  ![v72.toNat]
def k0_off127 (v3 : BitVec 32) (k0_t4 : Fin (k0_t4_loop v3).trips) : Fin 3 → Nat :=
  let c0_i32_35 : BitVec 32 := 0#32
  let v33 : BitVec 32 := Scalar.subi v3 c0_i32_35
  let c1_i32_36 : BitVec 32 := 1#32
  let v35 : BitVec 32 := Scalar.divsi v33 c1_i32_36
  let v36 : BitVec 32 := Scalar.muli v35 c1_i32_36
  let v37 : BitVec 32 := Scalar.addi c0_i32_35 v36
  let c1_i32_38 : BitVec 32 := 1#32
  let arg17 : BitVec 32 := Scf.iv v37 c1_i32_38 k0_t4
  let c2_i32_43 : BitVec 32 := 2#32
  let v41 : BitVec 32 := Scalar.remsi arg17 c2_i32_43
  let v93 : Index := Scalar.indexCast v41
  let c0_78 : Index := 0#32
  let c0_79 : Index := 0#32
  ![v93.toNat, 0, 0]
def k0_off128 (v3 : BitVec 32) (k0_t4 : Fin (k0_t4_loop v3).trips) : Fin 3 → Nat :=
  let c0_i32_35 : BitVec 32 := 0#32
  let v33 : BitVec 32 := Scalar.subi v3 c0_i32_35
  let c1_i32_36 : BitVec 32 := 1#32
  let v35 : BitVec 32 := Scalar.divsi v33 c1_i32_36
  let v36 : BitVec 32 := Scalar.muli v35 c1_i32_36
  let v37 : BitVec 32 := Scalar.addi c0_i32_35 v36
  let c1_i32_38 : BitVec 32 := 1#32
  let arg17 : BitVec 32 := Scf.iv v37 c1_i32_38 k0_t4
  let c2_i32_43 : BitVec 32 := 2#32
  let v41 : BitVec 32 := Scalar.remsi arg17 c2_i32_43
  let v96 : Index := Scalar.indexCast v41
  let c0_80 : Index := 0#32
  let c0_81 : Index := 0#32
  ![v96.toNat, 0, 0]
def k0_off129 (v3 : BitVec 32) (k0_t4 : Fin (k0_t4_loop v3).trips) : Fin 3 → Nat :=
  let c0_i32_35 : BitVec 32 := 0#32
  let v33 : BitVec 32 := Scalar.subi v3 c0_i32_35
  let c1_i32_36 : BitVec 32 := 1#32
  let v35 : BitVec 32 := Scalar.divsi v33 c1_i32_36
  let v36 : BitVec 32 := Scalar.muli v35 c1_i32_36
  let v37 : BitVec 32 := Scalar.addi c0_i32_35 v36
  let c1_i32_38 : BitVec 32 := 1#32
  let arg17 : BitVec 32 := Scf.iv v37 c1_i32_38 k0_t4
  let c2_i32_43 : BitVec 32 := 2#32
  let v41 : BitVec 32 := Scalar.remsi arg17 c2_i32_43
  let v118 : Index := Scalar.indexCast v41
  let c0_84 : Index := 0#32
  let c1408 : Index := 1408#32
  ![v118.toNat, 0, 1408]
def k0_off130 (v3 : BitVec 32) (k0_t4 : Fin (k0_t4_loop v3).trips) : Fin 3 → Nat :=
  let c0_i32_35 : BitVec 32 := 0#32
  let v33 : BitVec 32 := Scalar.subi v3 c0_i32_35
  let c1_i32_36 : BitVec 32 := 1#32
  let v35 : BitVec 32 := Scalar.divsi v33 c1_i32_36
  let v36 : BitVec 32 := Scalar.muli v35 c1_i32_36
  let v37 : BitVec 32 := Scalar.addi c0_i32_35 v36
  let c1_i32_38 : BitVec 32 := 1#32
  let arg17 : BitVec 32 := Scf.iv v37 c1_i32_38 k0_t4
  let c2_i32_43 : BitVec 32 := 2#32
  let v41 : BitVec 32 := Scalar.remsi arg17 c2_i32_43
  let v121 : Index := Scalar.indexCast v41
  let c0_85 : Index := 0#32
  let c1408_86 : Index := 1408#32
  ![v121.toNat, 0, 1408]
def k0_off131 (v3 : BitVec 32) (k0_t4 : Fin (k0_t4_loop v3).trips) : Fin 3 → Nat :=
  let c0_i32_35 : BitVec 32 := 0#32
  let v33 : BitVec 32 := Scalar.subi v3 c0_i32_35
  let c1_i32_36 : BitVec 32 := 1#32
  let v35 : BitVec 32 := Scalar.divsi v33 c1_i32_36
  let v36 : BitVec 32 := Scalar.muli v35 c1_i32_36
  let v37 : BitVec 32 := Scalar.addi c0_i32_35 v36
  let c1_i32_38 : BitVec 32 := 1#32
  let arg17 : BitVec 32 := Scf.iv v37 c1_i32_38 k0_t4
  let c2_i32_43 : BitVec 32 := 2#32
  let v41 : BitVec 32 := Scalar.remsi arg17 c2_i32_43
  let v154 : Index := Scalar.indexCast v41
  let c0_94 : Index := 0#32
  let c128 : Index := 128#32
  ![v154.toNat, 0, 128]
def k0_off132 (v3 : BitVec 32) (k0_t4 : Fin (k0_t4_loop v3).trips) : Fin 3 → Nat :=
  let c0_i32_35 : BitVec 32 := 0#32
  let v33 : BitVec 32 := Scalar.subi v3 c0_i32_35
  let c1_i32_36 : BitVec 32 := 1#32
  let v35 : BitVec 32 := Scalar.divsi v33 c1_i32_36
  let v36 : BitVec 32 := Scalar.muli v35 c1_i32_36
  let v37 : BitVec 32 := Scalar.addi c0_i32_35 v36
  let c1_i32_38 : BitVec 32 := 1#32
  let arg17 : BitVec 32 := Scf.iv v37 c1_i32_38 k0_t4
  let c2_i32_43 : BitVec 32 := 2#32
  let v41 : BitVec 32 := Scalar.remsi arg17 c2_i32_43
  let v157 : Index := Scalar.indexCast v41
  let c0_95 : Index := 0#32
  let c128_96 : Index := 128#32
  ![v157.toNat, 0, 128]
def k0_off133 (v3 : BitVec 32) (k0_t4 : Fin (k0_t4_loop v3).trips) : Fin 3 → Nat :=
  let c0_i32_35 : BitVec 32 := 0#32
  let v33 : BitVec 32 := Scalar.subi v3 c0_i32_35
  let c1_i32_36 : BitVec 32 := 1#32
  let v35 : BitVec 32 := Scalar.divsi v33 c1_i32_36
  let v36 : BitVec 32 := Scalar.muli v35 c1_i32_36
  let v37 : BitVec 32 := Scalar.addi c0_i32_35 v36
  let c1_i32_38 : BitVec 32 := 1#32
  let arg17 : BitVec 32 := Scf.iv v37 c1_i32_38 k0_t4
  let c2_i32_43 : BitVec 32 := 2#32
  let v41 : BitVec 32 := Scalar.remsi arg17 c2_i32_43
  let v179 : Index := Scalar.indexCast v41
  let c0_101 : Index := 0#32
  let c1536 : Index := 1536#32
  ![v179.toNat, 0, 1536]
def k0_off134 (v3 : BitVec 32) (k0_t4 : Fin (k0_t4_loop v3).trips) : Fin 3 → Nat :=
  let c0_i32_35 : BitVec 32 := 0#32
  let v33 : BitVec 32 := Scalar.subi v3 c0_i32_35
  let c1_i32_36 : BitVec 32 := 1#32
  let v35 : BitVec 32 := Scalar.divsi v33 c1_i32_36
  let v36 : BitVec 32 := Scalar.muli v35 c1_i32_36
  let v37 : BitVec 32 := Scalar.addi c0_i32_35 v36
  let c1_i32_38 : BitVec 32 := 1#32
  let arg17 : BitVec 32 := Scf.iv v37 c1_i32_38 k0_t4
  let c2_i32_43 : BitVec 32 := 2#32
  let v41 : BitVec 32 := Scalar.remsi arg17 c2_i32_43
  let v182 : Index := Scalar.indexCast v41
  let c0_102 : Index := 0#32
  let c1536_103 : Index := 1536#32
  ![v182.toNat, 0, 1536]
def k0_off135 (v3 : BitVec 32) (k0_t4 : Fin (k0_t4_loop v3).trips) : Fin 3 → Nat :=
  let c0_i32_35 : BitVec 32 := 0#32
  let v33 : BitVec 32 := Scalar.subi v3 c0_i32_35
  let c1_i32_36 : BitVec 32 := 1#32
  let v35 : BitVec 32 := Scalar.divsi v33 c1_i32_36
  let v36 : BitVec 32 := Scalar.muli v35 c1_i32_36
  let v37 : BitVec 32 := Scalar.addi c0_i32_35 v36
  let c1_i32_38 : BitVec 32 := 1#32
  let arg17 : BitVec 32 := Scf.iv v37 c1_i32_38 k0_t4
  let c2_i32_43 : BitVec 32 := 2#32
  let v41 : BitVec 32 := Scalar.remsi arg17 c2_i32_43
  let v215 : Index := Scalar.indexCast v41
  let c0_111 : Index := 0#32
  let c256 : Index := 256#32
  ![v215.toNat, 0, 256]
def k0_off136 (v3 : BitVec 32) (k0_t4 : Fin (k0_t4_loop v3).trips) : Fin 3 → Nat :=
  let c0_i32_35 : BitVec 32 := 0#32
  let v33 : BitVec 32 := Scalar.subi v3 c0_i32_35
  let c1_i32_36 : BitVec 32 := 1#32
  let v35 : BitVec 32 := Scalar.divsi v33 c1_i32_36
  let v36 : BitVec 32 := Scalar.muli v35 c1_i32_36
  let v37 : BitVec 32 := Scalar.addi c0_i32_35 v36
  let c1_i32_38 : BitVec 32 := 1#32
  let arg17 : BitVec 32 := Scf.iv v37 c1_i32_38 k0_t4
  let c2_i32_43 : BitVec 32 := 2#32
  let v41 : BitVec 32 := Scalar.remsi arg17 c2_i32_43
  let v218 : Index := Scalar.indexCast v41
  let c0_112 : Index := 0#32
  let c256_113 : Index := 256#32
  ![v218.toNat, 0, 256]
def k0_off137 (v3 : BitVec 32) (k0_t4 : Fin (k0_t4_loop v3).trips) : Fin 3 → Nat :=
  let c0_i32_35 : BitVec 32 := 0#32
  let v33 : BitVec 32 := Scalar.subi v3 c0_i32_35
  let c1_i32_36 : BitVec 32 := 1#32
  let v35 : BitVec 32 := Scalar.divsi v33 c1_i32_36
  let v36 : BitVec 32 := Scalar.muli v35 c1_i32_36
  let v37 : BitVec 32 := Scalar.addi c0_i32_35 v36
  let c1_i32_38 : BitVec 32 := 1#32
  let arg17 : BitVec 32 := Scf.iv v37 c1_i32_38 k0_t4
  let c2_i32_43 : BitVec 32 := 2#32
  let v41 : BitVec 32 := Scalar.remsi arg17 c2_i32_43
  let v240 : Index := Scalar.indexCast v41
  let c0_118 : Index := 0#32
  let c1664 : Index := 1664#32
  ![v240.toNat, 0, 1664]
def k0_off138 (v3 : BitVec 32) (k0_t4 : Fin (k0_t4_loop v3).trips) : Fin 3 → Nat :=
  let c0_i32_35 : BitVec 32 := 0#32
  let v33 : BitVec 32 := Scalar.subi v3 c0_i32_35
  let c1_i32_36 : BitVec 32 := 1#32
  let v35 : BitVec 32 := Scalar.divsi v33 c1_i32_36
  let v36 : BitVec 32 := Scalar.muli v35 c1_i32_36
  let v37 : BitVec 32 := Scalar.addi c0_i32_35 v36
  let c1_i32_38 : BitVec 32 := 1#32
  let arg17 : BitVec 32 := Scf.iv v37 c1_i32_38 k0_t4
  let c2_i32_43 : BitVec 32 := 2#32
  let v41 : BitVec 32 := Scalar.remsi arg17 c2_i32_43
  let v243 : Index := Scalar.indexCast v41
  let c0_119 : Index := 0#32
  let c1664_120 : Index := 1664#32
  ![v243.toNat, 0, 1664]
def k0_off139 (v3 : BitVec 32) (k0_t4 : Fin (k0_t4_loop v3).trips) : Fin 3 → Nat :=
  let c0_i32_35 : BitVec 32 := 0#32
  let v33 : BitVec 32 := Scalar.subi v3 c0_i32_35
  let c1_i32_36 : BitVec 32 := 1#32
  let v35 : BitVec 32 := Scalar.divsi v33 c1_i32_36
  let v36 : BitVec 32 := Scalar.muli v35 c1_i32_36
  let v37 : BitVec 32 := Scalar.addi c0_i32_35 v36
  let c1_i32_38 : BitVec 32 := 1#32
  let arg17 : BitVec 32 := Scf.iv v37 c1_i32_38 k0_t4
  let c2_i32_43 : BitVec 32 := 2#32
  let v41 : BitVec 32 := Scalar.remsi arg17 c2_i32_43
  let v276 : Index := Scalar.indexCast v41
  let c0_128 : Index := 0#32
  let c384 : Index := 384#32
  ![v276.toNat, 0, 384]
def k0_off140 (v3 : BitVec 32) (k0_t4 : Fin (k0_t4_loop v3).trips) : Fin 3 → Nat :=
  let c0_i32_35 : BitVec 32 := 0#32
  let v33 : BitVec 32 := Scalar.subi v3 c0_i32_35
  let c1_i32_36 : BitVec 32 := 1#32
  let v35 : BitVec 32 := Scalar.divsi v33 c1_i32_36
  let v36 : BitVec 32 := Scalar.muli v35 c1_i32_36
  let v37 : BitVec 32 := Scalar.addi c0_i32_35 v36
  let c1_i32_38 : BitVec 32 := 1#32
  let arg17 : BitVec 32 := Scf.iv v37 c1_i32_38 k0_t4
  let c2_i32_43 : BitVec 32 := 2#32
  let v41 : BitVec 32 := Scalar.remsi arg17 c2_i32_43
  let v279 : Index := Scalar.indexCast v41
  let c0_129 : Index := 0#32
  let c384_130 : Index := 384#32
  ![v279.toNat, 0, 384]
def k0_off141 (v3 : BitVec 32) (k0_t4 : Fin (k0_t4_loop v3).trips) : Fin 3 → Nat :=
  let c0_i32_35 : BitVec 32 := 0#32
  let v33 : BitVec 32 := Scalar.subi v3 c0_i32_35
  let c1_i32_36 : BitVec 32 := 1#32
  let v35 : BitVec 32 := Scalar.divsi v33 c1_i32_36
  let v36 : BitVec 32 := Scalar.muli v35 c1_i32_36
  let v37 : BitVec 32 := Scalar.addi c0_i32_35 v36
  let c1_i32_38 : BitVec 32 := 1#32
  let arg17 : BitVec 32 := Scf.iv v37 c1_i32_38 k0_t4
  let c2_i32_43 : BitVec 32 := 2#32
  let v41 : BitVec 32 := Scalar.remsi arg17 c2_i32_43
  let v301 : Index := Scalar.indexCast v41
  let c0_135 : Index := 0#32
  let c1792 : Index := 1792#32
  ![v301.toNat, 0, 1792]
def k0_off142 (v3 : BitVec 32) (k0_t4 : Fin (k0_t4_loop v3).trips) : Fin 3 → Nat :=
  let c0_i32_35 : BitVec 32 := 0#32
  let v33 : BitVec 32 := Scalar.subi v3 c0_i32_35
  let c1_i32_36 : BitVec 32 := 1#32
  let v35 : BitVec 32 := Scalar.divsi v33 c1_i32_36
  let v36 : BitVec 32 := Scalar.muli v35 c1_i32_36
  let v37 : BitVec 32 := Scalar.addi c0_i32_35 v36
  let c1_i32_38 : BitVec 32 := 1#32
  let arg17 : BitVec 32 := Scf.iv v37 c1_i32_38 k0_t4
  let c2_i32_43 : BitVec 32 := 2#32
  let v41 : BitVec 32 := Scalar.remsi arg17 c2_i32_43
  let v304 : Index := Scalar.indexCast v41
  let c0_136 : Index := 0#32
  let c1792_137 : Index := 1792#32
  ![v304.toNat, 0, 1792]
def k0_off143 (v3 : BitVec 32) (k0_t4 : Fin (k0_t4_loop v3).trips) : Fin 3 → Nat :=
  let c0_i32_35 : BitVec 32 := 0#32
  let v33 : BitVec 32 := Scalar.subi v3 c0_i32_35
  let c1_i32_36 : BitVec 32 := 1#32
  let v35 : BitVec 32 := Scalar.divsi v33 c1_i32_36
  let v36 : BitVec 32 := Scalar.muli v35 c1_i32_36
  let v37 : BitVec 32 := Scalar.addi c0_i32_35 v36
  let c1_i32_38 : BitVec 32 := 1#32
  let arg17 : BitVec 32 := Scf.iv v37 c1_i32_38 k0_t4
  let c2_i32_43 : BitVec 32 := 2#32
  let v41 : BitVec 32 := Scalar.remsi arg17 c2_i32_43
  let v337 : Index := Scalar.indexCast v41
  let c0_145 : Index := 0#32
  let c512 : Index := 512#32
  ![v337.toNat, 0, 512]
def k0_off144 (v3 : BitVec 32) (k0_t4 : Fin (k0_t4_loop v3).trips) : Fin 3 → Nat :=
  let c0_i32_35 : BitVec 32 := 0#32
  let v33 : BitVec 32 := Scalar.subi v3 c0_i32_35
  let c1_i32_36 : BitVec 32 := 1#32
  let v35 : BitVec 32 := Scalar.divsi v33 c1_i32_36
  let v36 : BitVec 32 := Scalar.muli v35 c1_i32_36
  let v37 : BitVec 32 := Scalar.addi c0_i32_35 v36
  let c1_i32_38 : BitVec 32 := 1#32
  let arg17 : BitVec 32 := Scf.iv v37 c1_i32_38 k0_t4
  let c2_i32_43 : BitVec 32 := 2#32
  let v41 : BitVec 32 := Scalar.remsi arg17 c2_i32_43
  let v340 : Index := Scalar.indexCast v41
  let c0_146 : Index := 0#32
  let c512_147 : Index := 512#32
  ![v340.toNat, 0, 512]
def k0_off145 (v3 : BitVec 32) (k0_t4 : Fin (k0_t4_loop v3).trips) : Fin 3 → Nat :=
  let c0_i32_35 : BitVec 32 := 0#32
  let v33 : BitVec 32 := Scalar.subi v3 c0_i32_35
  let c1_i32_36 : BitVec 32 := 1#32
  let v35 : BitVec 32 := Scalar.divsi v33 c1_i32_36
  let v36 : BitVec 32 := Scalar.muli v35 c1_i32_36
  let v37 : BitVec 32 := Scalar.addi c0_i32_35 v36
  let c1_i32_38 : BitVec 32 := 1#32
  let arg17 : BitVec 32 := Scf.iv v37 c1_i32_38 k0_t4
  let c2_i32_43 : BitVec 32 := 2#32
  let v41 : BitVec 32 := Scalar.remsi arg17 c2_i32_43
  let v362 : Index := Scalar.indexCast v41
  let c0_152 : Index := 0#32
  let c1920 : Index := 1920#32
  ![v362.toNat, 0, 1920]
def k0_off146 (v3 : BitVec 32) (k0_t4 : Fin (k0_t4_loop v3).trips) : Fin 3 → Nat :=
  let c0_i32_35 : BitVec 32 := 0#32
  let v33 : BitVec 32 := Scalar.subi v3 c0_i32_35
  let c1_i32_36 : BitVec 32 := 1#32
  let v35 : BitVec 32 := Scalar.divsi v33 c1_i32_36
  let v36 : BitVec 32 := Scalar.muli v35 c1_i32_36
  let v37 : BitVec 32 := Scalar.addi c0_i32_35 v36
  let c1_i32_38 : BitVec 32 := 1#32
  let arg17 : BitVec 32 := Scf.iv v37 c1_i32_38 k0_t4
  let c2_i32_43 : BitVec 32 := 2#32
  let v41 : BitVec 32 := Scalar.remsi arg17 c2_i32_43
  let v365 : Index := Scalar.indexCast v41
  let c0_153 : Index := 0#32
  let c1920_154 : Index := 1920#32
  ![v365.toNat, 0, 1920]
def k0_off147 (v3 : BitVec 32) (k0_t4 : Fin (k0_t4_loop v3).trips) : Fin 3 → Nat :=
  let c0_i32_35 : BitVec 32 := 0#32
  let v33 : BitVec 32 := Scalar.subi v3 c0_i32_35
  let c1_i32_36 : BitVec 32 := 1#32
  let v35 : BitVec 32 := Scalar.divsi v33 c1_i32_36
  let v36 : BitVec 32 := Scalar.muli v35 c1_i32_36
  let v37 : BitVec 32 := Scalar.addi c0_i32_35 v36
  let c1_i32_38 : BitVec 32 := 1#32
  let arg17 : BitVec 32 := Scf.iv v37 c1_i32_38 k0_t4
  let c2_i32_43 : BitVec 32 := 2#32
  let v41 : BitVec 32 := Scalar.remsi arg17 c2_i32_43
  let v398 : Index := Scalar.indexCast v41
  let c0_162 : Index := 0#32
  let c640 : Index := 640#32
  ![v398.toNat, 0, 640]
def k0_off148 (v3 : BitVec 32) (k0_t4 : Fin (k0_t4_loop v3).trips) : Fin 3 → Nat :=
  let c0_i32_35 : BitVec 32 := 0#32
  let v33 : BitVec 32 := Scalar.subi v3 c0_i32_35
  let c1_i32_36 : BitVec 32 := 1#32
  let v35 : BitVec 32 := Scalar.divsi v33 c1_i32_36
  let v36 : BitVec 32 := Scalar.muli v35 c1_i32_36
  let v37 : BitVec 32 := Scalar.addi c0_i32_35 v36
  let c1_i32_38 : BitVec 32 := 1#32
  let arg17 : BitVec 32 := Scf.iv v37 c1_i32_38 k0_t4
  let c2_i32_43 : BitVec 32 := 2#32
  let v41 : BitVec 32 := Scalar.remsi arg17 c2_i32_43
  let v401 : Index := Scalar.indexCast v41
  let c0_163 : Index := 0#32
  let c640_164 : Index := 640#32
  ![v401.toNat, 0, 640]
def k0_off149 (v3 : BitVec 32) (k0_t4 : Fin (k0_t4_loop v3).trips) : Fin 3 → Nat :=
  let c0_i32_35 : BitVec 32 := 0#32
  let v33 : BitVec 32 := Scalar.subi v3 c0_i32_35
  let c1_i32_36 : BitVec 32 := 1#32
  let v35 : BitVec 32 := Scalar.divsi v33 c1_i32_36
  let v36 : BitVec 32 := Scalar.muli v35 c1_i32_36
  let v37 : BitVec 32 := Scalar.addi c0_i32_35 v36
  let c1_i32_38 : BitVec 32 := 1#32
  let arg17 : BitVec 32 := Scf.iv v37 c1_i32_38 k0_t4
  let c2_i32_43 : BitVec 32 := 2#32
  let v41 : BitVec 32 := Scalar.remsi arg17 c2_i32_43
  let v423 : Index := Scalar.indexCast v41
  let c0_169 : Index := 0#32
  let c2048 : Index := 2048#32
  ![v423.toNat, 0, 2048]
def k0_off150 (v3 : BitVec 32) (k0_t4 : Fin (k0_t4_loop v3).trips) : Fin 3 → Nat :=
  let c0_i32_35 : BitVec 32 := 0#32
  let v33 : BitVec 32 := Scalar.subi v3 c0_i32_35
  let c1_i32_36 : BitVec 32 := 1#32
  let v35 : BitVec 32 := Scalar.divsi v33 c1_i32_36
  let v36 : BitVec 32 := Scalar.muli v35 c1_i32_36
  let v37 : BitVec 32 := Scalar.addi c0_i32_35 v36
  let c1_i32_38 : BitVec 32 := 1#32
  let arg17 : BitVec 32 := Scf.iv v37 c1_i32_38 k0_t4
  let c2_i32_43 : BitVec 32 := 2#32
  let v41 : BitVec 32 := Scalar.remsi arg17 c2_i32_43
  let v426 : Index := Scalar.indexCast v41
  let c0_170 : Index := 0#32
  let c2048_171 : Index := 2048#32
  ![v426.toNat, 0, 2048]
def k0_off151 (v3 : BitVec 32) (k0_t4 : Fin (k0_t4_loop v3).trips) : Fin 3 → Nat :=
  let c0_i32_35 : BitVec 32 := 0#32
  let v33 : BitVec 32 := Scalar.subi v3 c0_i32_35
  let c1_i32_36 : BitVec 32 := 1#32
  let v35 : BitVec 32 := Scalar.divsi v33 c1_i32_36
  let v36 : BitVec 32 := Scalar.muli v35 c1_i32_36
  let v37 : BitVec 32 := Scalar.addi c0_i32_35 v36
  let c1_i32_38 : BitVec 32 := 1#32
  let arg17 : BitVec 32 := Scf.iv v37 c1_i32_38 k0_t4
  let c2_i32_43 : BitVec 32 := 2#32
  let v41 : BitVec 32 := Scalar.remsi arg17 c2_i32_43
  let v459 : Index := Scalar.indexCast v41
  let c0_179 : Index := 0#32
  let c768 : Index := 768#32
  ![v459.toNat, 0, 768]
def k0_off152 (v3 : BitVec 32) (k0_t4 : Fin (k0_t4_loop v3).trips) : Fin 3 → Nat :=
  let c0_i32_35 : BitVec 32 := 0#32
  let v33 : BitVec 32 := Scalar.subi v3 c0_i32_35
  let c1_i32_36 : BitVec 32 := 1#32
  let v35 : BitVec 32 := Scalar.divsi v33 c1_i32_36
  let v36 : BitVec 32 := Scalar.muli v35 c1_i32_36
  let v37 : BitVec 32 := Scalar.addi c0_i32_35 v36
  let c1_i32_38 : BitVec 32 := 1#32
  let arg17 : BitVec 32 := Scf.iv v37 c1_i32_38 k0_t4
  let c2_i32_43 : BitVec 32 := 2#32
  let v41 : BitVec 32 := Scalar.remsi arg17 c2_i32_43
  let v462 : Index := Scalar.indexCast v41
  let c0_180 : Index := 0#32
  let c768_181 : Index := 768#32
  ![v462.toNat, 0, 768]
def k0_off153 (v3 : BitVec 32) (k0_t4 : Fin (k0_t4_loop v3).trips) : Fin 3 → Nat :=
  let c0_i32_35 : BitVec 32 := 0#32
  let v33 : BitVec 32 := Scalar.subi v3 c0_i32_35
  let c1_i32_36 : BitVec 32 := 1#32
  let v35 : BitVec 32 := Scalar.divsi v33 c1_i32_36
  let v36 : BitVec 32 := Scalar.muli v35 c1_i32_36
  let v37 : BitVec 32 := Scalar.addi c0_i32_35 v36
  let c1_i32_38 : BitVec 32 := 1#32
  let arg17 : BitVec 32 := Scf.iv v37 c1_i32_38 k0_t4
  let c2_i32_43 : BitVec 32 := 2#32
  let v41 : BitVec 32 := Scalar.remsi arg17 c2_i32_43
  let v484 : Index := Scalar.indexCast v41
  let c0_186 : Index := 0#32
  let c2176 : Index := 2176#32
  ![v484.toNat, 0, 2176]
def k0_off154 (v3 : BitVec 32) (k0_t4 : Fin (k0_t4_loop v3).trips) : Fin 3 → Nat :=
  let c0_i32_35 : BitVec 32 := 0#32
  let v33 : BitVec 32 := Scalar.subi v3 c0_i32_35
  let c1_i32_36 : BitVec 32 := 1#32
  let v35 : BitVec 32 := Scalar.divsi v33 c1_i32_36
  let v36 : BitVec 32 := Scalar.muli v35 c1_i32_36
  let v37 : BitVec 32 := Scalar.addi c0_i32_35 v36
  let c1_i32_38 : BitVec 32 := 1#32
  let arg17 : BitVec 32 := Scf.iv v37 c1_i32_38 k0_t4
  let c2_i32_43 : BitVec 32 := 2#32
  let v41 : BitVec 32 := Scalar.remsi arg17 c2_i32_43
  let v487 : Index := Scalar.indexCast v41
  let c0_187 : Index := 0#32
  let c2176_188 : Index := 2176#32
  ![v487.toNat, 0, 2176]
def k0_off155 (v3 : BitVec 32) (k0_t4 : Fin (k0_t4_loop v3).trips) : Fin 3 → Nat :=
  let c0_i32_35 : BitVec 32 := 0#32
  let v33 : BitVec 32 := Scalar.subi v3 c0_i32_35
  let c1_i32_36 : BitVec 32 := 1#32
  let v35 : BitVec 32 := Scalar.divsi v33 c1_i32_36
  let v36 : BitVec 32 := Scalar.muli v35 c1_i32_36
  let v37 : BitVec 32 := Scalar.addi c0_i32_35 v36
  let c1_i32_38 : BitVec 32 := 1#32
  let arg17 : BitVec 32 := Scf.iv v37 c1_i32_38 k0_t4
  let c2_i32_43 : BitVec 32 := 2#32
  let v41 : BitVec 32 := Scalar.remsi arg17 c2_i32_43
  let v520 : Index := Scalar.indexCast v41
  let c0_196 : Index := 0#32
  let c896 : Index := 896#32
  ![v520.toNat, 0, 896]
def k0_off156 (v3 : BitVec 32) (k0_t4 : Fin (k0_t4_loop v3).trips) : Fin 3 → Nat :=
  let c0_i32_35 : BitVec 32 := 0#32
  let v33 : BitVec 32 := Scalar.subi v3 c0_i32_35
  let c1_i32_36 : BitVec 32 := 1#32
  let v35 : BitVec 32 := Scalar.divsi v33 c1_i32_36
  let v36 : BitVec 32 := Scalar.muli v35 c1_i32_36
  let v37 : BitVec 32 := Scalar.addi c0_i32_35 v36
  let c1_i32_38 : BitVec 32 := 1#32
  let arg17 : BitVec 32 := Scf.iv v37 c1_i32_38 k0_t4
  let c2_i32_43 : BitVec 32 := 2#32
  let v41 : BitVec 32 := Scalar.remsi arg17 c2_i32_43
  let v523 : Index := Scalar.indexCast v41
  let c0_197 : Index := 0#32
  let c896_198 : Index := 896#32
  ![v523.toNat, 0, 896]
def k0_off157 (v3 : BitVec 32) (k0_t4 : Fin (k0_t4_loop v3).trips) : Fin 3 → Nat :=
  let c0_i32_35 : BitVec 32 := 0#32
  let v33 : BitVec 32 := Scalar.subi v3 c0_i32_35
  let c1_i32_36 : BitVec 32 := 1#32
  let v35 : BitVec 32 := Scalar.divsi v33 c1_i32_36
  let v36 : BitVec 32 := Scalar.muli v35 c1_i32_36
  let v37 : BitVec 32 := Scalar.addi c0_i32_35 v36
  let c1_i32_38 : BitVec 32 := 1#32
  let arg17 : BitVec 32 := Scf.iv v37 c1_i32_38 k0_t4
  let c2_i32_43 : BitVec 32 := 2#32
  let v41 : BitVec 32 := Scalar.remsi arg17 c2_i32_43
  let v545 : Index := Scalar.indexCast v41
  let c0_203 : Index := 0#32
  let c2304 : Index := 2304#32
  ![v545.toNat, 0, 2304]
def k0_off158 (v3 : BitVec 32) (k0_t4 : Fin (k0_t4_loop v3).trips) : Fin 3 → Nat :=
  let c0_i32_35 : BitVec 32 := 0#32
  let v33 : BitVec 32 := Scalar.subi v3 c0_i32_35
  let c1_i32_36 : BitVec 32 := 1#32
  let v35 : BitVec 32 := Scalar.divsi v33 c1_i32_36
  let v36 : BitVec 32 := Scalar.muli v35 c1_i32_36
  let v37 : BitVec 32 := Scalar.addi c0_i32_35 v36
  let c1_i32_38 : BitVec 32 := 1#32
  let arg17 : BitVec 32 := Scf.iv v37 c1_i32_38 k0_t4
  let c2_i32_43 : BitVec 32 := 2#32
  let v41 : BitVec 32 := Scalar.remsi arg17 c2_i32_43
  let v548 : Index := Scalar.indexCast v41
  let c0_204 : Index := 0#32
  let c2304_205 : Index := 2304#32
  ![v548.toNat, 0, 2304]
def k0_off159 (v3 : BitVec 32) (k0_t4 : Fin (k0_t4_loop v3).trips) : Fin 3 → Nat :=
  let c0_i32_35 : BitVec 32 := 0#32
  let v33 : BitVec 32 := Scalar.subi v3 c0_i32_35
  let c1_i32_36 : BitVec 32 := 1#32
  let v35 : BitVec 32 := Scalar.divsi v33 c1_i32_36
  let v36 : BitVec 32 := Scalar.muli v35 c1_i32_36
  let v37 : BitVec 32 := Scalar.addi c0_i32_35 v36
  let c1_i32_38 : BitVec 32 := 1#32
  let arg17 : BitVec 32 := Scf.iv v37 c1_i32_38 k0_t4
  let c2_i32_43 : BitVec 32 := 2#32
  let v41 : BitVec 32 := Scalar.remsi arg17 c2_i32_43
  let v581 : Index := Scalar.indexCast v41
  let c0_213 : Index := 0#32
  let c1024 : Index := 1024#32
  ![v581.toNat, 0, 1024]
def k0_off160 (v3 : BitVec 32) (k0_t4 : Fin (k0_t4_loop v3).trips) : Fin 3 → Nat :=
  let c0_i32_35 : BitVec 32 := 0#32
  let v33 : BitVec 32 := Scalar.subi v3 c0_i32_35
  let c1_i32_36 : BitVec 32 := 1#32
  let v35 : BitVec 32 := Scalar.divsi v33 c1_i32_36
  let v36 : BitVec 32 := Scalar.muli v35 c1_i32_36
  let v37 : BitVec 32 := Scalar.addi c0_i32_35 v36
  let c1_i32_38 : BitVec 32 := 1#32
  let arg17 : BitVec 32 := Scf.iv v37 c1_i32_38 k0_t4
  let c2_i32_43 : BitVec 32 := 2#32
  let v41 : BitVec 32 := Scalar.remsi arg17 c2_i32_43
  let v584 : Index := Scalar.indexCast v41
  let c0_214 : Index := 0#32
  let c1024_215 : Index := 1024#32
  ![v584.toNat, 0, 1024]
def k0_off161 (v3 : BitVec 32) (k0_t4 : Fin (k0_t4_loop v3).trips) : Fin 3 → Nat :=
  let c0_i32_35 : BitVec 32 := 0#32
  let v33 : BitVec 32 := Scalar.subi v3 c0_i32_35
  let c1_i32_36 : BitVec 32 := 1#32
  let v35 : BitVec 32 := Scalar.divsi v33 c1_i32_36
  let v36 : BitVec 32 := Scalar.muli v35 c1_i32_36
  let v37 : BitVec 32 := Scalar.addi c0_i32_35 v36
  let c1_i32_38 : BitVec 32 := 1#32
  let arg17 : BitVec 32 := Scf.iv v37 c1_i32_38 k0_t4
  let c2_i32_43 : BitVec 32 := 2#32
  let v41 : BitVec 32 := Scalar.remsi arg17 c2_i32_43
  let v606 : Index := Scalar.indexCast v41
  let c0_220 : Index := 0#32
  let c2432 : Index := 2432#32
  ![v606.toNat, 0, 2432]
def k0_off162 (v3 : BitVec 32) (k0_t4 : Fin (k0_t4_loop v3).trips) : Fin 3 → Nat :=
  let c0_i32_35 : BitVec 32 := 0#32
  let v33 : BitVec 32 := Scalar.subi v3 c0_i32_35
  let c1_i32_36 : BitVec 32 := 1#32
  let v35 : BitVec 32 := Scalar.divsi v33 c1_i32_36
  let v36 : BitVec 32 := Scalar.muli v35 c1_i32_36
  let v37 : BitVec 32 := Scalar.addi c0_i32_35 v36
  let c1_i32_38 : BitVec 32 := 1#32
  let arg17 : BitVec 32 := Scf.iv v37 c1_i32_38 k0_t4
  let c2_i32_43 : BitVec 32 := 2#32
  let v41 : BitVec 32 := Scalar.remsi arg17 c2_i32_43
  let v609 : Index := Scalar.indexCast v41
  let c0_221 : Index := 0#32
  let c2432_222 : Index := 2432#32
  ![v609.toNat, 0, 2432]
def k0_off163 (v3 : BitVec 32) (k0_t4 : Fin (k0_t4_loop v3).trips) : Fin 3 → Nat :=
  let c0_i32_35 : BitVec 32 := 0#32
  let v33 : BitVec 32 := Scalar.subi v3 c0_i32_35
  let c1_i32_36 : BitVec 32 := 1#32
  let v35 : BitVec 32 := Scalar.divsi v33 c1_i32_36
  let v36 : BitVec 32 := Scalar.muli v35 c1_i32_36
  let v37 : BitVec 32 := Scalar.addi c0_i32_35 v36
  let c1_i32_38 : BitVec 32 := 1#32
  let arg17 : BitVec 32 := Scf.iv v37 c1_i32_38 k0_t4
  let c2_i32_43 : BitVec 32 := 2#32
  let v41 : BitVec 32 := Scalar.remsi arg17 c2_i32_43
  let v642 : Index := Scalar.indexCast v41
  let c0_230 : Index := 0#32
  let c1152 : Index := 1152#32
  ![v642.toNat, 0, 1152]
def k0_off164 (v3 : BitVec 32) (k0_t4 : Fin (k0_t4_loop v3).trips) : Fin 3 → Nat :=
  let c0_i32_35 : BitVec 32 := 0#32
  let v33 : BitVec 32 := Scalar.subi v3 c0_i32_35
  let c1_i32_36 : BitVec 32 := 1#32
  let v35 : BitVec 32 := Scalar.divsi v33 c1_i32_36
  let v36 : BitVec 32 := Scalar.muli v35 c1_i32_36
  let v37 : BitVec 32 := Scalar.addi c0_i32_35 v36
  let c1_i32_38 : BitVec 32 := 1#32
  let arg17 : BitVec 32 := Scf.iv v37 c1_i32_38 k0_t4
  let c2_i32_43 : BitVec 32 := 2#32
  let v41 : BitVec 32 := Scalar.remsi arg17 c2_i32_43
  let v645 : Index := Scalar.indexCast v41
  let c0_231 : Index := 0#32
  let c1152_232 : Index := 1152#32
  ![v645.toNat, 0, 1152]
def k0_off165 (v3 : BitVec 32) (k0_t4 : Fin (k0_t4_loop v3).trips) : Fin 3 → Nat :=
  let c0_i32_35 : BitVec 32 := 0#32
  let v33 : BitVec 32 := Scalar.subi v3 c0_i32_35
  let c1_i32_36 : BitVec 32 := 1#32
  let v35 : BitVec 32 := Scalar.divsi v33 c1_i32_36
  let v36 : BitVec 32 := Scalar.muli v35 c1_i32_36
  let v37 : BitVec 32 := Scalar.addi c0_i32_35 v36
  let c1_i32_38 : BitVec 32 := 1#32
  let arg17 : BitVec 32 := Scf.iv v37 c1_i32_38 k0_t4
  let c2_i32_43 : BitVec 32 := 2#32
  let v41 : BitVec 32 := Scalar.remsi arg17 c2_i32_43
  let v667 : Index := Scalar.indexCast v41
  let c0_237 : Index := 0#32
  let c2560 : Index := 2560#32
  ![v667.toNat, 0, 2560]
def k0_off166 (v3 : BitVec 32) (k0_t4 : Fin (k0_t4_loop v3).trips) : Fin 3 → Nat :=
  let c0_i32_35 : BitVec 32 := 0#32
  let v33 : BitVec 32 := Scalar.subi v3 c0_i32_35
  let c1_i32_36 : BitVec 32 := 1#32
  let v35 : BitVec 32 := Scalar.divsi v33 c1_i32_36
  let v36 : BitVec 32 := Scalar.muli v35 c1_i32_36
  let v37 : BitVec 32 := Scalar.addi c0_i32_35 v36
  let c1_i32_38 : BitVec 32 := 1#32
  let arg17 : BitVec 32 := Scf.iv v37 c1_i32_38 k0_t4
  let c2_i32_43 : BitVec 32 := 2#32
  let v41 : BitVec 32 := Scalar.remsi arg17 c2_i32_43
  let v670 : Index := Scalar.indexCast v41
  let c0_238 : Index := 0#32
  let c2560_239 : Index := 2560#32
  ![v670.toNat, 0, 2560]
def k0_off167 (v3 : BitVec 32) (k0_t4 : Fin (k0_t4_loop v3).trips) : Fin 3 → Nat :=
  let c0_i32_35 : BitVec 32 := 0#32
  let v33 : BitVec 32 := Scalar.subi v3 c0_i32_35
  let c1_i32_36 : BitVec 32 := 1#32
  let v35 : BitVec 32 := Scalar.divsi v33 c1_i32_36
  let v36 : BitVec 32 := Scalar.muli v35 c1_i32_36
  let v37 : BitVec 32 := Scalar.addi c0_i32_35 v36
  let c1_i32_38 : BitVec 32 := 1#32
  let arg17 : BitVec 32 := Scf.iv v37 c1_i32_38 k0_t4
  let c2_i32_43 : BitVec 32 := 2#32
  let v41 : BitVec 32 := Scalar.remsi arg17 c2_i32_43
  let v703 : Index := Scalar.indexCast v41
  let c0_247 : Index := 0#32
  let c1280 : Index := 1280#32
  ![v703.toNat, 0, 1280]
def k0_off168 (v3 : BitVec 32) (k0_t4 : Fin (k0_t4_loop v3).trips) : Fin 3 → Nat :=
  let c0_i32_35 : BitVec 32 := 0#32
  let v33 : BitVec 32 := Scalar.subi v3 c0_i32_35
  let c1_i32_36 : BitVec 32 := 1#32
  let v35 : BitVec 32 := Scalar.divsi v33 c1_i32_36
  let v36 : BitVec 32 := Scalar.muli v35 c1_i32_36
  let v37 : BitVec 32 := Scalar.addi c0_i32_35 v36
  let c1_i32_38 : BitVec 32 := 1#32
  let arg17 : BitVec 32 := Scf.iv v37 c1_i32_38 k0_t4
  let c2_i32_43 : BitVec 32 := 2#32
  let v41 : BitVec 32 := Scalar.remsi arg17 c2_i32_43
  let v706 : Index := Scalar.indexCast v41
  let c0_248 : Index := 0#32
  let c1280_249 : Index := 1280#32
  ![v706.toNat, 0, 1280]
def k0_off169 (v3 : BitVec 32) (k0_t4 : Fin (k0_t4_loop v3).trips) : Fin 3 → Nat :=
  let c0_i32_35 : BitVec 32 := 0#32
  let v33 : BitVec 32 := Scalar.subi v3 c0_i32_35
  let c1_i32_36 : BitVec 32 := 1#32
  let v35 : BitVec 32 := Scalar.divsi v33 c1_i32_36
  let v36 : BitVec 32 := Scalar.muli v35 c1_i32_36
  let v37 : BitVec 32 := Scalar.addi c0_i32_35 v36
  let c1_i32_38 : BitVec 32 := 1#32
  let arg17 : BitVec 32 := Scf.iv v37 c1_i32_38 k0_t4
  let c2_i32_43 : BitVec 32 := 2#32
  let v41 : BitVec 32 := Scalar.remsi arg17 c2_i32_43
  let v728 : Index := Scalar.indexCast v41
  let c0_254 : Index := 0#32
  let c2688 : Index := 2688#32
  ![v728.toNat, 0, 2688]
def k0_off170 (v3 : BitVec 32) (k0_t4 : Fin (k0_t4_loop v3).trips) : Fin 3 → Nat :=
  let c0_i32_35 : BitVec 32 := 0#32
  let v33 : BitVec 32 := Scalar.subi v3 c0_i32_35
  let c1_i32_36 : BitVec 32 := 1#32
  let v35 : BitVec 32 := Scalar.divsi v33 c1_i32_36
  let v36 : BitVec 32 := Scalar.muli v35 c1_i32_36
  let v37 : BitVec 32 := Scalar.addi c0_i32_35 v36
  let c1_i32_38 : BitVec 32 := 1#32
  let arg17 : BitVec 32 := Scf.iv v37 c1_i32_38 k0_t4
  let c2_i32_43 : BitVec 32 := 2#32
  let v41 : BitVec 32 := Scalar.remsi arg17 c2_i32_43
  let v731 : Index := Scalar.indexCast v41
  let c0_255 : Index := 0#32
  let c2688_256 : Index := 2688#32
  ![v731.toNat, 0, 2688]
def k0_off171 (v3 : BitVec 32) (k0_t4 : Fin (k0_t4_loop v3).trips) : Fin 3 → Nat :=
  let c0_i32_35 : BitVec 32 := 0#32
  let v33 : BitVec 32 := Scalar.subi v3 c0_i32_35
  let c1_i32_36 : BitVec 32 := 1#32
  let v35 : BitVec 32 := Scalar.divsi v33 c1_i32_36
  let v36 : BitVec 32 := Scalar.muli v35 c1_i32_36
  let v37 : BitVec 32 := Scalar.addi c0_i32_35 v36
  let c1_i32_38 : BitVec 32 := 1#32
  let arg17 : BitVec 32 := Scf.iv v37 c1_i32_38 k0_t4
  let c2_i32_43 : BitVec 32 := 2#32
  let v41 : BitVec 32 := Scalar.remsi arg17 c2_i32_43
  let v765 : Index := Scalar.indexCast v41
  let c0_266 : Index := 0#32
  let c0_267 : Index := 0#32
  ![v765.toNat, 0, 0]
def k0_off172 (v3 : BitVec 32) (k0_t4 : Fin (k0_t4_loop v3).trips) : Fin 3 → Nat :=
  let c0_i32_35 : BitVec 32 := 0#32
  let v33 : BitVec 32 := Scalar.subi v3 c0_i32_35
  let c1_i32_36 : BitVec 32 := 1#32
  let v35 : BitVec 32 := Scalar.divsi v33 c1_i32_36
  let v36 : BitVec 32 := Scalar.muli v35 c1_i32_36
  let v37 : BitVec 32 := Scalar.addi c0_i32_35 v36
  let c1_i32_38 : BitVec 32 := 1#32
  let arg17 : BitVec 32 := Scf.iv v37 c1_i32_38 k0_t4
  let c2_i32_43 : BitVec 32 := 2#32
  let v41 : BitVec 32 := Scalar.remsi arg17 c2_i32_43
  let v768 : Index := Scalar.indexCast v41
  let c0_268 : Index := 0#32
  let c0_269 : Index := 0#32
  ![v768.toNat, 0, 0]
def k0_off173 (v3 : BitVec 32) (k0_t4 : Fin (k0_t4_loop v3).trips) : Fin 3 → Nat :=
  let c0_i32_35 : BitVec 32 := 0#32
  let v33 : BitVec 32 := Scalar.subi v3 c0_i32_35
  let c1_i32_36 : BitVec 32 := 1#32
  let v35 : BitVec 32 := Scalar.divsi v33 c1_i32_36
  let v36 : BitVec 32 := Scalar.muli v35 c1_i32_36
  let v37 : BitVec 32 := Scalar.addi c0_i32_35 v36
  let c1_i32_38 : BitVec 32 := 1#32
  let arg17 : BitVec 32 := Scf.iv v37 c1_i32_38 k0_t4
  let c2_i32_43 : BitVec 32 := 2#32
  let v41 : BitVec 32 := Scalar.remsi arg17 c2_i32_43
  let v802 : Index := Scalar.indexCast v41
  let c0_280 : Index := 0#32
  let c256_281 : Index := 256#32
  ![v802.toNat, 0, 256]
def k0_off174 (v3 : BitVec 32) (k0_t4 : Fin (k0_t4_loop v3).trips) : Fin 3 → Nat :=
  let c0_i32_35 : BitVec 32 := 0#32
  let v33 : BitVec 32 := Scalar.subi v3 c0_i32_35
  let c1_i32_36 : BitVec 32 := 1#32
  let v35 : BitVec 32 := Scalar.divsi v33 c1_i32_36
  let v36 : BitVec 32 := Scalar.muli v35 c1_i32_36
  let v37 : BitVec 32 := Scalar.addi c0_i32_35 v36
  let c1_i32_38 : BitVec 32 := 1#32
  let arg17 : BitVec 32 := Scf.iv v37 c1_i32_38 k0_t4
  let c2_i32_43 : BitVec 32 := 2#32
  let v41 : BitVec 32 := Scalar.remsi arg17 c2_i32_43
  let v805 : Index := Scalar.indexCast v41
  let c0_282 : Index := 0#32
  let c256_283 : Index := 256#32
  ![v805.toNat, 0, 256]
def k0_off175 (v3 : BitVec 32) (k0_t4 : Fin (k0_t4_loop v3).trips) : Fin 3 → Nat :=
  let c0_i32_35 : BitVec 32 := 0#32
  let v33 : BitVec 32 := Scalar.subi v3 c0_i32_35
  let c1_i32_36 : BitVec 32 := 1#32
  let v35 : BitVec 32 := Scalar.divsi v33 c1_i32_36
  let v36 : BitVec 32 := Scalar.muli v35 c1_i32_36
  let v37 : BitVec 32 := Scalar.addi c0_i32_35 v36
  let c1_i32_38 : BitVec 32 := 1#32
  let arg17 : BitVec 32 := Scf.iv v37 c1_i32_38 k0_t4
  let c2_i32_43 : BitVec 32 := 2#32
  let v41 : BitVec 32 := Scalar.remsi arg17 c2_i32_43
  let v839 : Index := Scalar.indexCast v41
  let c0_294 : Index := 0#32
  let c512_295 : Index := 512#32
  ![v839.toNat, 0, 512]
def k0_off176 (v3 : BitVec 32) (k0_t4 : Fin (k0_t4_loop v3).trips) : Fin 3 → Nat :=
  let c0_i32_35 : BitVec 32 := 0#32
  let v33 : BitVec 32 := Scalar.subi v3 c0_i32_35
  let c1_i32_36 : BitVec 32 := 1#32
  let v35 : BitVec 32 := Scalar.divsi v33 c1_i32_36
  let v36 : BitVec 32 := Scalar.muli v35 c1_i32_36
  let v37 : BitVec 32 := Scalar.addi c0_i32_35 v36
  let c1_i32_38 : BitVec 32 := 1#32
  let arg17 : BitVec 32 := Scf.iv v37 c1_i32_38 k0_t4
  let c2_i32_43 : BitVec 32 := 2#32
  let v41 : BitVec 32 := Scalar.remsi arg17 c2_i32_43
  let v842 : Index := Scalar.indexCast v41
  let c0_296 : Index := 0#32
  let c512_297 : Index := 512#32
  ![v842.toNat, 0, 512]
def k0_off177 (v3 : BitVec 32) (k0_t4 : Fin (k0_t4_loop v3).trips) : Fin 3 → Nat :=
  let c0_i32_35 : BitVec 32 := 0#32
  let v33 : BitVec 32 := Scalar.subi v3 c0_i32_35
  let c1_i32_36 : BitVec 32 := 1#32
  let v35 : BitVec 32 := Scalar.divsi v33 c1_i32_36
  let v36 : BitVec 32 := Scalar.muli v35 c1_i32_36
  let v37 : BitVec 32 := Scalar.addi c0_i32_35 v36
  let c1_i32_38 : BitVec 32 := 1#32
  let arg17 : BitVec 32 := Scf.iv v37 c1_i32_38 k0_t4
  let c2_i32_43 : BitVec 32 := 2#32
  let v41 : BitVec 32 := Scalar.remsi arg17 c2_i32_43
  let v876 : Index := Scalar.indexCast v41
  let c0_308 : Index := 0#32
  let c768_309 : Index := 768#32
  ![v876.toNat, 0, 768]
def k0_off178 (v3 : BitVec 32) (k0_t4 : Fin (k0_t4_loop v3).trips) : Fin 3 → Nat :=
  let c0_i32_35 : BitVec 32 := 0#32
  let v33 : BitVec 32 := Scalar.subi v3 c0_i32_35
  let c1_i32_36 : BitVec 32 := 1#32
  let v35 : BitVec 32 := Scalar.divsi v33 c1_i32_36
  let v36 : BitVec 32 := Scalar.muli v35 c1_i32_36
  let v37 : BitVec 32 := Scalar.addi c0_i32_35 v36
  let c1_i32_38 : BitVec 32 := 1#32
  let arg17 : BitVec 32 := Scf.iv v37 c1_i32_38 k0_t4
  let c2_i32_43 : BitVec 32 := 2#32
  let v41 : BitVec 32 := Scalar.remsi arg17 c2_i32_43
  let v879 : Index := Scalar.indexCast v41
  let c0_310 : Index := 0#32
  let c768_311 : Index := 768#32
  ![v879.toNat, 0, 768]
def k0_off179 (v3 : BitVec 32) (k0_t4 : Fin (k0_t4_loop v3).trips) : Fin 3 → Nat :=
  let c0_i32_35 : BitVec 32 := 0#32
  let v33 : BitVec 32 := Scalar.subi v3 c0_i32_35
  let c1_i32_36 : BitVec 32 := 1#32
  let v35 : BitVec 32 := Scalar.divsi v33 c1_i32_36
  let v36 : BitVec 32 := Scalar.muli v35 c1_i32_36
  let v37 : BitVec 32 := Scalar.addi c0_i32_35 v36
  let c1_i32_38 : BitVec 32 := 1#32
  let arg17 : BitVec 32 := Scf.iv v37 c1_i32_38 k0_t4
  let c2_i32_43 : BitVec 32 := 2#32
  let v41 : BitVec 32 := Scalar.remsi arg17 c2_i32_43
  let v913 : Index := Scalar.indexCast v41
  let c0_322 : Index := 0#32
  let c1024_323 : Index := 1024#32
  ![v913.toNat, 0, 1024]
def k0_off180 (v3 : BitVec 32) (k0_t4 : Fin (k0_t4_loop v3).trips) : Fin 3 → Nat :=
  let c0_i32_35 : BitVec 32 := 0#32
  let v33 : BitVec 32 := Scalar.subi v3 c0_i32_35
  let c1_i32_36 : BitVec 32 := 1#32
  let v35 : BitVec 32 := Scalar.divsi v33 c1_i32_36
  let v36 : BitVec 32 := Scalar.muli v35 c1_i32_36
  let v37 : BitVec 32 := Scalar.addi c0_i32_35 v36
  let c1_i32_38 : BitVec 32 := 1#32
  let arg17 : BitVec 32 := Scf.iv v37 c1_i32_38 k0_t4
  let c2_i32_43 : BitVec 32 := 2#32
  let v41 : BitVec 32 := Scalar.remsi arg17 c2_i32_43
  let v916 : Index := Scalar.indexCast v41
  let c0_324 : Index := 0#32
  let c1024_325 : Index := 1024#32
  ![v916.toNat, 0, 1024]
def k0_off181 (v3 : BitVec 32) (k0_t4 : Fin (k0_t4_loop v3).trips) : Fin 3 → Nat :=
  let c0_i32_35 : BitVec 32 := 0#32
  let v33 : BitVec 32 := Scalar.subi v3 c0_i32_35
  let c1_i32_36 : BitVec 32 := 1#32
  let v35 : BitVec 32 := Scalar.divsi v33 c1_i32_36
  let v36 : BitVec 32 := Scalar.muli v35 c1_i32_36
  let v37 : BitVec 32 := Scalar.addi c0_i32_35 v36
  let c1_i32_38 : BitVec 32 := 1#32
  let arg17 : BitVec 32 := Scf.iv v37 c1_i32_38 k0_t4
  let c2_i32_43 : BitVec 32 := 2#32
  let v41 : BitVec 32 := Scalar.remsi arg17 c2_i32_43
  let v950 : Index := Scalar.indexCast v41
  let c0_336 : Index := 0#32
  let c1280_337 : Index := 1280#32
  ![v950.toNat, 0, 1280]
def k0_off182 (v3 : BitVec 32) (k0_t4 : Fin (k0_t4_loop v3).trips) : Fin 3 → Nat :=
  let c0_i32_35 : BitVec 32 := 0#32
  let v33 : BitVec 32 := Scalar.subi v3 c0_i32_35
  let c1_i32_36 : BitVec 32 := 1#32
  let v35 : BitVec 32 := Scalar.divsi v33 c1_i32_36
  let v36 : BitVec 32 := Scalar.muli v35 c1_i32_36
  let v37 : BitVec 32 := Scalar.addi c0_i32_35 v36
  let c1_i32_38 : BitVec 32 := 1#32
  let arg17 : BitVec 32 := Scf.iv v37 c1_i32_38 k0_t4
  let c2_i32_43 : BitVec 32 := 2#32
  let v41 : BitVec 32 := Scalar.remsi arg17 c2_i32_43
  let v953 : Index := Scalar.indexCast v41
  let c0_338 : Index := 0#32
  let c1280_339 : Index := 1280#32
  ![v953.toNat, 0, 1280]
def k0_off183 (v3 : BitVec 32) (k0_t4 : Fin (k0_t4_loop v3).trips) : Fin 3 → Nat :=
  let c0_i32_35 : BitVec 32 := 0#32
  let v33 : BitVec 32 := Scalar.subi v3 c0_i32_35
  let c1_i32_36 : BitVec 32 := 1#32
  let v35 : BitVec 32 := Scalar.divsi v33 c1_i32_36
  let v36 : BitVec 32 := Scalar.muli v35 c1_i32_36
  let v37 : BitVec 32 := Scalar.addi c0_i32_35 v36
  let c1_i32_38 : BitVec 32 := 1#32
  let arg17 : BitVec 32 := Scf.iv v37 c1_i32_38 k0_t4
  let c2_i32_43 : BitVec 32 := 2#32
  let v41 : BitVec 32 := Scalar.remsi arg17 c2_i32_43
  let v987 : Index := Scalar.indexCast v41
  let c0_350 : Index := 0#32
  let c1536_351 : Index := 1536#32
  ![v987.toNat, 0, 1536]
def k0_off184 (v3 : BitVec 32) (k0_t4 : Fin (k0_t4_loop v3).trips) : Fin 3 → Nat :=
  let c0_i32_35 : BitVec 32 := 0#32
  let v33 : BitVec 32 := Scalar.subi v3 c0_i32_35
  let c1_i32_36 : BitVec 32 := 1#32
  let v35 : BitVec 32 := Scalar.divsi v33 c1_i32_36
  let v36 : BitVec 32 := Scalar.muli v35 c1_i32_36
  let v37 : BitVec 32 := Scalar.addi c0_i32_35 v36
  let c1_i32_38 : BitVec 32 := 1#32
  let arg17 : BitVec 32 := Scf.iv v37 c1_i32_38 k0_t4
  let c2_i32_43 : BitVec 32 := 2#32
  let v41 : BitVec 32 := Scalar.remsi arg17 c2_i32_43
  let v990 : Index := Scalar.indexCast v41
  let c0_352 : Index := 0#32
  let c1536_353 : Index := 1536#32
  ![v990.toNat, 0, 1536]
def k0_off185 (v3 : BitVec 32) (k0_t4 : Fin (k0_t4_loop v3).trips) : Fin 3 → Nat :=
  let c0_i32_35 : BitVec 32 := 0#32
  let v33 : BitVec 32 := Scalar.subi v3 c0_i32_35
  let c1_i32_36 : BitVec 32 := 1#32
  let v35 : BitVec 32 := Scalar.divsi v33 c1_i32_36
  let v36 : BitVec 32 := Scalar.muli v35 c1_i32_36
  let v37 : BitVec 32 := Scalar.addi c0_i32_35 v36
  let c1_i32_38 : BitVec 32 := 1#32
  let arg17 : BitVec 32 := Scf.iv v37 c1_i32_38 k0_t4
  let c2_i32_43 : BitVec 32 := 2#32
  let v41 : BitVec 32 := Scalar.remsi arg17 c2_i32_43
  let v1024 : Index := Scalar.indexCast v41
  let c0_364 : Index := 0#32
  let c1792_365 : Index := 1792#32
  ![v1024.toNat, 0, 1792]
def k0_off186 (v3 : BitVec 32) (k0_t4 : Fin (k0_t4_loop v3).trips) : Fin 3 → Nat :=
  let c0_i32_35 : BitVec 32 := 0#32
  let v33 : BitVec 32 := Scalar.subi v3 c0_i32_35
  let c1_i32_36 : BitVec 32 := 1#32
  let v35 : BitVec 32 := Scalar.divsi v33 c1_i32_36
  let v36 : BitVec 32 := Scalar.muli v35 c1_i32_36
  let v37 : BitVec 32 := Scalar.addi c0_i32_35 v36
  let c1_i32_38 : BitVec 32 := 1#32
  let arg17 : BitVec 32 := Scf.iv v37 c1_i32_38 k0_t4
  let c2_i32_43 : BitVec 32 := 2#32
  let v41 : BitVec 32 := Scalar.remsi arg17 c2_i32_43
  let v1027 : Index := Scalar.indexCast v41
  let c0_366 : Index := 0#32
  let c1792_367 : Index := 1792#32
  ![v1027.toNat, 0, 1792]
def k0_off187 (v3 : BitVec 32) (k0_t4 : Fin (k0_t4_loop v3).trips) : Fin 3 → Nat :=
  let c0_i32_35 : BitVec 32 := 0#32
  let v33 : BitVec 32 := Scalar.subi v3 c0_i32_35
  let c1_i32_36 : BitVec 32 := 1#32
  let v35 : BitVec 32 := Scalar.divsi v33 c1_i32_36
  let v36 : BitVec 32 := Scalar.muli v35 c1_i32_36
  let v37 : BitVec 32 := Scalar.addi c0_i32_35 v36
  let c1_i32_38 : BitVec 32 := 1#32
  let arg17 : BitVec 32 := Scf.iv v37 c1_i32_38 k0_t4
  let c2_i32_43 : BitVec 32 := 2#32
  let v41 : BitVec 32 := Scalar.remsi arg17 c2_i32_43
  let v1061 : Index := Scalar.indexCast v41
  let c0_378 : Index := 0#32
  let c2048_379 : Index := 2048#32
  ![v1061.toNat, 0, 2048]
def k0_off188 (v3 : BitVec 32) (k0_t4 : Fin (k0_t4_loop v3).trips) : Fin 3 → Nat :=
  let c0_i32_35 : BitVec 32 := 0#32
  let v33 : BitVec 32 := Scalar.subi v3 c0_i32_35
  let c1_i32_36 : BitVec 32 := 1#32
  let v35 : BitVec 32 := Scalar.divsi v33 c1_i32_36
  let v36 : BitVec 32 := Scalar.muli v35 c1_i32_36
  let v37 : BitVec 32 := Scalar.addi c0_i32_35 v36
  let c1_i32_38 : BitVec 32 := 1#32
  let arg17 : BitVec 32 := Scf.iv v37 c1_i32_38 k0_t4
  let c2_i32_43 : BitVec 32 := 2#32
  let v41 : BitVec 32 := Scalar.remsi arg17 c2_i32_43
  let v1064 : Index := Scalar.indexCast v41
  let c0_380 : Index := 0#32
  let c2048_381 : Index := 2048#32
  ![v1064.toNat, 0, 2048]
def k0_off189 (v3 : BitVec 32) (k0_t4 : Fin (k0_t4_loop v3).trips) : Fin 3 → Nat :=
  let c0_i32_35 : BitVec 32 := 0#32
  let v33 : BitVec 32 := Scalar.subi v3 c0_i32_35
  let c1_i32_36 : BitVec 32 := 1#32
  let v35 : BitVec 32 := Scalar.divsi v33 c1_i32_36
  let v36 : BitVec 32 := Scalar.muli v35 c1_i32_36
  let v37 : BitVec 32 := Scalar.addi c0_i32_35 v36
  let c1_i32_38 : BitVec 32 := 1#32
  let arg17 : BitVec 32 := Scf.iv v37 c1_i32_38 k0_t4
  let c2_i32_43 : BitVec 32 := 2#32
  let v41 : BitVec 32 := Scalar.remsi arg17 c2_i32_43
  let v1098 : Index := Scalar.indexCast v41
  let c0_392 : Index := 0#32
  let c2304_393 : Index := 2304#32
  ![v1098.toNat, 0, 2304]
def k0_off190 (v3 : BitVec 32) (k0_t4 : Fin (k0_t4_loop v3).trips) : Fin 3 → Nat :=
  let c0_i32_35 : BitVec 32 := 0#32
  let v33 : BitVec 32 := Scalar.subi v3 c0_i32_35
  let c1_i32_36 : BitVec 32 := 1#32
  let v35 : BitVec 32 := Scalar.divsi v33 c1_i32_36
  let v36 : BitVec 32 := Scalar.muli v35 c1_i32_36
  let v37 : BitVec 32 := Scalar.addi c0_i32_35 v36
  let c1_i32_38 : BitVec 32 := 1#32
  let arg17 : BitVec 32 := Scf.iv v37 c1_i32_38 k0_t4
  let c2_i32_43 : BitVec 32 := 2#32
  let v41 : BitVec 32 := Scalar.remsi arg17 c2_i32_43
  let v1101 : Index := Scalar.indexCast v41
  let c0_394 : Index := 0#32
  let c2304_395 : Index := 2304#32
  ![v1101.toNat, 0, 2304]
def k0_off191 (v3 : BitVec 32) (k0_t4 : Fin (k0_t4_loop v3).trips) : Fin 3 → Nat :=
  let c0_i32_35 : BitVec 32 := 0#32
  let v33 : BitVec 32 := Scalar.subi v3 c0_i32_35
  let c1_i32_36 : BitVec 32 := 1#32
  let v35 : BitVec 32 := Scalar.divsi v33 c1_i32_36
  let v36 : BitVec 32 := Scalar.muli v35 c1_i32_36
  let v37 : BitVec 32 := Scalar.addi c0_i32_35 v36
  let c1_i32_38 : BitVec 32 := 1#32
  let arg17 : BitVec 32 := Scf.iv v37 c1_i32_38 k0_t4
  let c2_i32_43 : BitVec 32 := 2#32
  let v41 : BitVec 32 := Scalar.remsi arg17 c2_i32_43
  let v1135 : Index := Scalar.indexCast v41
  let c0_406 : Index := 0#32
  let c2560_407 : Index := 2560#32
  ![v1135.toNat, 0, 2560]
def k0_off192 (v3 : BitVec 32) (k0_t4 : Fin (k0_t4_loop v3).trips) : Fin 3 → Nat :=
  let c0_i32_35 : BitVec 32 := 0#32
  let v33 : BitVec 32 := Scalar.subi v3 c0_i32_35
  let c1_i32_36 : BitVec 32 := 1#32
  let v35 : BitVec 32 := Scalar.divsi v33 c1_i32_36
  let v36 : BitVec 32 := Scalar.muli v35 c1_i32_36
  let v37 : BitVec 32 := Scalar.addi c0_i32_35 v36
  let c1_i32_38 : BitVec 32 := 1#32
  let arg17 : BitVec 32 := Scf.iv v37 c1_i32_38 k0_t4
  let c2_i32_43 : BitVec 32 := 2#32
  let v41 : BitVec 32 := Scalar.remsi arg17 c2_i32_43
  let v1138 : Index := Scalar.indexCast v41
  let c0_408 : Index := 0#32
  let c2560_409 : Index := 2560#32
  ![v1138.toNat, 0, 2560]

def k0_chk3_0 (v3 : BitVec 32) : Prop :=
  ((k0_t3_loop v3).OK) ∧
  (∀ k0_t3 : Fin (k0_t3_loop v3).trips, ∀ (k0_h1 : k0_cond1 v3 k0_t3 = 1#1), ∀ a, (k0_off7 v3 k0_t3) a + S1.size a ≤ S33.size a) ∧
  (∀ k0_t3 : Fin (k0_t3_loop v3).trips, ∀ (k0_h1 : k0_cond1 v3 k0_t3 = 1#1), ∀ a, (k0_off8 v3 k0_t3) a + S1x1.size a ≤ S2x4.size a) ∧
  (∀ k0_t3 : Fin (k0_t3_loop v3).trips, ∀ (k0_h1 : k0_cond1 v3 k0_t3 = 1#1), ∀ a, (k0_off9 v3 k0_t3) a + S1x1408x2816.size a ≤ S2x1408x2816.size a) ∧
  (∀ k0_t3 : Fin (k0_t3_loop v3).trips, ∀ (k0_h1 : k0_cond1 v3 k0_t3 = 1#1), ∀ (hinb : ∀ a, (k0_off9 v3 k0_t3) a + S1x1408x2816.size a ≤ S2x1408x2816.size a), (Rect.unit (s := S2x1408x2816) (k0_off9 v3 k0_t3) S1x1408x2816.size hinb).WholeWords (EltTy.packing .i8)) ∧
  (∀ k0_t3 : Fin (k0_t3_loop v3).trips, ∀ (k0_h1 : k0_cond1 v3 k0_t3 = 1#1), ∀ a, (k0_off11 v3 k0_t3) a + S1x1.size a ≤ S2x4.size a) ∧
  (∀ k0_t3 : Fin (k0_t3_loop v3).trips, ∀ (k0_h1 : k0_cond1 v3 k0_t3 = 1#1), ∀ a, (k0_off12 v3 k0_t3) a + S1x22x2816.size a ≤ S2x22x2816.size a) ∧
  (∀ k0_t3 : Fin (k0_t3_loop v3).trips, ∀ (k0_h1 : k0_cond1 v3 k0_t3 = 1#1), ∀ (hinb : ∀ a, (k0_off12 v3 k0_t3) a + S1x22x2816.size a ≤ S2x22x2816.size a), (Rect.unit (s := S2x22x2816) (k0_off12 v3 k0_t3) S1x22x2816.size hinb).WholeWords (EltTy.packing .bf16)) ∧
  (∀ k0_t3 : Fin (k0_t3_loop v3).trips, ∀ (k0_h1 : k0_cond1 v3 k0_t3 = 1#1), ∀ a, (k0_off14 v3 k0_t3) a + S1x1.size a ≤ S2x4.size a) ∧
  (∀ k0_t3 : Fin (k0_t3_loop v3).trips, ∀ (k0_h1 : k0_cond1 v3 k0_t3 = 1#1), ∀ a, (k0_off15 v3 k0_t3) a + S1x704x2816.size a ≤ S2x704x2816.size a) ∧
  (∀ k0_t3 : Fin (k0_t3_loop v3).trips, ∀ (k0_h1 : k0_cond1 v3 k0_t3 = 1#1), ∀ (hinb : ∀ a, (k0_off15 v3 k0_t3) a + S1x704x2816.size a ≤ S2x704x2816.size a), (Rect.unit (s := S2x704x2816) (k0_off15 v3 k0_t3) S1x704x2816.size hinb).WholeWords (EltTy.packing .i8)) ∧
  (∀ k0_t3 : Fin (k0_t3_loop v3).trips, ∀ (k0_h1 : k0_cond1 v3 k0_t3 = 1#1), ∀ a, (k0_off17 v3 k0_t3) a + S1x1.size a ≤ S2x4.size a) ∧
  (∀ k0_t3 : Fin (k0_t3_loop v3).trips, ∀ (k0_h1 : k0_cond1 v3 k0_t3 = 1#1), ∀ a, (k0_off18 v3 k0_t3) a + S1x11x2816.size a ≤ S2x11x2816.size a) ∧
  (∀ k0_t3 : Fin (k0_t3_loop v3).trips, ∀ (k0_h1 : k0_cond1 v3 k0_t3 = 1#1), ∀ (hinb : ∀ a, (k0_off18 v3 k0_t3) a + S1x11x2816.size a ≤ S2x11x2816.size a), (Rect.unit (s := S2x11x2816) (k0_off18 v3 k0_t3) S1x11x2816.size hinb).WholeWords (EltTy.packing .bf16)) ∧
  (∀ k0_t3 : Fin (k0_t3_loop v3).trips, ∀ a, (k0_off20 v3 k0_t3) a + S1.size a ≤ S33.size a) ∧
  (∀ k0_t3 : Fin (k0_t3_loop v3).trips, ∀ a, (k0_off21 v3 k0_t3) a + S1x1.size a ≤ S2x4.size a) ∧
  (∀ k0_t3 : Fin (k0_t3_loop v3).trips, ∀ a, (k0_off22 v3 k0_t3) a + S1x1408x2816.size a ≤ S2x1408x2816.size a) ∧
  (∀ k0_t3 : Fin (k0_t3_loop v3).trips, ∀ (hinb : ∀ a, (k0_off22 v3 k0_t3) a + S1x1408x2816.size a ≤ S2x1408x2816.size a), (Rect.unit (s := S2x1408x2816) (k0_off22 v3 k0_t3) S1x1408x2816.size hinb).WholeWords (EltTy.packing .i8)) ∧
  (∀ k0_t3 : Fin (k0_t3_loop v3).trips, ∀ a, (k0_off24 v3 k0_t3) a + S1x1.size a ≤ S2x4.size a) ∧
  (∀ k0_t3 : Fin (k0_t3_loop v3).trips, ∀ a, (k0_off25 v3 k0_t3) a + S1x22x2816.size a ≤ S2x22x2816.size a) ∧
  (∀ k0_t3 : Fin (k0_t3_loop v3).trips, ∀ (hinb : ∀ a, (k0_off25 v3 k0_t3) a + S1x22x2816.size a ≤ S2x22x2816.size a), (Rect.unit (s := S2x22x2816) (k0_off25 v3 k0_t3) S1x22x2816.size hinb).WholeWords (EltTy.packing .bf16)) ∧
  (∀ k0_t3 : Fin (k0_t3_loop v3).trips, ∀ a, (k0_off27 v3 k0_t3) a + S1x1.size a ≤ S2x4.size a) ∧
  (∀ k0_t3 : Fin (k0_t3_loop v3).trips, ∀ a, (k0_off28 v3 k0_t3) a + S1x704x2816.size a ≤ S2x704x2816.size a) ∧
  (∀ k0_t3 : Fin (k0_t3_loop v3).trips, ∀ (hinb : ∀ a, (k0_off28 v3 k0_t3) a + S1x704x2816.size a ≤ S2x704x2816.size a), (Rect.unit (s := S2x704x2816) (k0_off28 v3 k0_t3) S1x704x2816.size hinb).WholeWords (EltTy.packing .i8)) ∧
  (∀ k0_t3 : Fin (k0_t3_loop v3).trips, ∀ a, (k0_off30 v3 k0_t3) a + S1x1.size a ≤ S2x4.size a) ∧
  (∀ k0_t3 : Fin (k0_t3_loop v3).trips, ∀ a, (k0_off31 v3 k0_t3) a + S1x11x2816.size a ≤ S2x11x2816.size a) ∧
  (∀ k0_t3 : Fin (k0_t3_loop v3).trips, ∀ (hinb : ∀ a, (k0_off31 v3 k0_t3) a + S1x11x2816.size a ≤ S2x11x2816.size a), (Rect.unit (s := S2x11x2816) (k0_off31 v3 k0_t3) S1x11x2816.size hinb).WholeWords (EltTy.packing .bf16)) ∧
  (∀ k0_t3 : Fin (k0_t3_loop v3).trips, ∀ a, (k0_off33 v3 k0_t3) a + S1.size a ≤ S33.size a) ∧
  (∀ k0_t3 : Fin (k0_t3_loop v3).trips, ∀ a, (k0_off34 v3 k0_t3) a + S1x1408x128.size a ≤ S2x1408x2816.size a) ∧
  (∀ k0_t3 : Fin (k0_t3_loop v3).trips, ∀ a, (k0_off35 v3 k0_t3) a + S1x22x128.size a ≤ S2x22x2816.size a) ∧
  (∀ k0_t3 : Fin (k0_t3_loop v3).trips, ∀ a, (k0_off36 v3 k0_t3) a + S1x1408x128.size a ≤ S2x1408x2816.size a) ∧
  (∀ k0_t3 : Fin (k0_t3_loop v3).trips, ∀ a, (k0_off37 v3 k0_t3) a + S1x22x128.size a ≤ S2x22x2816.size a)
def k0_chk3_1 (v3 : BitVec 32) : Prop :=
  (∀ k0_t3 : Fin (k0_t3_loop v3).trips, ∀ a, (k0_off38 v3 k0_t3) a + S1x1408x128.size a ≤ S2x1408x2816.size a) ∧
  (∀ k0_t3 : Fin (k0_t3_loop v3).trips, ∀ a, (k0_off39 v3 k0_t3) a + S1x22x128.size a ≤ S2x22x2816.size a) ∧
  (∀ k0_t3 : Fin (k0_t3_loop v3).trips, ∀ a, (k0_off40 v3 k0_t3) a + S1x1408x128.size a ≤ S2x1408x2816.size a) ∧
  (∀ k0_t3 : Fin (k0_t3_loop v3).trips, ∀ a, (k0_off41 v3 k0_t3) a + S1x22x128.size a ≤ S2x22x2816.size a) ∧
  (∀ k0_t3 : Fin (k0_t3_loop v3).trips, ∀ a, (k0_off42 v3 k0_t3) a + S1x1408x128.size a ≤ S2x1408x2816.size a) ∧
  (∀ k0_t3 : Fin (k0_t3_loop v3).trips, ∀ a, (k0_off43 v3 k0_t3) a + S1x22x128.size a ≤ S2x22x2816.size a) ∧
  (∀ k0_t3 : Fin (k0_t3_loop v3).trips, ∀ a, (k0_off44 v3 k0_t3) a + S1x1408x128.size a ≤ S2x1408x2816.size a) ∧
  (∀ k0_t3 : Fin (k0_t3_loop v3).trips, ∀ a, (k0_off45 v3 k0_t3) a + S1x22x128.size a ≤ S2x22x2816.size a) ∧
  (∀ k0_t3 : Fin (k0_t3_loop v3).trips, ∀ a, (k0_off46 v3 k0_t3) a + S1x1408x128.size a ≤ S2x1408x2816.size a) ∧
  (∀ k0_t3 : Fin (k0_t3_loop v3).trips, ∀ a, (k0_off47 v3 k0_t3) a + S1x22x128.size a ≤ S2x22x2816.size a) ∧
  (∀ k0_t3 : Fin (k0_t3_loop v3).trips, ∀ a, (k0_off48 v3 k0_t3) a + S1x1408x128.size a ≤ S2x1408x2816.size a) ∧
  (∀ k0_t3 : Fin (k0_t3_loop v3).trips, ∀ a, (k0_off49 v3 k0_t3) a + S1x22x128.size a ≤ S2x22x2816.size a) ∧
  (∀ k0_t3 : Fin (k0_t3_loop v3).trips, ∀ a, (k0_off50 v3 k0_t3) a + S1x1408x128.size a ≤ S2x1408x2816.size a) ∧
  (∀ k0_t3 : Fin (k0_t3_loop v3).trips, ∀ a, (k0_off51 v3 k0_t3) a + S1x22x128.size a ≤ S2x22x2816.size a) ∧
  (∀ k0_t3 : Fin (k0_t3_loop v3).trips, ∀ a, (k0_off52 v3 k0_t3) a + S1x1408x128.size a ≤ S2x1408x2816.size a) ∧
  (∀ k0_t3 : Fin (k0_t3_loop v3).trips, ∀ a, (k0_off53 v3 k0_t3) a + S1x22x128.size a ≤ S2x22x2816.size a) ∧
  (∀ k0_t3 : Fin (k0_t3_loop v3).trips, ∀ a, (k0_off54 v3 k0_t3) a + S1x1408x128.size a ≤ S2x1408x2816.size a) ∧
  (∀ k0_t3 : Fin (k0_t3_loop v3).trips, ∀ a, (k0_off55 v3 k0_t3) a + S1x22x128.size a ≤ S2x22x2816.size a) ∧
  (∀ k0_t3 : Fin (k0_t3_loop v3).trips, ∀ a, (k0_off56 v3 k0_t3) a + S1x1408x128.size a ≤ S2x1408x2816.size a) ∧
  (∀ k0_t3 : Fin (k0_t3_loop v3).trips, ∀ a, (k0_off57 v3 k0_t3) a + S1x22x128.size a ≤ S2x22x2816.size a) ∧
  (∀ k0_t3 : Fin (k0_t3_loop v3).trips, ∀ a, (k0_off58 v3 k0_t3) a + S1x1408x128.size a ≤ S2x1408x2816.size a) ∧
  (∀ k0_t3 : Fin (k0_t3_loop v3).trips, ∀ a, (k0_off59 v3 k0_t3) a + S1x22x128.size a ≤ S2x22x2816.size a) ∧
  (∀ k0_t3 : Fin (k0_t3_loop v3).trips, ∀ a, (k0_off60 v3 k0_t3) a + S1x1408x128.size a ≤ S2x1408x2816.size a) ∧
  (∀ k0_t3 : Fin (k0_t3_loop v3).trips, ∀ a, (k0_off61 v3 k0_t3) a + S1x22x128.size a ≤ S2x22x2816.size a) ∧
  (∀ k0_t3 : Fin (k0_t3_loop v3).trips, ∀ a, (k0_off62 v3 k0_t3) a + S1x1408x128.size a ≤ S2x1408x2816.size a) ∧
  (∀ k0_t3 : Fin (k0_t3_loop v3).trips, ∀ a, (k0_off63 v3 k0_t3) a + S1x22x128.size a ≤ S2x22x2816.size a) ∧
  (∀ k0_t3 : Fin (k0_t3_loop v3).trips, ∀ a, (k0_off64 v3 k0_t3) a + S1x1408x128.size a ≤ S2x1408x2816.size a) ∧
  (∀ k0_t3 : Fin (k0_t3_loop v3).trips, ∀ a, (k0_off65 v3 k0_t3) a + S1x22x128.size a ≤ S2x22x2816.size a) ∧
  (∀ k0_t3 : Fin (k0_t3_loop v3).trips, ∀ a, (k0_off66 v3 k0_t3) a + S1x1408x128.size a ≤ S2x1408x2816.size a) ∧
  (∀ k0_t3 : Fin (k0_t3_loop v3).trips, ∀ a, (k0_off67 v3 k0_t3) a + S1x22x128.size a ≤ S2x22x2816.size a) ∧
  (∀ k0_t3 : Fin (k0_t3_loop v3).trips, ∀ a, (k0_off68 v3 k0_t3) a + S1x1408x128.size a ≤ S2x1408x2816.size a) ∧
  (∀ k0_t3 : Fin (k0_t3_loop v3).trips, ∀ a, (k0_off69 v3 k0_t3) a + S1x22x128.size a ≤ S2x22x2816.size a)
def k0_chk3_2 (v3 : BitVec 32) : Prop :=
  (∀ k0_t3 : Fin (k0_t3_loop v3).trips, ∀ a, (k0_off70 v3 k0_t3) a + S1x1408x128.size a ≤ S2x1408x2816.size a) ∧
  (∀ k0_t3 : Fin (k0_t3_loop v3).trips, ∀ a, (k0_off71 v3 k0_t3) a + S1x22x128.size a ≤ S2x22x2816.size a) ∧
  (∀ k0_t3 : Fin (k0_t3_loop v3).trips, ∀ a, (k0_off72 v3 k0_t3) a + S1x1408x128.size a ≤ S2x1408x2816.size a) ∧
  (∀ k0_t3 : Fin (k0_t3_loop v3).trips, ∀ a, (k0_off73 v3 k0_t3) a + S1x22x128.size a ≤ S2x22x2816.size a) ∧
  (∀ k0_t3 : Fin (k0_t3_loop v3).trips, ∀ a, (k0_off74 v3 k0_t3) a + S1x1408x128.size a ≤ S2x1408x2816.size a) ∧
  (∀ k0_t3 : Fin (k0_t3_loop v3).trips, ∀ a, (k0_off75 v3 k0_t3) a + S1x22x128.size a ≤ S2x22x2816.size a) ∧
  (∀ k0_t3 : Fin (k0_t3_loop v3).trips, ∀ a, (k0_off76 v3 k0_t3) a + S1x1408x128.size a ≤ S2x1408x2816.size a) ∧
  (∀ k0_t3 : Fin (k0_t3_loop v3).trips, ∀ a, (k0_off77 v3 k0_t3) a + S1x22x128.size a ≤ S2x22x2816.size a) ∧
  (∀ k0_t3 : Fin (k0_t3_loop v3).trips, ∀ a, (k0_off78 v3 k0_t3) a + S1x704x256.size a ≤ S2x704x2816.size a) ∧
  (∀ k0_t3 : Fin (k0_t3_loop v3).trips, ∀ a, (k0_off79 v3 k0_t3) a + S1x11x256.size a ≤ S2x11x2816.size a) ∧
  (∀ k0_t3 : Fin (k0_t3_loop v3).trips, ∀ a, (k0_off80 v3 k0_t3) a + S1x704x256.size a ≤ S2x704x2816.size a) ∧
  (∀ k0_t3 : Fin (k0_t3_loop v3).trips, ∀ a, (k0_off81 v3 k0_t3) a + S1x11x256.size a ≤ S2x11x2816.size a) ∧
  (∀ k0_t3 : Fin (k0_t3_loop v3).trips, ∀ a, (k0_off82 v3 k0_t3) a + S1x704x256.size a ≤ S2x704x2816.size a) ∧
  (∀ k0_t3 : Fin (k0_t3_loop v3).trips, ∀ a, (k0_off83 v3 k0_t3) a + S1x11x256.size a ≤ S2x11x2816.size a) ∧
  (∀ k0_t3 : Fin (k0_t3_loop v3).trips, ∀ a, (k0_off84 v3 k0_t3) a + S1x704x256.size a ≤ S2x704x2816.size a) ∧
  (∀ k0_t3 : Fin (k0_t3_loop v3).trips, ∀ a, (k0_off85 v3 k0_t3) a + S1x11x256.size a ≤ S2x11x2816.size a) ∧
  (∀ k0_t3 : Fin (k0_t3_loop v3).trips, ∀ a, (k0_off86 v3 k0_t3) a + S1x704x256.size a ≤ S2x704x2816.size a) ∧
  (∀ k0_t3 : Fin (k0_t3_loop v3).trips, ∀ a, (k0_off87 v3 k0_t3) a + S1x11x256.size a ≤ S2x11x2816.size a) ∧
  (∀ k0_t3 : Fin (k0_t3_loop v3).trips, ∀ a, (k0_off88 v3 k0_t3) a + S1x704x256.size a ≤ S2x704x2816.size a) ∧
  (∀ k0_t3 : Fin (k0_t3_loop v3).trips, ∀ a, (k0_off89 v3 k0_t3) a + S1x11x256.size a ≤ S2x11x2816.size a) ∧
  (∀ k0_t3 : Fin (k0_t3_loop v3).trips, ∀ a, (k0_off90 v3 k0_t3) a + S1x704x256.size a ≤ S2x704x2816.size a) ∧
  (∀ k0_t3 : Fin (k0_t3_loop v3).trips, ∀ a, (k0_off91 v3 k0_t3) a + S1x11x256.size a ≤ S2x11x2816.size a) ∧
  (∀ k0_t3 : Fin (k0_t3_loop v3).trips, ∀ a, (k0_off92 v3 k0_t3) a + S1x704x256.size a ≤ S2x704x2816.size a) ∧
  (∀ k0_t3 : Fin (k0_t3_loop v3).trips, ∀ a, (k0_off93 v3 k0_t3) a + S1x11x256.size a ≤ S2x11x2816.size a) ∧
  (∀ k0_t3 : Fin (k0_t3_loop v3).trips, ∀ a, (k0_off94 v3 k0_t3) a + S1x704x256.size a ≤ S2x704x2816.size a) ∧
  (∀ k0_t3 : Fin (k0_t3_loop v3).trips, ∀ a, (k0_off95 v3 k0_t3) a + S1x11x256.size a ≤ S2x11x2816.size a) ∧
  (∀ k0_t3 : Fin (k0_t3_loop v3).trips, ∀ a, (k0_off96 v3 k0_t3) a + S1x704x256.size a ≤ S2x704x2816.size a) ∧
  (∀ k0_t3 : Fin (k0_t3_loop v3).trips, ∀ a, (k0_off97 v3 k0_t3) a + S1x11x256.size a ≤ S2x11x2816.size a) ∧
  (∀ k0_t3 : Fin (k0_t3_loop v3).trips, ∀ a, (k0_off98 v3 k0_t3) a + S1x704x256.size a ≤ S2x704x2816.size a) ∧
  (∀ k0_t3 : Fin (k0_t3_loop v3).trips, ∀ a, (k0_off99 v3 k0_t3) a + S1x11x256.size a ≤ S2x11x2816.size a) ∧
  ((k0_t4_loop v3).OK) ∧
  (∀ k0_t4 : Fin (k0_t4_loop v3).trips, ∀ (k0_h2 : k0_cond2 v3 k0_t4 = 1#1), ∀ a, (k0_off100 v3 k0_t4) a + S1.size a ≤ S33.size a)
def k0_chk3_3 (v3 : BitVec 32) : Prop :=
  (∀ k0_t4 : Fin (k0_t4_loop v3).trips, ∀ (k0_h2 : k0_cond2 v3 k0_t4 = 1#1), ∀ a, (k0_off101 v3 k0_t4) a + S1x1.size a ≤ S2x4.size a) ∧
  (∀ k0_t4 : Fin (k0_t4_loop v3).trips, ∀ (k0_h2 : k0_cond2 v3 k0_t4 = 1#1), ∀ a, (k0_off102 v3 k0_t4) a + S1x1408x2816.size a ≤ S2x1408x2816.size a) ∧
  (∀ k0_t4 : Fin (k0_t4_loop v3).trips, ∀ (k0_h2 : k0_cond2 v3 k0_t4 = 1#1), ∀ (hinb : ∀ a, (k0_off102 v3 k0_t4) a + S1x1408x2816.size a ≤ S2x1408x2816.size a), (Rect.unit (s := S2x1408x2816) (k0_off102 v3 k0_t4) S1x1408x2816.size hinb).WholeWords (EltTy.packing .i8)) ∧
  (∀ k0_t4 : Fin (k0_t4_loop v3).trips, ∀ (k0_h2 : k0_cond2 v3 k0_t4 = 1#1), ∀ a, (k0_off104 v3 k0_t4) a + S1x1.size a ≤ S2x4.size a) ∧
  (∀ k0_t4 : Fin (k0_t4_loop v3).trips, ∀ (k0_h2 : k0_cond2 v3 k0_t4 = 1#1), ∀ a, (k0_off105 v3 k0_t4) a + S1x22x2816.size a ≤ S2x22x2816.size a) ∧
  (∀ k0_t4 : Fin (k0_t4_loop v3).trips, ∀ (k0_h2 : k0_cond2 v3 k0_t4 = 1#1), ∀ (hinb : ∀ a, (k0_off105 v3 k0_t4) a + S1x22x2816.size a ≤ S2x22x2816.size a), (Rect.unit (s := S2x22x2816) (k0_off105 v3 k0_t4) S1x22x2816.size hinb).WholeWords (EltTy.packing .bf16)) ∧
  (∀ k0_t4 : Fin (k0_t4_loop v3).trips, ∀ (k0_h2 : k0_cond2 v3 k0_t4 = 1#1), ∀ a, (k0_off107 v3 k0_t4) a + S1x1.size a ≤ S2x4.size a) ∧
  (∀ k0_t4 : Fin (k0_t4_loop v3).trips, ∀ (k0_h2 : k0_cond2 v3 k0_t4 = 1#1), ∀ a, (k0_off108 v3 k0_t4) a + S1x704x2816.size a ≤ S2x704x2816.size a) ∧
  (∀ k0_t4 : Fin (k0_t4_loop v3).trips, ∀ (k0_h2 : k0_cond2 v3 k0_t4 = 1#1), ∀ (hinb : ∀ a, (k0_off108 v3 k0_t4) a + S1x704x2816.size a ≤ S2x704x2816.size a), (Rect.unit (s := S2x704x2816) (k0_off108 v3 k0_t4) S1x704x2816.size hinb).WholeWords (EltTy.packing .i8)) ∧
  (∀ k0_t4 : Fin (k0_t4_loop v3).trips, ∀ (k0_h2 : k0_cond2 v3 k0_t4 = 1#1), ∀ a, (k0_off110 v3 k0_t4) a + S1x1.size a ≤ S2x4.size a) ∧
  (∀ k0_t4 : Fin (k0_t4_loop v3).trips, ∀ (k0_h2 : k0_cond2 v3 k0_t4 = 1#1), ∀ a, (k0_off111 v3 k0_t4) a + S1x11x2816.size a ≤ S2x11x2816.size a) ∧
  (∀ k0_t4 : Fin (k0_t4_loop v3).trips, ∀ (k0_h2 : k0_cond2 v3 k0_t4 = 1#1), ∀ (hinb : ∀ a, (k0_off111 v3 k0_t4) a + S1x11x2816.size a ≤ S2x11x2816.size a), (Rect.unit (s := S2x11x2816) (k0_off111 v3 k0_t4) S1x11x2816.size hinb).WholeWords (EltTy.packing .bf16)) ∧
  (∀ k0_t4 : Fin (k0_t4_loop v3).trips, ∀ a, (k0_off113 v3 k0_t4) a + S1.size a ≤ S33.size a) ∧
  (∀ k0_t4 : Fin (k0_t4_loop v3).trips, ∀ a, (k0_off114 v3 k0_t4) a + S1x1.size a ≤ S2x4.size a) ∧
  (∀ k0_t4 : Fin (k0_t4_loop v3).trips, ∀ a, (k0_off115 v3 k0_t4) a + S1x1408x2816.size a ≤ S2x1408x2816.size a) ∧
  (∀ k0_t4 : Fin (k0_t4_loop v3).trips, ∀ (hinb : ∀ a, (k0_off115 v3 k0_t4) a + S1x1408x2816.size a ≤ S2x1408x2816.size a), (Rect.unit (s := S2x1408x2816) (k0_off115 v3 k0_t4) S1x1408x2816.size hinb).WholeWords (EltTy.packing .i8)) ∧
  (∀ k0_t4 : Fin (k0_t4_loop v3).trips, ∀ a, (k0_off117 v3 k0_t4) a + S1x1.size a ≤ S2x4.size a) ∧
  (∀ k0_t4 : Fin (k0_t4_loop v3).trips, ∀ a, (k0_off118 v3 k0_t4) a + S1x22x2816.size a ≤ S2x22x2816.size a) ∧
  (∀ k0_t4 : Fin (k0_t4_loop v3).trips, ∀ (hinb : ∀ a, (k0_off118 v3 k0_t4) a + S1x22x2816.size a ≤ S2x22x2816.size a), (Rect.unit (s := S2x22x2816) (k0_off118 v3 k0_t4) S1x22x2816.size hinb).WholeWords (EltTy.packing .bf16)) ∧
  (∀ k0_t4 : Fin (k0_t4_loop v3).trips, ∀ a, (k0_off120 v3 k0_t4) a + S1x1.size a ≤ S2x4.size a) ∧
  (∀ k0_t4 : Fin (k0_t4_loop v3).trips, ∀ a, (k0_off121 v3 k0_t4) a + S1x704x2816.size a ≤ S2x704x2816.size a) ∧
  (∀ k0_t4 : Fin (k0_t4_loop v3).trips, ∀ (hinb : ∀ a, (k0_off121 v3 k0_t4) a + S1x704x2816.size a ≤ S2x704x2816.size a), (Rect.unit (s := S2x704x2816) (k0_off121 v3 k0_t4) S1x704x2816.size hinb).WholeWords (EltTy.packing .i8)) ∧
  (∀ k0_t4 : Fin (k0_t4_loop v3).trips, ∀ a, (k0_off123 v3 k0_t4) a + S1x1.size a ≤ S2x4.size a) ∧
  (∀ k0_t4 : Fin (k0_t4_loop v3).trips, ∀ a, (k0_off124 v3 k0_t4) a + S1x11x2816.size a ≤ S2x11x2816.size a) ∧
  (∀ k0_t4 : Fin (k0_t4_loop v3).trips, ∀ (hinb : ∀ a, (k0_off124 v3 k0_t4) a + S1x11x2816.size a ≤ S2x11x2816.size a), (Rect.unit (s := S2x11x2816) (k0_off124 v3 k0_t4) S1x11x2816.size hinb).WholeWords (EltTy.packing .bf16)) ∧
  (∀ k0_t4 : Fin (k0_t4_loop v3).trips, ∀ a, (k0_off126 v3 k0_t4) a + S1.size a ≤ S33.size a) ∧
  (∀ k0_t4 : Fin (k0_t4_loop v3).trips, ∀ a, (k0_off127 v3 k0_t4) a + S1x1408x128.size a ≤ S2x1408x2816.size a) ∧
  (∀ k0_t4 : Fin (k0_t4_loop v3).trips, ∀ a, (k0_off128 v3 k0_t4) a + S1x22x128.size a ≤ S2x22x2816.size a) ∧
  (∀ k0_t4 : Fin (k0_t4_loop v3).trips, ∀ a, (k0_off129 v3 k0_t4) a + S1x1408x128.size a ≤ S2x1408x2816.size a) ∧
  (∀ k0_t4 : Fin (k0_t4_loop v3).trips, ∀ a, (k0_off130 v3 k0_t4) a + S1x22x128.size a ≤ S2x22x2816.size a) ∧
  (∀ k0_t4 : Fin (k0_t4_loop v3).trips, ∀ a, (k0_off131 v3 k0_t4) a + S1x1408x128.size a ≤ S2x1408x2816.size a) ∧
  (∀ k0_t4 : Fin (k0_t4_loop v3).trips, ∀ a, (k0_off132 v3 k0_t4) a + S1x22x128.size a ≤ S2x22x2816.size a)
def k0_chk3_4 (v3 : BitVec 32) : Prop :=
  (∀ k0_t4 : Fin (k0_t4_loop v3).trips, ∀ a, (k0_off133 v3 k0_t4) a + S1x1408x128.size a ≤ S2x1408x2816.size a) ∧
  (∀ k0_t4 : Fin (k0_t4_loop v3).trips, ∀ a, (k0_off134 v3 k0_t4) a + S1x22x128.size a ≤ S2x22x2816.size a) ∧
  (∀ k0_t4 : Fin (k0_t4_loop v3).trips, ∀ a, (k0_off135 v3 k0_t4) a + S1x1408x128.size a ≤ S2x1408x2816.size a) ∧
  (∀ k0_t4 : Fin (k0_t4_loop v3).trips, ∀ a, (k0_off136 v3 k0_t4) a + S1x22x128.size a ≤ S2x22x2816.size a) ∧
  (∀ k0_t4 : Fin (k0_t4_loop v3).trips, ∀ a, (k0_off137 v3 k0_t4) a + S1x1408x128.size a ≤ S2x1408x2816.size a) ∧
  (∀ k0_t4 : Fin (k0_t4_loop v3).trips, ∀ a, (k0_off138 v3 k0_t4) a + S1x22x128.size a ≤ S2x22x2816.size a) ∧
  (∀ k0_t4 : Fin (k0_t4_loop v3).trips, ∀ a, (k0_off139 v3 k0_t4) a + S1x1408x128.size a ≤ S2x1408x2816.size a) ∧
  (∀ k0_t4 : Fin (k0_t4_loop v3).trips, ∀ a, (k0_off140 v3 k0_t4) a + S1x22x128.size a ≤ S2x22x2816.size a) ∧
  (∀ k0_t4 : Fin (k0_t4_loop v3).trips, ∀ a, (k0_off141 v3 k0_t4) a + S1x1408x128.size a ≤ S2x1408x2816.size a) ∧
  (∀ k0_t4 : Fin (k0_t4_loop v3).trips, ∀ a, (k0_off142 v3 k0_t4) a + S1x22x128.size a ≤ S2x22x2816.size a) ∧
  (∀ k0_t4 : Fin (k0_t4_loop v3).trips, ∀ a, (k0_off143 v3 k0_t4) a + S1x1408x128.size a ≤ S2x1408x2816.size a) ∧
  (∀ k0_t4 : Fin (k0_t4_loop v3).trips, ∀ a, (k0_off144 v3 k0_t4) a + S1x22x128.size a ≤ S2x22x2816.size a) ∧
  (∀ k0_t4 : Fin (k0_t4_loop v3).trips, ∀ a, (k0_off145 v3 k0_t4) a + S1x1408x128.size a ≤ S2x1408x2816.size a) ∧
  (∀ k0_t4 : Fin (k0_t4_loop v3).trips, ∀ a, (k0_off146 v3 k0_t4) a + S1x22x128.size a ≤ S2x22x2816.size a) ∧
  (∀ k0_t4 : Fin (k0_t4_loop v3).trips, ∀ a, (k0_off147 v3 k0_t4) a + S1x1408x128.size a ≤ S2x1408x2816.size a) ∧
  (∀ k0_t4 : Fin (k0_t4_loop v3).trips, ∀ a, (k0_off148 v3 k0_t4) a + S1x22x128.size a ≤ S2x22x2816.size a) ∧
  (∀ k0_t4 : Fin (k0_t4_loop v3).trips, ∀ a, (k0_off149 v3 k0_t4) a + S1x1408x128.size a ≤ S2x1408x2816.size a) ∧
  (∀ k0_t4 : Fin (k0_t4_loop v3).trips, ∀ a, (k0_off150 v3 k0_t4) a + S1x22x128.size a ≤ S2x22x2816.size a) ∧
  (∀ k0_t4 : Fin (k0_t4_loop v3).trips, ∀ a, (k0_off151 v3 k0_t4) a + S1x1408x128.size a ≤ S2x1408x2816.size a) ∧
  (∀ k0_t4 : Fin (k0_t4_loop v3).trips, ∀ a, (k0_off152 v3 k0_t4) a + S1x22x128.size a ≤ S2x22x2816.size a) ∧
  (∀ k0_t4 : Fin (k0_t4_loop v3).trips, ∀ a, (k0_off153 v3 k0_t4) a + S1x1408x128.size a ≤ S2x1408x2816.size a) ∧
  (∀ k0_t4 : Fin (k0_t4_loop v3).trips, ∀ a, (k0_off154 v3 k0_t4) a + S1x22x128.size a ≤ S2x22x2816.size a) ∧
  (∀ k0_t4 : Fin (k0_t4_loop v3).trips, ∀ a, (k0_off155 v3 k0_t4) a + S1x1408x128.size a ≤ S2x1408x2816.size a) ∧
  (∀ k0_t4 : Fin (k0_t4_loop v3).trips, ∀ a, (k0_off156 v3 k0_t4) a + S1x22x128.size a ≤ S2x22x2816.size a) ∧
  (∀ k0_t4 : Fin (k0_t4_loop v3).trips, ∀ a, (k0_off157 v3 k0_t4) a + S1x1408x128.size a ≤ S2x1408x2816.size a) ∧
  (∀ k0_t4 : Fin (k0_t4_loop v3).trips, ∀ a, (k0_off158 v3 k0_t4) a + S1x22x128.size a ≤ S2x22x2816.size a) ∧
  (∀ k0_t4 : Fin (k0_t4_loop v3).trips, ∀ a, (k0_off159 v3 k0_t4) a + S1x1408x128.size a ≤ S2x1408x2816.size a) ∧
  (∀ k0_t4 : Fin (k0_t4_loop v3).trips, ∀ a, (k0_off160 v3 k0_t4) a + S1x22x128.size a ≤ S2x22x2816.size a) ∧
  (∀ k0_t4 : Fin (k0_t4_loop v3).trips, ∀ a, (k0_off161 v3 k0_t4) a + S1x1408x128.size a ≤ S2x1408x2816.size a) ∧
  (∀ k0_t4 : Fin (k0_t4_loop v3).trips, ∀ a, (k0_off162 v3 k0_t4) a + S1x22x128.size a ≤ S2x22x2816.size a) ∧
  (∀ k0_t4 : Fin (k0_t4_loop v3).trips, ∀ a, (k0_off163 v3 k0_t4) a + S1x1408x128.size a ≤ S2x1408x2816.size a) ∧
  (∀ k0_t4 : Fin (k0_t4_loop v3).trips, ∀ a, (k0_off164 v3 k0_t4) a + S1x22x128.size a ≤ S2x22x2816.size a)
def k0_chk3_5 (v3 : BitVec 32) : Prop :=
  (∀ k0_t4 : Fin (k0_t4_loop v3).trips, ∀ a, (k0_off165 v3 k0_t4) a + S1x1408x128.size a ≤ S2x1408x2816.size a) ∧
  (∀ k0_t4 : Fin (k0_t4_loop v3).trips, ∀ a, (k0_off166 v3 k0_t4) a + S1x22x128.size a ≤ S2x22x2816.size a) ∧
  (∀ k0_t4 : Fin (k0_t4_loop v3).trips, ∀ a, (k0_off167 v3 k0_t4) a + S1x1408x128.size a ≤ S2x1408x2816.size a) ∧
  (∀ k0_t4 : Fin (k0_t4_loop v3).trips, ∀ a, (k0_off168 v3 k0_t4) a + S1x22x128.size a ≤ S2x22x2816.size a) ∧
  (∀ k0_t4 : Fin (k0_t4_loop v3).trips, ∀ a, (k0_off169 v3 k0_t4) a + S1x1408x128.size a ≤ S2x1408x2816.size a) ∧
  (∀ k0_t4 : Fin (k0_t4_loop v3).trips, ∀ a, (k0_off170 v3 k0_t4) a + S1x22x128.size a ≤ S2x22x2816.size a) ∧
  (∀ k0_t4 : Fin (k0_t4_loop v3).trips, ∀ a, (k0_off171 v3 k0_t4) a + S1x704x256.size a ≤ S2x704x2816.size a) ∧
  (∀ k0_t4 : Fin (k0_t4_loop v3).trips, ∀ a, (k0_off172 v3 k0_t4) a + S1x11x256.size a ≤ S2x11x2816.size a) ∧
  (∀ k0_t4 : Fin (k0_t4_loop v3).trips, ∀ a, (k0_off173 v3 k0_t4) a + S1x704x256.size a ≤ S2x704x2816.size a) ∧
  (∀ k0_t4 : Fin (k0_t4_loop v3).trips, ∀ a, (k0_off174 v3 k0_t4) a + S1x11x256.size a ≤ S2x11x2816.size a) ∧
  (∀ k0_t4 : Fin (k0_t4_loop v3).trips, ∀ a, (k0_off175 v3 k0_t4) a + S1x704x256.size a ≤ S2x704x2816.size a) ∧
  (∀ k0_t4 : Fin (k0_t4_loop v3).trips, ∀ a, (k0_off176 v3 k0_t4) a + S1x11x256.size a ≤ S2x11x2816.size a) ∧
  (∀ k0_t4 : Fin (k0_t4_loop v3).trips, ∀ a, (k0_off177 v3 k0_t4) a + S1x704x256.size a ≤ S2x704x2816.size a) ∧
  (∀ k0_t4 : Fin (k0_t4_loop v3).trips, ∀ a, (k0_off178 v3 k0_t4) a + S1x11x256.size a ≤ S2x11x2816.size a) ∧
  (∀ k0_t4 : Fin (k0_t4_loop v3).trips, ∀ a, (k0_off179 v3 k0_t4) a + S1x704x256.size a ≤ S2x704x2816.size a) ∧
  (∀ k0_t4 : Fin (k0_t4_loop v3).trips, ∀ a, (k0_off180 v3 k0_t4) a + S1x11x256.size a ≤ S2x11x2816.size a) ∧
  (∀ k0_t4 : Fin (k0_t4_loop v3).trips, ∀ a, (k0_off181 v3 k0_t4) a + S1x704x256.size a ≤ S2x704x2816.size a) ∧
  (∀ k0_t4 : Fin (k0_t4_loop v3).trips, ∀ a, (k0_off182 v3 k0_t4) a + S1x11x256.size a ≤ S2x11x2816.size a) ∧
  (∀ k0_t4 : Fin (k0_t4_loop v3).trips, ∀ a, (k0_off183 v3 k0_t4) a + S1x704x256.size a ≤ S2x704x2816.size a) ∧
  (∀ k0_t4 : Fin (k0_t4_loop v3).trips, ∀ a, (k0_off184 v3 k0_t4) a + S1x11x256.size a ≤ S2x11x2816.size a) ∧
  (∀ k0_t4 : Fin (k0_t4_loop v3).trips, ∀ a, (k0_off185 v3 k0_t4) a + S1x704x256.size a ≤ S2x704x2816.size a) ∧
  (∀ k0_t4 : Fin (k0_t4_loop v3).trips, ∀ a, (k0_off186 v3 k0_t4) a + S1x11x256.size a ≤ S2x11x2816.size a) ∧
  (∀ k0_t4 : Fin (k0_t4_loop v3).trips, ∀ a, (k0_off187 v3 k0_t4) a + S1x704x256.size a ≤ S2x704x2816.size a) ∧
  (∀ k0_t4 : Fin (k0_t4_loop v3).trips, ∀ a, (k0_off188 v3 k0_t4) a + S1x11x256.size a ≤ S2x11x2816.size a) ∧
  (∀ k0_t4 : Fin (k0_t4_loop v3).trips, ∀ a, (k0_off189 v3 k0_t4) a + S1x704x256.size a ≤ S2x704x2816.size a) ∧
  (∀ k0_t4 : Fin (k0_t4_loop v3).trips, ∀ a, (k0_off190 v3 k0_t4) a + S1x11x256.size a ≤ S2x11x2816.size a) ∧
  (∀ k0_t4 : Fin (k0_t4_loop v3).trips, ∀ a, (k0_off191 v3 k0_t4) a + S1x704x256.size a ≤ S2x704x2816.size a) ∧
  (∀ k0_t4 : Fin (k0_t4_loop v3).trips, ∀ a, (k0_off192 v3 k0_t4) a + S1x11x256.size a ≤ S2x11x2816.size a)
def k0_chk3 (v3 : BitVec 32) : Prop :=
  k0_chk3_0 v3 ∧
  k0_chk3_1 v3 ∧
  k0_chk3_2 v3 ∧
  k0_chk3_3 v3 ∧
  k0_chk3_4 v3 ∧
  k0_chk3_5 v3
theorem k0_t3_ok : ∀ (v3 : BitVec 32) (k0_hw3 : k0_chk3 v3), (k0_t3_loop v3).OK := fun v3 k0_hw3 => k0_hw3.1.1
theorem k0_off7_inb : ∀ (v3 : BitVec 32) (k0_hw3 : k0_chk3 v3) (k0_t3 : Fin (k0_t3_loop v3).trips), ∀ (k0_h1 : k0_cond1 v3 k0_t3 = 1#1), ∀ a, (k0_off7 v3 k0_t3) a + S1.size a ≤ S33.size a := fun v3 k0_hw3 k0_t3 k0_h1 => k0_hw3.1.2.1 k0_t3 k0_h1
theorem k0_off8_inb : ∀ (v3 : BitVec 32) (k0_hw3 : k0_chk3 v3) (k0_t3 : Fin (k0_t3_loop v3).trips), ∀ (k0_h1 : k0_cond1 v3 k0_t3 = 1#1), ∀ a, (k0_off8 v3 k0_t3) a + S1x1.size a ≤ S2x4.size a := fun v3 k0_hw3 k0_t3 k0_h1 => k0_hw3.1.2.2.1 k0_t3 k0_h1
theorem k0_off9_inb : ∀ (v3 : BitVec 32) (k0_hw3 : k0_chk3 v3) (k0_t3 : Fin (k0_t3_loop v3).trips), ∀ (k0_h1 : k0_cond1 v3 k0_t3 = 1#1), ∀ a, (k0_off9 v3 k0_t3) a + S1x1408x2816.size a ≤ S2x1408x2816.size a := fun v3 k0_hw3 k0_t3 k0_h1 => k0_hw3.1.2.2.2.1 k0_t3 k0_h1
theorem k0_off9_wordsi8 : ∀ (v3 : BitVec 32) (k0_hw3 : k0_chk3 v3) (k0_t3 : Fin (k0_t3_loop v3).trips), ∀ (k0_h1 : k0_cond1 v3 k0_t3 = 1#1), (Rect.unit (s := S2x1408x2816) (k0_off9 v3 k0_t3) S1x1408x2816.size (k0_off9_inb v3 k0_hw3 k0_t3 k0_h1)).WholeWords (EltTy.packing .i8) := fun v3 k0_hw3 k0_t3 k0_h1 => k0_hw3.1.2.2.2.2.1 k0_t3 k0_h1 (k0_off9_inb v3 k0_hw3 k0_t3 k0_h1)
theorem k0_off11_inb : ∀ (v3 : BitVec 32) (k0_hw3 : k0_chk3 v3) (k0_t3 : Fin (k0_t3_loop v3).trips), ∀ (k0_h1 : k0_cond1 v3 k0_t3 = 1#1), ∀ a, (k0_off11 v3 k0_t3) a + S1x1.size a ≤ S2x4.size a := fun v3 k0_hw3 k0_t3 k0_h1 => k0_hw3.1.2.2.2.2.2.1 k0_t3 k0_h1
theorem k0_off12_inb : ∀ (v3 : BitVec 32) (k0_hw3 : k0_chk3 v3) (k0_t3 : Fin (k0_t3_loop v3).trips), ∀ (k0_h1 : k0_cond1 v3 k0_t3 = 1#1), ∀ a, (k0_off12 v3 k0_t3) a + S1x22x2816.size a ≤ S2x22x2816.size a := fun v3 k0_hw3 k0_t3 k0_h1 => k0_hw3.1.2.2.2.2.2.2.1 k0_t3 k0_h1
theorem k0_off12_wordsbf16 : ∀ (v3 : BitVec 32) (k0_hw3 : k0_chk3 v3) (k0_t3 : Fin (k0_t3_loop v3).trips), ∀ (k0_h1 : k0_cond1 v3 k0_t3 = 1#1), (Rect.unit (s := S2x22x2816) (k0_off12 v3 k0_t3) S1x22x2816.size (k0_off12_inb v3 k0_hw3 k0_t3 k0_h1)).WholeWords (EltTy.packing .bf16) := fun v3 k0_hw3 k0_t3 k0_h1 => k0_hw3.1.2.2.2.2.2.2.2.1 k0_t3 k0_h1 (k0_off12_inb v3 k0_hw3 k0_t3 k0_h1)
theorem k0_off14_inb : ∀ (v3 : BitVec 32) (k0_hw3 : k0_chk3 v3) (k0_t3 : Fin (k0_t3_loop v3).trips), ∀ (k0_h1 : k0_cond1 v3 k0_t3 = 1#1), ∀ a, (k0_off14 v3 k0_t3) a + S1x1.size a ≤ S2x4.size a := fun v3 k0_hw3 k0_t3 k0_h1 => k0_hw3.1.2.2.2.2.2.2.2.2.1 k0_t3 k0_h1
theorem k0_off15_inb : ∀ (v3 : BitVec 32) (k0_hw3 : k0_chk3 v3) (k0_t3 : Fin (k0_t3_loop v3).trips), ∀ (k0_h1 : k0_cond1 v3 k0_t3 = 1#1), ∀ a, (k0_off15 v3 k0_t3) a + S1x704x2816.size a ≤ S2x704x2816.size a := fun v3 k0_hw3 k0_t3 k0_h1 => k0_hw3.1.2.2.2.2.2.2.2.2.2.1 k0_t3 k0_h1
theorem k0_off15_wordsi8 : ∀ (v3 : BitVec 32) (k0_hw3 : k0_chk3 v3) (k0_t3 : Fin (k0_t3_loop v3).trips), ∀ (k0_h1 : k0_cond1 v3 k0_t3 = 1#1), (Rect.unit (s := S2x704x2816) (k0_off15 v3 k0_t3) S1x704x2816.size (k0_off15_inb v3 k0_hw3 k0_t3 k0_h1)).WholeWords (EltTy.packing .i8) := fun v3 k0_hw3 k0_t3 k0_h1 => k0_hw3.1.2.2.2.2.2.2.2.2.2.2.1 k0_t3 k0_h1 (k0_off15_inb v3 k0_hw3 k0_t3 k0_h1)
theorem k0_off17_inb : ∀ (v3 : BitVec 32) (k0_hw3 : k0_chk3 v3) (k0_t3 : Fin (k0_t3_loop v3).trips), ∀ (k0_h1 : k0_cond1 v3 k0_t3 = 1#1), ∀ a, (k0_off17 v3 k0_t3) a + S1x1.size a ≤ S2x4.size a := fun v3 k0_hw3 k0_t3 k0_h1 => k0_hw3.1.2.2.2.2.2.2.2.2.2.2.2.1 k0_t3 k0_h1
theorem k0_off18_inb : ∀ (v3 : BitVec 32) (k0_hw3 : k0_chk3 v3) (k0_t3 : Fin (k0_t3_loop v3).trips), ∀ (k0_h1 : k0_cond1 v3 k0_t3 = 1#1), ∀ a, (k0_off18 v3 k0_t3) a + S1x11x2816.size a ≤ S2x11x2816.size a := fun v3 k0_hw3 k0_t3 k0_h1 => k0_hw3.1.2.2.2.2.2.2.2.2.2.2.2.2.1 k0_t3 k0_h1
theorem k0_off18_wordsbf16 : ∀ (v3 : BitVec 32) (k0_hw3 : k0_chk3 v3) (k0_t3 : Fin (k0_t3_loop v3).trips), ∀ (k0_h1 : k0_cond1 v3 k0_t3 = 1#1), (Rect.unit (s := S2x11x2816) (k0_off18 v3 k0_t3) S1x11x2816.size (k0_off18_inb v3 k0_hw3 k0_t3 k0_h1)).WholeWords (EltTy.packing .bf16) := fun v3 k0_hw3 k0_t3 k0_h1 => k0_hw3.1.2.2.2.2.2.2.2.2.2.2.2.2.2.1 k0_t3 k0_h1 (k0_off18_inb v3 k0_hw3 k0_t3 k0_h1)
theorem k0_off20_inb : ∀ (v3 : BitVec 32) (k0_hw3 : k0_chk3 v3) (k0_t3 : Fin (k0_t3_loop v3).trips), ∀ a, (k0_off20 v3 k0_t3) a + S1.size a ≤ S33.size a := fun v3 k0_hw3 k0_t3 => k0_hw3.1.2.2.2.2.2.2.2.2.2.2.2.2.2.2.1 k0_t3
theorem k0_off21_inb : ∀ (v3 : BitVec 32) (k0_hw3 : k0_chk3 v3) (k0_t3 : Fin (k0_t3_loop v3).trips), ∀ a, (k0_off21 v3 k0_t3) a + S1x1.size a ≤ S2x4.size a := fun v3 k0_hw3 k0_t3 => k0_hw3.1.2.2.2.2.2.2.2.2.2.2.2.2.2.2.2.1 k0_t3
theorem k0_off22_inb : ∀ (v3 : BitVec 32) (k0_hw3 : k0_chk3 v3) (k0_t3 : Fin (k0_t3_loop v3).trips), ∀ a, (k0_off22 v3 k0_t3) a + S1x1408x2816.size a ≤ S2x1408x2816.size a := fun v3 k0_hw3 k0_t3 => k0_hw3.1.2.2.2.2.2.2.2.2.2.2.2.2.2.2.2.2.1 k0_t3
theorem k0_off22_wordsi8 : ∀ (v3 : BitVec 32) (k0_hw3 : k0_chk3 v3) (k0_t3 : Fin (k0_t3_loop v3).trips), (Rect.unit (s := S2x1408x2816) (k0_off22 v3 k0_t3) S1x1408x2816.size (k0_off22_inb v3 k0_hw3 k0_t3)).WholeWords (EltTy.packing .i8) := fun v3 k0_hw3 k0_t3 => k0_hw3.1.2.2.2.2.2.2.2.2.2.2.2.2.2.2.2.2.2.1 k0_t3 (k0_off22_inb v3 k0_hw3 k0_t3)
theorem k0_off24_inb : ∀ (v3 : BitVec 32) (k0_hw3 : k0_chk3 v3) (k0_t3 : Fin (k0_t3_loop v3).trips), ∀ a, (k0_off24 v3 k0_t3) a + S1x1.size a ≤ S2x4.size a := fun v3 k0_hw3 k0_t3 => k0_hw3.1.2.2.2.2.2.2.2.2.2.2.2.2.2.2.2.2.2.2.1 k0_t3
theorem k0_off25_inb : ∀ (v3 : BitVec 32) (k0_hw3 : k0_chk3 v3) (k0_t3 : Fin (k0_t3_loop v3).trips), ∀ a, (k0_off25 v3 k0_t3) a + S1x22x2816.size a ≤ S2x22x2816.size a := fun v3 k0_hw3 k0_t3 => k0_hw3.1.2.2.2.2.2.2.2.2.2.2.2.2.2.2.2.2.2.2.2.1 k0_t3
theorem k0_off25_wordsbf16 : ∀ (v3 : BitVec 32) (k0_hw3 : k0_chk3 v3) (k0_t3 : Fin (k0_t3_loop v3).trips), (Rect.unit (s := S2x22x2816) (k0_off25 v3 k0_t3) S1x22x2816.size (k0_off25_inb v3 k0_hw3 k0_t3)).WholeWords (EltTy.packing .bf16) := fun v3 k0_hw3 k0_t3 => k0_hw3.1.2.2.2.2.2.2.2.2.2.2.2.2.2.2.2.2.2.2.2.2.1 k0_t3 (k0_off25_inb v3 k0_hw3 k0_t3)
theorem k0_off27_inb : ∀ (v3 : BitVec 32) (k0_hw3 : k0_chk3 v3) (k0_t3 : Fin (k0_t3_loop v3).trips), ∀ a, (k0_off27 v3 k0_t3) a + S1x1.size a ≤ S2x4.size a := fun v3 k0_hw3 k0_t3 => k0_hw3.1.2.2.2.2.2.2.2.2.2.2.2.2.2.2.2.2.2.2.2.2.2.1 k0_t3
theorem k0_off28_inb : ∀ (v3 : BitVec 32) (k0_hw3 : k0_chk3 v3) (k0_t3 : Fin (k0_t3_loop v3).trips), ∀ a, (k0_off28 v3 k0_t3) a + S1x704x2816.size a ≤ S2x704x2816.size a := fun v3 k0_hw3 k0_t3 => k0_hw3.1.2.2.2.2.2.2.2.2.2.2.2.2.2.2.2.2.2.2.2.2.2.2.1 k0_t3
theorem k0_off28_wordsi8 : ∀ (v3 : BitVec 32) (k0_hw3 : k0_chk3 v3) (k0_t3 : Fin (k0_t3_loop v3).trips), (Rect.unit (s := S2x704x2816) (k0_off28 v3 k0_t3) S1x704x2816.size (k0_off28_inb v3 k0_hw3 k0_t3)).WholeWords (EltTy.packing .i8) := fun v3 k0_hw3 k0_t3 => k0_hw3.1.2.2.2.2.2.2.2.2.2.2.2.2.2.2.2.2.2.2.2.2.2.2.2.1 k0_t3 (k0_off28_inb v3 k0_hw3 k0_t3)
theorem k0_off30_inb : ∀ (v3 : BitVec 32) (k0_hw3 : k0_chk3 v3) (k0_t3 : Fin (k0_t3_loop v3).trips), ∀ a, (k0_off30 v3 k0_t3) a + S1x1.size a ≤ S2x4.size a := fun v3 k0_hw3 k0_t3 => k0_hw3.1.2.2.2.2.2.2.2.2.2.2.2.2.2.2.2.2.2.2.2.2.2.2.2.2.1 k0_t3
theorem k0_off31_inb : ∀ (v3 : BitVec 32) (k0_hw3 : k0_chk3 v3) (k0_t3 : Fin (k0_t3_loop v3).trips), ∀ a, (k0_off31 v3 k0_t3) a + S1x11x2816.size a ≤ S2x11x2816.size a := fun v3 k0_hw3 k0_t3 => k0_hw3.1.2.2.2.2.2.2.2.2.2.2.2.2.2.2.2.2.2.2.2.2.2.2.2.2.2.1 k0_t3
theorem k0_off31_wordsbf16 : ∀ (v3 : BitVec 32) (k0_hw3 : k0_chk3 v3) (k0_t3 : Fin (k0_t3_loop v3).trips), (Rect.unit (s := S2x11x2816) (k0_off31 v3 k0_t3) S1x11x2816.size (k0_off31_inb v3 k0_hw3 k0_t3)).WholeWords (EltTy.packing .bf16) := fun v3 k0_hw3 k0_t3 => k0_hw3.1.2.2.2.2.2.2.2.2.2.2.2.2.2.2.2.2.2.2.2.2.2.2.2.2.2.2.1 k0_t3 (k0_off31_inb v3 k0_hw3 k0_t3)
theorem k0_off33_inb : ∀ (v3 : BitVec 32) (k0_hw3 : k0_chk3 v3) (k0_t3 : Fin (k0_t3_loop v3).trips), ∀ a, (k0_off33 v3 k0_t3) a + S1.size a ≤ S33.size a := fun v3 k0_hw3 k0_t3 => k0_hw3.1.2.2.2.2.2.2.2.2.2.2.2.2.2.2.2.2.2.2.2.2.2.2.2.2.2.2.2.1 k0_t3
theorem k0_off34_inb : ∀ (v3 : BitVec 32) (k0_hw3 : k0_chk3 v3) (k0_t3 : Fin (k0_t3_loop v3).trips), ∀ a, (k0_off34 v3 k0_t3) a + S1x1408x128.size a ≤ S2x1408x2816.size a := fun v3 k0_hw3 k0_t3 => k0_hw3.1.2.2.2.2.2.2.2.2.2.2.2.2.2.2.2.2.2.2.2.2.2.2.2.2.2.2.2.2.1 k0_t3
theorem k0_off35_inb : ∀ (v3 : BitVec 32) (k0_hw3 : k0_chk3 v3) (k0_t3 : Fin (k0_t3_loop v3).trips), ∀ a, (k0_off35 v3 k0_t3) a + S1x22x128.size a ≤ S2x22x2816.size a := fun v3 k0_hw3 k0_t3 => k0_hw3.1.2.2.2.2.2.2.2.2.2.2.2.2.2.2.2.2.2.2.2.2.2.2.2.2.2.2.2.2.2.1 k0_t3
theorem k0_off36_inb : ∀ (v3 : BitVec 32) (k0_hw3 : k0_chk3 v3) (k0_t3 : Fin (k0_t3_loop v3).trips), ∀ a, (k0_off36 v3 k0_t3) a + S1x1408x128.size a ≤ S2x1408x2816.size a := fun v3 k0_hw3 k0_t3 => k0_hw3.1.2.2.2.2.2.2.2.2.2.2.2.2.2.2.2.2.2.2.2.2.2.2.2.2.2.2.2.2.2.2.1 k0_t3
theorem k0_off37_inb : ∀ (v3 : BitVec 32) (k0_hw3 : k0_chk3 v3) (k0_t3 : Fin (k0_t3_loop v3).trips), ∀ a, (k0_off37 v3 k0_t3) a + S1x22x128.size a ≤ S2x22x2816.size a := fun v3 k0_hw3 k0_t3 => k0_hw3.1.2.2.2.2.2.2.2.2.2.2.2.2.2.2.2.2.2.2.2.2.2.2.2.2.2.2.2.2.2.2.2 k0_t3
theorem k0_off38_inb : ∀ (v3 : BitVec 32) (k0_hw3 : k0_chk3 v3) (k0_t3 : Fin (k0_t3_loop v3).trips), ∀ a, (k0_off38 v3 k0_t3) a + S1x1408x128.size a ≤ S2x1408x2816.size a := fun v3 k0_hw3 k0_t3 => k0_hw3.2.1.1 k0_t3
theorem k0_off39_inb : ∀ (v3 : BitVec 32) (k0_hw3 : k0_chk3 v3) (k0_t3 : Fin (k0_t3_loop v3).trips), ∀ a, (k0_off39 v3 k0_t3) a + S1x22x128.size a ≤ S2x22x2816.size a := fun v3 k0_hw3 k0_t3 => k0_hw3.2.1.2.1 k0_t3
theorem k0_off40_inb : ∀ (v3 : BitVec 32) (k0_hw3 : k0_chk3 v3) (k0_t3 : Fin (k0_t3_loop v3).trips), ∀ a, (k0_off40 v3 k0_t3) a + S1x1408x128.size a ≤ S2x1408x2816.size a := fun v3 k0_hw3 k0_t3 => k0_hw3.2.1.2.2.1 k0_t3
theorem k0_off41_inb : ∀ (v3 : BitVec 32) (k0_hw3 : k0_chk3 v3) (k0_t3 : Fin (k0_t3_loop v3).trips), ∀ a, (k0_off41 v3 k0_t3) a + S1x22x128.size a ≤ S2x22x2816.size a := fun v3 k0_hw3 k0_t3 => k0_hw3.2.1.2.2.2.1 k0_t3
theorem k0_off42_inb : ∀ (v3 : BitVec 32) (k0_hw3 : k0_chk3 v3) (k0_t3 : Fin (k0_t3_loop v3).trips), ∀ a, (k0_off42 v3 k0_t3) a + S1x1408x128.size a ≤ S2x1408x2816.size a := fun v3 k0_hw3 k0_t3 => k0_hw3.2.1.2.2.2.2.1 k0_t3
theorem k0_off43_inb : ∀ (v3 : BitVec 32) (k0_hw3 : k0_chk3 v3) (k0_t3 : Fin (k0_t3_loop v3).trips), ∀ a, (k0_off43 v3 k0_t3) a + S1x22x128.size a ≤ S2x22x2816.size a := fun v3 k0_hw3 k0_t3 => k0_hw3.2.1.2.2.2.2.2.1 k0_t3
theorem k0_off44_inb : ∀ (v3 : BitVec 32) (k0_hw3 : k0_chk3 v3) (k0_t3 : Fin (k0_t3_loop v3).trips), ∀ a, (k0_off44 v3 k0_t3) a + S1x1408x128.size a ≤ S2x1408x2816.size a := fun v3 k0_hw3 k0_t3 => k0_hw3.2.1.2.2.2.2.2.2.1 k0_t3
theorem k0_off45_inb : ∀ (v3 : BitVec 32) (k0_hw3 : k0_chk3 v3) (k0_t3 : Fin (k0_t3_loop v3).trips), ∀ a, (k0_off45 v3 k0_t3) a + S1x22x128.size a ≤ S2x22x2816.size a := fun v3 k0_hw3 k0_t3 => k0_hw3.2.1.2.2.2.2.2.2.2.1 k0_t3
theorem k0_off46_inb : ∀ (v3 : BitVec 32) (k0_hw3 : k0_chk3 v3) (k0_t3 : Fin (k0_t3_loop v3).trips), ∀ a, (k0_off46 v3 k0_t3) a + S1x1408x128.size a ≤ S2x1408x2816.size a := fun v3 k0_hw3 k0_t3 => k0_hw3.2.1.2.2.2.2.2.2.2.2.1 k0_t3
theorem k0_off47_inb : ∀ (v3 : BitVec 32) (k0_hw3 : k0_chk3 v3) (k0_t3 : Fin (k0_t3_loop v3).trips), ∀ a, (k0_off47 v3 k0_t3) a + S1x22x128.size a ≤ S2x22x2816.size a := fun v3 k0_hw3 k0_t3 => k0_hw3.2.1.2.2.2.2.2.2.2.2.2.1 k0_t3
theorem k0_off48_inb : ∀ (v3 : BitVec 32) (k0_hw3 : k0_chk3 v3) (k0_t3 : Fin (k0_t3_loop v3).trips), ∀ a, (k0_off48 v3 k0_t3) a + S1x1408x128.size a ≤ S2x1408x2816.size a := fun v3 k0_hw3 k0_t3 => k0_hw3.2.1.2.2.2.2.2.2.2.2.2.2.1 k0_t3
theorem k0_off49_inb : ∀ (v3 : BitVec 32) (k0_hw3 : k0_chk3 v3) (k0_t3 : Fin (k0_t3_loop v3).trips), ∀ a, (k0_off49 v3 k0_t3) a + S1x22x128.size a ≤ S2x22x2816.size a := fun v3 k0_hw3 k0_t3 => k0_hw3.2.1.2.2.2.2.2.2.2.2.2.2.2.1 k0_t3
theorem k0_off50_inb : ∀ (v3 : BitVec 32) (k0_hw3 : k0_chk3 v3) (k0_t3 : Fin (k0_t3_loop v3).trips), ∀ a, (k0_off50 v3 k0_t3) a + S1x1408x128.size a ≤ S2x1408x2816.size a := fun v3 k0_hw3 k0_t3 => k0_hw3.2.1.2.2.2.2.2.2.2.2.2.2.2.2.1 k0_t3
theorem k0_off51_inb : ∀ (v3 : BitVec 32) (k0_hw3 : k0_chk3 v3) (k0_t3 : Fin (k0_t3_loop v3).trips), ∀ a, (k0_off51 v3 k0_t3) a + S1x22x128.size a ≤ S2x22x2816.size a := fun v3 k0_hw3 k0_t3 => k0_hw3.2.1.2.2.2.2.2.2.2.2.2.2.2.2.2.1 k0_t3
theorem k0_off52_inb : ∀ (v3 : BitVec 32) (k0_hw3 : k0_chk3 v3) (k0_t3 : Fin (k0_t3_loop v3).trips), ∀ a, (k0_off52 v3 k0_t3) a + S1x1408x128.size a ≤ S2x1408x2816.size a := fun v3 k0_hw3 k0_t3 => k0_hw3.2.1.2.2.2.2.2.2.2.2.2.2.2.2.2.2.1 k0_t3
theorem k0_off53_inb : ∀ (v3 : BitVec 32) (k0_hw3 : k0_chk3 v3) (k0_t3 : Fin (k0_t3_loop v3).trips), ∀ a, (k0_off53 v3 k0_t3) a + S1x22x128.size a ≤ S2x22x2816.size a := fun v3 k0_hw3 k0_t3 => k0_hw3.2.1.2.2.2.2.2.2.2.2.2.2.2.2.2.2.2.1 k0_t3
theorem k0_off54_inb : ∀ (v3 : BitVec 32) (k0_hw3 : k0_chk3 v3) (k0_t3 : Fin (k0_t3_loop v3).trips), ∀ a, (k0_off54 v3 k0_t3) a + S1x1408x128.size a ≤ S2x1408x2816.size a := fun v3 k0_hw3 k0_t3 => k0_hw3.2.1.2.2.2.2.2.2.2.2.2.2.2.2.2.2.2.2.1 k0_t3
theorem k0_off55_inb : ∀ (v3 : BitVec 32) (k0_hw3 : k0_chk3 v3) (k0_t3 : Fin (k0_t3_loop v3).trips), ∀ a, (k0_off55 v3 k0_t3) a + S1x22x128.size a ≤ S2x22x2816.size a := fun v3 k0_hw3 k0_t3 => k0_hw3.2.1.2.2.2.2.2.2.2.2.2.2.2.2.2.2.2.2.2.1 k0_t3
theorem k0_off56_inb : ∀ (v3 : BitVec 32) (k0_hw3 : k0_chk3 v3) (k0_t3 : Fin (k0_t3_loop v3).trips), ∀ a, (k0_off56 v3 k0_t3) a + S1x1408x128.size a ≤ S2x1408x2816.size a := fun v3 k0_hw3 k0_t3 => k0_hw3.2.1.2.2.2.2.2.2.2.2.2.2.2.2.2.2.2.2.2.2.1 k0_t3
theorem k0_off57_inb : ∀ (v3 : BitVec 32) (k0_hw3 : k0_chk3 v3) (k0_t3 : Fin (k0_t3_loop v3).trips), ∀ a, (k0_off57 v3 k0_t3) a + S1x22x128.size a ≤ S2x22x2816.size a := fun v3 k0_hw3 k0_t3 => k0_hw3.2.1.2.2.2.2.2.2.2.2.2.2.2.2.2.2.2.2.2.2.2.1 k0_t3
theorem k0_off58_inb : ∀ (v3 : BitVec 32) (k0_hw3 : k0_chk3 v3) (k0_t3 : Fin (k0_t3_loop v3).trips), ∀ a, (k0_off58 v3 k0_t3) a + S1x1408x128.size a ≤ S2x1408x2816.size a := fun v3 k0_hw3 k0_t3 => k0_hw3.2.1.2.2.2.2.2.2.2.2.2.2.2.2.2.2.2.2.2.2.2.2.1 k0_t3
theorem k0_off59_inb : ∀ (v3 : BitVec 32) (k0_hw3 : k0_chk3 v3) (k0_t3 : Fin (k0_t3_loop v3).trips), ∀ a, (k0_off59 v3 k0_t3) a + S1x22x128.size a ≤ S2x22x2816.size a := fun v3 k0_hw3 k0_t3 => k0_hw3.2.1.2.2.2.2.2.2.2.2.2.2.2.2.2.2.2.2.2.2.2.2.2.1 k0_t3
theorem k0_off60_inb : ∀ (v3 : BitVec 32) (k0_hw3 : k0_chk3 v3) (k0_t3 : Fin (k0_t3_loop v3).trips), ∀ a, (k0_off60 v3 k0_t3) a + S1x1408x128.size a ≤ S2x1408x2816.size a := fun v3 k0_hw3 k0_t3 => k0_hw3.2.1.2.2.2.2.2.2.2.2.2.2.2.2.2.2.2.2.2.2.2.2.2.2.1 k0_t3
theorem k0_off61_inb : ∀ (v3 : BitVec 32) (k0_hw3 : k0_chk3 v3) (k0_t3 : Fin (k0_t3_loop v3).trips), ∀ a, (k0_off61 v3 k0_t3) a + S1x22x128.size a ≤ S2x22x2816.size a := fun v3 k0_hw3 k0_t3 => k0_hw3.2.1.2.2.2.2.2.2.2.2.2.2.2.2.2.2.2.2.2.2.2.2.2.2.2.1 k0_t3
theorem k0_off62_inb : ∀ (v3 : BitVec 32) (k0_hw3 : k0_chk3 v3) (k0_t3 : Fin (k0_t3_loop v3).trips), ∀ a, (k0_off62 v3 k0_t3) a + S1x1408x128.size a ≤ S2x1408x2816.size a := fun v3 k0_hw3 k0_t3 => k0_hw3.2.1.2.2.2.2.2.2.2.2.2.2.2.2.2.2.2.2.2.2.2.2.2.2.2.2.1 k0_t3
theorem k0_off63_inb : ∀ (v3 : BitVec 32) (k0_hw3 : k0_chk3 v3) (k0_t3 : Fin (k0_t3_loop v3).trips), ∀ a, (k0_off63 v3 k0_t3) a + S1x22x128.size a ≤ S2x22x2816.size a := fun v3 k0_hw3 k0_t3 => k0_hw3.2.1.2.2.2.2.2.2.2.2.2.2.2.2.2.2.2.2.2.2.2.2.2.2.2.2.2.1 k0_t3
theorem k0_off64_inb : ∀ (v3 : BitVec 32) (k0_hw3 : k0_chk3 v3) (k0_t3 : Fin (k0_t3_loop v3).trips), ∀ a, (k0_off64 v3 k0_t3) a + S1x1408x128.size a ≤ S2x1408x2816.size a := fun v3 k0_hw3 k0_t3 => k0_hw3.2.1.2.2.2.2.2.2.2.2.2.2.2.2.2.2.2.2.2.2.2.2.2.2.2.2.2.2.1 k0_t3
theorem k0_off65_inb : ∀ (v3 : BitVec 32) (k0_hw3 : k0_chk3 v3) (k0_t3 : Fin (k0_t3_loop v3).trips), ∀ a, (k0_off65 v3 k0_t3) a + S1x22x128.size a ≤ S2x22x2816.size a := fun v3 k0_hw3 k0_t3 => k0_hw3.2.1.2.2.2.2.2.2.2.2.2.2.2.2.2.2.2.2.2.2.2.2.2.2.2.2.2.2.2.1 k0_t3
theorem k0_off66_inb : ∀ (v3 : BitVec 32) (k0_hw3 : k0_chk3 v3) (k0_t3 : Fin (k0_t3_loop v3).trips), ∀ a, (k0_off66 v3 k0_t3) a + S1x1408x128.size a ≤ S2x1408x2816.size a := fun v3 k0_hw3 k0_t3 => k0_hw3.2.1.2.2.2.2.2.2.2.2.2.2.2.2.2.2.2.2.2.2.2.2.2.2.2.2.2.2.2.2.1 k0_t3
theorem k0_off67_inb : ∀ (v3 : BitVec 32) (k0_hw3 : k0_chk3 v3) (k0_t3 : Fin (k0_t3_loop v3).trips), ∀ a, (k0_off67 v3 k0_t3) a + S1x22x128.size a ≤ S2x22x2816.size a := fun v3 k0_hw3 k0_t3 => k0_hw3.2.1.2.2.2.2.2.2.2.2.2.2.2.2.2.2.2.2.2.2.2.2.2.2.2.2.2.2.2.2.2.1 k0_t3
theorem k0_off68_inb : ∀ (v3 : BitVec 32) (k0_hw3 : k0_chk3 v3) (k0_t3 : Fin (k0_t3_loop v3).trips), ∀ a, (k0_off68 v3 k0_t3) a + S1x1408x128.size a ≤ S2x1408x2816.size a := fun v3 k0_hw3 k0_t3 => k0_hw3.2.1.2.2.2.2.2.2.2.2.2.2.2.2.2.2.2.2.2.2.2.2.2.2.2.2.2.2.2.2.2.2.1 k0_t3
theorem k0_off69_inb : ∀ (v3 : BitVec 32) (k0_hw3 : k0_chk3 v3) (k0_t3 : Fin (k0_t3_loop v3).trips), ∀ a, (k0_off69 v3 k0_t3) a + S1x22x128.size a ≤ S2x22x2816.size a := fun v3 k0_hw3 k0_t3 => k0_hw3.2.1.2.2.2.2.2.2.2.2.2.2.2.2.2.2.2.2.2.2.2.2.2.2.2.2.2.2.2.2.2.2.2 k0_t3
theorem k0_off70_inb : ∀ (v3 : BitVec 32) (k0_hw3 : k0_chk3 v3) (k0_t3 : Fin (k0_t3_loop v3).trips), ∀ a, (k0_off70 v3 k0_t3) a + S1x1408x128.size a ≤ S2x1408x2816.size a := fun v3 k0_hw3 k0_t3 => k0_hw3.2.2.1.1 k0_t3
theorem k0_off71_inb : ∀ (v3 : BitVec 32) (k0_hw3 : k0_chk3 v3) (k0_t3 : Fin (k0_t3_loop v3).trips), ∀ a, (k0_off71 v3 k0_t3) a + S1x22x128.size a ≤ S2x22x2816.size a := fun v3 k0_hw3 k0_t3 => k0_hw3.2.2.1.2.1 k0_t3
theorem k0_off72_inb : ∀ (v3 : BitVec 32) (k0_hw3 : k0_chk3 v3) (k0_t3 : Fin (k0_t3_loop v3).trips), ∀ a, (k0_off72 v3 k0_t3) a + S1x1408x128.size a ≤ S2x1408x2816.size a := fun v3 k0_hw3 k0_t3 => k0_hw3.2.2.1.2.2.1 k0_t3
theorem k0_off73_inb : ∀ (v3 : BitVec 32) (k0_hw3 : k0_chk3 v3) (k0_t3 : Fin (k0_t3_loop v3).trips), ∀ a, (k0_off73 v3 k0_t3) a + S1x22x128.size a ≤ S2x22x2816.size a := fun v3 k0_hw3 k0_t3 => k0_hw3.2.2.1.2.2.2.1 k0_t3
theorem k0_off74_inb : ∀ (v3 : BitVec 32) (k0_hw3 : k0_chk3 v3) (k0_t3 : Fin (k0_t3_loop v3).trips), ∀ a, (k0_off74 v3 k0_t3) a + S1x1408x128.size a ≤ S2x1408x2816.size a := fun v3 k0_hw3 k0_t3 => k0_hw3.2.2.1.2.2.2.2.1 k0_t3
theorem k0_off75_inb : ∀ (v3 : BitVec 32) (k0_hw3 : k0_chk3 v3) (k0_t3 : Fin (k0_t3_loop v3).trips), ∀ a, (k0_off75 v3 k0_t3) a + S1x22x128.size a ≤ S2x22x2816.size a := fun v3 k0_hw3 k0_t3 => k0_hw3.2.2.1.2.2.2.2.2.1 k0_t3
theorem k0_off76_inb : ∀ (v3 : BitVec 32) (k0_hw3 : k0_chk3 v3) (k0_t3 : Fin (k0_t3_loop v3).trips), ∀ a, (k0_off76 v3 k0_t3) a + S1x1408x128.size a ≤ S2x1408x2816.size a := fun v3 k0_hw3 k0_t3 => k0_hw3.2.2.1.2.2.2.2.2.2.1 k0_t3
theorem k0_off77_inb : ∀ (v3 : BitVec 32) (k0_hw3 : k0_chk3 v3) (k0_t3 : Fin (k0_t3_loop v3).trips), ∀ a, (k0_off77 v3 k0_t3) a + S1x22x128.size a ≤ S2x22x2816.size a := fun v3 k0_hw3 k0_t3 => k0_hw3.2.2.1.2.2.2.2.2.2.2.1 k0_t3
theorem k0_off78_inb : ∀ (v3 : BitVec 32) (k0_hw3 : k0_chk3 v3) (k0_t3 : Fin (k0_t3_loop v3).trips), ∀ a, (k0_off78 v3 k0_t3) a + S1x704x256.size a ≤ S2x704x2816.size a := fun v3 k0_hw3 k0_t3 => k0_hw3.2.2.1.2.2.2.2.2.2.2.2.1 k0_t3
theorem k0_off79_inb : ∀ (v3 : BitVec 32) (k0_hw3 : k0_chk3 v3) (k0_t3 : Fin (k0_t3_loop v3).trips), ∀ a, (k0_off79 v3 k0_t3) a + S1x11x256.size a ≤ S2x11x2816.size a := fun v3 k0_hw3 k0_t3 => k0_hw3.2.2.1.2.2.2.2.2.2.2.2.2.1 k0_t3
theorem k0_off80_inb : ∀ (v3 : BitVec 32) (k0_hw3 : k0_chk3 v3) (k0_t3 : Fin (k0_t3_loop v3).trips), ∀ a, (k0_off80 v3 k0_t3) a + S1x704x256.size a ≤ S2x704x2816.size a := fun v3 k0_hw3 k0_t3 => k0_hw3.2.2.1.2.2.2.2.2.2.2.2.2.2.1 k0_t3
theorem k0_off81_inb : ∀ (v3 : BitVec 32) (k0_hw3 : k0_chk3 v3) (k0_t3 : Fin (k0_t3_loop v3).trips), ∀ a, (k0_off81 v3 k0_t3) a + S1x11x256.size a ≤ S2x11x2816.size a := fun v3 k0_hw3 k0_t3 => k0_hw3.2.2.1.2.2.2.2.2.2.2.2.2.2.2.1 k0_t3
theorem k0_off82_inb : ∀ (v3 : BitVec 32) (k0_hw3 : k0_chk3 v3) (k0_t3 : Fin (k0_t3_loop v3).trips), ∀ a, (k0_off82 v3 k0_t3) a + S1x704x256.size a ≤ S2x704x2816.size a := fun v3 k0_hw3 k0_t3 => k0_hw3.2.2.1.2.2.2.2.2.2.2.2.2.2.2.2.1 k0_t3
theorem k0_off83_inb : ∀ (v3 : BitVec 32) (k0_hw3 : k0_chk3 v3) (k0_t3 : Fin (k0_t3_loop v3).trips), ∀ a, (k0_off83 v3 k0_t3) a + S1x11x256.size a ≤ S2x11x2816.size a := fun v3 k0_hw3 k0_t3 => k0_hw3.2.2.1.2.2.2.2.2.2.2.2.2.2.2.2.2.1 k0_t3
theorem k0_off84_inb : ∀ (v3 : BitVec 32) (k0_hw3 : k0_chk3 v3) (k0_t3 : Fin (k0_t3_loop v3).trips), ∀ a, (k0_off84 v3 k0_t3) a + S1x704x256.size a ≤ S2x704x2816.size a := fun v3 k0_hw3 k0_t3 => k0_hw3.2.2.1.2.2.2.2.2.2.2.2.2.2.2.2.2.2.1 k0_t3
theorem k0_off85_inb : ∀ (v3 : BitVec 32) (k0_hw3 : k0_chk3 v3) (k0_t3 : Fin (k0_t3_loop v3).trips), ∀ a, (k0_off85 v3 k0_t3) a + S1x11x256.size a ≤ S2x11x2816.size a := fun v3 k0_hw3 k0_t3 => k0_hw3.2.2.1.2.2.2.2.2.2.2.2.2.2.2.2.2.2.2.1 k0_t3
theorem k0_off86_inb : ∀ (v3 : BitVec 32) (k0_hw3 : k0_chk3 v3) (k0_t3 : Fin (k0_t3_loop v3).trips), ∀ a, (k0_off86 v3 k0_t3) a + S1x704x256.size a ≤ S2x704x2816.size a := fun v3 k0_hw3 k0_t3 => k0_hw3.2.2.1.2.2.2.2.2.2.2.2.2.2.2.2.2.2.2.2.1 k0_t3
theorem k0_off87_inb : ∀ (v3 : BitVec 32) (k0_hw3 : k0_chk3 v3) (k0_t3 : Fin (k0_t3_loop v3).trips), ∀ a, (k0_off87 v3 k0_t3) a + S1x11x256.size a ≤ S2x11x2816.size a := fun v3 k0_hw3 k0_t3 => k0_hw3.2.2.1.2.2.2.2.2.2.2.2.2.2.2.2.2.2.2.2.2.1 k0_t3
theorem k0_off88_inb : ∀ (v3 : BitVec 32) (k0_hw3 : k0_chk3 v3) (k0_t3 : Fin (k0_t3_loop v3).trips), ∀ a, (k0_off88 v3 k0_t3) a + S1x704x256.size a ≤ S2x704x2816.size a := fun v3 k0_hw3 k0_t3 => k0_hw3.2.2.1.2.2.2.2.2.2.2.2.2.2.2.2.2.2.2.2.2.2.1 k0_t3
theorem k0_off89_inb : ∀ (v3 : BitVec 32) (k0_hw3 : k0_chk3 v3) (k0_t3 : Fin (k0_t3_loop v3).trips), ∀ a, (k0_off89 v3 k0_t3) a + S1x11x256.size a ≤ S2x11x2816.size a := fun v3 k0_hw3 k0_t3 => k0_hw3.2.2.1.2.2.2.2.2.2.2.2.2.2.2.2.2.2.2.2.2.2.2.1 k0_t3
theorem k0_off90_inb : ∀ (v3 : BitVec 32) (k0_hw3 : k0_chk3 v3) (k0_t3 : Fin (k0_t3_loop v3).trips), ∀ a, (k0_off90 v3 k0_t3) a + S1x704x256.size a ≤ S2x704x2816.size a := fun v3 k0_hw3 k0_t3 => k0_hw3.2.2.1.2.2.2.2.2.2.2.2.2.2.2.2.2.2.2.2.2.2.2.2.1 k0_t3
theorem k0_off91_inb : ∀ (v3 : BitVec 32) (k0_hw3 : k0_chk3 v3) (k0_t3 : Fin (k0_t3_loop v3).trips), ∀ a, (k0_off91 v3 k0_t3) a + S1x11x256.size a ≤ S2x11x2816.size a := fun v3 k0_hw3 k0_t3 => k0_hw3.2.2.1.2.2.2.2.2.2.2.2.2.2.2.2.2.2.2.2.2.2.2.2.2.1 k0_t3
theorem k0_off92_inb : ∀ (v3 : BitVec 32) (k0_hw3 : k0_chk3 v3) (k0_t3 : Fin (k0_t3_loop v3).trips), ∀ a, (k0_off92 v3 k0_t3) a + S1x704x256.size a ≤ S2x704x2816.size a := fun v3 k0_hw3 k0_t3 => k0_hw3.2.2.1.2.2.2.2.2.2.2.2.2.2.2.2.2.2.2.2.2.2.2.2.2.2.1 k0_t3
theorem k0_off93_inb : ∀ (v3 : BitVec 32) (k0_hw3 : k0_chk3 v3) (k0_t3 : Fin (k0_t3_loop v3).trips), ∀ a, (k0_off93 v3 k0_t3) a + S1x11x256.size a ≤ S2x11x2816.size a := fun v3 k0_hw3 k0_t3 => k0_hw3.2.2.1.2.2.2.2.2.2.2.2.2.2.2.2.2.2.2.2.2.2.2.2.2.2.2.1 k0_t3
theorem k0_off94_inb : ∀ (v3 : BitVec 32) (k0_hw3 : k0_chk3 v3) (k0_t3 : Fin (k0_t3_loop v3).trips), ∀ a, (k0_off94 v3 k0_t3) a + S1x704x256.size a ≤ S2x704x2816.size a := fun v3 k0_hw3 k0_t3 => k0_hw3.2.2.1.2.2.2.2.2.2.2.2.2.2.2.2.2.2.2.2.2.2.2.2.2.2.2.2.1 k0_t3
theorem k0_off95_inb : ∀ (v3 : BitVec 32) (k0_hw3 : k0_chk3 v3) (k0_t3 : Fin (k0_t3_loop v3).trips), ∀ a, (k0_off95 v3 k0_t3) a + S1x11x256.size a ≤ S2x11x2816.size a := fun v3 k0_hw3 k0_t3 => k0_hw3.2.2.1.2.2.2.2.2.2.2.2.2.2.2.2.2.2.2.2.2.2.2.2.2.2.2.2.2.1 k0_t3
theorem k0_off96_inb : ∀ (v3 : BitVec 32) (k0_hw3 : k0_chk3 v3) (k0_t3 : Fin (k0_t3_loop v3).trips), ∀ a, (k0_off96 v3 k0_t3) a + S1x704x256.size a ≤ S2x704x2816.size a := fun v3 k0_hw3 k0_t3 => k0_hw3.2.2.1.2.2.2.2.2.2.2.2.2.2.2.2.2.2.2.2.2.2.2.2.2.2.2.2.2.2.1 k0_t3
theorem k0_off97_inb : ∀ (v3 : BitVec 32) (k0_hw3 : k0_chk3 v3) (k0_t3 : Fin (k0_t3_loop v3).trips), ∀ a, (k0_off97 v3 k0_t3) a + S1x11x256.size a ≤ S2x11x2816.size a := fun v3 k0_hw3 k0_t3 => k0_hw3.2.2.1.2.2.2.2.2.2.2.2.2.2.2.2.2.2.2.2.2.2.2.2.2.2.2.2.2.2.2.1 k0_t3
theorem k0_off98_inb : ∀ (v3 : BitVec 32) (k0_hw3 : k0_chk3 v3) (k0_t3 : Fin (k0_t3_loop v3).trips), ∀ a, (k0_off98 v3 k0_t3) a + S1x704x256.size a ≤ S2x704x2816.size a := fun v3 k0_hw3 k0_t3 => k0_hw3.2.2.1.2.2.2.2.2.2.2.2.2.2.2.2.2.2.2.2.2.2.2.2.2.2.2.2.2.2.2.2.1 k0_t3
theorem k0_off99_inb : ∀ (v3 : BitVec 32) (k0_hw3 : k0_chk3 v3) (k0_t3 : Fin (k0_t3_loop v3).trips), ∀ a, (k0_off99 v3 k0_t3) a + S1x11x256.size a ≤ S2x11x2816.size a := fun v3 k0_hw3 k0_t3 => k0_hw3.2.2.1.2.2.2.2.2.2.2.2.2.2.2.2.2.2.2.2.2.2.2.2.2.2.2.2.2.2.2.2.2.1 k0_t3
theorem k0_t4_ok : ∀ (v3 : BitVec 32) (k0_hw3 : k0_chk3 v3), (k0_t4_loop v3).OK := fun v3 k0_hw3 => k0_hw3.2.2.1.2.2.2.2.2.2.2.2.2.2.2.2.2.2.2.2.2.2.2.2.2.2.2.2.2.2.2.2.2.2.1
theorem k0_off100_inb : ∀ (v3 : BitVec 32) (k0_hw3 : k0_chk3 v3) (k0_t4 : Fin (k0_t4_loop v3).trips), ∀ (k0_h2 : k0_cond2 v3 k0_t4 = 1#1), ∀ a, (k0_off100 v3 k0_t4) a + S1.size a ≤ S33.size a := fun v3 k0_hw3 k0_t4 k0_h2 => k0_hw3.2.2.1.2.2.2.2.2.2.2.2.2.2.2.2.2.2.2.2.2.2.2.2.2.2.2.2.2.2.2.2.2.2.2 k0_t4 k0_h2
theorem k0_off101_inb : ∀ (v3 : BitVec 32) (k0_hw3 : k0_chk3 v3) (k0_t4 : Fin (k0_t4_loop v3).trips), ∀ (k0_h2 : k0_cond2 v3 k0_t4 = 1#1), ∀ a, (k0_off101 v3 k0_t4) a + S1x1.size a ≤ S2x4.size a := fun v3 k0_hw3 k0_t4 k0_h2 => k0_hw3.2.2.2.1.1 k0_t4 k0_h2
theorem k0_off102_inb : ∀ (v3 : BitVec 32) (k0_hw3 : k0_chk3 v3) (k0_t4 : Fin (k0_t4_loop v3).trips), ∀ (k0_h2 : k0_cond2 v3 k0_t4 = 1#1), ∀ a, (k0_off102 v3 k0_t4) a + S1x1408x2816.size a ≤ S2x1408x2816.size a := fun v3 k0_hw3 k0_t4 k0_h2 => k0_hw3.2.2.2.1.2.1 k0_t4 k0_h2
theorem k0_off102_wordsi8 : ∀ (v3 : BitVec 32) (k0_hw3 : k0_chk3 v3) (k0_t4 : Fin (k0_t4_loop v3).trips), ∀ (k0_h2 : k0_cond2 v3 k0_t4 = 1#1), (Rect.unit (s := S2x1408x2816) (k0_off102 v3 k0_t4) S1x1408x2816.size (k0_off102_inb v3 k0_hw3 k0_t4 k0_h2)).WholeWords (EltTy.packing .i8) := fun v3 k0_hw3 k0_t4 k0_h2 => k0_hw3.2.2.2.1.2.2.1 k0_t4 k0_h2 (k0_off102_inb v3 k0_hw3 k0_t4 k0_h2)
theorem k0_off104_inb : ∀ (v3 : BitVec 32) (k0_hw3 : k0_chk3 v3) (k0_t4 : Fin (k0_t4_loop v3).trips), ∀ (k0_h2 : k0_cond2 v3 k0_t4 = 1#1), ∀ a, (k0_off104 v3 k0_t4) a + S1x1.size a ≤ S2x4.size a := fun v3 k0_hw3 k0_t4 k0_h2 => k0_hw3.2.2.2.1.2.2.2.1 k0_t4 k0_h2
theorem k0_off105_inb : ∀ (v3 : BitVec 32) (k0_hw3 : k0_chk3 v3) (k0_t4 : Fin (k0_t4_loop v3).trips), ∀ (k0_h2 : k0_cond2 v3 k0_t4 = 1#1), ∀ a, (k0_off105 v3 k0_t4) a + S1x22x2816.size a ≤ S2x22x2816.size a := fun v3 k0_hw3 k0_t4 k0_h2 => k0_hw3.2.2.2.1.2.2.2.2.1 k0_t4 k0_h2
theorem k0_off105_wordsbf16 : ∀ (v3 : BitVec 32) (k0_hw3 : k0_chk3 v3) (k0_t4 : Fin (k0_t4_loop v3).trips), ∀ (k0_h2 : k0_cond2 v3 k0_t4 = 1#1), (Rect.unit (s := S2x22x2816) (k0_off105 v3 k0_t4) S1x22x2816.size (k0_off105_inb v3 k0_hw3 k0_t4 k0_h2)).WholeWords (EltTy.packing .bf16) := fun v3 k0_hw3 k0_t4 k0_h2 => k0_hw3.2.2.2.1.2.2.2.2.2.1 k0_t4 k0_h2 (k0_off105_inb v3 k0_hw3 k0_t4 k0_h2)
theorem k0_off107_inb : ∀ (v3 : BitVec 32) (k0_hw3 : k0_chk3 v3) (k0_t4 : Fin (k0_t4_loop v3).trips), ∀ (k0_h2 : k0_cond2 v3 k0_t4 = 1#1), ∀ a, (k0_off107 v3 k0_t4) a + S1x1.size a ≤ S2x4.size a := fun v3 k0_hw3 k0_t4 k0_h2 => k0_hw3.2.2.2.1.2.2.2.2.2.2.1 k0_t4 k0_h2
theorem k0_off108_inb : ∀ (v3 : BitVec 32) (k0_hw3 : k0_chk3 v3) (k0_t4 : Fin (k0_t4_loop v3).trips), ∀ (k0_h2 : k0_cond2 v3 k0_t4 = 1#1), ∀ a, (k0_off108 v3 k0_t4) a + S1x704x2816.size a ≤ S2x704x2816.size a := fun v3 k0_hw3 k0_t4 k0_h2 => k0_hw3.2.2.2.1.2.2.2.2.2.2.2.1 k0_t4 k0_h2
theorem k0_off108_wordsi8 : ∀ (v3 : BitVec 32) (k0_hw3 : k0_chk3 v3) (k0_t4 : Fin (k0_t4_loop v3).trips), ∀ (k0_h2 : k0_cond2 v3 k0_t4 = 1#1), (Rect.unit (s := S2x704x2816) (k0_off108 v3 k0_t4) S1x704x2816.size (k0_off108_inb v3 k0_hw3 k0_t4 k0_h2)).WholeWords (EltTy.packing .i8) := fun v3 k0_hw3 k0_t4 k0_h2 => k0_hw3.2.2.2.1.2.2.2.2.2.2.2.2.1 k0_t4 k0_h2 (k0_off108_inb v3 k0_hw3 k0_t4 k0_h2)
theorem k0_off110_inb : ∀ (v3 : BitVec 32) (k0_hw3 : k0_chk3 v3) (k0_t4 : Fin (k0_t4_loop v3).trips), ∀ (k0_h2 : k0_cond2 v3 k0_t4 = 1#1), ∀ a, (k0_off110 v3 k0_t4) a + S1x1.size a ≤ S2x4.size a := fun v3 k0_hw3 k0_t4 k0_h2 => k0_hw3.2.2.2.1.2.2.2.2.2.2.2.2.2.1 k0_t4 k0_h2
theorem k0_off111_inb : ∀ (v3 : BitVec 32) (k0_hw3 : k0_chk3 v3) (k0_t4 : Fin (k0_t4_loop v3).trips), ∀ (k0_h2 : k0_cond2 v3 k0_t4 = 1#1), ∀ a, (k0_off111 v3 k0_t4) a + S1x11x2816.size a ≤ S2x11x2816.size a := fun v3 k0_hw3 k0_t4 k0_h2 => k0_hw3.2.2.2.1.2.2.2.2.2.2.2.2.2.2.1 k0_t4 k0_h2
theorem k0_off111_wordsbf16 : ∀ (v3 : BitVec 32) (k0_hw3 : k0_chk3 v3) (k0_t4 : Fin (k0_t4_loop v3).trips), ∀ (k0_h2 : k0_cond2 v3 k0_t4 = 1#1), (Rect.unit (s := S2x11x2816) (k0_off111 v3 k0_t4) S1x11x2816.size (k0_off111_inb v3 k0_hw3 k0_t4 k0_h2)).WholeWords (EltTy.packing .bf16) := fun v3 k0_hw3 k0_t4 k0_h2 => k0_hw3.2.2.2.1.2.2.2.2.2.2.2.2.2.2.2.1 k0_t4 k0_h2 (k0_off111_inb v3 k0_hw3 k0_t4 k0_h2)
theorem k0_off113_inb : ∀ (v3 : BitVec 32) (k0_hw3 : k0_chk3 v3) (k0_t4 : Fin (k0_t4_loop v3).trips), ∀ a, (k0_off113 v3 k0_t4) a + S1.size a ≤ S33.size a := fun v3 k0_hw3 k0_t4 => k0_hw3.2.2.2.1.2.2.2.2.2.2.2.2.2.2.2.2.1 k0_t4
theorem k0_off114_inb : ∀ (v3 : BitVec 32) (k0_hw3 : k0_chk3 v3) (k0_t4 : Fin (k0_t4_loop v3).trips), ∀ a, (k0_off114 v3 k0_t4) a + S1x1.size a ≤ S2x4.size a := fun v3 k0_hw3 k0_t4 => k0_hw3.2.2.2.1.2.2.2.2.2.2.2.2.2.2.2.2.2.1 k0_t4
theorem k0_off115_inb : ∀ (v3 : BitVec 32) (k0_hw3 : k0_chk3 v3) (k0_t4 : Fin (k0_t4_loop v3).trips), ∀ a, (k0_off115 v3 k0_t4) a + S1x1408x2816.size a ≤ S2x1408x2816.size a := fun v3 k0_hw3 k0_t4 => k0_hw3.2.2.2.1.2.2.2.2.2.2.2.2.2.2.2.2.2.2.1 k0_t4
theorem k0_off115_wordsi8 : ∀ (v3 : BitVec 32) (k0_hw3 : k0_chk3 v3) (k0_t4 : Fin (k0_t4_loop v3).trips), (Rect.unit (s := S2x1408x2816) (k0_off115 v3 k0_t4) S1x1408x2816.size (k0_off115_inb v3 k0_hw3 k0_t4)).WholeWords (EltTy.packing .i8) := fun v3 k0_hw3 k0_t4 => k0_hw3.2.2.2.1.2.2.2.2.2.2.2.2.2.2.2.2.2.2.2.1 k0_t4 (k0_off115_inb v3 k0_hw3 k0_t4)
theorem k0_off117_inb : ∀ (v3 : BitVec 32) (k0_hw3 : k0_chk3 v3) (k0_t4 : Fin (k0_t4_loop v3).trips), ∀ a, (k0_off117 v3 k0_t4) a + S1x1.size a ≤ S2x4.size a := fun v3 k0_hw3 k0_t4 => k0_hw3.2.2.2.1.2.2.2.2.2.2.2.2.2.2.2.2.2.2.2.2.1 k0_t4
theorem k0_off118_inb : ∀ (v3 : BitVec 32) (k0_hw3 : k0_chk3 v3) (k0_t4 : Fin (k0_t4_loop v3).trips), ∀ a, (k0_off118 v3 k0_t4) a + S1x22x2816.size a ≤ S2x22x2816.size a := fun v3 k0_hw3 k0_t4 => k0_hw3.2.2.2.1.2.2.2.2.2.2.2.2.2.2.2.2.2.2.2.2.2.1 k0_t4
theorem k0_off118_wordsbf16 : ∀ (v3 : BitVec 32) (k0_hw3 : k0_chk3 v3) (k0_t4 : Fin (k0_t4_loop v3).trips), (Rect.unit (s := S2x22x2816) (k0_off118 v3 k0_t4) S1x22x2816.size (k0_off118_inb v3 k0_hw3 k0_t4)).WholeWords (EltTy.packing .bf16) := fun v3 k0_hw3 k0_t4 => k0_hw3.2.2.2.1.2.2.2.2.2.2.2.2.2.2.2.2.2.2.2.2.2.2.1 k0_t4 (k0_off118_inb v3 k0_hw3 k0_t4)
theorem k0_off120_inb : ∀ (v3 : BitVec 32) (k0_hw3 : k0_chk3 v3) (k0_t4 : Fin (k0_t4_loop v3).trips), ∀ a, (k0_off120 v3 k0_t4) a + S1x1.size a ≤ S2x4.size a := fun v3 k0_hw3 k0_t4 => k0_hw3.2.2.2.1.2.2.2.2.2.2.2.2.2.2.2.2.2.2.2.2.2.2.2.1 k0_t4
theorem k0_off121_inb : ∀ (v3 : BitVec 32) (k0_hw3 : k0_chk3 v3) (k0_t4 : Fin (k0_t4_loop v3).trips), ∀ a, (k0_off121 v3 k0_t4) a + S1x704x2816.size a ≤ S2x704x2816.size a := fun v3 k0_hw3 k0_t4 => k0_hw3.2.2.2.1.2.2.2.2.2.2.2.2.2.2.2.2.2.2.2.2.2.2.2.2.1 k0_t4
theorem k0_off121_wordsi8 : ∀ (v3 : BitVec 32) (k0_hw3 : k0_chk3 v3) (k0_t4 : Fin (k0_t4_loop v3).trips), (Rect.unit (s := S2x704x2816) (k0_off121 v3 k0_t4) S1x704x2816.size (k0_off121_inb v3 k0_hw3 k0_t4)).WholeWords (EltTy.packing .i8) := fun v3 k0_hw3 k0_t4 => k0_hw3.2.2.2.1.2.2.2.2.2.2.2.2.2.2.2.2.2.2.2.2.2.2.2.2.2.1 k0_t4 (k0_off121_inb v3 k0_hw3 k0_t4)
theorem k0_off123_inb : ∀ (v3 : BitVec 32) (k0_hw3 : k0_chk3 v3) (k0_t4 : Fin (k0_t4_loop v3).trips), ∀ a, (k0_off123 v3 k0_t4) a + S1x1.size a ≤ S2x4.size a := fun v3 k0_hw3 k0_t4 => k0_hw3.2.2.2.1.2.2.2.2.2.2.2.2.2.2.2.2.2.2.2.2.2.2.2.2.2.2.1 k0_t4
theorem k0_off124_inb : ∀ (v3 : BitVec 32) (k0_hw3 : k0_chk3 v3) (k0_t4 : Fin (k0_t4_loop v3).trips), ∀ a, (k0_off124 v3 k0_t4) a + S1x11x2816.size a ≤ S2x11x2816.size a := fun v3 k0_hw3 k0_t4 => k0_hw3.2.2.2.1.2.2.2.2.2.2.2.2.2.2.2.2.2.2.2.2.2.2.2.2.2.2.2.1 k0_t4
theorem k0_off124_wordsbf16 : ∀ (v3 : BitVec 32) (k0_hw3 : k0_chk3 v3) (k0_t4 : Fin (k0_t4_loop v3).trips), (Rect.unit (s := S2x11x2816) (k0_off124 v3 k0_t4) S1x11x2816.size (k0_off124_inb v3 k0_hw3 k0_t4)).WholeWords (EltTy.packing .bf16) := fun v3 k0_hw3 k0_t4 => k0_hw3.2.2.2.1.2.2.2.2.2.2.2.2.2.2.2.2.2.2.2.2.2.2.2.2.2.2.2.2.1 k0_t4 (k0_off124_inb v3 k0_hw3 k0_t4)
theorem k0_off126_inb : ∀ (v3 : BitVec 32) (k0_hw3 : k0_chk3 v3) (k0_t4 : Fin (k0_t4_loop v3).trips), ∀ a, (k0_off126 v3 k0_t4) a + S1.size a ≤ S33.size a := fun v3 k0_hw3 k0_t4 => k0_hw3.2.2.2.1.2.2.2.2.2.2.2.2.2.2.2.2.2.2.2.2.2.2.2.2.2.2.2.2.2.1 k0_t4
theorem k0_off127_inb : ∀ (v3 : BitVec 32) (k0_hw3 : k0_chk3 v3) (k0_t4 : Fin (k0_t4_loop v3).trips), ∀ a, (k0_off127 v3 k0_t4) a + S1x1408x128.size a ≤ S2x1408x2816.size a := fun v3 k0_hw3 k0_t4 => k0_hw3.2.2.2.1.2.2.2.2.2.2.2.2.2.2.2.2.2.2.2.2.2.2.2.2.2.2.2.2.2.2.1 k0_t4
theorem k0_off128_inb : ∀ (v3 : BitVec 32) (k0_hw3 : k0_chk3 v3) (k0_t4 : Fin (k0_t4_loop v3).trips), ∀ a, (k0_off128 v3 k0_t4) a + S1x22x128.size a ≤ S2x22x2816.size a := fun v3 k0_hw3 k0_t4 => k0_hw3.2.2.2.1.2.2.2.2.2.2.2.2.2.2.2.2.2.2.2.2.2.2.2.2.2.2.2.2.2.2.2.1 k0_t4
theorem k0_off129_inb : ∀ (v3 : BitVec 32) (k0_hw3 : k0_chk3 v3) (k0_t4 : Fin (k0_t4_loop v3).trips), ∀ a, (k0_off129 v3 k0_t4) a + S1x1408x128.size a ≤ S2x1408x2816.size a := fun v3 k0_hw3 k0_t4 => k0_hw3.2.2.2.1.2.2.2.2.2.2.2.2.2.2.2.2.2.2.2.2.2.2.2.2.2.2.2.2.2.2.2.2.1 k0_t4
theorem k0_off130_inb : ∀ (v3 : BitVec 32) (k0_hw3 : k0_chk3 v3) (k0_t4 : Fin (k0_t4_loop v3).trips), ∀ a, (k0_off130 v3 k0_t4) a + S1x22x128.size a ≤ S2x22x2816.size a := fun v3 k0_hw3 k0_t4 => k0_hw3.2.2.2.1.2.2.2.2.2.2.2.2.2.2.2.2.2.2.2.2.2.2.2.2.2.2.2.2.2.2.2.2.2.1 k0_t4
theorem k0_off131_inb : ∀ (v3 : BitVec 32) (k0_hw3 : k0_chk3 v3) (k0_t4 : Fin (k0_t4_loop v3).trips), ∀ a, (k0_off131 v3 k0_t4) a + S1x1408x128.size a ≤ S2x1408x2816.size a := fun v3 k0_hw3 k0_t4 => k0_hw3.2.2.2.1.2.2.2.2.2.2.2.2.2.2.2.2.2.2.2.2.2.2.2.2.2.2.2.2.2.2.2.2.2.2.1 k0_t4
theorem k0_off132_inb : ∀ (v3 : BitVec 32) (k0_hw3 : k0_chk3 v3) (k0_t4 : Fin (k0_t4_loop v3).trips), ∀ a, (k0_off132 v3 k0_t4) a + S1x22x128.size a ≤ S2x22x2816.size a := fun v3 k0_hw3 k0_t4 => k0_hw3.2.2.2.1.2.2.2.2.2.2.2.2.2.2.2.2.2.2.2.2.2.2.2.2.2.2.2.2.2.2.2.2.2.2.2 k0_t4
theorem k0_off133_inb : ∀ (v3 : BitVec 32) (k0_hw3 : k0_chk3 v3) (k0_t4 : Fin (k0_t4_loop v3).trips), ∀ a, (k0_off133 v3 k0_t4) a + S1x1408x128.size a ≤ S2x1408x2816.size a := fun v3 k0_hw3 k0_t4 => k0_hw3.2.2.2.2.1.1 k0_t4
theorem k0_off134_inb : ∀ (v3 : BitVec 32) (k0_hw3 : k0_chk3 v3) (k0_t4 : Fin (k0_t4_loop v3).trips), ∀ a, (k0_off134 v3 k0_t4) a + S1x22x128.size a ≤ S2x22x2816.size a := fun v3 k0_hw3 k0_t4 => k0_hw3.2.2.2.2.1.2.1 k0_t4
theorem k0_off135_inb : ∀ (v3 : BitVec 32) (k0_hw3 : k0_chk3 v3) (k0_t4 : Fin (k0_t4_loop v3).trips), ∀ a, (k0_off135 v3 k0_t4) a + S1x1408x128.size a ≤ S2x1408x2816.size a := fun v3 k0_hw3 k0_t4 => k0_hw3.2.2.2.2.1.2.2.1 k0_t4
theorem k0_off136_inb : ∀ (v3 : BitVec 32) (k0_hw3 : k0_chk3 v3) (k0_t4 : Fin (k0_t4_loop v3).trips), ∀ a, (k0_off136 v3 k0_t4) a + S1x22x128.size a ≤ S2x22x2816.size a := fun v3 k0_hw3 k0_t4 => k0_hw3.2.2.2.2.1.2.2.2.1 k0_t4
theorem k0_off137_inb : ∀ (v3 : BitVec 32) (k0_hw3 : k0_chk3 v3) (k0_t4 : Fin (k0_t4_loop v3).trips), ∀ a, (k0_off137 v3 k0_t4) a + S1x1408x128.size a ≤ S2x1408x2816.size a := fun v3 k0_hw3 k0_t4 => k0_hw3.2.2.2.2.1.2.2.2.2.1 k0_t4
theorem k0_off138_inb : ∀ (v3 : BitVec 32) (k0_hw3 : k0_chk3 v3) (k0_t4 : Fin (k0_t4_loop v3).trips), ∀ a, (k0_off138 v3 k0_t4) a + S1x22x128.size a ≤ S2x22x2816.size a := fun v3 k0_hw3 k0_t4 => k0_hw3.2.2.2.2.1.2.2.2.2.2.1 k0_t4
theorem k0_off139_inb : ∀ (v3 : BitVec 32) (k0_hw3 : k0_chk3 v3) (k0_t4 : Fin (k0_t4_loop v3).trips), ∀ a, (k0_off139 v3 k0_t4) a + S1x1408x128.size a ≤ S2x1408x2816.size a := fun v3 k0_hw3 k0_t4 => k0_hw3.2.2.2.2.1.2.2.2.2.2.2.1 k0_t4
theorem k0_off140_inb : ∀ (v3 : BitVec 32) (k0_hw3 : k0_chk3 v3) (k0_t4 : Fin (k0_t4_loop v3).trips), ∀ a, (k0_off140 v3 k0_t4) a + S1x22x128.size a ≤ S2x22x2816.size a := fun v3 k0_hw3 k0_t4 => k0_hw3.2.2.2.2.1.2.2.2.2.2.2.2.1 k0_t4
theorem k0_off141_inb : ∀ (v3 : BitVec 32) (k0_hw3 : k0_chk3 v3) (k0_t4 : Fin (k0_t4_loop v3).trips), ∀ a, (k0_off141 v3 k0_t4) a + S1x1408x128.size a ≤ S2x1408x2816.size a := fun v3 k0_hw3 k0_t4 => k0_hw3.2.2.2.2.1.2.2.2.2.2.2.2.2.1 k0_t4
theorem k0_off142_inb : ∀ (v3 : BitVec 32) (k0_hw3 : k0_chk3 v3) (k0_t4 : Fin (k0_t4_loop v3).trips), ∀ a, (k0_off142 v3 k0_t4) a + S1x22x128.size a ≤ S2x22x2816.size a := fun v3 k0_hw3 k0_t4 => k0_hw3.2.2.2.2.1.2.2.2.2.2.2.2.2.2.1 k0_t4
theorem k0_off143_inb : ∀ (v3 : BitVec 32) (k0_hw3 : k0_chk3 v3) (k0_t4 : Fin (k0_t4_loop v3).trips), ∀ a, (k0_off143 v3 k0_t4) a + S1x1408x128.size a ≤ S2x1408x2816.size a := fun v3 k0_hw3 k0_t4 => k0_hw3.2.2.2.2.1.2.2.2.2.2.2.2.2.2.2.1 k0_t4
theorem k0_off144_inb : ∀ (v3 : BitVec 32) (k0_hw3 : k0_chk3 v3) (k0_t4 : Fin (k0_t4_loop v3).trips), ∀ a, (k0_off144 v3 k0_t4) a + S1x22x128.size a ≤ S2x22x2816.size a := fun v3 k0_hw3 k0_t4 => k0_hw3.2.2.2.2.1.2.2.2.2.2.2.2.2.2.2.2.1 k0_t4
theorem k0_off145_inb : ∀ (v3 : BitVec 32) (k0_hw3 : k0_chk3 v3) (k0_t4 : Fin (k0_t4_loop v3).trips), ∀ a, (k0_off145 v3 k0_t4) a + S1x1408x128.size a ≤ S2x1408x2816.size a := fun v3 k0_hw3 k0_t4 => k0_hw3.2.2.2.2.1.2.2.2.2.2.2.2.2.2.2.2.2.1 k0_t4
theorem k0_off146_inb : ∀ (v3 : BitVec 32) (k0_hw3 : k0_chk3 v3) (k0_t4 : Fin (k0_t4_loop v3).trips), ∀ a, (k0_off146 v3 k0_t4) a + S1x22x128.size a ≤ S2x22x2816.size a := fun v3 k0_hw3 k0_t4 => k0_hw3.2.2.2.2.1.2.2.2.2.2.2.2.2.2.2.2.2.2.1 k0_t4
theorem k0_off147_inb : ∀ (v3 : BitVec 32) (k0_hw3 : k0_chk3 v3) (k0_t4 : Fin (k0_t4_loop v3).trips), ∀ a, (k0_off147 v3 k0_t4) a + S1x1408x128.size a ≤ S2x1408x2816.size a := fun v3 k0_hw3 k0_t4 => k0_hw3.2.2.2.2.1.2.2.2.2.2.2.2.2.2.2.2.2.2.2.1 k0_t4
theorem k0_off148_inb : ∀ (v3 : BitVec 32) (k0_hw3 : k0_chk3 v3) (k0_t4 : Fin (k0_t4_loop v3).trips), ∀ a, (k0_off148 v3 k0_t4) a + S1x22x128.size a ≤ S2x22x2816.size a := fun v3 k0_hw3 k0_t4 => k0_hw3.2.2.2.2.1.2.2.2.2.2.2.2.2.2.2.2.2.2.2.2.1 k0_t4
theorem k0_off149_inb : ∀ (v3 : BitVec 32) (k0_hw3 : k0_chk3 v3) (k0_t4 : Fin (k0_t4_loop v3).trips), ∀ a, (k0_off149 v3 k0_t4) a + S1x1408x128.size a ≤ S2x1408x2816.size a := fun v3 k0_hw3 k0_t4 => k0_hw3.2.2.2.2.1.2.2.2.2.2.2.2.2.2.2.2.2.2.2.2.2.1 k0_t4
theorem k0_off150_inb : ∀ (v3 : BitVec 32) (k0_hw3 : k0_chk3 v3) (k0_t4 : Fin (k0_t4_loop v3).trips), ∀ a, (k0_off150 v3 k0_t4) a + S1x22x128.size a ≤ S2x22x2816.size a := fun v3 k0_hw3 k0_t4 => k0_hw3.2.2.2.2.1.2.2.2.2.2.2.2.2.2.2.2.2.2.2.2.2.2.1 k0_t4
theorem k0_off151_inb : ∀ (v3 : BitVec 32) (k0_hw3 : k0_chk3 v3) (k0_t4 : Fin (k0_t4_loop v3).trips), ∀ a, (k0_off151 v3 k0_t4) a + S1x1408x128.size a ≤ S2x1408x2816.size a := fun v3 k0_hw3 k0_t4 => k0_hw3.2.2.2.2.1.2.2.2.2.2.2.2.2.2.2.2.2.2.2.2.2.2.2.1 k0_t4
theorem k0_off152_inb : ∀ (v3 : BitVec 32) (k0_hw3 : k0_chk3 v3) (k0_t4 : Fin (k0_t4_loop v3).trips), ∀ a, (k0_off152 v3 k0_t4) a + S1x22x128.size a ≤ S2x22x2816.size a := fun v3 k0_hw3 k0_t4 => k0_hw3.2.2.2.2.1.2.2.2.2.2.2.2.2.2.2.2.2.2.2.2.2.2.2.2.1 k0_t4
theorem k0_off153_inb : ∀ (v3 : BitVec 32) (k0_hw3 : k0_chk3 v3) (k0_t4 : Fin (k0_t4_loop v3).trips), ∀ a, (k0_off153 v3 k0_t4) a + S1x1408x128.size a ≤ S2x1408x2816.size a := fun v3 k0_hw3 k0_t4 => k0_hw3.2.2.2.2.1.2.2.2.2.2.2.2.2.2.2.2.2.2.2.2.2.2.2.2.2.1 k0_t4
theorem k0_off154_inb : ∀ (v3 : BitVec 32) (k0_hw3 : k0_chk3 v3) (k0_t4 : Fin (k0_t4_loop v3).trips), ∀ a, (k0_off154 v3 k0_t4) a + S1x22x128.size a ≤ S2x22x2816.size a := fun v3 k0_hw3 k0_t4 => k0_hw3.2.2.2.2.1.2.2.2.2.2.2.2.2.2.2.2.2.2.2.2.2.2.2.2.2.2.1 k0_t4
theorem k0_off155_inb : ∀ (v3 : BitVec 32) (k0_hw3 : k0_chk3 v3) (k0_t4 : Fin (k0_t4_loop v3).trips), ∀ a, (k0_off155 v3 k0_t4) a + S1x1408x128.size a ≤ S2x1408x2816.size a := fun v3 k0_hw3 k0_t4 => k0_hw3.2.2.2.2.1.2.2.2.2.2.2.2.2.2.2.2.2.2.2.2.2.2.2.2.2.2.2.1 k0_t4
theorem k0_off156_inb : ∀ (v3 : BitVec 32) (k0_hw3 : k0_chk3 v3) (k0_t4 : Fin (k0_t4_loop v3).trips), ∀ a, (k0_off156 v3 k0_t4) a + S1x22x128.size a ≤ S2x22x2816.size a := fun v3 k0_hw3 k0_t4 => k0_hw3.2.2.2.2.1.2.2.2.2.2.2.2.2.2.2.2.2.2.2.2.2.2.2.2.2.2.2.2.1 k0_t4
theorem k0_off157_inb : ∀ (v3 : BitVec 32) (k0_hw3 : k0_chk3 v3) (k0_t4 : Fin (k0_t4_loop v3).trips), ∀ a, (k0_off157 v3 k0_t4) a + S1x1408x128.size a ≤ S2x1408x2816.size a := fun v3 k0_hw3 k0_t4 => k0_hw3.2.2.2.2.1.2.2.2.2.2.2.2.2.2.2.2.2.2.2.2.2.2.2.2.2.2.2.2.2.1 k0_t4
theorem k0_off158_inb : ∀ (v3 : BitVec 32) (k0_hw3 : k0_chk3 v3) (k0_t4 : Fin (k0_t4_loop v3).trips), ∀ a, (k0_off158 v3 k0_t4) a + S1x22x128.size a ≤ S2x22x2816.size a := fun v3 k0_hw3 k0_t4 => k0_hw3.2.2.2.2.1.2.2.2.2.2.2.2.2.2.2.2.2.2.2.2.2.2.2.2.2.2.2.2.2.2.1 k0_t4
theorem k0_off159_inb : ∀ (v3 : BitVec 32) (k0_hw3 : k0_chk3 v3) (k0_t4 : Fin (k0_t4_loop v3).trips), ∀ a, (k0_off159 v3 k0_t4) a + S1x1408x128.size a ≤ S2x1408x2816.size a := fun v3 k0_hw3 k0_t4 => k0_hw3.2.2.2.2.1.2.2.2.2.2.2.2.2.2.2.2.2.2.2.2.2.2.2.2.2.2.2.2.2.2.2.1 k0_t4
theorem k0_off160_inb : ∀ (v3 : BitVec 32) (k0_hw3 : k0_chk3 v3) (k0_t4 : Fin (k0_t4_loop v3).trips), ∀ a, (k0_off160 v3 k0_t4) a + S1x22x128.size a ≤ S2x22x2816.size a := fun v3 k0_hw3 k0_t4 => k0_hw3.2.2.2.2.1.2.2.2.2.2.2.2.2.2.2.2.2.2.2.2.2.2.2.2.2.2.2.2.2.2.2.2.1 k0_t4
theorem k0_off161_inb : ∀ (v3 : BitVec 32) (k0_hw3 : k0_chk3 v3) (k0_t4 : Fin (k0_t4_loop v3).trips), ∀ a, (k0_off161 v3 k0_t4) a + S1x1408x128.size a ≤ S2x1408x2816.size a := fun v3 k0_hw3 k0_t4 => k0_hw3.2.2.2.2.1.2.2.2.2.2.2.2.2.2.2.2.2.2.2.2.2.2.2.2.2.2.2.2.2.2.2.2.2.1 k0_t4
theorem k0_off162_inb : ∀ (v3 : BitVec 32) (k0_hw3 : k0_chk3 v3) (k0_t4 : Fin (k0_t4_loop v3).trips), ∀ a, (k0_off162 v3 k0_t4) a + S1x22x128.size a ≤ S2x22x2816.size a := fun v3 k0_hw3 k0_t4 => k0_hw3.2.2.2.2.1.2.2.2.2.2.2.2.2.2.2.2.2.2.2.2.2.2.2.2.2.2.2.2.2.2.2.2.2.2.1 k0_t4
theorem k0_off163_inb : ∀ (v3 : BitVec 32) (k0_hw3 : k0_chk3 v3) (k0_t4 : Fin (k0_t4_loop v3).trips), ∀ a, (k0_off163 v3 k0_t4) a + S1x1408x128.size a ≤ S2x1408x2816.size a := fun v3 k0_hw3 k0_t4 => k0_hw3.2.2.2.2.1.2.2.2.2.2.2.2.2.2.2.2.2.2.2.2.2.2.2.2.2.2.2.2.2.2.2.2.2.2.2.1 k0_t4
theorem k0_off164_inb : ∀ (v3 : BitVec 32) (k0_hw3 : k0_chk3 v3) (k0_t4 : Fin (k0_t4_loop v3).trips), ∀ a, (k0_off164 v3 k0_t4) a + S1x22x128.size a ≤ S2x22x2816.size a := fun v3 k0_hw3 k0_t4 => k0_hw3.2.2.2.2.1.2.2.2.2.2.2.2.2.2.2.2.2.2.2.2.2.2.2.2.2.2.2.2.2.2.2.2.2.2.2.2 k0_t4
theorem k0_off165_inb : ∀ (v3 : BitVec 32) (k0_hw3 : k0_chk3 v3) (k0_t4 : Fin (k0_t4_loop v3).trips), ∀ a, (k0_off165 v3 k0_t4) a + S1x1408x128.size a ≤ S2x1408x2816.size a := fun v3 k0_hw3 k0_t4 => k0_hw3.2.2.2.2.2.1 k0_t4
theorem k0_off166_inb : ∀ (v3 : BitVec 32) (k0_hw3 : k0_chk3 v3) (k0_t4 : Fin (k0_t4_loop v3).trips), ∀ a, (k0_off166 v3 k0_t4) a + S1x22x128.size a ≤ S2x22x2816.size a := fun v3 k0_hw3 k0_t4 => k0_hw3.2.2.2.2.2.2.1 k0_t4
theorem k0_off167_inb : ∀ (v3 : BitVec 32) (k0_hw3 : k0_chk3 v3) (k0_t4 : Fin (k0_t4_loop v3).trips), ∀ a, (k0_off167 v3 k0_t4) a + S1x1408x128.size a ≤ S2x1408x2816.size a := fun v3 k0_hw3 k0_t4 => k0_hw3.2.2.2.2.2.2.2.1 k0_t4
theorem k0_off168_inb : ∀ (v3 : BitVec 32) (k0_hw3 : k0_chk3 v3) (k0_t4 : Fin (k0_t4_loop v3).trips), ∀ a, (k0_off168 v3 k0_t4) a + S1x22x128.size a ≤ S2x22x2816.size a := fun v3 k0_hw3 k0_t4 => k0_hw3.2.2.2.2.2.2.2.2.1 k0_t4
theorem k0_off169_inb : ∀ (v3 : BitVec 32) (k0_hw3 : k0_chk3 v3) (k0_t4 : Fin (k0_t4_loop v3).trips), ∀ a, (k0_off169 v3 k0_t4) a + S1x1408x128.size a ≤ S2x1408x2816.size a := fun v3 k0_hw3 k0_t4 => k0_hw3.2.2.2.2.2.2.2.2.2.1 k0_t4
theorem k0_off170_inb : ∀ (v3 : BitVec 32) (k0_hw3 : k0_chk3 v3) (k0_t4 : Fin (k0_t4_loop v3).trips), ∀ a, (k0_off170 v3 k0_t4) a + S1x22x128.size a ≤ S2x22x2816.size a := fun v3 k0_hw3 k0_t4 => k0_hw3.2.2.2.2.2.2.2.2.2.2.1 k0_t4
theorem k0_off171_inb : ∀ (v3 : BitVec 32) (k0_hw3 : k0_chk3 v3) (k0_t4 : Fin (k0_t4_loop v3).trips), ∀ a, (k0_off171 v3 k0_t4) a + S1x704x256.size a ≤ S2x704x2816.size a := fun v3 k0_hw3 k0_t4 => k0_hw3.2.2.2.2.2.2.2.2.2.2.2.1 k0_t4
theorem k0_off172_inb : ∀ (v3 : BitVec 32) (k0_hw3 : k0_chk3 v3) (k0_t4 : Fin (k0_t4_loop v3).trips), ∀ a, (k0_off172 v3 k0_t4) a + S1x11x256.size a ≤ S2x11x2816.size a := fun v3 k0_hw3 k0_t4 => k0_hw3.2.2.2.2.2.2.2.2.2.2.2.2.1 k0_t4
theorem k0_off173_inb : ∀ (v3 : BitVec 32) (k0_hw3 : k0_chk3 v3) (k0_t4 : Fin (k0_t4_loop v3).trips), ∀ a, (k0_off173 v3 k0_t4) a + S1x704x256.size a ≤ S2x704x2816.size a := fun v3 k0_hw3 k0_t4 => k0_hw3.2.2.2.2.2.2.2.2.2.2.2.2.2.1 k0_t4
theorem k0_off174_inb : ∀ (v3 : BitVec 32) (k0_hw3 : k0_chk3 v3) (k0_t4 : Fin (k0_t4_loop v3).trips), ∀ a, (k0_off174 v3 k0_t4) a + S1x11x256.size a ≤ S2x11x2816.size a := fun v3 k0_hw3 k0_t4 => k0_hw3.2.2.2.2.2.2.2.2.2.2.2.2.2.2.1 k0_t4
theorem k0_off175_inb : ∀ (v3 : BitVec 32) (k0_hw3 : k0_chk3 v3) (k0_t4 : Fin (k0_t4_loop v3).trips), ∀ a, (k0_off175 v3 k0_t4) a + S1x704x256.size a ≤ S2x704x2816.size a := fun v3 k0_hw3 k0_t4 => k0_hw3.2.2.2.2.2.2.2.2.2.2.2.2.2.2.2.1 k0_t4
theorem k0_off176_inb : ∀ (v3 : BitVec 32) (k0_hw3 : k0_chk3 v3) (k0_t4 : Fin (k0_t4_loop v3).trips), ∀ a, (k0_off176 v3 k0_t4) a + S1x11x256.size a ≤ S2x11x2816.size a := fun v3 k0_hw3 k0_t4 => k0_hw3.2.2.2.2.2.2.2.2.2.2.2.2.2.2.2.2.1 k0_t4
theorem k0_off177_inb : ∀ (v3 : BitVec 32) (k0_hw3 : k0_chk3 v3) (k0_t4 : Fin (k0_t4_loop v3).trips), ∀ a, (k0_off177 v3 k0_t4) a + S1x704x256.size a ≤ S2x704x2816.size a := fun v3 k0_hw3 k0_t4 => k0_hw3.2.2.2.2.2.2.2.2.2.2.2.2.2.2.2.2.2.1 k0_t4
theorem k0_off178_inb : ∀ (v3 : BitVec 32) (k0_hw3 : k0_chk3 v3) (k0_t4 : Fin (k0_t4_loop v3).trips), ∀ a, (k0_off178 v3 k0_t4) a + S1x11x256.size a ≤ S2x11x2816.size a := fun v3 k0_hw3 k0_t4 => k0_hw3.2.2.2.2.2.2.2.2.2.2.2.2.2.2.2.2.2.2.1 k0_t4
theorem k0_off179_inb : ∀ (v3 : BitVec 32) (k0_hw3 : k0_chk3 v3) (k0_t4 : Fin (k0_t4_loop v3).trips), ∀ a, (k0_off179 v3 k0_t4) a + S1x704x256.size a ≤ S2x704x2816.size a := fun v3 k0_hw3 k0_t4 => k0_hw3.2.2.2.2.2.2.2.2.2.2.2.2.2.2.2.2.2.2.2.1 k0_t4
theorem k0_off180_inb : ∀ (v3 : BitVec 32) (k0_hw3 : k0_chk3 v3) (k0_t4 : Fin (k0_t4_loop v3).trips), ∀ a, (k0_off180 v3 k0_t4) a + S1x11x256.size a ≤ S2x11x2816.size a := fun v3 k0_hw3 k0_t4 => k0_hw3.2.2.2.2.2.2.2.2.2.2.2.2.2.2.2.2.2.2.2.2.1 k0_t4
theorem k0_off181_inb : ∀ (v3 : BitVec 32) (k0_hw3 : k0_chk3 v3) (k0_t4 : Fin (k0_t4_loop v3).trips), ∀ a, (k0_off181 v3 k0_t4) a + S1x704x256.size a ≤ S2x704x2816.size a := fun v3 k0_hw3 k0_t4 => k0_hw3.2.2.2.2.2.2.2.2.2.2.2.2.2.2.2.2.2.2.2.2.2.1 k0_t4
theorem k0_off182_inb : ∀ (v3 : BitVec 32) (k0_hw3 : k0_chk3 v3) (k0_t4 : Fin (k0_t4_loop v3).trips), ∀ a, (k0_off182 v3 k0_t4) a + S1x11x256.size a ≤ S2x11x2816.size a := fun v3 k0_hw3 k0_t4 => k0_hw3.2.2.2.2.2.2.2.2.2.2.2.2.2.2.2.2.2.2.2.2.2.2.1 k0_t4
theorem k0_off183_inb : ∀ (v3 : BitVec 32) (k0_hw3 : k0_chk3 v3) (k0_t4 : Fin (k0_t4_loop v3).trips), ∀ a, (k0_off183 v3 k0_t4) a + S1x704x256.size a ≤ S2x704x2816.size a := fun v3 k0_hw3 k0_t4 => k0_hw3.2.2.2.2.2.2.2.2.2.2.2.2.2.2.2.2.2.2.2.2.2.2.2.1 k0_t4
theorem k0_off184_inb : ∀ (v3 : BitVec 32) (k0_hw3 : k0_chk3 v3) (k0_t4 : Fin (k0_t4_loop v3).trips), ∀ a, (k0_off184 v3 k0_t4) a + S1x11x256.size a ≤ S2x11x2816.size a := fun v3 k0_hw3 k0_t4 => k0_hw3.2.2.2.2.2.2.2.2.2.2.2.2.2.2.2.2.2.2.2.2.2.2.2.2.1 k0_t4
theorem k0_off185_inb : ∀ (v3 : BitVec 32) (k0_hw3 : k0_chk3 v3) (k0_t4 : Fin (k0_t4_loop v3).trips), ∀ a, (k0_off185 v3 k0_t4) a + S1x704x256.size a ≤ S2x704x2816.size a := fun v3 k0_hw3 k0_t4 => k0_hw3.2.2.2.2.2.2.2.2.2.2.2.2.2.2.2.2.2.2.2.2.2.2.2.2.2.1 k0_t4
theorem k0_off186_inb : ∀ (v3 : BitVec 32) (k0_hw3 : k0_chk3 v3) (k0_t4 : Fin (k0_t4_loop v3).trips), ∀ a, (k0_off186 v3 k0_t4) a + S1x11x256.size a ≤ S2x11x2816.size a := fun v3 k0_hw3 k0_t4 => k0_hw3.2.2.2.2.2.2.2.2.2.2.2.2.2.2.2.2.2.2.2.2.2.2.2.2.2.2.1 k0_t4
theorem k0_off187_inb : ∀ (v3 : BitVec 32) (k0_hw3 : k0_chk3 v3) (k0_t4 : Fin (k0_t4_loop v3).trips), ∀ a, (k0_off187 v3 k0_t4) a + S1x704x256.size a ≤ S2x704x2816.size a := fun v3 k0_hw3 k0_t4 => k0_hw3.2.2.2.2.2.2.2.2.2.2.2.2.2.2.2.2.2.2.2.2.2.2.2.2.2.2.2.1 k0_t4
theorem k0_off188_inb : ∀ (v3 : BitVec 32) (k0_hw3 : k0_chk3 v3) (k0_t4 : Fin (k0_t4_loop v3).trips), ∀ a, (k0_off188 v3 k0_t4) a + S1x11x256.size a ≤ S2x11x2816.size a := fun v3 k0_hw3 k0_t4 => k0_hw3.2.2.2.2.2.2.2.2.2.2.2.2.2.2.2.2.2.2.2.2.2.2.2.2.2.2.2.2.1 k0_t4
theorem k0_off189_inb : ∀ (v3 : BitVec 32) (k0_hw3 : k0_chk3 v3) (k0_t4 : Fin (k0_t4_loop v3).trips), ∀ a, (k0_off189 v3 k0_t4) a + S1x704x256.size a ≤ S2x704x2816.size a := fun v3 k0_hw3 k0_t4 => k0_hw3.2.2.2.2.2.2.2.2.2.2.2.2.2.2.2.2.2.2.2.2.2.2.2.2.2.2.2.2.2.1 k0_t4
theorem k0_off190_inb : ∀ (v3 : BitVec 32) (k0_hw3 : k0_chk3 v3) (k0_t4 : Fin (k0_t4_loop v3).trips), ∀ a, (k0_off190 v3 k0_t4) a + S1x11x256.size a ≤ S2x11x2816.size a := fun v3 k0_hw3 k0_t4 => k0_hw3.2.2.2.2.2.2.2.2.2.2.2.2.2.2.2.2.2.2.2.2.2.2.2.2.2.2.2.2.2.2.1 k0_t4
theorem k0_off191_inb : ∀ (v3 : BitVec 32) (k0_hw3 : k0_chk3 v3) (k0_t4 : Fin (k0_t4_loop v3).trips), ∀ a, (k0_off191 v3 k0_t4) a + S1x704x256.size a ≤ S2x704x2816.size a := fun v3 k0_hw3 k0_t4 => k0_hw3.2.2.2.2.2.2.2.2.2.2.2.2.2.2.2.2.2.2.2.2.2.2.2.2.2.2.2.2.2.2.2.1 k0_t4
theorem k0_off192_inb : ∀ (v3 : BitVec 32) (k0_hw3 : k0_chk3 v3) (k0_t4 : Fin (k0_t4_loop v3).trips), ∀ a, (k0_off192 v3 k0_t4) a + S1x11x256.size a ≤ S2x11x2816.size a := fun v3 k0_hw3 k0_t4 => k0_hw3.2.2.2.2.2.2.2.2.2.2.2.2.2.2.2.2.2.2.2.2.2.2.2.2.2.2.2.2.2.2.2.2 k0_t4

abbrev stage0_0 : Fin 1 → Memref sig .tc .smem S144 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S24x6 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S24x6 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S24x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S24x1x2816 : Shape := ⟨3, ![24, 1, 2816]⟩
abbrev S24x1x6 : Shape := ⟨3, ![24, 1, 6]⟩
abbrev S32x1408x2816 : Shape := ⟨3, ![32, 1408, 2816]⟩
abbrev S32x22x2816 : Shape := ⟨3, ![32, 22, 2816]⟩
abbrev S32x704x2816 : Shape := ⟨3, ![32, 704, 2816]⟩
abbrev S32x11x2816 : Shape := ⟨3, ![32, 11, 2816]⟩
abbrev S_ : Shape := ⟨0, ![]⟩
abbrev S32x1408x1x2816 : Shape := ⟨4, ![32, 1408, 1, 2816]⟩
abbrev S32x1408x2x2816 : Shape := ⟨4, ![32, 1408, 2, 2816]⟩
abbrev S32x22x128x2816 : Shape := ⟨4, ![32, 22, 128, 2816]⟩
abbrev S32x22x1x2816 : Shape := ⟨4, ![32, 22, 1, 2816]⟩
abbrev S32x2816x2816 : Shape := ⟨3, ![32, 2816, 2816]⟩
abbrev S24x1x6x1 : Shape := ⟨4, ![24, 1, 6, 1]⟩
abbrev S24x1x6x2816x2816 : Shape := ⟨5, ![24, 1, 6, 2816, 2816]⟩
abbrev S32x704x1x2816 : Shape := ⟨4, ![32, 704, 1, 2816]⟩
abbrev S32x704x2x2816 : Shape := ⟨4, ![32, 704, 2, 2816]⟩
abbrev S32x11x128x2816 : Shape := ⟨4, ![32, 11, 128, 2816]⟩
abbrev S32x11x1x2816 : Shape := ⟨4, ![32, 11, 1, 2816]⟩
abbrev S24x1x6x1408x2816 : Shape := ⟨5, ![24, 1, 6, 1408, 2816]⟩
abbrev S24x1x6x2816 : Shape := ⟨4, ![24, 1, 6, 2816]⟩
abbrev S24x1x6x1408 : Shape := ⟨4, ![24, 1, 6, 1408]⟩

abbrev nBuf : Space → Nat
  | .hbm => 92
  | .vmem => 0
  | .smem => 0
  | _ => 0

abbrev bufTy : (tb : Table) → Fin (tcTables nBuf tb) → BufTy
  | .hbm, ⟨0, _⟩ => ⟨S24x1x2816, .bf16⟩
  | .hbm, ⟨1, _⟩ => ⟨S24x1x6, .i32⟩
  | .hbm, ⟨2, _⟩ => ⟨S24x1x6, .f32⟩
  | .hbm, ⟨3, _⟩ => ⟨S32x1408x2816, .i8⟩
  | .hbm, ⟨4, _⟩ => ⟨S32x22x2816, .bf16⟩
  | .hbm, ⟨5, _⟩ => ⟨S32x704x2816, .i8⟩
  | .hbm, ⟨6, _⟩ => ⟨S32x11x2816, .bf16⟩
  | .hbm, ⟨7, _⟩ => ⟨S32x1408x2816, .i32⟩
  | .hbm, ⟨8, _⟩ => ⟨S_, .i32⟩
  | .hbm, ⟨9, _⟩ => ⟨S32x1408x2816, .i32⟩
  | .hbm, ⟨10, _⟩ => ⟨S32x1408x2816, .i32⟩
  | .hbm, ⟨11, _⟩ => ⟨S_, .i32⟩
  | .hbm, ⟨12, _⟩ => ⟨S32x1408x2816, .i32⟩
  | .hbm, ⟨13, _⟩ => ⟨S32x1408x2816, .i32⟩
  | .hbm, ⟨14, _⟩ => ⟨S32x1408x1x2816, .i32⟩
  | .hbm, ⟨15, _⟩ => ⟨S32x1408x1x2816, .i32⟩
  | .hbm, ⟨16, _⟩ => ⟨S32x1408x2x2816, .i32⟩
  | .hbm, ⟨17, _⟩ => ⟨S_, .i32⟩
  | .hbm, ⟨18, _⟩ => ⟨S32x1408x2x2816, .i32⟩
  | .hbm, ⟨19, _⟩ => ⟨S32x1408x2x2816, .i1⟩
  | .hbm, ⟨20, _⟩ => ⟨S_, .i32⟩
  | .hbm, ⟨21, _⟩ => ⟨S32x1408x2x2816, .i32⟩
  | .hbm, ⟨22, _⟩ => ⟨S32x1408x2x2816, .i32⟩
  | .hbm, ⟨23, _⟩ => ⟨S32x1408x2x2816, .i32⟩
  | .hbm, ⟨24, _⟩ => ⟨S32x22x128x2816, .i32⟩
  | .hbm, ⟨25, _⟩ => ⟨S32x22x128x2816, .bf16⟩
  | .hbm, ⟨26, _⟩ => ⟨S32x22x1x2816, .bf16⟩
  | .hbm, ⟨27, _⟩ => ⟨S32x22x128x2816, .bf16⟩
  | .hbm, ⟨28, _⟩ => ⟨S32x22x128x2816, .bf16⟩
  | .hbm, ⟨29, _⟩ => ⟨S32x2816x2816, .bf16⟩
  | .hbm, ⟨30, _⟩ => ⟨S_, .i32⟩
  | .hbm, ⟨31, _⟩ => ⟨S24x1x6, .i32⟩
  | .hbm, ⟨32, _⟩ => ⟨S24x1x6, .i1⟩
  | .hbm, ⟨33, _⟩ => ⟨S_, .i32⟩
  | .hbm, ⟨34, _⟩ => ⟨S24x1x6, .i32⟩
  | .hbm, ⟨35, _⟩ => ⟨S24x1x6, .i32⟩
  | .hbm, ⟨36, _⟩ => ⟨S24x1x6, .i32⟩
  | .hbm, ⟨37, _⟩ => ⟨S24x1x6x1, .i32⟩
  | .hbm, ⟨38, _⟩ => ⟨S24x1x6x2816x2816, .bf16⟩
  | .hbm, ⟨39, _⟩ => ⟨S32x704x2816, .i32⟩
  | .hbm, ⟨40, _⟩ => ⟨S_, .i32⟩
  | .hbm, ⟨41, _⟩ => ⟨S32x704x2816, .i32⟩
  | .hbm, ⟨42, _⟩ => ⟨S32x704x2816, .i32⟩
  | .hbm, ⟨43, _⟩ => ⟨S_, .i32⟩
  | .hbm, ⟨44, _⟩ => ⟨S32x704x2816, .i32⟩
  | .hbm, ⟨45, _⟩ => ⟨S32x704x2816, .i32⟩
  | .hbm, ⟨46, _⟩ => ⟨S32x704x1x2816, .i32⟩
  | .hbm, ⟨47, _⟩ => ⟨S32x704x1x2816, .i32⟩
  | .hbm, ⟨48, _⟩ => ⟨S32x704x2x2816, .i32⟩
  | .hbm, ⟨49, _⟩ => ⟨S_, .i32⟩
  | .hbm, ⟨50, _⟩ => ⟨S32x704x2x2816, .i32⟩
  | .hbm, ⟨51, _⟩ => ⟨S32x704x2x2816, .i1⟩
  | .hbm, ⟨52, _⟩ => ⟨S_, .i32⟩
  | .hbm, ⟨53, _⟩ => ⟨S32x704x2x2816, .i32⟩
  | .hbm, ⟨54, _⟩ => ⟨S32x704x2x2816, .i32⟩
  | .hbm, ⟨55, _⟩ => ⟨S32x704x2x2816, .i32⟩
  | .hbm, ⟨56, _⟩ => ⟨S32x11x128x2816, .i32⟩
  | .hbm, ⟨57, _⟩ => ⟨S32x11x128x2816, .bf16⟩
  | .hbm, ⟨58, _⟩ => ⟨S32x11x1x2816, .bf16⟩
  | .hbm, ⟨59, _⟩ => ⟨S32x11x128x2816, .bf16⟩
  | .hbm, ⟨60, _⟩ => ⟨S32x11x128x2816, .bf16⟩
  | .hbm, ⟨61, _⟩ => ⟨S32x1408x2816, .bf16⟩
  | .hbm, ⟨62, _⟩ => ⟨S_, .i32⟩
  | .hbm, ⟨63, _⟩ => ⟨S24x1x6, .i32⟩
  | .hbm, ⟨64, _⟩ => ⟨S24x1x6, .i1⟩
  | .hbm, ⟨65, _⟩ => ⟨S_, .i32⟩
  | .hbm, ⟨66, _⟩ => ⟨S24x1x6, .i32⟩
  | .hbm, ⟨67, _⟩ => ⟨S24x1x6, .i32⟩
  | .hbm, ⟨68, _⟩ => ⟨S24x1x6, .i32⟩
  | .hbm, ⟨69, _⟩ => ⟨S24x1x6x1, .i32⟩
  | .hbm, ⟨70, _⟩ => ⟨S24x1x6x1408x2816, .bf16⟩
  | .hbm, ⟨71, _⟩ => ⟨S24x1x6x2816, .f32⟩
  | .hbm, ⟨72, _⟩ => ⟨S24x1x6x1408, .f32⟩
  | .hbm, ⟨73, _⟩ => ⟨S24x1x6x1408, .f32⟩
  | .hbm, ⟨74, _⟩ => ⟨S24x1x6x1408, .f32⟩
  | .hbm, ⟨75, _⟩ => ⟨S24x1x6x1408, .f32⟩
  | .hbm, ⟨76, _⟩ => ⟨S_, .f32⟩
  | .hbm, ⟨77, _⟩ => ⟨S24x1x6x1408, .f32⟩
  | .hbm, ⟨78, _⟩ => ⟨S24x1x6x1408, .f32⟩
  | .hbm, ⟨79, _⟩ => ⟨S_, .f32⟩
  | .hbm, ⟨80, _⟩ => ⟨S24x1x6x1408, .f32⟩
  | .hbm, ⟨81, _⟩ => ⟨S24x1x6x1408, .f32⟩
  | .hbm, ⟨82, _⟩ => ⟨S24x1x6x1408, .f32⟩
  | .hbm, ⟨83, _⟩ => ⟨S24x1x6x1408, .f32⟩
  | .hbm, ⟨84, _⟩ => ⟨S24x1x6x1408, .bf16⟩
  | .hbm, ⟨85, _⟩ => ⟨S24x1x6x2816, .f32⟩
  | .hbm, ⟨86, _⟩ => ⟨S24x1x6x1, .f32⟩
  | .hbm, ⟨87, _⟩ => ⟨S24x1x6x2816, .f32⟩
  | .hbm, ⟨88, _⟩ => ⟨S24x1x6x2816, .f32⟩
  | .hbm, ⟨89, _⟩ => ⟨S_, .f32⟩
  | .hbm, ⟨90, _⟩ => ⟨S24x1x2816, .f32⟩
  | .hbm, ⟨91, _⟩ => ⟨S24x1x2816, .bf16⟩
  | _, _ => ⟨S24x1x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_1 : Ref sig .tc := ⟨.hbm, 17, rfl⟩
abbrev main_v8 : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_c_8 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_c_9 : Ref sig .tc := ⟨.hbm, 62, rfl⟩
abbrev main_v45 : Ref sig .tc := ⟨.hbm, 63, rfl⟩
abbrev main_v46 : Ref sig .tc := ⟨.hbm, 64, rfl⟩
abbrev main_c_10 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_call2_v0 : Ref sig .tc := ⟨.hbm, 74, rfl⟩
abbrev main_call2_v1 : Ref sig .tc := ⟨.hbm, 75, rfl⟩
abbrev main_call2_cst : Ref sig .tc := ⟨.hbm, 76, rfl⟩
abbrev main_call2_v2 : Ref sig .tc := ⟨.hbm, 77, rfl⟩
abbrev main_call2_v3 : Ref sig .tc := ⟨.hbm, 78, rfl⟩
abbrev main_call2_cst_0 : Ref sig .tc := ⟨.hbm, 79, rfl⟩
abbrev main_call2_v4 : Ref sig .tc := ⟨.hbm, 80, rfl⟩
abbrev main_call2_v5 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst : Ref sig .tc := ⟨.hbm, 89, rfl⟩
abbrev main_v62 : Ref sig .tc := ⟨.hbm, 90, rfl⟩
abbrev main_v63 : Ref sig .tc := ⟨.hbm, 91, rfl⟩

abbrev nD : Nat := 1
abbrev τ : Topo := Topo.v7x

variable {F : FTy → Type} [FloatOps F]
-- ==== Proof.Pre.lean ====
/- What the two preconditions say of the argument arrays: every id names one of the 32 experts, and, for the second,
   the ids of one token differ. -/
module

public import proofs.«01_k».proof.Defs
public import proofs.«01_k».proof.Proof.Gen.Pre_ids_in_range
public import proofs.«01_k».proof.Proof.Gen.Pre_ids_distinct
public import Idealize.ShloMosaic.Lib.ReduceAll
public import Idealize.ShloMosaic.Lib.Affine
public import Idealize.ShloMosaic.Lib.Pointwise

@[expose] public section

noncomputable section

namespace Cert.Proof.Pre

open Idealize.ShloMosaic

attribute [local instance] Cert.Pre_ids_in_range.Gen.facts Cert.Pre_ids_distinct.Gen.facts

variable {F : FTy → Type} [FloatOps F]

theorem ofBool_one (p : Bool) : (BitVec.ofBool p = 1#1) ↔ p = true := by cases p <;> decide

/-- A word that is at least 0 and below 32, read with its sign, is below 32 read without. -/
theorem lt_of_signed (w : BitVec 32) (h0 : IntOp.cmpi .sge w 0#32 = 1#1) (h1 : IntOp.cmpi .slt w 32#32 = 1#1) : w.toNat < 32 := by
  simp only [IntOp.cmpi, ofBool_one, BitVec.sle_eq_decide, BitVec.slt_eq_decide, decide_eq_true_eq] at h0 h1
  have e0 : (0#32 : BitVec 32).toInt = 0 := by decide
  have e1 : (32#32 : BitVec 32).toInt = 32 := by decide
  rw [e0] at h0; rw [e1] at h1
  rw [BitVec.toInt_eq_toNat_cond] at h0 h1
  split at h0 <;> split at h1 <;> omega

instance : Subsingleton (Cert.Pre_ids_in_range.S_.Idx) := ⟨fun a b => funext fun i => i.elim0⟩

open Cert.Pre_ids_in_range in
/-- `ids_in_range`: every id is below 32. -/
theorem in_range (x0 : FVec F S24x1x2816 .bf16) (x1 : IVec S24x1x6 32) (x2 : FVec F S24x1x6 .f32) (x3 : IVec S32x1408x2816 8) (x4 : FVec F S32x22x2816 .bf16) (x5 : IVec S32x704x2816 8) (x6 : FVec F S32x11x2816 .bf16)
    (h : fn x0 x1 x2 x3 x4 x5 x6 = fun _ => 1#1) (j : S24x1x6.Idx) : (x1 j).toNat < 32 := by
  have e := congrFun h (fun a => a.elim0)
  have e' := Host.reduce_andi_all _ _ _ _ _ e j
  obtain ⟨h0, h1⟩ := IntOp.andi_eq_one.1 e'
  exact lt_of_signed _ h0 h1

theorem iota_inj : ∀ k l : Fin 6, (BitVec.ofBool true == BitVec.ofBool (BitVec.ofNat 32 k.val == BitVec.ofNat 32 l.val)) = true → k = l := by decide

open Cert.Pre_ids_distinct in
/-- `ids_distinct`: every id is below 32, and no token names an expert twice. -/
theorem distinct (x0 : FVec F S24x1x2816 .bf16) (x1 : IVec S24x1x6 32) (x2 : FVec F S24x1x6 .f32) (x3 : IVec S32x1408x2816 8) (x4 : FVec F S32x22x2816 .bf16) (x5 : IVec S32x704x2816 8) (x6 : FVec F S32x11x2816 .bf16)
    (h : fn x0 x1 x2 x3 x4 x5 x6 = fun _ => 1#1) :
    (∀ j : S24x1x6.Idx, (x1 j).toNat < 32) ∧ ∀ (b : Fin 24) (k l : Fin 6), x1 (ix3 b 0 k) = x1 (ix3 b 0 l) → k = l := by
  have e := congrFun h (fun a => a.elim0)
  unfold fn fn_part1 at e
  obtain ⟨e1, e2⟩ := IntOp.andi_eq_one.1 e
  constructor
  · intro j
    have e' := Host.reduce_andi_all _ _ _ _ _ e2 j
    obtain ⟨h0, h1⟩ := IntOp.andi_eq_one.1 e'
    exact lt_of_signed _ h0 h1
  · intro b k l hkl
    have e' := Host.reduce_andi_all _ _ _ _ _ e1 (ix4 b 0 k l)
    pointwise at e'
    simp only [IntOp.cmpi, ofBool_one] at e'
    rw [hkl] at e'
    rw [beq_self_eq_true] at e'
    exact iota_inj k l e'

end Cert.Proof.Pre

end
-- ==== Proof.Ideal.Names.lean ====
/-
  Names for the double buffer of the kernel: slot `s` of each of the four weight buffers, expert `b` of each of
  the four weight arrays, the eight transfer semaphores; and the closed forms of the slice offsets the body
  computes from its induction variable (slot `k % 2` at trip `k`).
-/
module

public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Ring
public import Idealize.ShloMosaic.Lib.Affine
public import Idealize.ShloMosaic.Lib.Tactic
public import Idealize.ShloMosaic.Lib.Pipeline.FrameBody
public import Idealize.ShloMosaic.Lib.Pipeline.FrameSuffix

@[expose] public section

noncomputable section

namespace Cert.Proof.Ideal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## Offsets -/

abbrev expOff (b : Fin 32) : Fin 3 → Nat := ![b.val, 0, 0]
abbrev slotOff (s : Fin 2) (c : Nat) : Fin 3 → Nat := ![s.val, 0, c]
abbrev semOff (s : Fin 2) (j : Nat) : Fin 2 → Nat := ![s.val, j]

theorem semOff_inb (s : Fin 2) (j : Fin 4) : ∀ a, semOff s j a + S1x1.size a ≤ S2x4.size a := by
  have := s.isLt; have := j.isLt; intro a; fin_cases a
  · show s.val + 1 ≤ 2; omega
  · show j.val + 1 ≤ 4; omega

theorem guE_inb (b : Fin 32) : ∀ a, expOff b a + S1x1408x2816.size a ≤ S32x1408x2816.size a := by
  have := b.isLt; intro a; fin_cases a
  · show b.val + 1 ≤ 32; omega
  · show 0 + 1408 ≤ 1408; omega
  · show 0 + 2816 ≤ 2816; omega
theorem guS_inb (s : Fin 2) : ∀ a, slotOff s 0 a + S1x1408x2816.size a ≤ S2x1408x2816.size a := by
  have := s.isLt; intro a; fin_cases a
  · show s.val + 1 ≤ 2; omega
  · show 0 + 1408 ≤ 1408; omega
  · show 0 + 2816 ≤ 2816; omega

theorem sguE_inb (b : Fin 32) : ∀ a, expOff b a + S1x22x2816.size a ≤ S32x22x2816.size a := by
  have := b.isLt; intro a; fin_cases a
  · show b.val + 1 ≤ 32; omega
  · show 0 + 22 ≤ 22; omega
  · show 0 + 2816 ≤ 2816; omega
theorem sguS_inb (s : Fin 2) : ∀ a, slotOff s 0 a + S1x22x2816.size a ≤ S2x22x2816.size a := by
  have := s.isLt; intro a; fin_cases a
  · show s.val + 1 ≤ 2; omega
  · show 0 + 22 ≤ 22; omega
  · show 0 + 2816 ≤ 2816; omega

theorem dnE_inb (b : Fin 32) : ∀ a, expOff b a + S1x704x2816.size a ≤ S32x704x2816.size a := by
  have := b.isLt; intro a; fin_cases a
  · show b.val + 1 ≤ 32; omega
  · show 0 + 704 ≤ 704; omega
  · show 0 + 2816 ≤ 2816; omega
theorem dnS_inb (s : Fin 2) : ∀ a, slotOff s 0 a + S1x704x2816.size a ≤ S2x704x2816.size a := by
  have := s.isLt; intro a; fin_cases a
  · show s.val + 1 ≤ 2; omega
  · show 0 + 704 ≤ 704; omega
  · show 0 + 2816 ≤ 2816; omega

theorem sdnE_inb (b : Fin 32) : ∀ a, expOff b a + S1x11x2816.size a ≤ S32x11x2816.size a := by
  have := b.isLt; intro a; fin_cases a
  · show b.val + 1 ≤ 32; omega
  · show 0 + 11 ≤ 11; omega
  · show 0 + 2816 ≤ 2816; omega
theorem sdnS_inb (s : Fin 2) : ∀ a, slotOff s 0 a + S1x11x2816.size a ≤ S2x11x2816.size a := by
  have := s.isLt; intro a; fin_cases a
  · show s.val + 1 ≤ 2; omega
  · show 0 + 11 ≤ 11; omega
  · show 0 + 2816 ≤ 2816; omega

/-! ## The memory names -/

abbrev guA : Memref sig .tc .hbm S32x1408x2816 .i8 := Memref.whole main_arg3
abbrev guB : Memref sig .tc .vmem S2x1408x2816 .i8 := Memref.whole cc0_scratch0
/-- Expert `b` of the array. -/
def guE (b : Fin 32) : Memref sig .tc .hbm S1408x2816 .i8 :=
  (guA.slice (Rect.unit (s := S32x1408x2816) (expOff b) S1x1408x2816.size (guE_inb b)) (fun _ => rfl)).squeeze S1408x2816 squeezes_S1x1408x2816_S1408x2816
/-- Slot `s` of the buffer. -/
def guS (s : Fin 2) : Memref sig .tc .vmem S1408x2816 .i8 :=
  (guB.slice (Rect.unit (s := S2x1408x2816) (slotOff s 0) S1x1408x2816.size (guS_inb s)) (fun _ => rfl)).squeeze S1408x2816 squeezes_S1x1408x2816_S1408x2816
abbrev sguA : Memref sig .tc .hbm S32x22x2816 .bf16 := Memref.whole main_arg4
abbrev sguB : Memref sig .tc .vmem S2x22x2816 .bf16 := Memref.whole cc0_scratch1
/-- Expert `b` of the array. -/
def sguE (b : Fin 32) : Memref sig .tc .hbm S22x2816 .bf16 :=
  (sguA.slice (Rect.unit (s := S32x22x2816) (expOff b) S1x22x2816.size (sguE_inb b)) (fun _ => rfl)).squeeze S22x2816 squeezes_S1x22x2816_S22x2816
/-- Slot `s` of the buffer. -/
def sguS (s : Fin 2) : Memref sig .tc .vmem S22x2816 .bf16 :=
  (sguB.slice (Rect.unit (s := S2x22x2816) (slotOff s 0) S1x22x2816.size (sguS_inb s)) (fun _ => rfl)).squeeze S22x2816 squeezes_S1x22x2816_S22x2816
abbrev dnA : Memref sig .tc .hbm S32x704x2816 .i8 := Memref.whole main_arg5
abbrev dnB : Memref sig .tc .vmem S2x704x2816 .i8 := Memref.whole cc0_scratch2
/-- Expert `b` of the array. -/
def dnE (b : Fin 32) : Memref sig .tc .hbm S704x2816 .i8 :=
  (dnA.slice (Rect.unit (s := S32x704x2816) (expOff b) S1x704x2816.size (dnE_inb b)) (fun _ => rfl)).squeeze S704x2816 squeezes_S1x704x2816_S704x2816
/-- Slot `s` of the buffer. -/
def dnS (s : Fin 2) : Memref sig .tc .vmem S704x2816 .i8 :=
  (dnB.slice (Rect.unit (s := S2x704x2816) (slotOff s 0) S1x704x2816.size (dnS_inb s)) (fun _ => rfl)).squeeze S704x2816 squeezes_S1x704x2816_S704x2816
abbrev sdnA : Memref sig .tc .hbm S32x11x2816 .bf16 := Memref.whole main_arg6
abbrev sdnB : Memref sig .tc .vmem S2x11x2816 .bf16 := Memref.whole cc0_scratch3
/-- Expert `b` of the array. -/
def sdnE (b : Fin 32) : Memref sig .tc .hbm S11x2816 .bf16 :=
  (sdnA.slice (Rect.unit (s := S32x11x2816) (expOff b) S1x11x2816.size (sdnE_inb b)) (fun _ => rfl)).squeeze S11x2816 squeezes_S1x11x2816_S11x2816
/-- Slot `s` of the buffer. -/
def sdnS (s : Fin 2) : Memref sig .tc .vmem S11x2816 .bf16 :=
  (sdnB.slice (Rect.unit (s := S2x11x2816) (slotOff s 0) S1x11x2816.size (sdnS_inb s)) (fun _ => rfl)).squeeze S11x2816 squeezes_S1x11x2816_S11x2816
/-- Transfer semaphore `j` of slot `s`. -/
def csm (s : Fin 2) (j : Fin 4) : DmaSems sig S_ :=
  (cc0_scratch7.slice (Rect.unit (s := S2x4) (semOff s j) S1x1.size (semOff_inb s j))).squeeze S_ squeezes_S1x1_S_

instance (s : Fin 2) (c : Nat) : ClosedOff (slotOff s c) := ⟨slotOff s c, rfl⟩
instance (b : Fin 32) : ClosedOff (expOff b) := ⟨expOff b, rfl⟩

/-! ## The induction variable in closed form -/

section Chain
variable (v : BitVec 32)
open Affine

theorem isInt_v33 : IsInt (Scalar.subi v 0#32) v.toInt := by
  have hr := word_range v
  exact subi (e := v.toInt) (word v) (ofNat (e := 0) 0 ⟨rfl, by decide⟩) ⟨by omega, by omega, by omega⟩
theorem isInt_v37 : IsInt (Scalar.addi 0#32 (Scalar.muli (Scalar.divsi (Scalar.subi v 0#32) 1#32) 1#32)) v.toInt := by
  have hr := word_range v
  have h17 : IsInt (Scalar.divsi (Scalar.subi v 0#32) 1#32) v.toInt := divsi_one (isInt_v33 v) (ofNat (e := 1) 1 ⟨rfl, by decide⟩) ⟨rfl, rfl⟩
  have h18 : IsInt (Scalar.muli (Scalar.divsi (Scalar.subi v 0#32) 1#32) 1#32) v.toInt :=
    muli (e := v.toInt) h17 (ofNat (e := 1) 1 ⟨rfl, by decide⟩) ⟨by omega, by omega, by omega⟩
  exact addi (e := v.toInt) (ofNat (e := 0) 0 ⟨rfl, by decide⟩) h18 ⟨by omega, by omega, by omega⟩
theorem isInt_v34 : IsInt (Scalar.addi 0#32 (Scalar.subi v 0#32)) v.toInt := by
  have hr := word_range v
  exact addi (e := v.toInt) (ofNat (e := 0) 0 ⟨rfl, by decide⟩) (isInt_v33 v) ⟨by omega, by omega, by omega⟩

theorem toInt_of_isInt {x : BitVec 32} {e : Int} (h : IsInt x e) : x.toInt = e := by
  delta Affine.IsInt at h; exact h

/-- The main loop runs `v` trips, `v` read signed; -/
theorem trips3_eq : (k0_t3_loop v).trips = v.toInt.toNat := by
  show Scf.trips 0#32 (Scalar.addi 0#32 (Scalar.muli (Scalar.divsi (Scalar.subi v 0#32) 1#32) 1#32)) 1#32 = _
  unfold Scf.trips; rw [toInt_of_isInt (isInt_v37 v)]; simp
/-- the remainder loop none. -/
theorem trips4_eq : (k0_t4_loop v).trips = 0 := by
  show Scf.trips (Scalar.addi 0#32 (Scalar.muli (Scalar.divsi (Scalar.subi v 0#32) 1#32) 1#32)) (Scalar.addi 0#32 (Scalar.subi v 0#32)) 1#32 = 0
  unfold Scf.trips; rw [toInt_of_isInt (isInt_v37 v), toInt_of_isInt (isInt_v34 v)]; simp

theorem trips3_lt (k : Fin (k0_t3_loop v).trips) : (k.val : Int) < 2 ^ 31 - 1 := by
  have h := Nat.lt_of_lt_of_eq k.isLt (trips3_eq v); have := word_range v; omega

theorem isInt_iv (k : Fin (k0_t3_loop v).trips) : IsInt (Scf.iv 0#32 1#32 k.val) k.val :=
  iv (e := k.val) (ofNat (e := 0) 0 ⟨rfl, by decide⟩) (ofNat (e := 1) 1 ⟨rfl, by decide⟩) k.val ⟨by omega, by omega, by have := trips3_lt v k; omega⟩
theorem isInt_succ (k : Fin (k0_t3_loop v).trips) : IsInt (Scalar.addi (Scf.iv 0#32 1#32 k.val) 1#32) (k.val + 1 : Nat) :=
  addi (e := (k.val + 1 : Nat)) (isInt_iv v k) (ofNat (e := 1) 1 ⟨rfl, by decide⟩) ⟨by push_cast; omega, by push_cast; omega, by have := trips3_lt v k; push_cast; omega⟩
theorem isInt_rem (k : Fin (k0_t3_loop v).trips) : IsInt (Scalar.remsi (Scf.iv 0#32 1#32 k.val) 2#32) (k.val % 2 : Nat) :=
  remsi (e := (k.val % 2 : Nat)) (isInt_iv v k) (ofNat (e := 2) 2 ⟨rfl, by decide⟩) ⟨by omega, by omega, by omega⟩
theorem isInt_other (k : Fin (k0_t3_loop v).trips) : IsInt (Scalar.subi 1#32 (Scalar.remsi (Scf.iv 0#32 1#32 k.val) 2#32)) ((k.val + 1) % 2 : Nat) :=
  subi (e := ((k.val + 1) % 2 : Nat)) (ofNat (e := 1) 1 ⟨rfl, by decide⟩) (isInt_rem v k) ⟨by push_cast; omega, by omega, by omega⟩

theorem slot_at (k : Fin (k0_t3_loop v).trips) (c : Nat) :
    (![(Scalar.remsi (Scf.iv 0#32 1#32 k.val) 2#32).toNat, 0, c] : Fin 3 → Nat) = slotOff (Ring.sl 2 k.val) c :=
  vec_cons (isInt_rem v k) (by simp [Ring.sl, Fin.ofNat]) rfl
theorem slot_box (k : Fin (k0_t3_loop v).trips) (c : Nat) :
    (![(Scalar.indexCast (Scalar.remsi (Scf.iv 0#32 1#32 k.val) 2#32)).toNat, 0, c] : Fin 3 → Nat) = slotOff (Ring.sl 2 k.val) c :=
  vec_cons (indexCast (isInt_rem v k)) (by simp [Ring.sl, Fin.ofNat]) rfl
theorem slot_next (k : Fin (k0_t3_loop v).trips) (c : Nat) :
    (![(Scalar.subi 1#32 (Scalar.remsi (Scf.iv 0#32 1#32 k.val) 2#32)).toNat, 0, c] : Fin 3 → Nat) = slotOff (Ring.sl 2 (k.val + 1)) c :=
  vec_cons (isInt_other v k) (by simp [Ring.sl, Fin.ofNat]) rfl
theorem sem_at (k : Fin (k0_t3_loop v).trips) (j : Nat) :
    (![(Scalar.remsi (Scf.iv 0#32 1#32 k.val) 2#32).toNat, j] : Fin 2 → Nat) = semOff (Ring.sl 2 k.val) j :=
  vec_cons (isInt_rem v k) (by simp [Ring.sl, Fin.ofNat]) rfl
theorem sem_next (k : Fin (k0_t3_loop v).trips) (j : Nat) :
    (![(Scalar.subi 1#32 (Scalar.remsi (Scf.iv 0#32 1#32 k.val) 2#32)).toNat, j] : Fin 2 → Nat) = semOff (Ring.sl 2 (k.val + 1)) j :=
  vec_cons (isInt_other v k) (by simp [Ring.sl, Fin.ofNat]) rfl
theorem word_at (k : Fin (k0_t3_loop v).trips) :
    (![(Scalar.indexCast (Scf.iv 0#32 1#32 k.val)).toNat] : Fin 1 → Nat) = ![k.val] :=
  vec_cons (indexCast (isInt_iv v k)) rfl rfl
theorem word_next (k : Fin (k0_t3_loop v).trips) :
    (![(Scalar.indexCast (Scalar.addi (Scf.iv 0#32 1#32 k.val) 1#32)).toNat] : Fin 1 → Nat) = ![k.val + 1] :=
  vec_cons (indexCast (isInt_succ v k)) rfl rfl

instance (k : Fin (k0_t3_loop v).trips) : ClosedOff (k0_off20 v k) := ⟨![k.val], word_at v k⟩
instance (k : Fin (k0_t3_loop v).trips) : ClosedOff (k0_off33 v k) := ⟨![k.val], word_at v k⟩
instance (k : Fin (k0_t3_loop v).trips) : ClosedOff (k0_off7 v k) := ⟨![k.val + 1], word_next v k⟩
instance (k : Fin (k0_t3_loop v).trips) : ClosedOff (k0_off22 v k) := ⟨slotOff (Ring.sl 2 k.val) 0, slot_at v k 0⟩
instance (k : Fin (k0_t3_loop v).trips) : ClosedOff (k0_off25 v k) := ⟨slotOff (Ring.sl 2 k.val) 0, slot_at v k 0⟩
instance (k : Fin (k0_t3_loop v).trips) : ClosedOff (k0_off28 v k) := ⟨slotOff (Ring.sl 2 k.val) 0, slot_at v k 0⟩
instance (k : Fin (k0_t3_loop v).trips) : ClosedOff (k0_off31 v k) := ⟨slotOff (Ring.sl 2 k.val) 0, slot_at v k 0⟩
instance (k : Fin (k0_t3_loop v).trips) : ClosedOff (k0_off9 v k) := ⟨slotOff (Ring.sl 2 (k.val + 1)) 0, slot_next v k 0⟩
instance (k : Fin (k0_t3_loop v).trips) : ClosedOff (k0_off12 v k) := ⟨slotOff (Ring.sl 2 (k.val + 1)) 0, slot_next v k 0⟩
instance (k : Fin (k0_t3_loop v).trips) : ClosedOff (k0_off15 v k) := ⟨slotOff (Ring.sl 2 (k.val + 1)) 0, slot_next v k 0⟩
instance (k : Fin (k0_t3_loop v).trips) : ClosedOff (k0_off18 v k) := ⟨slotOff (Ring.sl 2 (k.val + 1)) 0, slot_next v k 0⟩
instance (k : Fin (k0_t3_loop v).trips) : ClosedOff (k0_off34 v k) := ⟨slotOff (Ring.sl 2 k.val) 0, slot_box v k 0⟩
instance (k : Fin (k0_t3_loop v).trips) : ClosedOff (k0_off35 v k) := ⟨slotOff (Ring.sl 2 k.val) 0, slot_box v k 0⟩
instance (k : Fin (k0_t3_loop v).trips) : ClosedOff (k0_off36 v k) := ⟨slotOff (Ring.sl 2 k.val) 1408, slot_box v k 1408⟩
instance (k : Fin (k0_t3_loop v).trips) : ClosedOff (k0_off37 v k) := ⟨slotOff (Ring.sl 2 k.val) 1408, slot_box v k 1408⟩
instance (k : Fin (k0_t3_loop v).trips) : ClosedOff (k0_off38 v k) := ⟨slotOff (Ring.sl 2 k.val) 128, slot_box v k 128⟩
instance (k : Fin (k0_t3_loop v).trips) : ClosedOff (k0_off39 v k) := ⟨slotOff (Ring.sl 2 k.val) 128, slot_box v k 128⟩
instance (k : Fin (k0_t3_loop v).trips) : ClosedOff (k0_off40 v k) := ⟨slotOff (Ring.sl 2 k.val) 1536, slot_box v k 1536⟩
instance (k : Fin (k0_t3_loop v).trips) : ClosedOff (k0_off41 v k) := ⟨slotOff (Ring.sl 2 k.val) 1536, slot_box v k 1536⟩
instance (k : Fin (k0_t3_loop v).trips) : ClosedOff (k0_off42 v k) := ⟨slotOff (Ring.sl 2 k.val) 256, slot_box v k 256⟩
instance (k : Fin (k0_t3_loop v).trips) : ClosedOff (k0_off43 v k) := ⟨slotOff (Ring.sl 2 k.val) 256, slot_box v k 256⟩
instance (k : Fin (k0_t3_loop v).trips) : ClosedOff (k0_off44 v k) := ⟨slotOff (Ring.sl 2 k.val) 1664, slot_box v k 1664⟩
instance (k : Fin (k0_t3_loop v).trips) : ClosedOff (k0_off45 v k) := ⟨slotOff (Ring.sl 2 k.val) 1664, slot_box v k 1664⟩
instance (k : Fin (k0_t3_loop v).trips) : ClosedOff (k0_off46 v k) := ⟨slotOff (Ring.sl 2 k.val) 384, slot_box v k 384⟩
instance (k : Fin (k0_t3_loop v).trips) : ClosedOff (k0_off47 v k) := ⟨slotOff (Ring.sl 2 k.val) 384, slot_box v k 384⟩
instance (k : Fin (k0_t3_loop v).trips) : ClosedOff (k0_off48 v k) := ⟨slotOff (Ring.sl 2 k.val) 1792, slot_box v k 1792⟩
instance (k : Fin (k0_t3_loop v).trips) : ClosedOff (k0_off49 v k) := ⟨slotOff (Ring.sl 2 k.val) 1792, slot_box v k 1792⟩
instance (k : Fin (k0_t3_loop v).trips) : ClosedOff (k0_off50 v k) := ⟨slotOff (Ring.sl 2 k.val) 512, slot_box v k 512⟩
instance (k : Fin (k0_t3_loop v).trips) : ClosedOff (k0_off51 v k) := ⟨slotOff (Ring.sl 2 k.val) 512, slot_box v k 512⟩
instance (k : Fin (k0_t3_loop v).trips) : ClosedOff (k0_off52 v k) := ⟨slotOff (Ring.sl 2 k.val) 1920, slot_box v k 1920⟩
instance (k : Fin (k0_t3_loop v).trips) : ClosedOff (k0_off53 v k) := ⟨slotOff (Ring.sl 2 k.val) 1920, slot_box v k 1920⟩
instance (k : Fin (k0_t3_loop v).trips) : ClosedOff (k0_off54 v k) := ⟨slotOff (Ring.sl 2 k.val) 640, slot_box v k 640⟩
instance (k : Fin (k0_t3_loop v).trips) : ClosedOff (k0_off55 v k) := ⟨slotOff (Ring.sl 2 k.val) 640, slot_box v k 640⟩
instance (k : Fin (k0_t3_loop v).trips) : ClosedOff (k0_off56 v k) := ⟨slotOff (Ring.sl 2 k.val) 2048, slot_box v k 2048⟩
instance (k : Fin (k0_t3_loop v).trips) : ClosedOff (k0_off57 v k) := ⟨slotOff (Ring.sl 2 k.val) 2048, slot_box v k 2048⟩
instance (k : Fin (k0_t3_loop v).trips) : ClosedOff (k0_off58 v k) := ⟨slotOff (Ring.sl 2 k.val) 768, slot_box v k 768⟩
instance (k : Fin (k0_t3_loop v).trips) : ClosedOff (k0_off59 v k) := ⟨slotOff (Ring.sl 2 k.val) 768, slot_box v k 768⟩
instance (k : Fin (k0_t3_loop v).trips) : ClosedOff (k0_off60 v k) := ⟨slotOff (Ring.sl 2 k.val) 2176, slot_box v k 2176⟩
instance (k : Fin (k0_t3_loop v).trips) : ClosedOff (k0_off61 v k) := ⟨slotOff (Ring.sl 2 k.val) 2176, slot_box v k 2176⟩
instance (k : Fin (k0_t3_loop v).trips) : ClosedOff (k0_off62 v k) := ⟨slotOff (Ring.sl 2 k.val) 896, slot_box v k 896⟩
instance (k : Fin (k0_t3_loop v).trips) : ClosedOff (k0_off63 v k) := ⟨slotOff (Ring.sl 2 k.val) 896, slot_box v k 896⟩
instance (k : Fin (k0_t3_loop v).trips) : ClosedOff (k0_off64 v k) := ⟨slotOff (Ring.sl 2 k.val) 2304, slot_box v k 2304⟩
instance (k : Fin (k0_t3_loop v).trips) : ClosedOff (k0_off65 v k) := ⟨slotOff (Ring.sl 2 k.val) 2304, slot_box v k 2304⟩
instance (k : Fin (k0_t3_loop v).trips) : ClosedOff (k0_off66 v k) := ⟨slotOff (Ring.sl 2 k.val) 1024, slot_box v k 1024⟩
instance (k : Fin (k0_t3_loop v).trips) : ClosedOff (k0_off67 v k) := ⟨slotOff (Ring.sl 2 k.val) 1024, slot_box v k 1024⟩
instance (k : Fin (k0_t3_loop v).trips) : ClosedOff (k0_off68 v k) := ⟨slotOff (Ring.sl 2 k.val) 2432, slot_box v k 2432⟩
instance (k : Fin (k0_t3_loop v).trips) : ClosedOff (k0_off69 v k) := ⟨slotOff (Ring.sl 2 k.val) 2432, slot_box v k 2432⟩
instance (k : Fin (k0_t3_loop v).trips) : ClosedOff (k0_off70 v k) := ⟨slotOff (Ring.sl 2 k.val) 1152, slot_box v k 1152⟩
instance (k : Fin (k0_t3_loop v).trips) : ClosedOff (k0_off71 v k) := ⟨slotOff (Ring.sl 2 k.val) 1152, slot_box v k 1152⟩
instance (k : Fin (k0_t3_loop v).trips) : ClosedOff (k0_off72 v k) := ⟨slotOff (Ring.sl 2 k.val) 2560, slot_box v k 2560⟩
instance (k : Fin (k0_t3_loop v).trips) : ClosedOff (k0_off73 v k) := ⟨slotOff (Ring.sl 2 k.val) 2560, slot_box v k 2560⟩
instance (k : Fin (k0_t3_loop v).trips) : ClosedOff (k0_off74 v k) := ⟨slotOff (Ring.sl 2 k.val) 1280, slot_box v k 1280⟩
instance (k : Fin (k0_t3_loop v).trips) : ClosedOff (k0_off75 v k) := ⟨slotOff (Ring.sl 2 k.val) 1280, slot_box v k 1280⟩
instance (k : Fin (k0_t3_loop v).trips) : ClosedOff (k0_off76 v k) := ⟨slotOff (Ring.sl 2 k.val) 2688, slot_box v k 2688⟩
instance (k : Fin (k0_t3_loop v).trips) : ClosedOff (k0_off77 v k) := ⟨slotOff (Ring.sl 2 k.val) 2688, slot_box v k 2688⟩
instance (k : Fin (k0_t3_loop v).trips) : ClosedOff (k0_off78 v k) := ⟨slotOff (Ring.sl 2 k.val) 0, slot_box v k 0⟩
instance (k : Fin (k0_t3_loop v).trips) : ClosedOff (k0_off79 v k) := ⟨slotOff (Ring.sl 2 k.val) 0, slot_box v k 0⟩
instance (k : Fin (k0_t3_loop v).trips) : ClosedOff (k0_off80 v k) := ⟨slotOff (Ring.sl 2 k.val) 256, slot_box v k 256⟩
instance (k : Fin (k0_t3_loop v).trips) : ClosedOff (k0_off81 v k) := ⟨slotOff (Ring.sl 2 k.val) 256, slot_box v k 256⟩
instance (k : Fin (k0_t3_loop v).trips) : ClosedOff (k0_off82 v k) := ⟨slotOff (Ring.sl 2 k.val) 512, slot_box v k 512⟩
instance (k : Fin (k0_t3_loop v).trips) : ClosedOff (k0_off83 v k) := ⟨slotOff (Ring.sl 2 k.val) 512, slot_box v k 512⟩
instance (k : Fin (k0_t3_loop v).trips) : ClosedOff (k0_off84 v k) := ⟨slotOff (Ring.sl 2 k.val) 768, slot_box v k 768⟩
instance (k : Fin (k0_t3_loop v).trips) : ClosedOff (k0_off85 v k) := ⟨slotOff (Ring.sl 2 k.val) 768, slot_box v k 768⟩
instance (k : Fin (k0_t3_loop v).trips) : ClosedOff (k0_off86 v k) := ⟨slotOff (Ring.sl 2 k.val) 1024, slot_box v k 1024⟩
instance (k : Fin (k0_t3_loop v).trips) : ClosedOff (k0_off87 v k) := ⟨slotOff (Ring.sl 2 k.val) 1024, slot_box v k 1024⟩
instance (k : Fin (k0_t3_loop v).trips) : ClosedOff (k0_off88 v k) := ⟨slotOff (Ring.sl 2 k.val) 1280, slot_box v k 1280⟩
instance (k : Fin (k0_t3_loop v).trips) : ClosedOff (k0_off89 v k) := ⟨slotOff (Ring.sl 2 k.val) 1280, slot_box v k 1280⟩
instance (k : Fin (k0_t3_loop v).trips) : ClosedOff (k0_off90 v k) := ⟨slotOff (Ring.sl 2 k.val) 1536, slot_box v k 1536⟩
instance (k : Fin (k0_t3_loop v).trips) : ClosedOff (k0_off91 v k) := ⟨slotOff (Ring.sl 2 k.val) 1536, slot_box v k 1536⟩
instance (k : Fin (k0_t3_loop v).trips) : ClosedOff (k0_off92 v k) := ⟨slotOff (Ring.sl 2 k.val) 1792, slot_box v k 1792⟩
instance (k : Fin (k0_t3_loop v).trips) : ClosedOff (k0_off93 v k) := ⟨slotOff (Ring.sl 2 k.val) 1792, slot_box v k 1792⟩
instance (k : Fin (k0_t3_loop v).trips) : ClosedOff (k0_off94 v k) := ⟨slotOff (Ring.sl 2 k.val) 2048, slot_box v k 2048⟩
instance (k : Fin (k0_t3_loop v).trips) : ClosedOff (k0_off95 v k) := ⟨slotOff (Ring.sl 2 k.val) 2048, slot_box v k 2048⟩
instance (k : Fin (k0_t3_loop v).trips) : ClosedOff (k0_off96 v k) := ⟨slotOff (Ring.sl 2 k.val) 2304, slot_box v k 2304⟩
instance (k : Fin (k0_t3_loop v).trips) : ClosedOff (k0_off97 v k) := ⟨slotOff (Ring.sl 2 k.val) 2304, slot_box v k 2304⟩
instance (k : Fin (k0_t3_loop v).trips) : ClosedOff (k0_off98 v k) := ⟨slotOff (Ring.sl 2 k.val) 2560, slot_box v k 2560⟩
instance (k : Fin (k0_t3_loop v).trips) : ClosedOff (k0_off99 v k) := ⟨slotOff (Ring.sl 2 k.val) 2560, slot_box v k 2560⟩

end Chain

/-! ## The names of the body's slices -/

section Canon
variable (v : BitVec 32)

theorem csm_congr {off : Fin 2 → Nat} {s : Fin 2} {j : Fin 4} (e : off = semOff s j) (hh) :
    (cc0_scratch7.slice (Rect.unit (s := S2x4) off S1x1.size hh)).squeeze S_ squeezes_S1x1_S_ = csm s j :=
  congrArg (fun A : DmaSems sig S1x1 => A.squeeze S_ squeezes_S1x1_S_) (SemArray.slice_unit_congr _ e _ _)
theorem expOff_of (w : BitVec 32) (b : Fin 32) (h : w.toNat = b.val) : (![w.toNat, 0, 0] : Fin 3 → Nat) = expOff b := by rw [h]
theorem guS_congr {off : Fin 3 → Nat} {s : Fin 2} (e : off = slotOff s 0) (hh hs) :
    (guB.slice (Rect.unit (s := S2x1408x2816) off S1x1408x2816.size hh) hs).squeeze S1408x2816 squeezes_S1x1408x2816_S1408x2816 = guS s :=
  congrArg (fun M : Memref sig .tc .vmem S1x1408x2816 .i8 => M.squeeze S1408x2816 squeezes_S1x1408x2816_S1408x2816) (Memref.slice_unit_congr _ e _ _ _ _)
theorem guE_congr {off : Fin 3 → Nat} {b : Fin 32} (e : off = expOff b) (hh hs) :
    (guA.slice (Rect.unit (s := S32x1408x2816) off S1x1408x2816.size hh) hs).squeeze S1408x2816 squeezes_S1x1408x2816_S1408x2816 = guE b :=
  congrArg (fun M : Memref sig .tc .hbm S1x1408x2816 .i8 => M.squeeze S1408x2816 squeezes_S1x1408x2816_S1408x2816) (Memref.slice_unit_congr _ e _ _ _ _)
theorem sguS_congr {off : Fin 3 → Nat} {s : Fin 2} (e : off = slotOff s 0) (hh hs) :
    (sguB.slice (Rect.unit (s := S2x22x2816) off S1x22x2816.size hh) hs).squeeze S22x2816 squeezes_S1x22x2816_S22x2816 = sguS s :=
  congrArg (fun M : Memref sig .tc .vmem S1x22x2816 .bf16 => M.squeeze S22x2816 squeezes_S1x22x2816_S22x2816) (Memref.slice_unit_congr _ e _ _ _ _)
theorem sguE_congr {off : Fin 3 → Nat} {b : Fin 32} (e : off = expOff b) (hh hs) :
    (sguA.slice (Rect.unit (s := S32x22x2816) off S1x22x2816.size hh) hs).squeeze S22x2816 squeezes_S1x22x2816_S22x2816 = sguE b :=
  congrArg (fun M : Memref sig .tc .hbm S1x22x2816 .bf16 => M.squeeze S22x2816 squeezes_S1x22x2816_S22x2816) (Memref.slice_unit_congr _ e _ _ _ _)
theorem dnS_congr {off : Fin 3 → Nat} {s : Fin 2} (e : off = slotOff s 0) (hh hs) :
    (dnB.slice (Rect.unit (s := S2x704x2816) off S1x704x2816.size hh) hs).squeeze S704x2816 squeezes_S1x704x2816_S704x2816 = dnS s :=
  congrArg (fun M : Memref sig .tc .vmem S1x704x2816 .i8 => M.squeeze S704x2816 squeezes_S1x704x2816_S704x2816) (Memref.slice_unit_congr _ e _ _ _ _)
theorem dnE_congr {off : Fin 3 → Nat} {b : Fin 32} (e : off = expOff b) (hh hs) :
    (dnA.slice (Rect.unit (s := S32x704x2816) off S1x704x2816.size hh) hs).squeeze S704x2816 squeezes_S1x704x2816_S704x2816 = dnE b :=
  congrArg (fun M : Memref sig .tc .hbm S1x704x2816 .i8 => M.squeeze S704x2816 squeezes_S1x704x2816_S704x2816) (Memref.slice_unit_congr _ e _ _ _ _)
theorem sdnS_congr {off : Fin 3 → Nat} {s : Fin 2} (e : off = slotOff s 0) (hh hs) :
    (sdnB.slice (Rect.unit (s := S2x11x2816) off S1x11x2816.size hh) hs).squeeze S11x2816 squeezes_S1x11x2816_S11x2816 = sdnS s :=
  congrArg (fun M : Memref sig .tc .vmem S1x11x2816 .bf16 => M.squeeze S11x2816 squeezes_S1x11x2816_S11x2816) (Memref.slice_unit_congr _ e _ _ _ _)
theorem sdnE_congr {off : Fin 3 → Nat} {b : Fin 32} (e : off = expOff b) (hh hs) :
    (sdnA.slice (Rect.unit (s := S32x11x2816) off S1x11x2816.size hh) hs).squeeze S11x2816 squeezes_S1x11x2816_S11x2816 = sdnE b :=
  congrArg (fun M : Memref sig .tc .hbm S1x11x2816 .bf16 => M.squeeze S11x2816 squeezes_S1x11x2816_S11x2816) (Memref.slice_unit_congr _ e _ _ _ _)

/-- The first expert's transfers, into slot 0. -/
@[sl_canon] theorem gu_sem0 (hh) : (cc0_scratch7.slice (Rect.unit (s := S2x4) ![0, 0] S1x1.size hh)).squeeze S_ squeezes_S1x1_S_ = csm 0 0 := csm_congr (by decide) _
@[sl_canon] theorem gu_slot0 (hh hs) : (guB.slice (Rect.unit (s := S2x1408x2816) ![0, 0, 0] S1x1408x2816.size hh) hs).squeeze S1408x2816 squeezes_S1x1408x2816_S1408x2816 = guS 0 := guS_congr (by decide) _ _
@[sl_canon] theorem gu_exp0 (w : BitVec 32) (b : Fin 32) (h : w.toNat = b.val) (hh hs) : (guA.slice (Rect.unit (s := S32x1408x2816) (k0_off3 w) S1x1408x2816.size hh) hs).squeeze S1408x2816 squeezes_S1x1408x2816_S1408x2816 = guE b := guE_congr (expOff_of w b h) _ _
@[sl_canon] theorem gu_semN (k : Fin (k0_t3_loop v).trips) (hh) : (cc0_scratch7.slice (Rect.unit (s := S2x4) (k0_off8 v k) S1x1.size hh)).squeeze S_ squeezes_S1x1_S_ = csm (Ring.sl 2 (k.val + 1)) 0 := csm_congr (sem_next v k 0) _
@[sl_canon] theorem gu_slotN (k : Fin (k0_t3_loop v).trips) (hh hs) : (guB.slice (Rect.unit (s := S2x1408x2816) (k0_off9 v k) S1x1408x2816.size hh) hs).squeeze S1408x2816 squeezes_S1x1408x2816_S1408x2816 = guS (Ring.sl 2 (k.val + 1)) := guS_congr (slot_next v k 0) _ _
@[sl_canon] theorem gu_expN (w : BitVec 32) (b : Fin 32) (h : w.toNat = b.val) (hh hs) : (guA.slice (Rect.unit (s := S32x1408x2816) (k0_off10 w) S1x1408x2816.size hh) hs).squeeze S1408x2816 squeezes_S1x1408x2816_S1408x2816 = guE b := guE_congr (expOff_of w b h) _ _
@[sl_canon] theorem gu_semK (k : Fin (k0_t3_loop v).trips) (hh) : (cc0_scratch7.slice (Rect.unit (s := S2x4) (k0_off21 v k) S1x1.size hh)).squeeze S_ squeezes_S1x1_S_ = csm (Ring.sl 2 k.val) 0 := csm_congr (sem_at v k 0) _
@[sl_canon] theorem gu_slotK (k : Fin (k0_t3_loop v).trips) (hh hs) : (guB.slice (Rect.unit (s := S2x1408x2816) (k0_off22 v k) S1x1408x2816.size hh) hs).squeeze S1408x2816 squeezes_S1x1408x2816_S1408x2816 = guS (Ring.sl 2 k.val) := guS_congr (slot_at v k 0) _ _
@[sl_canon] theorem gu_expK (w : BitVec 32) (b : Fin 32) (h : w.toNat = b.val) (hh hs) : (guA.slice (Rect.unit (s := S32x1408x2816) (k0_off23 w) S1x1408x2816.size hh) hs).squeeze S1408x2816 squeezes_S1x1408x2816_S1408x2816 = guE b := guE_congr (expOff_of w b h) _ _

@[sl_canon] theorem sgu_sem0 (hh) : (cc0_scratch7.slice (Rect.unit (s := S2x4) ![0, 1] S1x1.size hh)).squeeze S_ squeezes_S1x1_S_ = csm 0 1 := csm_congr (by decide) _
@[sl_canon] theorem sgu_slot0 (hh hs) : (sguB.slice (Rect.unit (s := S2x22x2816) ![0, 0, 0] S1x22x2816.size hh) hs).squeeze S22x2816 squeezes_S1x22x2816_S22x2816 = sguS 0 := sguS_congr (by decide) _ _
@[sl_canon] theorem sgu_exp0 (w : BitVec 32) (b : Fin 32) (h : w.toNat = b.val) (hh hs) : (sguA.slice (Rect.unit (s := S32x22x2816) (k0_off4 w) S1x22x2816.size hh) hs).squeeze S22x2816 squeezes_S1x22x2816_S22x2816 = sguE b := sguE_congr (expOff_of w b h) _ _
@[sl_canon] theorem sgu_semN (k : Fin (k0_t3_loop v).trips) (hh) : (cc0_scratch7.slice (Rect.unit (s := S2x4) (k0_off11 v k) S1x1.size hh)).squeeze S_ squeezes_S1x1_S_ = csm (Ring.sl 2 (k.val + 1)) 1 := csm_congr (sem_next v k 1) _
@[sl_canon] theorem sgu_slotN (k : Fin (k0_t3_loop v).trips) (hh hs) : (sguB.slice (Rect.unit (s := S2x22x2816) (k0_off12 v k) S1x22x2816.size hh) hs).squeeze S22x2816 squeezes_S1x22x2816_S22x2816 = sguS (Ring.sl 2 (k.val + 1)) := sguS_congr (slot_next v k 0) _ _
@[sl_canon] theorem sgu_expN (w : BitVec 32) (b : Fin 32) (h : w.toNat = b.val) (hh hs) : (sguA.slice (Rect.unit (s := S32x22x2816) (k0_off13 w) S1x22x2816.size hh) hs).squeeze S22x2816 squeezes_S1x22x2816_S22x2816 = sguE b := sguE_congr (expOff_of w b h) _ _
@[sl_canon] theorem sgu_semK (k : Fin (k0_t3_loop v).trips) (hh) : (cc0_scratch7.slice (Rect.unit (s := S2x4) (k0_off24 v k) S1x1.size hh)).squeeze S_ squeezes_S1x1_S_ = csm (Ring.sl 2 k.val) 1 := csm_congr (sem_at v k 1) _
@[sl_canon] theorem sgu_slotK (k : Fin (k0_t3_loop v).trips) (hh hs) : (sguB.slice (Rect.unit (s := S2x22x2816) (k0_off25 v k) S1x22x2816.size hh) hs).squeeze S22x2816 squeezes_S1x22x2816_S22x2816 = sguS (Ring.sl 2 k.val) := sguS_congr (slot_at v k 0) _ _
@[sl_canon] theorem sgu_expK (w : BitVec 32) (b : Fin 32) (h : w.toNat = b.val) (hh hs) : (sguA.slice (Rect.unit (s := S32x22x2816) (k0_off26 w) S1x22x2816.size hh) hs).squeeze S22x2816 squeezes_S1x22x2816_S22x2816 = sguE b := sguE_congr (expOff_of w b h) _ _

@[sl_canon] theorem dn_sem0 (hh) : (cc0_scratch7.slice (Rect.unit (s := S2x4) ![0, 2] S1x1.size hh)).squeeze S_ squeezes_S1x1_S_ = csm 0 2 := csm_congr (by decide) _
@[sl_canon] theorem dn_slot0 (hh hs) : (dnB.slice (Rect.unit (s := S2x704x2816) ![0, 0, 0] S1x704x2816.size hh) hs).squeeze S704x2816 squeezes_S1x704x2816_S704x2816 = dnS 0 := dnS_congr (by decide) _ _
@[sl_canon] theorem dn_exp0 (w : BitVec 32) (b : Fin 32) (h : w.toNat = b.val) (hh hs) : (dnA.slice (Rect.unit (s := S32x704x2816) (k0_off5 w) S1x704x2816.size hh) hs).squeeze S704x2816 squeezes_S1x704x2816_S704x2816 = dnE b := dnE_congr (expOff_of w b h) _ _
@[sl_canon] theorem dn_semN (k : Fin (k0_t3_loop v).trips) (hh) : (cc0_scratch7.slice (Rect.unit (s := S2x4) (k0_off14 v k) S1x1.size hh)).squeeze S_ squeezes_S1x1_S_ = csm (Ring.sl 2 (k.val + 1)) 2 := csm_congr (sem_next v k 2) _
@[sl_canon] theorem dn_slotN (k : Fin (k0_t3_loop v).trips) (hh hs) : (dnB.slice (Rect.unit (s := S2x704x2816) (k0_off15 v k) S1x704x2816.size hh) hs).squeeze S704x2816 squeezes_S1x704x2816_S704x2816 = dnS (Ring.sl 2 (k.val + 1)) := dnS_congr (slot_next v k 0) _ _
@[sl_canon] theorem dn_expN (w : BitVec 32) (b : Fin 32) (h : w.toNat = b.val) (hh hs) : (dnA.slice (Rect.unit (s := S32x704x2816) (k0_off16 w) S1x704x2816.size hh) hs).squeeze S704x2816 squeezes_S1x704x2816_S704x2816 = dnE b := dnE_congr (expOff_of w b h) _ _
@[sl_canon] theorem dn_semK (k : Fin (k0_t3_loop v).trips) (hh) : (cc0_scratch7.slice (Rect.unit (s := S2x4) (k0_off27 v k) S1x1.size hh)).squeeze S_ squeezes_S1x1_S_ = csm (Ring.sl 2 k.val) 2 := csm_congr (sem_at v k 2) _
@[sl_canon] theorem dn_slotK (k : Fin (k0_t3_loop v).trips) (hh hs) : (dnB.slice (Rect.unit (s := S2x704x2816) (k0_off28 v k) S1x704x2816.size hh) hs).squeeze S704x2816 squeezes_S1x704x2816_S704x2816 = dnS (Ring.sl 2 k.val) := dnS_congr (slot_at v k 0) _ _
@[sl_canon] theorem dn_expK (w : BitVec 32) (b : Fin 32) (h : w.toNat = b.val) (hh hs) : (dnA.slice (Rect.unit (s := S32x704x2816) (k0_off29 w) S1x704x2816.size hh) hs).squeeze S704x2816 squeezes_S1x704x2816_S704x2816 = dnE b := dnE_congr (expOff_of w b h) _ _

@[sl_canon] theorem sdn_sem0 (hh) : (cc0_scratch7.slice (Rect.unit (s := S2x4) ![0, 3] S1x1.size hh)).squeeze S_ squeezes_S1x1_S_ = csm 0 3 := csm_congr (by decide) _
@[sl_canon] theorem sdn_slot0 (hh hs) : (sdnB.slice (Rect.unit (s := S2x11x2816) ![0, 0, 0] S1x11x2816.size hh) hs).squeeze S11x2816 squeezes_S1x11x2816_S11x2816 = sdnS 0 := sdnS_congr (by decide) _ _
@[sl_canon] theorem sdn_exp0 (w : BitVec 32) (b : Fin 32) (h : w.toNat = b.val) (hh hs) : (sdnA.slice (Rect.unit (s := S32x11x2816) (k0_off6 w) S1x11x2816.size hh) hs).squeeze S11x2816 squeezes_S1x11x2816_S11x2816 = sdnE b := sdnE_congr (expOff_of w b h) _ _
@[sl_canon] theorem sdn_semN (k : Fin (k0_t3_loop v).trips) (hh) : (cc0_scratch7.slice (Rect.unit (s := S2x4) (k0_off17 v k) S1x1.size hh)).squeeze S_ squeezes_S1x1_S_ = csm (Ring.sl 2 (k.val + 1)) 3 := csm_congr (sem_next v k 3) _
@[sl_canon] theorem sdn_slotN (k : Fin (k0_t3_loop v).trips) (hh hs) : (sdnB.slice (Rect.unit (s := S2x11x2816) (k0_off18 v k) S1x11x2816.size hh) hs).squeeze S11x2816 squeezes_S1x11x2816_S11x2816 = sdnS (Ring.sl 2 (k.val + 1)) := sdnS_congr (slot_next v k 0) _ _
@[sl_canon] theorem sdn_expN (w : BitVec 32) (b : Fin 32) (h : w.toNat = b.val) (hh hs) : (sdnA.slice (Rect.unit (s := S32x11x2816) (k0_off19 w) S1x11x2816.size hh) hs).squeeze S11x2816 squeezes_S1x11x2816_S11x2816 = sdnE b := sdnE_congr (expOff_of w b h) _ _
@[sl_canon] theorem sdn_semK (k : Fin (k0_t3_loop v).trips) (hh) : (cc0_scratch7.slice (Rect.unit (s := S2x4) (k0_off30 v k) S1x1.size hh)).squeeze S_ squeezes_S1x1_S_ = csm (Ring.sl 2 k.val) 3 := csm_congr (sem_at v k 3) _
@[sl_canon] theorem sdn_slotK (k : Fin (k0_t3_loop v).trips) (hh hs) : (sdnB.slice (Rect.unit (s := S2x11x2816) (k0_off31 v k) S1x11x2816.size hh) hs).squeeze S11x2816 squeezes_S1x11x2816_S11x2816 = sdnS (Ring.sl 2 k.val) := sdnS_congr (slot_at v k 0) _ _
@[sl_canon] theorem sdn_expK (w : BitVec 32) (b : Fin 32) (h : w.toNat = b.val) (hh hs) : (sdnA.slice (Rect.unit (s := S32x11x2816) (k0_off32 w) S1x11x2816.size hh) hs).squeeze S11x2816 squeezes_S1x11x2816_S11x2816 = sdnE b := sdnE_congr (expOff_of w b h) _ _

end Canon

end Cert.Proof.Ideal

end
-- ==== Proof.Ideal.Checks.lean ====
/-
  The checks the body makes of the words it reads: the loops have a meaning and every slice lies inside its
  buffer, for an expert below 32 and a count from 1 to 32.
-/
module

public import proofs.«01_k».proof.Proof.Ideal.Names

@[expose] public section

noncomputable section

namespace Cert.Proof.Ideal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Affine

section Generic
theorem inb3 {A B off : Fin 3 → Nat} (s : Fin 2) (c : Nat) (e : off = slotOff s c) (hd : ∀ s : Fin 2, ∀ a, slotOff s c a + A a ≤ B a) :
    ∀ a, off a + A a ≤ B a := e ▸ hd s
theorem inb2 {A B off : Fin 2 → Nat} (s : Fin 2) (c : Nat) (e : off = semOff s c) (hd : ∀ s : Fin 2, ∀ a, semOff s c a + A a ≤ B a) :
    ∀ a, off a + A a ≤ B a := e ▸ hd s
theorem inb1 {off : Fin 1 → Nat} (n : Nat) (e : off = ![n]) (hn : n < 33) : ∀ a, off a + S1.size a ≤ S33.size a := by
  subst e; intro a; fin_cases a; show n + 1 ≤ 33; omega
theorem guS_words : ∀ s : Fin 2, (Rect.unit (s := S2x1408x2816) (slotOff s 0) S1x1408x2816.size (guS_inb s)).WholeWords (EltTy.packing .i8) := by decide
theorem guS_wordsOf {off : Fin 3 → Nat} {s : Fin 2} (e : off = slotOff s 0) (hinb) : (Rect.unit (s := S2x1408x2816) off S1x1408x2816.size hinb).WholeWords (EltTy.packing .i8) := by
  subst e; exact guS_words s
theorem guE_words : ∀ b : Fin 32, (Rect.unit (s := S32x1408x2816) (expOff b) S1x1408x2816.size (guE_inb b)).WholeWords (EltTy.packing .i8) := by decide
theorem guE_inbOf {off : Fin 3 → Nat} {b : Fin 32} (e : off = expOff b) : ∀ a, off a + S1x1408x2816.size a ≤ S32x1408x2816.size a := e ▸ guE_inb b
theorem guE_wordsOf {off : Fin 3 → Nat} {b : Fin 32} (e : off = expOff b) (hinb) : (Rect.unit (s := S32x1408x2816) off S1x1408x2816.size hinb).WholeWords (EltTy.packing .i8) := by
  subst e; exact guE_words b
theorem sguS_words : ∀ s : Fin 2, (Rect.unit (s := S2x22x2816) (slotOff s 0) S1x22x2816.size (sguS_inb s)).WholeWords (EltTy.packing .bf16) := by decide
theorem sguS_wordsOf {off : Fin 3 → Nat} {s : Fin 2} (e : off = slotOff s 0) (hinb) : (Rect.unit (s := S2x22x2816) off S1x22x2816.size hinb).WholeWords (EltTy.packing .bf16) := by
  subst e; exact sguS_words s
theorem sguE_words : ∀ b : Fin 32, (Rect.unit (s := S32x22x2816) (expOff b) S1x22x2816.size (sguE_inb b)).WholeWords (EltTy.packing .bf16) := by decide
theorem sguE_inbOf {off : Fin 3 → Nat} {b : Fin 32} (e : off = expOff b) : ∀ a, off a + S1x22x2816.size a ≤ S32x22x2816.size a := e ▸ sguE_inb b
theorem sguE_wordsOf {off : Fin 3 → Nat} {b : Fin 32} (e : off = expOff b) (hinb) : (Rect.unit (s := S32x22x2816) off S1x22x2816.size hinb).WholeWords (EltTy.packing .bf16) := by
  subst e; exact sguE_words b
theorem dnS_words : ∀ s : Fin 2, (Rect.unit (s := S2x704x2816) (slotOff s 0) S1x704x2816.size (dnS_inb s)).WholeWords (EltTy.packing .i8) := by decide
theorem dnS_wordsOf {off : Fin 3 → Nat} {s : Fin 2} (e : off = slotOff s 0) (hinb) : (Rect.unit (s := S2x704x2816) off S1x704x2816.size hinb).WholeWords (EltTy.packing .i8) := by
  subst e; exact dnS_words s
theorem dnE_words : ∀ b : Fin 32, (Rect.unit (s := S32x704x2816) (expOff b) S1x704x2816.size (dnE_inb b)).WholeWords (EltTy.packing .i8) := by decide
theorem dnE_inbOf {off : Fin 3 → Nat} {b : Fin 32} (e : off = expOff b) : ∀ a, off a + S1x704x2816.size a ≤ S32x704x2816.size a := e ▸ dnE_inb b
theorem dnE_wordsOf {off : Fin 3 → Nat} {b : Fin 32} (e : off = expOff b) (hinb) : (Rect.unit (s := S32x704x2816) off S1x704x2816.size hinb).WholeWords (EltTy.packing .i8) := by
  subst e; exact dnE_words b
theorem sdnS_words : ∀ s : Fin 2, (Rect.unit (s := S2x11x2816) (slotOff s 0) S1x11x2816.size (sdnS_inb s)).WholeWords (EltTy.packing .bf16) := by decide
theorem sdnS_wordsOf {off : Fin 3 → Nat} {s : Fin 2} (e : off = slotOff s 0) (hinb) : (Rect.unit (s := S2x11x2816) off S1x11x2816.size hinb).WholeWords (EltTy.packing .bf16) := by
  subst e; exact sdnS_words s
theorem sdnE_words : ∀ b : Fin 32, (Rect.unit (s := S32x11x2816) (expOff b) S1x11x2816.size (sdnE_inb b)).WholeWords (EltTy.packing .bf16) := by decide
theorem sdnE_inbOf {off : Fin 3 → Nat} {b : Fin 32} (e : off = expOff b) : ∀ a, off a + S1x11x2816.size a ≤ S32x11x2816.size a := e ▸ sdnE_inb b
theorem sdnE_wordsOf {off : Fin 3 → Nat} {b : Fin 32} (e : off = expOff b) (hinb) : (Rect.unit (s := S32x11x2816) off S1x11x2816.size hinb).WholeWords (EltTy.packing .bf16) := by
  subst e; exact sdnE_words b
end Generic

/-- An expert's word passes the checks of the three places it is read. -/
theorem chk2_of (w : BitVec 32) (b : Fin 32) (h : w.toNat = b.val) : k0_chk2 w :=
  have e := expOff_of w b h
  ⟨guE_inbOf e, guE_wordsOf e, sguE_inbOf e, sguE_wordsOf e, dnE_inbOf e, dnE_wordsOf e, sdnE_inbOf e, sdnE_wordsOf e⟩
theorem chk5_of (w : BitVec 32) (b : Fin 32) (h : w.toNat = b.val) : k0_chk5 w :=
  have e := expOff_of w b h
  ⟨guE_inbOf e, guE_wordsOf e, sguE_inbOf e, sguE_wordsOf e, dnE_inbOf e, dnE_wordsOf e, sdnE_inbOf e, sdnE_wordsOf e⟩
theorem chk4_of (v : BitVec 32) (k : Fin (k0_t3_loop v).trips) (w : BitVec 32) (b : Fin 32) (h : w.toNat = b.val) : k0_chk4 v k w :=
  have e := expOff_of w b h
  ⟨fun _ => guE_inbOf e, fun _ => guE_wordsOf e, fun _ => sguE_inbOf e, fun _ => sguE_wordsOf e, fun _ => dnE_inbOf e, fun _ => dnE_wordsOf e, fun _ => sdnE_inbOf e, fun _ => sdnE_wordsOf e⟩
/-- A place of the list of 33. -/
theorem chk1_of (w : BitVec 32) (h : w.toNat < 33) : k0_chk1 w := inb1 w.toNat rfl h

/-- Whether trip `k` starts a next expert. -/
theorem cond1_holds (v : BitVec 32) (k : Fin (k0_t3_loop v).trips) (h : k.val + 1 < (k0_t3_loop v).trips) : k0_cond1 v k = 1#1 := by
  have ht := trips3_eq v
  exact ne_holds (extui_holds (e := 1) (slt_holds (isInt_succ v k) (word v) (by omega)) rfl) (ofNat (e := 0) 0 ⟨rfl, by decide⟩) (by decide)
theorem cond1_fails (v : BitVec 32) (k : Fin (k0_t3_loop v).trips) (h : ¬ k.val + 1 < (k0_t3_loop v).trips) : ¬ k0_cond1 v k = 1#1 := by
  have ht := trips3_eq v
  have := k.isLt
  exact ne_fails (extui_fails (e := 0) (slt_fails (isInt_succ v k) (word v) (by omega)) rfl) (ofNat (e := 0) 0 ⟨rfl, by decide⟩) rfl

section Chk3
variable (v : BitVec 32)

theorem trips_le (hv : v.toNat ≤ 32) : (k0_t3_loop v).trips ≤ 32 := by
  rw [trips3_eq]; have := BitVec.toInt_eq_toNat_cond v; split at this <;> omega
theorem trips_eq_toNat (hv : v.toNat ≤ 32) : (k0_t3_loop v).trips = v.toNat := by
  rw [trips3_eq]; have := BitVec.toInt_eq_toNat_cond v; split at this <;> omega
theorem ok3 (hv : v.toNat ≤ 32) : (k0_t3_loop v).OK := by
  have h := trips_le v hv
  refine ⟨by show (0:Int) < (1#32).toInt; decide, ?_⟩
  show (0#32).toInt + ((k0_t3_loop v).trips : Int) * (1#32).toInt < 2 ^ 31
  have h0 : (0#32 : BitVec 32).toInt = 0 := by decide
  have h1 : (1#32 : BitVec 32).toInt = 1 := by decide
  rw [h0, h1]; omega
theorem ok4 (hv : v.toNat ≤ 32) : (k0_t4_loop v).OK := by
  refine ⟨by show (0:Int) < (1#32).toInt; decide, ?_⟩
  show (Scalar.addi 0#32 (Scalar.muli (Scalar.divsi (Scalar.subi v 0#32) 1#32) 1#32)).toInt + ((k0_t4_loop v).trips : Int) * (1#32).toInt < 2 ^ 31
  rw [trips4_eq, toInt_of_isInt (isInt_v37 v)]
  have := word_range v; simp; omega

theorem none4 {P : Fin (k0_t4_loop v).trips → Prop} : ∀ k, P k := fun k => (Nat.not_lt_zero _ (Nat.lt_of_lt_of_eq k.isLt (trips4_eq v))).elim

set_option maxHeartbeats 4000000 in
set_option maxRecDepth 100000 in
/-- A count up to 32 passes the check made of it. -/
theorem chk3_of (hv : v.toNat ≤ 32) : k0_chk3 v := by
  have hT := trips_le v hv
  unfold k0_chk3 k0_chk3_0 k0_chk3_1 k0_chk3_2 k0_chk3_3 k0_chk3_4 k0_chk3_5
  repeat' with_reducible refine And.intro ?_ ?_
  all_goals first
    | with_reducible exact ok3 v hv
    | with_reducible exact ok4 v hv
    | exact none4 v
    | exact fun k => inb3 _ _ (slot_box v k _) (by decide)
    | exact fun k => inb3 _ _ (slot_at v k _) (by decide)
    | exact fun k => inb2 _ _ (sem_at v k _) (by decide)
    | exact fun k _ => inb3 _ _ (slot_next v k _) (by decide)
    | exact fun k _ => inb2 _ _ (sem_next v k _) (by decide)
    | exact fun k => inb1 _ (word_at v k) (by omega)
    | exact fun k _ => inb1 _ (word_next v k) (by omega)
    | exact fun k _ => guS_wordsOf (slot_at v k _) _
    | exact fun k _ _ => guS_wordsOf (slot_next v k _) _
    | exact fun k _ => sguS_wordsOf (slot_at v k _) _
    | exact fun k _ _ => sguS_wordsOf (slot_next v k _) _
    | exact fun k _ => dnS_wordsOf (slot_at v k _) _
    | exact fun k _ _ => dnS_wordsOf (slot_next v k _) _
    | exact fun k _ => sdnS_wordsOf (slot_at v k _) _
    | exact fun k _ _ => sdnS_wordsOf (slot_next v k _) _

end Chk3

end Cert.Proof.Ideal

end
-- ==== Proof.Ideal.Pieces.lean ====
/-
  The pieces the kernel holds: an expert's four arrays at home, the four buffers of a slot, the four transfers of
  an expert in flight into a slot.
-/
module

public import proofs.«01_k».proof.Proof.Ideal.Checks

@[expose] public section

noncomputable section

namespace Cert.Proof.Ideal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UU (nD : Nat) (τ : Topo) : Type := UR sig nD τ × Counters
local notation "𝕄" => MT nD τ sig Unit (Elt F) ℕ (UU nD τ) ℕ
abbrev 𝒱₀ : Variants := Variants.none

omit [FloatOps F] in
theorem entails_of_eq {P Q : sProp 𝕄} (e : P = Q) : P ⊢ Q := e ▸ .rfl

section Pieces
variable (c : Dev nD)

/-- The four weight arrays' contents. -/
structure Weights (F : FTy → Type) (c : Dev nD) where
  gu : Buf (Elt F) (guA.view.loc (c : Thread nD τ))
  sgu : Buf (Elt F) (sguA.view.loc (c : Thread nD τ))
  dn : Buf (Elt F) (dnA.view.loc (c : Thread nD τ))
  sdn : Buf (Elt F) (sdnA.view.loc (c : Thread nD τ))

variable {c}
variable (X : Weights F c)

abbrev cellP (c : Dev nD) (s : Fin 2) (j : Fin 4) : sProp 𝕄 := semVal ((c : Thread nD τ), SemLoc.dma (csm s j).sem) 0

abbrev guSlotP (s : Fin 2) (f : Buf (Elt F) ((guS s).view.loc (c : Thread nD τ))) : sProp 𝕄 :=
  (guS s).view.loc (c : Thread nD τ) ↦[(guS s).view.set]{fullShare} f
abbrev guHomeP (b : Fin 32) : sProp 𝕄 := (guE b).view.loc (c : Thread nD τ) ↦[(guE b).view.set]{fullShare} X.gu
/-- Expert `b`'s words, as a slot receives them. -/
abbrev guLoad (b : Fin 32) : S1408x2816.Idx → Elt F .i8 := ReadAs.same.apply ((guE b).view.read (Elt F) X.gu)
abbrev guLanded (s : Fin 2) (b : Fin 32) (f : Buf (Elt F) ((guS s).view.loc (c : Thread nD τ))) : Buf (Elt F) ((guS s).view.loc (c : Thread nD τ)) :=
  (guS s).view.writes (Elt F) f [⟨Rect.whole S1408x2816, guLoad X b⟩]
abbrev guFlightP (s : Fin 2) (b : Fin 32) (f : Buf (Elt F) ((guS s).view.loc (c : Thread nD τ))) : sProp 𝕄 :=
  Transfers.Flight countersEmb (c : Thread nD τ) (SemLoc.dma (csm s 0).sem) () 123904 iprop(guSlotP s (guLanded X s b f) ∗ guHomeP X b)

abbrev sguSlotP (s : Fin 2) (f : Buf (Elt F) ((sguS s).view.loc (c : Thread nD τ))) : sProp 𝕄 :=
  (sguS s).view.loc (c : Thread nD τ) ↦[(sguS s).view.set]{fullShare} f
abbrev sguHomeP (b : Fin 32) : sProp 𝕄 := (sguE b).view.loc (c : Thread nD τ) ↦[(sguE b).view.set]{fullShare} X.sgu
/-- Expert `b`'s words, as a slot receives them. -/
abbrev sguLoad (b : Fin 32) : S22x2816.Idx → Elt F .bf16 := ReadAs.same.apply ((sguE b).view.read (Elt F) X.sgu)
abbrev sguLanded (s : Fin 2) (b : Fin 32) (f : Buf (Elt F) ((sguS s).view.loc (c : Thread nD τ))) : Buf (Elt F) ((sguS s).view.loc (c : Thread nD τ)) :=
  (sguS s).view.writes (Elt F) f [⟨Rect.whole S22x2816, sguLoad X b⟩]
abbrev sguFlightP (s : Fin 2) (b : Fin 32) (f : Buf (Elt F) ((sguS s).view.loc (c : Thread nD τ))) : sProp 𝕄 :=
  Transfers.Flight countersEmb (c : Thread nD τ) (SemLoc.dma (csm s 1).sem) () 3872 iprop(sguSlotP s (sguLanded X s b f) ∗ sguHomeP X b)

abbrev dnSlotP (s : Fin 2) (f : Buf (Elt F) ((dnS s).view.loc (c : Thread nD τ))) : sProp 𝕄 :=
  (dnS s).view.loc (c : Thread nD τ) ↦[(dnS s).view.set]{fullShare} f
abbrev dnHomeP (b : Fin 32) : sProp 𝕄 := (dnE b).view.loc (c : Thread nD τ) ↦[(dnE b).view.set]{fullShare} X.dn
/-- Expert `b`'s words, as a slot receives them. -/
abbrev dnLoad (b : Fin 32) : S704x2816.Idx → Elt F .i8 := ReadAs.same.apply ((dnE b).view.read (Elt F) X.dn)
abbrev dnLanded (s : Fin 2) (b : Fin 32) (f : Buf (Elt F) ((dnS s).view.loc (c : Thread nD τ))) : Buf (Elt F) ((dnS s).view.loc (c : Thread nD τ)) :=
  (dnS s).view.writes (Elt F) f [⟨Rect.whole S704x2816, dnLoad X b⟩]
abbrev dnFlightP (s : Fin 2) (b : Fin 32) (f : Buf (Elt F) ((dnS s).view.loc (c : Thread nD τ))) : sProp 𝕄 :=
  Transfers.Flight countersEmb (c : Thread nD τ) (SemLoc.dma (csm s 2).sem) () 61952 iprop(dnSlotP s (dnLanded X s b f) ∗ dnHomeP X b)

abbrev sdnSlotP (s : Fin 2) (f : Buf (Elt F) ((sdnS s).view.loc (c : Thread nD τ))) : sProp 𝕄 :=
  (sdnS s).view.loc (c : Thread nD τ) ↦[(sdnS s).view.set]{fullShare} f
abbrev sdnHomeP (b : Fin 32) : sProp 𝕄 := (sdnE b).view.loc (c : Thread nD τ) ↦[(sdnE b).view.set]{fullShare} X.sdn
/-- Expert `b`'s words, as a slot receives them. -/
abbrev sdnLoad (b : Fin 32) : S11x2816.Idx → Elt F .bf16 := ReadAs.same.apply ((sdnE b).view.read (Elt F) X.sdn)
abbrev sdnLanded (s : Fin 2) (b : Fin 32) (f : Buf (Elt F) ((sdnS s).view.loc (c : Thread nD τ))) : Buf (Elt F) ((sdnS s).view.loc (c : Thread nD τ)) :=
  (sdnS s).view.writes (Elt F) f [⟨Rect.whole S11x2816, sdnLoad X b⟩]
abbrev sdnFlightP (s : Fin 2) (b : Fin 32) (f : Buf (Elt F) ((sdnS s).view.loc (c : Thread nD τ))) : sProp 𝕄 :=
  Transfers.Flight countersEmb (c : Thread nD τ) (SemLoc.dma (csm s 3).sem) () 1936 iprop(sdnSlotP s (sdnLanded X s b f) ∗ sdnHomeP X b)

/-- Expert `b` at home. -/
def homeP (b : Fin 32) : sProp 𝕄 := iprop(guHomeP X b ∗ sguHomeP X b ∗ dnHomeP X b ∗ sdnHomeP X b)
/-- Slot `s` free: its four buffers at anything, its four counters at zero. -/
def freeP (c : Dev nD) (s : Fin 2) : sProp 𝕄 := iprop((∃ f, guSlotP (c := c) (F := F) s f) ∗ (∃ f, sguSlotP (c := c) (F := F) s f) ∗ (∃ f, dnSlotP (c := c) (F := F) s f) ∗ (∃ f, sdnSlotP (c := c) (F := F) s f)
  ∗ cellP c s 0 ∗ cellP c s 1 ∗ cellP c s 2 ∗ cellP c s 3)
/-- Expert `b` on its way into slot `s`. -/
def flightP (s : Fin 2) (b : Fin 32) : sProp 𝕄 := iprop((∃ f, guFlightP X s b f) ∗ (∃ f, sguFlightP X s b f) ∗ (∃ f, dnFlightP X s b f) ∗ (∃ f, sdnFlightP X s b f))

end Pieces

/-! ## The first statements of a trip: the next expert's transfers started, three of this one's awaited -/

section Trip
variable {c : Dev nD} (X : Weights F c)
  (arg0 : Memref sig .tc .smem S144 .i32) (harg0 : arg0.IsWhole) (arg1 : Memref sig .tc .vmem S24x2816 .bf16) (harg1 : arg1.IsWhole) (arg2 : Memref sig .tc .vmem S24x6 .i32) (harg2 : arg2.IsWhole) (arg3 : Memref sig .tc .vmem S24x6 .f32) (harg3 : arg3.IsWhole)
  (arg8 : Memref sig .tc .vmem S24x2816 .bf16) (harg8 : arg8.IsWhole)
  (v : BitVec 32) (hw : k0_chk3 v)

abbrev elA : Memref sig .tc .smem S33 .i32 := Memref.whole cc0_scratch6
abbrev elP (c : Dev nD) (fe : Buf (Elt F) (elA.view.loc (c : Thread nD τ))) : sProp 𝕄 := elA.view.loc (c : Thread nD τ) ↦[elA.view.set]{fullShare} fe
/-- Word `j` of the list. -/
def word (fe : Buf (Elt F) (elA.view.loc (c : Thread nD τ))) (j : ℕ) : BitVec 32 :=
  elA.view.read (Elt F) fe (fun a => ⟨j % 33, by fin_cases a; exact Nat.mod_lt _ (by decide)⟩)
/-- The scalar load of place `j` of the list. -/
theorem word_load (fe : Buf (Elt F) (elA.view.loc (c : Thread nD τ))) {off : Fin 1 → Nat} (hin) (j : ℕ) (hj : j < 33) (e : off = ![j]) (i : S1.Idx) :
    elA.view.readAt (Elt F) (Rect.unit (s := S33) off S1.size hin).toLoadRect fe i = word fe j := by
  subst e
  rw [View.readAt_apply]
  unfold word
  congr 1
  funext a
  apply Fin.ext
  fin_cases a
  have h0 : (i 0).val = 0 := by have := (i 0).isLt; simpa [S1] using this
  show j + 1 * (i 0).val = j % 33
  rw [h0, Nat.mod_eq_of_lt hj]; omega

/-- What stands over the loop beside the transfers: the list of experts, and that it is right. -/
structure ListOK (fe : Buf (Elt F) (elA.view.loc (c : Thread nD τ))) (ex : ℕ → Fin 32) (n : ℕ) : Prop where
  word : ∀ j, j < n → (word fe j).toNat = (ex j).val
  next : ∀ j, j + 1 < n → ex (j + 1) ≠ ex j
  le : n ≤ 32

/-- The experts at home, and the other slot, after trip `k`'s starts. -/
def nextP (n : ℕ) (ex : ℕ → Fin 32) (k : ℕ) : sProp 𝕄 :=
  if k + 1 < n then iprop(bigSep ((Finset.univ.erase (ex k)).erase (ex (k + 1))) (homeP X) ∗ flightP X (Ring.sl 2 (k + 1)) (ex (k + 1)))
  else iprop(bigSep (Finset.univ.erase (ex k)) (homeP X) ∗ freeP c (Ring.sl 2 (k + 1)))

/-- After part 1: three buffers of the slot delivered, the fourth on its way. -/
def midP (s : Fin 2) (b : Fin 32) : sProp 𝕄 :=
  iprop((∃ f, guSlotP s (guLanded X s b f)) ∗ guHomeP X b ∗ cellP c s 0
    ∗ (∃ f, sguSlotP s (sguLanded X s b f)) ∗ sguHomeP X b ∗ cellP c s 1
    ∗ (∃ f, dnSlotP s (dnLanded X s b f)) ∗ dnHomeP X b ∗ cellP c s 2
    ∗ ∃ f, sdnFlightP X s b f)

abbrev part1G (k : Fin (k0_t3_loop v).trips) :=
  k0_part1 (F := F) arg0 harg0 arg1 harg1 arg2 harg2 arg3 harg3 guA (Memref.isWhole_whole _) sguA (Memref.isWhole_whole _) dnA (Memref.isWhole_whole _) sdnA (Memref.isWhole_whole _) arg8 harg8
    guB (Memref.isWhole_whole _) sguB (Memref.isWhole_whole _) dnB (Memref.isWhole_whole _) sdnB (Memref.isWhole_whole _) (Memref.whole cc0_scratch4) (Memref.isWhole_whole _) (Memref.whole cc0_scratch5) (Memref.isWhole_whole _) elA (Memref.isWhole_whole _) cc0_scratch7 v hw 0#32 1#32 k

set_option backward.proofsInPublic true in
set_option maxHeartbeats 4000000 in
theorem part1_next (fe) (ex : ℕ → Fin 32) (k : Fin (k0_t3_loop v).trips) (hl : ListOK (c := c) fe ex (k0_t3_loop v).trips) (hk : k.val + 1 < (k0_t3_loop v).trips) (W : Waits sig Unit) :
    iprop(elP c fe ∗ owes (c : Thread nD τ) 0 W ∗ bigSep (Finset.univ.erase (ex k.val)) (homeP X) ∗ flightP X (Ring.sl 2 k.val) (ex k.val) ∗ freeP c (Ring.sl 2 (k.val + 1)))
      ⊢ wp frame (wpE (defs₀ (F := F)) 𝒱₀ (c : Thread nD τ) none) Set.univ (part1G arg0 harg0 arg1 harg1 arg2 harg2 arg3 harg3 arg8 harg8 v hw k)
        (fun r => iprop(⌜r.1 = Scf.iv 0#32 1#32 k.val ∧ r.2.1 = Scalar.remsi (Scf.iv 0#32 1#32 k.val) 2#32 ∧ r.2.2.1 = word fe k.val⌝
          ∗ elP c fe ∗ (∃ W, owes (c : Thread nD τ) 0 W) ∗ midP X (Ring.sl 2 k.val) (ex k.val) ∗ nextP X (k0_t3_loop v).trips ex k.val)) := by
  have hc := cond1_holds v k hk
  have hn33 := hl.le
  unfold nextP; rw [if_pos hk]
  have hmem : ex (k.val + 1) ∈ Finset.univ.erase (ex k.val) := Finset.mem_erase.mpr ⟨hl.next _ hk, Finset.mem_univ _⟩
  rw [show bigSep (Finset.univ.erase (ex k.val)) (homeP X) = iprop(homeP X (ex (k.val + 1)) ∗ bigSep ((Finset.univ.erase (ex k.val)).erase (ex (k.val + 1))) (homeP X)) from bigSep_erase hmem]
  conv_lhs => unfold flightP freeP homeP
  iintro ⟨HE, HW, ⟨⟨Ha, Hb, Hc, Hd⟩, Hrest⟩, ⟨⟨%f0, HF0⟩, ⟨%f1, HF1⟩, ⟨%f2, HF2⟩, ⟨%f3, HF3⟩⟩, ⟨⟨%g0, HS0⟩, ⟨%g1, HS1⟩, ⟨%g2, HS2⟩, ⟨%g3, HS3⟩, Hc0, Hc1, Hc2, Hc3⟩⟩
  dsimp only [part1G]
  sl_exec
  have e1 : part1_next.sl.r v hw fe k hc = word fe (k.val + 1) := word_load fe _ (k.val + 1) (by omega) (word_next v k) _
  have h1 : (part1_next.sl.r v hw fe k hc).toNat = (ex (k.val + 1)).val := by rw [e1]; exact hl.word _ hk
  have q1 := chk4_of v k _ _ h1
  sl_exec
  have e2 : part1_next.sl.r_1 v hw fe k = word fe k.val := word_load fe _ k.val (by omega) (word_at v k) _
  have h2 : (part1_next.sl.r_1 v hw fe k).toNat = (ex k.val).val := by rw [e2]; exact hl.word _ k.isLt
  have q2 := chk5_of _ _ h2
  sl_exec
  sl_step
  unfold midP
  isplitr; · ipureintro; exact ⟨rfl, rfl, e2⟩
  isplitl [HE]; · iexact HE
  isplitl [HW]; · iexists _; iexact HW
  isplitl [HF0 HF0_dst HF0_src HF1 HF1_dst HF1_src HF2 HF2_dst HF2_src HF3]
  · isplitl [HF0_dst]; · iexists _; iexact HF0_dst
    isplitl [HF0_src]; · iexact HF0_src
    isplitl [HF0]; · iexact HF0
    isplitl [HF1_dst]; · iexists _; iexact HF1_dst
    isplitl [HF1_src]; · iexact HF1_src
    isplitl [HF1]; · iexact HF1
    isplitl [HF2_dst]; · iexists _; iexact HF2_dst
    isplitl [HF2_src]; · iexact HF2_src
    isplitl [HF2]; · iexact HF2
    iexists _; iexact HF3
  isplitl [Hrest]; · iexact Hrest
  unfold flightP
  isplitl [Hc0]; · iexists _; iexact Hc0
  isplitl [Hc1]; · iexists _; iexact Hc1
  isplitl [Hc2]; · iexists _; iexact Hc2
  iexists _; iexact Hc3

set_option backward.proofsInPublic true in
set_option maxHeartbeats 4000000 in
theorem part1_last (fe) (ex : ℕ → Fin 32) (k : Fin (k0_t3_loop v).trips) (hl : ListOK (c := c) fe ex (k0_t3_loop v).trips) (hk : ¬ k.val + 1 < (k0_t3_loop v).trips) (W : Waits sig Unit) :
    iprop(elP c fe ∗ owes (c : Thread nD τ) 0 W ∗ bigSep (Finset.univ.erase (ex k.val)) (homeP X) ∗ flightP X (Ring.sl 2 k.val) (ex k.val) ∗ freeP c (Ring.sl 2 (k.val + 1)))
      ⊢ wp frame (wpE (defs₀ (F := F)) 𝒱₀ (c : Thread nD τ) none) Set.univ (part1G arg0 harg0 arg1 harg1 arg2 harg2 arg3 harg3 arg8 harg8 v hw k)
        (fun r => iprop(⌜r.1 = Scf.iv 0#32 1#32 k.val ∧ r.2.1 = Scalar.remsi (Scf.iv 0#32 1#32 k.val) 2#32 ∧ r.2.2.1 = word fe k.val⌝
          ∗ elP c fe ∗ (∃ W, owes (c : Thread nD τ) 0 W) ∗ midP X (Ring.sl 2 k.val) (ex k.val) ∗ nextP X (k0_t3_loop v).trips ex k.val)) := by
  have hc := cond1_fails v k hk
  have hn33 := hl.le
  have hk' := k.isLt
  unfold nextP; rw [if_neg hk]
  conv_lhs => unfold flightP
  iintro ⟨HE, HW, Hrest, ⟨⟨%f0, HF0⟩, ⟨%f1, HF1⟩, ⟨%f2, HF2⟩, ⟨%f3, HF3⟩⟩, HS⟩
  dsimp only [part1G]
  sl_exec
  have e2 : part1_last.sl.r v hw fe k = word fe k.val := word_load fe _ k.val (by omega) (word_at v k) _
  have h2 : (part1_last.sl.r v hw fe k).toNat = (ex k.val).val := by rw [e2]; exact hl.word _ k.isLt
  have q2 := chk5_of _ _ h2
  sl_exec
  sl_step
  unfold midP
  isplitr; · ipureintro; exact ⟨rfl, rfl, e2⟩
  isplitl [HE]; · iexact HE
  isplitl [HW]; · iexists _; iexact HW
  isplitl [HF0 HF0_dst HF0_src HF1 HF1_dst HF1_src HF2 HF2_dst HF2_src HF3]
  · isplitl [HF0_dst]; · iexists _; iexact HF0_dst
    isplitl [HF0_src]; · iexact HF0_src
    isplitl [HF0]; · iexact HF0
    isplitl [HF1_dst]; · iexists _; iexact HF1_dst
    isplitl [HF1_src]; · iexact HF1_src
    isplitl [HF1]; · iexact HF1
    isplitl [HF2_dst]; · iexists _; iexact HF2_dst
    isplitl [HF2_src]; · iexact HF2_src
    isplitl [HF2]; · iexact HF2
    iexists _; iexact HF3
  isplitl [Hrest]; · iexact Hrest
  iexact HS

/-- Part 1 of a trip. -/
theorem part1 (fe) (ex : ℕ → Fin 32) (k : Fin (k0_t3_loop v).trips) (hl : ListOK (c := c) fe ex (k0_t3_loop v).trips) (W : Waits sig Unit) :
    iprop(elP c fe ∗ owes (c : Thread nD τ) 0 W ∗ bigSep (Finset.univ.erase (ex k.val)) (homeP X) ∗ flightP X (Ring.sl 2 k.val) (ex k.val) ∗ freeP c (Ring.sl 2 (k.val + 1)))
      ⊢ wp frame (wpE (defs₀ (F := F)) 𝒱₀ (c : Thread nD τ) none) Set.univ (part1G arg0 harg0 arg1 harg1 arg2 harg2 arg3 harg3 arg8 harg8 v hw k)
        (fun r => iprop(⌜r.1 = Scf.iv 0#32 1#32 k.val ∧ r.2.1 = Scalar.remsi (Scf.iv 0#32 1#32 k.val) 2#32 ∧ r.2.2.1 = word fe k.val⌝
          ∗ elP c fe ∗ (∃ W, owes (c : Thread nD τ) 0 W) ∗ midP X (Ring.sl 2 k.val) (ex k.val) ∗ nextP X (k0_t3_loop v).trips ex k.val)) := by
  by_cases hk : k.val + 1 < (k0_t3_loop v).trips
  · exact part1_next X arg0 harg0 arg1 harg1 arg2 harg2 arg3 harg3 arg8 harg8 v hw fe ex k hl hk W
  · exact part1_last X arg0 harg0 arg1 harg1 arg2 harg2 arg3 harg3 arg8 harg8 v hw fe ex k hl hk W

end Trip

end Cert.Proof.Ideal

end
-- ==== Proof.Ideal.Members.lean ====
/-
  The list of active experts: the set of the experts asked for as the bits of one word, and the experts of the set
  in increasing order.
-/
module

public import proofs.«01_k».proof.Proof.Ideal.Pieces

@[expose] public section

noncomputable section

namespace Cert.Proof.Ideal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The set as a word -/

/-- The bits of the first `k` experts asked for. -/
def mask (id : ℕ → BitVec 32) : ℕ → BitVec 32
  | 0 => 0#32
  | k + 1 => Scalar.ori (mask id k) (Scalar.shli 1#32 (id k))

theorem shl_bit (w : BitVec 32) (hw : w.toNat < 32) (e : ℕ) (he : e < 32) : (Scalar.shli 1#32 w).getLsbD e = decide (w.toNat = e) := by
  have : Scalar.shli 1#32 w = 1#32 <<< w.toNat := by
    rw [Scalar.shli, IntOp.shli, if_pos hw]; rfl
  rw [this]
  simp only [BitVec.getLsbD_shiftLeft, BitVec.getLsbD_one]
  by_cases h : w.toNat = e
  · subst h; simp [he]
  · have : ¬ (¬ e < w.toNat ∧ e - w.toNat = 0) := by omega
    simp [he, h]; omega

/-- Bit `e` says whether expert `e` is asked for. -/
theorem mask_bit (id : ℕ → BitVec 32) (k : ℕ) (hid : ∀ i, i < k → (id i).toNat < 32) (e : ℕ) (he : e < 32) :
    (mask id k).getLsbD e = true ↔ ∃ i, i < k ∧ (id i).toNat = e := by
  induction k with
  | zero => simp [mask]
  | succ k ih =>
    have hb := shl_bit (id k) (hid k (by omega)) e he
    show ((mask id k) ||| (Scalar.shli 1#32 (id k))).getLsbD e = true ↔ _
    rw [BitVec.getLsbD_or, hb, Bool.or_eq_true, ih (fun i hi => hid i (by omega)), decide_eq_true_eq]
    constructor
    · rintro (⟨i, hi, h⟩ | h)
      · exact ⟨i, by omega, h⟩
      · exact ⟨k, by omega, h⟩
    · rintro ⟨i, hi, h⟩
      by_cases hik : i = k
      · subst hik; exact Or.inr h
      · exact Or.inl ⟨i, by omega, h⟩

/-! ## The members in increasing order -/

/-- The members below `k`. -/
def actTo (m : BitVec 32) (k : ℕ) : List ℕ := (List.range k).filter (fun e => m.getLsbD e)
abbrev act (m : BitVec 32) : List ℕ := actTo m 32

theorem actTo_succ (m : BitVec 32) (k : ℕ) : actTo m (k + 1) = if m.getLsbD k then actTo m k ++ [k] else actTo m k := by
  unfold actTo; rw [List.range_succ, List.filter_append]
  split <;> rename_i h <;> simp [h]
theorem actTo_le (m : BitVec 32) (k : ℕ) : (actTo m k).length ≤ k := by
  unfold actTo; exact (List.length_filter_le _ _).trans (by simp)
theorem act_lt (m : BitVec 32) (k : ℕ) {e : ℕ} (h : e ∈ actTo m k) : e < k := by
  unfold actTo at h; simp at h; exact h.1
theorem act_nodup (m : BitVec 32) : (act m).Nodup := (List.nodup_range).filter _
theorem mem_act (m : BitVec 32) (e : ℕ) : e ∈ act m ↔ e < 32 ∧ m.getLsbD e = true := by unfold act actTo; simp

/-- The bit the second loop counts by. -/
theorem bit_word (m : BitVec 32) (k : ℕ) (hk : k < 32) :
    Scalar.andi (Scalar.shrsi m (BitVec.ofNat 32 k)) 1#32 = if m.getLsbD k then 1#32 else 0#32 := by
  have h1 : Scalar.shrsi m (BitVec.ofNat 32 k) = m.sshiftRight k := by
    have hk' : (BitVec.ofNat 32 k).toNat = k := by simp; omega
    rw [Scalar.shrsi, IntOp.shrsi, if_pos (by rw [hk']; exact hk), BitVec.sshiftRight', hk']
  rw [h1]
  show (m.sshiftRight k) &&& 1#32 = _
  apply BitVec.eq_of_getLsbD_eq
  intro i hi
  rw [BitVec.getLsbD_and, BitVec.getLsbD_one]
  by_cases h0 : i = 0
  · subst h0
    rw [BitVec.getLsbD_sshiftRight]
    have : (0 + k) < 32 := by omega
    cases hm : m.getLsbD k <;> simp [hk, hm]
  · have : decide (i = 0) = false := by simp [h0]
    split <;> simp [h0]

/-- Place `j`'s expert. -/
def exAt (m : BitVec 32) (j : ℕ) : Fin 32 := if h : j < (act m).length then ⟨(act m)[j], act_lt m 32 (List.getElem_mem h)⟩ else 0

theorem exAt_val (m : BitVec 32) {j : ℕ} (h : j < (act m).length) : (exAt m j).val = (act m)[j] := by unfold exAt; rw [dif_pos h]
theorem exAt_next (m : BitVec 32) (j : ℕ) (h : j + 1 < (act m).length) : exAt m (j + 1) ≠ exAt m j := by
  intro e
  have := congrArg Fin.val e
  rw [exAt_val m h, exAt_val m (by omega : j < _)] at this
  have := (act_nodup m).getElem_inj_iff.mp this
  omega

/-- What the second loop has made of the list before trip `k`. -/
structure ListTo {F : FTy → Type} {c : Dev nD} (m : BitVec 32) (k : ℕ) (acc : BitVec 32) (f : Buf (Elt F) (elA.view.loc (c : Thread nD τ))) : Prop where
  len : acc.toNat = (actTo m k).length
  word : ∀ j (h : j < (actTo m k).length), (word f j).toNat = (actTo m k)[j]

theorem ListTo.listOK {F : FTy → Type} {c : Dev nD} {m acc : BitVec 32} {f : Buf (Elt F) (elA.view.loc (c : Thread nD τ))} (h : ListTo m 32 acc f) :
    ListOK (c := c) f (exAt m) (act m).length where
  word j hj := (h.word j hj).trans (exAt_val m hj).symm
  next := exAt_next m
  le := actTo_le m 32

end Cert.Proof.Ideal

end
-- ==== Proof.Ideal.Trip.lean ====
/-
  One trip of the main loop at a symbolic place `k`: expert `ex k` computed out of slot `k % 2`, the next expert's
  transfers started into the other slot.
-/
module

public import proofs.«01_k».proof.Proof.Ideal.Pieces

@[expose] public section

noncomputable section

namespace Cert.Proof.Ideal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

section Trip
variable {c : Dev nD} (X : Weights F c)
  (arg0 : Memref sig .tc .smem S144 .i32) (harg0 : arg0.IsWhole) (arg1 : Memref sig .tc .vmem S24x2816 .bf16) (harg1 : arg1.IsWhole) (arg2 : Memref sig .tc .vmem S24x6 .i32) (harg2 : arg2.IsWhole) (arg3 : Memref sig .tc .vmem S24x6 .f32) (harg3 : arg3.IsWhole)
  (arg8 : Memref sig .tc .vmem S24x2816 .bf16) (harg8 : arg8.IsWhole)
  (v : BitVec 32) (hw : k0_chk3 v)

abbrev hA : Memref sig .tc .vmem S24x1408 .bf16 := Memref.whole cc0_scratch4
abbrev accA : Memref sig .tc .vmem S24x2816 .f32 := Memref.whole cc0_scratch5

/-- Expert `b` as the word the list holds. -/
@[irreducible] def wordOf (b : Fin 32) : BitVec 32 := BitVec.ofNat 32 b.val
theorem wordOf_eq (w : BitVec 32) (b : Fin 32) (h : w.toNat = b.val) : w = wordOf b := by
  unfold wordOf
  apply BitVec.eq_of_toNat_eq
  rw [h, BitVec.toNat_ofNat, Nat.mod_eq_of_lt (b.isLt.trans (by decide))]

/-- The list, set aside while the trip runs up to its next read of it. -/
@[irreducible] def elHid (c : Dev nD) (fe : Buf (Elt F) (elA.view.loc (c : Thread nD τ))) : sProp 𝕄 := elP c fe

theorem elHid_eq (c : Dev nD) (fe : Buf (Elt F) (elA.view.loc (c : Thread nD τ))) : elHid c fe = elP c fe := by unfold elHid; rfl

/-- The blocks the trip only reads: the tokens, the experts they ask for, and with which weight. -/
structure Blocks (F : FTy → Type) (c : Dev nD) where
  x : Buf (Elt F) (arg1.view.loc (c : Thread nD τ))
  ids : Buf (Elt F) (arg2.view.loc (c : Thread nD τ))
  rw : Buf (Elt F) (arg3.view.loc (c : Thread nD τ))
variable (B : Blocks arg1 arg2 arg3 F c)

abbrev blocksP : sProp 𝕄 := iprop((arg1.view.loc (c : Thread nD τ) ↦[arg1.view.set]{fullShare} B.x) ∗ (arg2.view.loc (c : Thread nD τ) ↦[arg2.view.set]{fullShare} B.ids) ∗ (arg3.view.loc (c : Thread nD τ) ↦[arg3.view.set]{fullShare} B.rw))
abbrev hP (c : Dev nD) (f : Buf (Elt F) (hA.view.loc (c : Thread nD τ))) : sProp 𝕄 := hA.view.loc (c : Thread nD τ) ↦[hA.view.set]{fullShare} f
abbrev accP (c : Dev nD) (f : Buf (Elt F) (accA.view.loc (c : Thread nD τ))) : sProp 𝕄 := accA.view.loc (c : Thread nD τ) ↦[accA.view.set]{fullShare} f

abbrev tripG (k : Fin (k0_t3_loop v).trips) : Prog (TpuEff nD τ sig (Elt F) Λ₀ .tc) Unit :=
  k0_t3_body (F := F) arg0 harg0 arg1 harg1 arg2 harg2 arg3 harg3 guA (Memref.isWhole_whole _) sguA (Memref.isWhole_whole _) dnA (Memref.isWhole_whole _) sdnA (Memref.isWhole_whole _) arg8 harg8
    guB (Memref.isWhole_whole _) sguB (Memref.isWhole_whole _) dnB (Memref.isWhole_whole _) sdnB (Memref.isWhole_whole _) hA (Memref.isWhole_whole _) accA (Memref.isWhole_whole _) elA (Memref.isWhole_whole _) cc0_scratch7 v hw k ()

set_option backward.proofsInPublic true in
set_option maxHeartbeats 40000000 in
def tripRun (ex : ℕ → Fin 32) (k : Fin (k0_t3_loop v).trips) (fa : Buf (Elt F) (accA.view.loc (c : Thread nD τ))) :
    { L : List (View.Piece (Elt F) S24x2816 .f32) // ∀ (fe) (hl : ListOK (c := c) fe ex (k0_t3_loop v).trips) (fh : Buf (Elt F) (hA.view.loc (c : Thread nD τ))) (W : Waits sig Unit),
    iprop(blocksP arg1 arg2 arg3 B ∗ hP c fh ∗ accP c fa ∗ elP c fe ∗ owes (c : Thread nD τ) 0 W ∗ bigSep (Finset.univ.erase (ex k.val)) (homeP X) ∗ flightP X (Ring.sl 2 k.val) (ex k.val) ∗ freeP c (Ring.sl 2 (k.val + 1)))
      ⊢ wp frame (wpE (defs₀ (F := F)) 𝒱₀ (c : Thread nD τ) none) Set.univ (tripG arg0 harg0 arg1 harg1 arg2 harg2 arg3 harg3 arg8 harg8 v hw k)
        (fun _ => iprop(blocksP arg1 arg2 arg3 B ∗ (∃ fh, hP c fh) ∗ accP c (accA.view.writes (Elt F) fa L) ∗ elP c fe ∗ (∃ W, owes (c : Thread nD τ) 0 W)
          ∗ homeP X (ex k.val) ∗ freeP c (Ring.sl 2 k.val) ∗ nextP X (k0_t3_loop v).trips ex k.val)) } := by
  refine ⟨?_, ?run⟩
  case run =>
    intro fe hl fh W
    iintro ⟨⟨Hx, Hi, Hr⟩, Hh, Ha, HE, HW, Hhome, HF, Hfree⟩
    dsimp only [tripG]
    sl_unfold [k0_t3_body]
    rw [wp_bind]
    iapply (wp_wand_r Idealize.ShloMosaic.frame (wpE (defs₀ (F := F)) 𝒱₀ (c : Thread nD τ) none) Set.univ)
    isplitl [HE HW Hhome HF Hfree]
    · iapply (part1 X arg0 harg0 arg1 harg1 arg2 harg2 arg3 harg3 arg8 harg8 v hw fe ex k hl W)
      isplitl [HE]; · iexact HE
      isplitl [HW]; · iexact HW
      isplitl [Hhome]; · iexact Hhome
      isplitl [HF]; · iexact HF
      iexact Hfree
    iintro %r ⟨%hr, HE, ⟨%W', HW⟩, Hm, Hnext⟩
    obtain ⟨r1, r2, r3, r4⟩ := r
    obtain ⟨hr1, hr2, hr3⟩ := hr
    dsimp only at hr1 hr2 hr3
    have h2 : (word fe k.val).toNat = (ex k.val).val := hl.word _ k.isLt
    have h3 : word fe k.val = wordOf (ex k.val) := wordOf_eq _ _ h2
    rw [h3] at hr3 h2
    subst hr1; subst hr2; subst hr3
    unfold midP
    ihave HE' := (Entails.of_eq (elHid_eq c fe).symm) $$ HE
    icases Hm with ⟨⟨%f0, HS0⟩, Hs0, Hc0, ⟨%f1, HS1⟩, Hs1, Hc1, ⟨%f2, HS2⟩, Hs2, Hc2, ⟨%f3, HF3⟩⟩
    sl_exec
    ihave HE := (Entails.of_eq (elHid_eq c fe)) $$ HE'
    sl_step
    rw [word_load fe (k0_off33_inb v hw k) k.val (by have := hl.le; have := k.isLt; omega) (word_at v k), h3]
    sl_exec
    sl_step
    unfold homeP freeP
    isplitl [Hx Hi Hr]
    · isplitl [Hx]; · iexact Hx
      isplitl [Hi]; · iexact Hi
      iexact Hr
    isplitl [Hh]; · iexists _; iexact Hh
    isplitl [Ha]; · iexact Ha
    isplitl [HE]; · iexact HE
    isplitl [HW]; · iexists _; iexact HW
    isplitl [Hs0 Hs1 Hs2 HF3_src]
    · isplitl [Hs0]; · iexact Hs0
      isplitl [Hs1]; · iexact Hs1
      isplitl [Hs2]; · iexact Hs2
      iexact HF3_src
    isplitr [Hnext]
    · isplitl [HS0]; · iexists _; iexact HS0
      isplitl [HS1]; · iexists _; iexact HS1
      isplitl [HS2]; · iexists _; iexact HS2
      isplitl [HF3_dst]; · iexists _; iexact HF3_dst
      isplitl [Hc0]; · iexact Hc0
      isplitl [Hc1]; · iexact Hc1
      isplitl [Hc2]; · iexact Hc2
      iexact HF3
    iexact Hnext

end Trip

end Cert.Proof.Ideal

end
-- ==== Proof.Ideal.Lists.lean ====
/-
  The two loops that make the list of active experts, by their invariants.
-/
module

public import proofs.«01_k».proof.Proof.Ideal.Members
public import proofs.«01_k».proof.Proof.Ideal.Trip

@[expose] public section

noncomputable section

namespace Cert.Proof.Ideal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

section Loops
variable {c : Dev nD}
  (arg0 : Memref sig .tc .smem S144 .i32) (harg0 : arg0.IsWhole) (arg1 : Memref sig .tc .vmem S24x2816 .bf16) (harg1 : arg1.IsWhole) (arg2 : Memref sig .tc .vmem S24x6 .i32) (harg2 : arg2.IsWhole) (arg3 : Memref sig .tc .vmem S24x6 .f32) (harg3 : arg3.IsWhole)
  (arg8 : Memref sig .tc .vmem S24x2816 .bf16) (harg8 : arg8.IsWhole)

abbrev idsP (g : Buf (Elt F) (arg0.view.loc (c : Thread nD τ))) : sProp 𝕄 := arg0.view.loc (c : Thread nD τ) ↦[arg0.view.set]{fullShare} g
/-- Expert asked for at place `j` of the flat list of 144. -/
def idw (g : Buf (Elt F) (arg0.view.loc (c : Thread nD τ))) (j : ℕ) : BitVec 32 :=
  arg0.view.read (Elt F) g (fun a => ⟨j % 144, by fin_cases a; exact Nat.mod_lt _ (by decide)⟩)
theorem idw_load (g : Buf (Elt F) (arg0.view.loc (c : Thread nD τ))) {off : Fin 1 → Nat} (hin) (j : ℕ) (hj : j < 144) (e : off = ![j]) (i : S1.Idx) :
    arg0.view.readAt (Elt F) (Rect.unit (s := S144) off S1.size hin).toLoadRect g i = idw arg0 g j := by
  subst e
  rw [View.readAt_apply]
  unfold idw
  congr 1
  funext a
  apply Fin.ext
  fin_cases a
  have h0 : (i 0).val = 0 := by have := (i 0).isLt; simpa [S1] using this
  show j + 1 * (i 0).val = j % 144
  rw [h0, Nat.mod_eq_of_lt hj]; omega

theorem trips1_lt (k : Fin k0_t1_loop.trips) : k.val < 144 := Nat.lt_of_lt_of_le k.isLt k0_t1_abs.2.1
theorem trips2_lt (k : Fin k0_t2_loop.trips) : k.val < 32 := Nat.lt_of_lt_of_le k.isLt (by decide)
theorem off1_at (k : Fin k0_t1_loop.trips) : k0_off1 k = ![k.val] := by
  have hk := trips1_lt k
  exact Affine.vec_cons (Affine.indexCast (Affine.iv (e := k.val) (Affine.ofNat (e := 0) 0 ⟨rfl, by decide⟩) (Affine.ofNat (e := 1) 1 ⟨rfl, by decide⟩) k.val ⟨by omega, by omega, by omega⟩)) rfl rfl
theorem off2_at (acc : BitVec 32) (h : acc.toNat < 33) : k0_off2 acc = ![acc.toNat] :=
  rfl
theorem iv2 (k : ℕ) (hk : k < 32) : Scf.iv 0#32 1#32 k = BitVec.ofNat 32 k := by
  simp [Scf.iv]

set_option backward.proofsInPublic true in
theorem step1 (g : Buf (Elt F) (arg0.view.loc (c : Thread nD τ))) (k : Fin k0_t1_loop.trips) (acc : BitVec 32) :
    iprop(idsP arg0 g ∗ ⌜acc = mask (idw arg0 g) k.val⌝)
      ⊢ wp frame (wpE (defs₀ (F := F)) 𝒱₀ (c : Thread nD τ) none) Set.univ
        (k0_t1_body (F := F) arg0 harg0 arg1 harg1 arg2 harg2 arg3 harg3 guA (Memref.isWhole_whole _) sguA (Memref.isWhole_whole _) dnA (Memref.isWhole_whole _) sdnA (Memref.isWhole_whole _) arg8 harg8
    guB (Memref.isWhole_whole _) sguB (Memref.isWhole_whole _) dnB (Memref.isWhole_whole _) sdnB (Memref.isWhole_whole _) hA (Memref.isWhole_whole _) accA (Memref.isWhole_whole _) elA (Memref.isWhole_whole _) cc0_scratch7 k acc)
        (fun y => iprop(idsP arg0 g ∗ ⌜y = mask (idw arg0 g) (k.val + 1)⌝)) := by
  have hk := trips1_lt k
  iintro ⟨HI, %h⟩
  subst h
  unfold k0_t1_body
  sl_exec
  sl_step
  isplitl [HI]; · iexact HI
  ipureintro
  show Scalar.ori _ (Scalar.shli 1#32 _) = Scalar.ori _ (Scalar.shli 1#32 _)
  rw [← idw_load arg0 g (k0_off1_inb k) k.val hk (off1_at k)]; rfl

/-- The word at place `j` after a store at place `p`. -/
theorem word_store (f : Buf (Elt F) (elA.view.loc (c : Thread nD τ))) {off : Fin 1 → Nat} (hin) (p : ℕ) (hp : p < 33) (e : off = ![p]) (w : BitVec 32) (j : ℕ) (hj : j < 33) :
    word (c := c) (elA.view.writes (Elt F) f [⟨Rect.unit (s := S33) off S1.size hin, fun _ => w⟩]) j = if j = p then w else word f j := by
  subst e
  unfold word
  have hj' : j % 33 = j := Nat.mod_eq_of_lt hj
  split
  · rename_i h
    refine View.read_writes_cons_hit_of_coords elA.view f (Rect.unit (s := S33) ![p] S1.size hin) (fun _ => w) [] (fun a => ⟨0, by fin_cases a; exact Nat.zero_lt_one⟩) _ fun a => ?_
    fin_cases a
    show j % 33 = p + 1 * 0
    omega
  · rename_i h
    refine (View.read_writes_cons_miss_of_axis _ _ _ _ _ (0 : Fin 1) p 1 rfl rfl rfl ?_).trans rfl
    show j % 33 < p ∨ p + 1 ≤ j % 33
    omega

set_option backward.proofsInPublic true in
theorem step2 (m : BitVec 32) (k : Fin k0_t2_loop.trips) (acc : BitVec 32) :
    iprop(∃ f, elP (F := F) c f ∗ ⌜ListTo m k.val acc f⌝)
      ⊢ wp frame (wpE (defs₀ (F := F)) 𝒱₀ (c : Thread nD τ) none) Set.univ
        (k0_t2_body (F := F) arg0 harg0 arg1 harg1 arg2 harg2 arg3 harg3 guA (Memref.isWhole_whole _) sguA (Memref.isWhole_whole _) dnA (Memref.isWhole_whole _) sdnA (Memref.isWhole_whole _) arg8 harg8
    guB (Memref.isWhole_whole _) sguB (Memref.isWhole_whole _) dnB (Memref.isWhole_whole _) sdnB (Memref.isWhole_whole _) hA (Memref.isWhole_whole _) accA (Memref.isWhole_whole _) elA (Memref.isWhole_whole _) cc0_scratch7 m k acc)
        (fun y => iprop(∃ f, elP (F := F) c f ∗ ⌜ListTo m (k.val + 1) y f⌝)) := by
  have hk := trips2_lt k
  iintro ⟨%f, HE, %h⟩
  unfold k0_t2_body
  have hle := actTo_le m k.val
  have hlt : acc.toNat < 33 := by rw [h.len]; omega
  have hc := chk1_of acc hlt
  sl_exec
  sl_step
  iexists _
  isplitl [HE]; · iexact HE
  ipureintro
  have hb : Scalar.andi (Scalar.shrsi m (Scf.iv 0#32 1#32 k.val)) 1#32 = if m.getLsbD k.val then 1#32 else 0#32 := by
    rw [iv2 _ hk]; exact bit_word m k.val hk
  have ey : step2.sl.v45 m k acc = Scalar.addi acc (if m.getLsbD k.val then 1#32 else 0#32) := by rw [← hb]; rfl
  have ew : ∀ j, j < 33 → word (c := c) (F := F) (elA.view.writes (Elt F) f [⟨Rect.unit (s := S33) (k0_off2 acc) S1.size (k0_off2_inb acc hc), fun _ => step2.sl.arg17 k⟩]) j
      = if j = acc.toNat then BitVec.ofNat 32 k.val else word f j := fun j hj =>
    (word_store f _ acc.toNat hlt (off2_at acc hlt) _ j hj).trans (by rw [show step2.sl.arg17 k = BitVec.ofNat 32 k.val from iv2 _ hk])
  refine ⟨?_, fun j hj => ?_⟩
  · rw [ey, actTo_succ]
    show (acc + _).toNat = _
    rw [BitVec.toNat_add, h.len]
    by_cases hm : m.getLsbD k.val
    · rw [if_pos hm, if_pos hm]; simp; omega
    · rw [if_neg hm, if_neg hm]; simp; omega
  · have hle' := actTo_le m (k.val + 1)
    rw [ew j (by omega)]
    have hj' := hj
    simp only [actTo_succ] at hj ⊢
    by_cases hm : m.getLsbD k.val
    · simp only [if_pos hm] at hj ⊢
      rw [List.length_append] at hj
      by_cases hja : j = acc.toNat
      · rw [if_pos hja]
        rw [List.getElem_append_right (by rw [hja, h.len])]
        simp; omega
      · rw [if_neg hja, List.getElem_append_left (by simp at hj; rw [h.len] at hja; omega)]
        exact h.word j _
    · simp only [if_neg hm] at hj ⊢
      rw [if_neg (by rw [h.len]; omega)]
      exact h.word j hj

end Loops

end Cert.Proof.Ideal

end
-- ==== Proof.Ideal.Body.lean ====
/-
  The whole body: the list is made, the first expert's weights are started on their way, and the loop over the active experts
  leaves the accumulator at `accAt`, which the last lines round into the result.
-/
module

public import proofs.«01_k».proof.Proof.Ideal.Lists

@[expose] public section

noncomputable section

namespace Cert.Proof.Ideal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

/-- The count of the set bits of `m`, as the word the kernel holds. -/
abbrev cnt (m : BitVec 32) : BitVec 32 := BitVec.ofNat 32 (act m).length
theorem cnt_le (m : BitVec 32) : (act m).length ≤ 32 := actTo_le m 32
theorem cnt_toNat (m : BitVec 32) : (cnt m).toNat = (act m).length := by
  have := cnt_le m
  rw [BitVec.toNat_ofNat, Nat.mod_eq_of_lt (by omega)]
theorem cnt_chk (m : BitVec 32) : k0_chk3 (cnt m) := chk3_of (cnt m) (by rw [cnt_toNat]; exact cnt_le m)
theorem cnt_trips (m : BitVec 32) : (k0_t3_loop (cnt m)).trips = (act m).length :=
  (trips_eq_toNat (cnt m) (by rw [cnt_toNat]; exact cnt_le m)).trans (cnt_toNat m)

section Body
variable {c : Dev nD} (X : Weights F c)
  (arg0 : Memref sig .tc .smem S144 .i32) (harg0 : arg0.IsWhole) (arg1 : Memref sig .tc .vmem S24x2816 .bf16) (harg1 : arg1.IsWhole) (arg2 : Memref sig .tc .vmem S24x6 .i32) (harg2 : arg2.IsWhole) (arg3 : Memref sig .tc .vmem S24x6 .f32) (harg3 : arg3.IsWhole)
  (arg8 : Memref sig .tc .vmem S24x2816 .bf16) (harg8 : arg8.IsWhole)

/-- The ring of slots and the experts at home, before trip `k` of `n`. -/
def ringP (n : ℕ) (ex : ℕ → Fin 32) (k : ℕ) : sProp 𝕄 :=
  if k < n then iprop(bigSep (Finset.univ.erase (ex k)) (homeP X) ∗ flightP X (Ring.sl 2 k) (ex k) ∗ freeP c (Ring.sl 2 (k + 1)))
  else iprop(bigSep Finset.univ (homeP X) ∗ freeP c (Ring.sl 2 k) ∗ freeP c (Ring.sl 2 (k + 1)))

theorem sl_two (k : ℕ) : Ring.sl 2 (k + 1 + 1) = Ring.sl 2 k := Fin.ext (by show (k + 2) % 2 = k % 2; omega)

/-- A trip's end is the next trip's start. -/
theorem ringP_next (n n' : ℕ) (hn : n = n') (ex : ℕ → Fin 32) (k : ℕ) (hk : k < n) (hne : k + 1 < n → ex (k + 1) ≠ ex k) :
    iprop(homeP X (ex k) ∗ freeP c (Ring.sl 2 k) ∗ nextP X n' ex k) ⊢ ringP X n ex (k + 1) := by
  subst hn
  unfold nextP ringP
  rw [sl_two]
  by_cases h : k + 1 < n
  · rw [if_pos h, if_pos h]
    have hmem : ex k ∈ Finset.univ.erase (ex (k + 1)) := Finset.mem_erase.mpr ⟨(hne h).symm, Finset.mem_univ _⟩
    rw [show bigSep (Finset.univ.erase (ex (k + 1))) (homeP X) = iprop(homeP X (ex k) ∗ bigSep ((Finset.univ.erase (ex (k + 1))).erase (ex k)) (homeP X)) from bigSep_erase hmem,
      Finset.erase_right_comm]
    iintro ⟨H, Hf, Hr, HF⟩
    isplitl [H Hr]
    · isplitl [H]; · iexact H
      iexact Hr
    isplitl [HF]; · iexact HF
    iexact Hf
  · rw [if_neg h, if_neg h]
    rw [show bigSep Finset.univ (homeP X) = iprop(homeP X (ex k) ∗ bigSep (Finset.univ.erase (ex k)) (homeP X)) from bigSep_erase (Finset.mem_univ _)]
    iintro ⟨H, Hf, Hr, HF⟩
    isplitl [H Hr]
    · isplitl [H]; · iexact H
      iexact Hr
    isplitl [HF]; · iexact HF
    iexact Hf

variable (B : Blocks arg1 arg2 arg3 F c) (m : BitVec 32)
/-- The accumulator before trip `k`, from `a0` before the first. -/
def accAt (a0 : Buf (Elt F) (accA.view.loc (c : Thread nD τ))) : ℕ → Buf (Elt F) (accA.view.loc (c : Thread nD τ))
  | 0 => a0
  | k + 1 => if h : k < (k0_t3_loop (cnt m)).trips then
      accA.view.writes (Elt F) (accAt a0 k) (tripRun X arg0 harg0 arg1 harg1 arg2 harg2 arg3 harg3 arg8 harg8 (cnt m) (cnt_chk m) B (exAt m) ⟨k, h⟩ (accAt a0 k)).1
    else accAt a0 k

/-- What the loop over the active experts keeps. -/
def resAt (a0 : Buf (Elt F) (accA.view.loc (c : Thread nD τ))) (fe : Buf (Elt F) (elA.view.loc (c : Thread nD τ))) (k : ℕ) : sProp 𝕄 :=
  iprop(blocksP arg1 arg2 arg3 B ∗ (∃ fh, hP c fh) ∗ accP c (accAt X arg0 harg0 arg1 harg1 arg2 harg2 arg3 harg3 arg8 harg8 B m a0 k) ∗ elP c fe ∗ (∃ W, owes (c : Thread nD τ) 0 W) ∗ ringP X (act m).length (exAt m) k)

theorem step3 (a0 : Buf (Elt F) (accA.view.loc (c : Thread nD τ))) (fe : Buf (Elt F) (elA.view.loc (c : Thread nD τ))) (hl : ListOK (c := c) fe (exAt m) (act m).length) (k : Fin (k0_t3_loop (cnt m)).trips) :
    resAt X arg0 harg0 arg1 harg1 arg2 harg2 arg3 harg3 arg8 harg8 B m a0 fe k.val
      ⊢ wp frame (wpE (defs₀ (F := F)) 𝒱₀ (c : Thread nD τ) none) Set.univ (tripG arg0 harg0 arg1 harg1 arg2 harg2 arg3 harg3 arg8 harg8 (cnt m) (cnt_chk m) k)
        (fun _ => resAt X arg0 harg0 arg1 harg1 arg2 harg2 arg3 harg3 arg8 harg8 B m a0 fe (k.val + 1)) := by
  have hk : k.val < (act m).length := by have := k.isLt; have := cnt_trips m; omega
  have hl' : ListOK (c := c) fe (exAt m) (k0_t3_loop (cnt m)).trips := by rw [cnt_trips]; exact hl
  unfold resAt
  rw [show accAt X arg0 harg0 arg1 harg1 arg2 harg2 arg3 harg3 arg8 harg8 B m a0 (k.val + 1) = accA.view.writes (Elt F) (accAt X arg0 harg0 arg1 harg1 arg2 harg2 arg3 harg3 arg8 harg8 B m a0 k.val) (tripRun X arg0 harg0 arg1 harg1 arg2 harg2 arg3 harg3 arg8 harg8 (cnt m) (cnt_chk m) B (exAt m) k (accAt X arg0 harg0 arg1 harg1 arg2 harg2 arg3 harg3 arg8 harg8 B m a0 k.val)).1 from by
    rw [accAt, dif_pos k.isLt]]
  rw [show ringP X (act m).length (exAt m) k.val = _ from if_pos hk]
  iintro ⟨HB, ⟨%fh, Hh⟩, Ha, HE, ⟨%W, HW⟩, Hr, HF, Hf⟩
  iapply (wp_wand_r Idealize.ShloMosaic.frame (wpE (defs₀ (F := F)) 𝒱₀ (c : Thread nD τ) none) Set.univ)
  isplitl [HB Hh Ha HE HW Hr HF Hf]
  · iapply ((tripRun X arg0 harg0 arg1 harg1 arg2 harg2 arg3 harg3 arg8 harg8 (cnt m) (cnt_chk m) B (exAt m) k (accAt X arg0 harg0 arg1 harg1 arg2 harg2 arg3 harg3 arg8 harg8 B m a0 k.val)).2 fe hl' fh W)
    isplitl [HB]; · iexact HB
    isplitl [Hh]; · iexact Hh
    isplitl [Ha]; · iexact Ha
    isplitl [HE]; · iexact HE
    isplitl [HW]; · iexact HW
    isplitl [Hr]; · iexact Hr
    isplitl [HF]; · iexact HF
    iexact Hf
  iintro %r ⟨HB, Hh, Ha, HE, HW, Hm, Hf, Hn⟩
  isplitl [HB]; · iexact HB
  isplitl [Hh]; · iexact Hh
  isplitl [Ha]; · iexact Ha
  isplitl [HE]; · iexact HE
  isplitl [HW]; · iexact HW
  iapply (ringP_next X (act m).length _ (cnt_trips m).symm (exAt m) k.val hk (hl.next k.val))
  isplitl [Hm]; · iexact Hm
  isplitl [Hf]; · iexact Hf
  iexact Hn

theorem loop1 (g : Buf (Elt F) (arg0.view.loc (c : Thread nD τ))) :
    idsP arg0 g ⊢ wp frame (wpE (defs₀ (F := F)) 𝒱₀ (c : Thread nD τ) none) Set.univ
        (Scf.Loop.for k0_t1_loop k0_t1_ok 0#32 (k0_t1_body (F := F) arg0 harg0 arg1 harg1 arg2 harg2 arg3 harg3 guA (Memref.isWhole_whole _) sguA (Memref.isWhole_whole _) dnA (Memref.isWhole_whole _) sdnA (Memref.isWhole_whole _) arg8 harg8
    guB (Memref.isWhole_whole _) sguB (Memref.isWhole_whole _) dnB (Memref.isWhole_whole _) sdnB (Memref.isWhole_whole _) hA (Memref.isWhole_whole _) accA (Memref.isWhole_whole _) elA (Memref.isWhole_whole _) cc0_scratch7))
        (fun y => iprop(idsP arg0 g ∗ ⌜y = mask (idw arg0 g) 144⌝)) := by
  iintro HI
  iapply (Scf.wp_for Idealize.ShloMosaic.frame (wpE (defs₀ (F := F)) 𝒱₀ (c : Thread nD τ) none) Set.univ _ _ _ k0_t1_ok 0#32 _
    (fun k acc => iprop(idsP arg0 g ∗ ⌜acc = mask (idw arg0 g) k⌝)) (step1 arg0 harg0 arg1 harg1 arg2 harg2 arg3 harg3 arg8 harg8 g))
  isplitl [HI]
  · isplitl [HI]; · iexact HI
    ipureintro; rfl
  iintro %acc ⟨HI, %h⟩
  isplitl [HI]; · iexact HI
  ipureintro
  exact h

theorem loop2 (m : BitVec 32) (f : Buf (Elt F) (elA.view.loc (c : Thread nD τ))) :
    elP c f ⊢ wp frame (wpE (defs₀ (F := F)) 𝒱₀ (c : Thread nD τ) none) Set.univ
        (Scf.Loop.for k0_t2_loop k0_t2_ok 0#32 (k0_t2_body (F := F) arg0 harg0 arg1 harg1 arg2 harg2 arg3 harg3 guA (Memref.isWhole_whole _) sguA (Memref.isWhole_whole _) dnA (Memref.isWhole_whole _) sdnA (Memref.isWhole_whole _) arg8 harg8
    guB (Memref.isWhole_whole _) sguB (Memref.isWhole_whole _) dnB (Memref.isWhole_whole _) sdnB (Memref.isWhole_whole _) hA (Memref.isWhole_whole _) accA (Memref.isWhole_whole _) elA (Memref.isWhole_whole _) cc0_scratch7 m))
        (fun y => iprop(∃ f, elP (F := F) c f ∗ ⌜ListTo m 32 y f⌝)) := by
  iintro HE
  iapply (Scf.wp_for Idealize.ShloMosaic.frame (wpE (defs₀ (F := F)) 𝒱₀ (c : Thread nD τ) none) Set.univ _ _ _ k0_t2_ok 0#32 _
    (fun k acc => iprop(∃ f, elP (F := F) c f ∗ ⌜ListTo m k acc f⌝)) (step2 arg0 harg0 arg1 harg1 arg2 harg2 arg3 harg3 arg8 harg8 m))
  isplitl [HE]
  · iexists f
    isplitl [HE]; · iexact HE
    ipureintro
    exact ⟨rfl, fun j hj => absurd hj (Nat.not_lt_zero j)⟩
  iintro %acc ⟨%f', HE, %h⟩
  iexists f'
  isplitl [HE]; · iexact HE
  ipureintro
  exact h

/-- The accumulator once it is set to zero. -/
def acc0 (c : Dev nD) : Buf (Elt F) (accA.view.loc (c : Thread nD τ)) :=
  accA.view.writes (Elt F) accA.view.junk [⟨Rect.unit (s := S24x2816) ![0, 0] S24x2816.size inb_S24x2816_S24x2816_0_0, k0_pay1 (F := F)⟩]
/-- The result: the accumulator after the last trip, rounded. -/
def outAt : FVec F S24x2816 .bf16 :=
  k0_pay2 (accA.view.readAt (Elt F) (Rect.unit (s := S24x2816) ![0, 0] S24x2816.size inb_S24x2816_S24x2816_0_0).toLoadRect (accAt X arg0 harg0 arg1 harg1 arg2 harg2 arg3 harg3 arg8 harg8 B m (acc0 c) (act m).length))
abbrev outL : List (View.Piece (Elt F) S24x2816 .bf16) := [⟨Rect.unit (s := S24x2816) ![0, 0] S24x2816.size inb_S24x2816_S24x2816_0_0, outAt X arg0 harg0 arg1 harg1 arg2 harg2 arg3 harg3 arg8 harg8 B m⟩]
theorem free_two (n : ℕ) : iprop(freeP (F := F) c (Ring.sl 2 n) ∗ freeP c (Ring.sl 2 (n + 1))) ⊢ iprop(freeP c 0 ∗ freeP c 1) := by
  rcases Nat.mod_two_eq_zero_or_one n with h | h
  · have e0 : Ring.sl 2 n = 0 := Fin.ext h
    have e1 : Ring.sl 2 (n + 1) = 1 := Fin.ext (by show (n + 1) % 2 = 1; omega)
    rw [e0, e1]
  · have e0 : Ring.sl 2 n = 1 := Fin.ext h
    have e1 : Ring.sl 2 (n + 1) = 0 := Fin.ext (by show (n + 1) % 2 = 0; omega)
    rw [e0, e1]
    iintro ⟨H1, H0⟩
    isplitl [H0]; · iexact H0
    iexact H1
theorem ring_end (n : ℕ) (ex : ℕ → Fin 32) : ringP X n ex n ⊢ iprop(bigSep Finset.univ (homeP X) ∗ freeP c 0 ∗ freeP c 1) := by
  unfold ringP
  rw [if_neg (Nat.lt_irrefl n)]
  iintro ⟨H, Hf⟩
  isplitl [H]; · iexact H
  iapply (free_two n)
  iexact Hf

theorem ring_start (n : ℕ) (ex : ℕ → Fin 32) (h : 0 < n) :
    iprop(bigSep (Finset.univ.erase (ex 0)) (homeP X) ∗ flightP X 0 (ex 0) ∗ freeP c 1) ⊢ ringP X n ex 0 := by
  unfold ringP
  rw [if_pos h]
  exact .rfl

theorem homeP_eq (b : Fin 32) : homeP X b = iprop(guHomeP X b ∗ sguHomeP X b ∗ dnHomeP X b ∗ sdnHomeP X b) := rfl
theorem freeP_eq (s : Fin 2) : freeP (F := F) c s = iprop((∃ f, guSlotP (c := c) (F := F) s f) ∗ (∃ f, sguSlotP (c := c) (F := F) s f) ∗ (∃ f, dnSlotP (c := c) (F := F) s f) ∗ (∃ f, sdnSlotP (c := c) (F := F) s f)
  ∗ cellP c s 0 ∗ cellP c s 1 ∗ cellP c s 2 ∗ cellP c s 3) := rfl

theorem loop4 (v : BitVec 32) (hw : k0_chk3 v) (v37 : BitVec 32) :
    iprop(emp) ⊢ wp frame (wpE (defs₀ (F := F)) 𝒱₀ (c : Thread nD τ) none) Set.univ
        (Scf.Loop.for (k0_t4_loop v) (k0_t4_ok v hw) ⟨⟩ (k0_t4_body (F := F) arg0 harg0 arg1 harg1 arg2 harg2 arg3 harg3 guA (Memref.isWhole_whole _) sguA (Memref.isWhole_whole _) dnA (Memref.isWhole_whole _) sdnA (Memref.isWhole_whole _) arg8 harg8
    guB (Memref.isWhole_whole _) sguB (Memref.isWhole_whole _) dnB (Memref.isWhole_whole _) sdnB (Memref.isWhole_whole _) hA (Memref.isWhole_whole _) accA (Memref.isWhole_whole _) elA (Memref.isWhole_whole _) cc0_scratch7 v hw v37))
        (fun _ => (iprop(emp) : sProp 𝕄)) := by
  iintro HI
  iapply (Scf.wp_for Idealize.ShloMosaic.frame (wpE (defs₀ (F := F)) 𝒱₀ (c : Thread nD τ) none) Set.univ _ _ _ (k0_t4_ok v hw) ⟨⟩ _
    (fun _ _ => iprop(emp)) (fun k _ => (Nat.not_lt_zero _ (Nat.lt_of_lt_of_eq k.isLt (trips4_eq v))).elim))
  isplitl [HI]; · iexact HI
  iintro %acc HI
  iexact HI

theorem loop3 (a0 : Buf (Elt F) (accA.view.loc (c : Thread nD τ))) (fe : Buf (Elt F) (elA.view.loc (c : Thread nD τ))) (hl : ListOK (c := c) fe (exAt m) (act m).length) :
    resAt X arg0 harg0 arg1 harg1 arg2 harg2 arg3 harg3 arg8 harg8 B m a0 fe 0
      ⊢ wp frame (wpE (defs₀ (F := F)) 𝒱₀ (c : Thread nD τ) none) Set.univ
        (Scf.Loop.for (k0_t3_loop (cnt m)) (k0_t3_ok (cnt m) (cnt_chk m)) ⟨⟩ (k0_t3_body (F := F) arg0 harg0 arg1 harg1 arg2 harg2 arg3 harg3 guA (Memref.isWhole_whole _) sguA (Memref.isWhole_whole _) dnA (Memref.isWhole_whole _) sdnA (Memref.isWhole_whole _) arg8 harg8
    guB (Memref.isWhole_whole _) sguB (Memref.isWhole_whole _) dnB (Memref.isWhole_whole _) sdnB (Memref.isWhole_whole _) hA (Memref.isWhole_whole _) accA (Memref.isWhole_whole _) elA (Memref.isWhole_whole _) cc0_scratch7 (cnt m) (cnt_chk m)))
        (fun _ => resAt X arg0 harg0 arg1 harg1 arg2 harg2 arg3 harg3 arg8 harg8 B m a0 fe (act m).length) := by
  iintro HI
  iapply (Scf.wp_for Idealize.ShloMosaic.frame (wpE (defs₀ (F := F)) 𝒱₀ (c : Thread nD τ) none) Set.univ _ _ _ (k0_t3_ok (cnt m) (cnt_chk m)) ⟨⟩ _
    (fun k _ => resAt X arg0 harg0 arg1 harg1 arg2 harg2 arg3 harg3 arg8 harg8 B m a0 fe k) (fun k _ => step3 X arg0 harg0 arg1 harg1 arg2 harg2 arg3 harg3 arg8 harg8 B m a0 fe hl k))
  isplitl [HI]; · iexact HI
  iintro %acc HI
  iapply (Entails.of_eq (congrArg (resAt X arg0 harg0 arg1 harg1 arg2 harg2 arg3 harg3 arg8 harg8 B m a0 fe) (cnt_trips m)))
  iexact HI

/-- The list is not empty. -/
theorem act_pos (id : ℕ → BitVec 32) (hid : ∀ i, i < 144 → (id i).toNat < 32) : 0 < (act (mask id 144)).length := by
  refine List.length_pos_of_mem (a := (id 0).toNat) ((mem_act _ _).mpr ⟨hid 0 (by decide), ?_⟩)
  exact (mask_bit id 144 hid _ (hid 0 (by decide))).mpr ⟨0, by decide, rfl⟩

abbrev outP (f : Buf (Elt F) (arg8.view.loc (c : Thread nD τ))) : sProp 𝕄 := arg8.view.loc (c : Thread nD τ) ↦[arg8.view.set]{fullShare} f

set_option backward.proofsInPublic true in
set_option maxHeartbeats 4000000 in
theorem bodyRun (g0 : Buf (Elt F) (arg0.view.loc (c : Thread nD τ))) (hid : ∀ i, i < 144 → (idw arg0 g0 i).toNat < 32)
    (fo : Buf (Elt F) (arg8.view.loc (c : Thread nD τ))) (fh fa fe) (W : Waits sig Unit) :
    iprop(idsP arg0 g0 ∗ blocksP arg1 arg2 arg3 B ∗ outP arg8 fo ∗ hP c fh ∗ accP c fa ∗ elP c fe ∗ owes (c : Thread nD τ) 0 W ∗ bigSep Finset.univ (homeP X) ∗ freeP c 0 ∗ freeP c 1)
      ⊢ wp frame (wpE (defs₀ (F := F)) 𝒱₀ (c : Thread nD τ) none) Set.univ
        (cc0_moe_int4 (F := F) arg0 harg0 arg1 harg1 arg2 harg2 arg3 harg3 guA (Memref.isWhole_whole _) sguA (Memref.isWhole_whole _) dnA (Memref.isWhole_whole _) sdnA (Memref.isWhole_whole _) arg8 harg8
    guB (Memref.isWhole_whole _) sguB (Memref.isWhole_whole _) dnB (Memref.isWhole_whole _) sdnB (Memref.isWhole_whole _) hA (Memref.isWhole_whole _) accA (Memref.isWhole_whole _) elA (Memref.isWhole_whole _) cc0_scratch7)
        (fun _ => iprop(idsP arg0 g0 ∗ blocksP arg1 arg2 arg3 B ∗ outP (c := c) arg8 (arg8.view.writes (Elt F) fo (outL X arg0 harg0 arg1 harg1 arg2 harg2 arg3 harg3 arg8 harg8 B (mask (idw arg0 g0) 144))) ∗ (∃ fh, hP (F := F) c fh) ∗ (∃ fa, accP (F := F) c fa) ∗ (∃ fe, elP (F := F) c fe) ∗ (∃ W, owes (c : Thread nD τ) 0 W)
          ∗ bigSep Finset.univ (homeP X) ∗ freeP c 0 ∗ freeP c 1)) := by
  have hpos := act_pos (idw arg0 g0) hid
  conv_lhs => rw [show bigSep Finset.univ (homeP X) = iprop(homeP X (exAt (mask (idw arg0 g0) 144) 0) ∗ bigSep (Finset.univ.erase (exAt (mask (idw arg0 g0) 144) 0)) (homeP X)) from bigSep_erase (Finset.mem_univ _)]
  conv_lhs => rw [homeP_eq X (exAt (mask (idw arg0 g0) 144) 0), freeP_eq 0]
  iintro ⟨HI, HB, Ho, Hh, Ha, HE, HW, ⟨⟨Hha, Hhb, Hhc, Hhd⟩, Hhome⟩, ⟨⟨%s0, HS0⟩, ⟨%s1, HS1⟩, ⟨%s2, HS2⟩, ⟨%s3, HS3⟩, Hc0, Hc1, Hc2, Hc3⟩, Hf1⟩
  sl_unfold [cc0_moe_int4]
  sl_exec
  rw [wp_bind]
  iapply (wp_wand_r Idealize.ShloMosaic.frame (wpE (defs₀ (F := F)) 𝒱₀ (c : Thread nD τ) none) Set.univ)
  isplitl [HI]
  · iapply (loop1 arg0 harg0 arg1 harg1 arg2 harg2 arg3 harg3 arg8 harg8 g0)
    iexact HI
  iintro %v1 ⟨HI, %hv1⟩
  subst hv1
  sl_exec
  rw [wp_bind]
  iapply (wp_wand_r Idealize.ShloMosaic.frame (wpE (defs₀ (F := F)) 𝒱₀ (c : Thread nD τ) none) Set.univ)
  isplitl [HE]
  · iapply (loop2 arg0 harg0 arg1 harg1 arg2 harg2 arg3 harg3 arg8 harg8 (mask (idw arg0 g0) 144) fe)
    iexact HE
  iintro %v3 ⟨%fe1, HE, %hl⟩
  have hv3 : v3 = cnt (mask (idw arg0 g0) 144) := by
    apply BitVec.eq_of_toNat_eq; rw [hl.len, cnt_toNat]
  subst hv3
  have hw := cnt_chk (mask (idw arg0 g0) 144)
  sl_exec
  have e1 : bodyRun.sl.r fe1 = word fe1 0 := word_load fe1 _ 0 (by decide) rfl _
  have h1 : (bodyRun.sl.r fe1).toNat = (exAt (mask (idw arg0 g0) 144) 0).val := by rw [e1]; exact hl.listOK.word 0 hpos
  have q1 := chk2_of _ _ h1
  sl_exec
  rw [wp_bind]
  iapply (wp_wand_r Idealize.ShloMosaic.frame (wpE (defs₀ (F := F)) 𝒱₀ (c : Thread nD τ) none) Set.univ)
  isplitl [HB Hh Ha HE HW Hhome Hc0 Hc1 Hc2 Hc3 Hf1]
  · iapply (loop3 X arg0 harg0 arg1 harg1 arg2 harg2 arg3 harg3 arg8 harg8 B (mask (idw arg0 g0) 144) (acc0 c) fe1 hl.listOK)
    unfold resAt
    isplitl [HB]; · iexact HB
    isplitl [Hh]; · iexists fh; iexact Hh
    isplitl [Ha]; · iexact Ha
    isplitl [HE]; · iexact HE
    isplitl [HW]; · iexists _; iexact HW
    iapply (ring_start X _ (exAt (mask (idw arg0 g0) 144)) hpos)
    isplitl [Hhome]; · iexact Hhome
    isplitr [Hf1]
    · unfold flightP
      isplitl [Hc0]; · iexists s0; iexact Hc0
      isplitl [Hc1]; · iexists s1; iexact Hc1
      isplitl [Hc2]; · iexists s2; iexact Hc2
      iexists s3; iexact Hc3
    iexact Hf1
  unfold resAt
  iintro %u ⟨HB, Hh, Ha, HE, HW, HR⟩
  rw [wp_bind]
  iapply (wp_wand_r Idealize.ShloMosaic.frame (wpE (defs₀ (F := F)) 𝒱₀ (c : Thread nD τ) none) Set.univ)
  isplitr [HI HB Ho Hh Ha HE HW HR]
  · iapply (loop4 arg0 harg0 arg1 harg1 arg2 harg2 arg3 harg3 arg8 harg8 _ _ _)
    iempintro
  iintro %u2 Hemp
  sl_exec
  sl_step
  isplitl [HI]; · iexact HI
  isplitl [HB]; · iexact HB
  isplitl [Ho]; · iexact Ho
  isplitl [Hh]; · iexact Hh
  isplitl [Ha]; · iexists _; iexact Ha
  isplitl [HE]; · iexists _; iexact HE
  isplitl [HW]; · iexact HW
  iapply (ring_end X (act (mask (idw arg0 g0) 144)).length (exAt (mask (idw arg0 g0) 144)))
  iexact HR

end Body

end Cert.Proof.Ideal

end
-- ==== Proof.Ideal.Launch.lean ====
/-
  The launch: the arrays cut in experts and the buffers in slots, the kernel body between them, and the run of the
  whole program.
-/
module

public import proofs.«01_k».proof.Proof.Ideal.Body
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameSuffix
public import Idealize.ShloMosaic.Lib.Pipeline.TableIdle
public import Idealize.ShloMosaic.Lib.VecWindow

@[expose] public section

noncomputable section

namespace Cert.Proof.Ideal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-! ## The arrays in experts, the buffers in slots -/

abbrev guEI (b : Fin 32) : Finset S32x1408x2816.Idx := (Rect.unit (s := S32x1408x2816) (expOff b) S1x1408x2816.size (guE_inb b)).set
abbrev guSI (s : Fin 2) : Finset S2x1408x2816.Idx := (Rect.unit (s := S2x1408x2816) (slotOff s 0) S1x1408x2816.size (guS_inb s)).set
theorem guE_set (b : Fin 32) : (guE b).view.set = guEI b := (View.set_reshape _ _).trans (View.set_slice_whole _ _)
theorem guS_set (s : Fin 2) : (guS s).view.set = guSI s := (View.set_reshape _ _).trans (View.set_slice_whole _ _)
theorem guEI_disjoint : ∀ b b' : Fin 32, b ≠ b' → Disjoint (guEI b) (guEI b') :=
  Ring.lead_disjoint (s := S32x1408x2816) (0 : Fin 3) 1 expOff S1x1408x2816.size guE_inb (fun b => (Nat.one_mul _).symm) rfl
theorem guSI_disjoint : ∀ b b' : Fin 2, b ≠ b' → Disjoint (guSI b) (guSI b') :=
  Ring.lead_disjoint (s := S2x1408x2816) (0 : Fin 3) 1 (fun s => slotOff s 0) S1x1408x2816.size guS_inb (fun b => (Nat.one_mul _).symm) rfl
theorem guEI_cover : Finset.univ.biUnion guEI = Finset.univ :=
  Ring.lead_cover (s := S32x1408x2816) (0 : Fin 3) 1 expOff S1x1408x2816.size guE_inb (fun b => (Nat.one_mul _).symm) (by intro b a h; fin_cases a <;> first | rfl | exact absurd rfl h) rfl
    (by intro a h; fin_cases a <;> first | rfl | exact absurd rfl h) rfl
theorem guSI_cover : Finset.univ.biUnion guSI = Finset.univ :=
  Ring.lead_cover (s := S2x1408x2816) (0 : Fin 3) 1 (fun s => slotOff s 0) S1x1408x2816.size guS_inb (fun b => (Nat.one_mul _).symm) (by intro b a h; fin_cases a <;> first | rfl | exact absurd rfl h) rfl
    (by intro a h; fin_cases a <;> first | rfl | exact absurd rfl h) rfl

omit [FloatOps F] in
theorem gu_home {c : Dev nD} (X : Weights F c) : (((c : Thread nD τ).loc main_arg3) ↦{fullShare} X.gu : sProp 𝕄) = bigSep Finset.univ (guHomeP X) := by
  rw [Ring.pointsTo_blocks (ℓ := (c : Thread nD τ).loc main_arg3) guEI guEI_disjoint guEI_cover]
  exact bigSep_congr fun b _ => by unfold guHomeP; rw [← guE_set]; rfl
omit [FloatOps F] in
theorem gu_slot (c : Dev nD) (s : Fin 2) (f) : guSlotP (F := F) (c := c) s f = (((c : Thread nD τ).loc cc0_scratch0) ↦[guSI s]{fullShare} f : sProp 𝕄) :=
  congrArg (fun S => (_ ↦[S]{fullShare} f : sProp 𝕄)) (guS_set s)
abbrev guBufP (c : Dev nD) : sProp 𝕄 := iprop(∃ f : Buf (Elt F) ((c : Thread nD τ).loc cc0_scratch0), ((c : Thread nD τ).loc cc0_scratch0) ↦{fullShare} f)
omit [FloatOps F] in
theorem gu_split (c : Dev nD) : guBufP (F := F) c ⊢ iprop((∃ f, guSlotP (F := F) (c := c) 0 f) ∗ ∃ f, guSlotP (F := F) (c := c) 1 f) :=
  Ring.slots2_split (ℓ := (c : Thread nD τ).loc cc0_scratch0) guSI guSI_disjoint guSI_cover _ _ (gu_slot c 0) (gu_slot c 1)
omit [FloatOps F] in
theorem gu_join (c : Dev nD) : iprop((∃ f, guSlotP (F := F) (c := c) 0 f) ∗ ∃ f, guSlotP (F := F) (c := c) 1 f) ⊢ guBufP (F := F) c :=
  Ring.slots2_join (ℓ := (c : Thread nD τ).loc cc0_scratch0) guSI guSI_disjoint guSI_cover _ _ (gu_slot c 0) (gu_slot c 1)

abbrev sguEI (b : Fin 32) : Finset S32x22x2816.Idx := (Rect.unit (s := S32x22x2816) (expOff b) S1x22x2816.size (sguE_inb b)).set
abbrev sguSI (s : Fin 2) : Finset S2x22x2816.Idx := (Rect.unit (s := S2x22x2816) (slotOff s 0) S1x22x2816.size (sguS_inb s)).set
theorem sguE_set (b : Fin 32) : (sguE b).view.set = sguEI b := (View.set_reshape _ _).trans (View.set_slice_whole _ _)
theorem sguS_set (s : Fin 2) : (sguS s).view.set = sguSI s := (View.set_reshape _ _).trans (View.set_slice_whole _ _)
theorem sguEI_disjoint : ∀ b b' : Fin 32, b ≠ b' → Disjoint (sguEI b) (sguEI b') :=
  Ring.lead_disjoint (s := S32x22x2816) (0 : Fin 3) 1 expOff S1x22x2816.size sguE_inb (fun b => (Nat.one_mul _).symm) rfl
theorem sguSI_disjoint : ∀ b b' : Fin 2, b ≠ b' → Disjoint (sguSI b) (sguSI b') :=
  Ring.lead_disjoint (s := S2x22x2816) (0 : Fin 3) 1 (fun s => slotOff s 0) S1x22x2816.size sguS_inb (fun b => (Nat.one_mul _).symm) rfl
theorem sguEI_cover : Finset.univ.biUnion sguEI = Finset.univ :=
  Ring.lead_cover (s := S32x22x2816) (0 : Fin 3) 1 expOff S1x22x2816.size sguE_inb (fun b => (Nat.one_mul _).symm) (by intro b a h; fin_cases a <;> first | rfl | exact absurd rfl h) rfl
    (by intro a h; fin_cases a <;> first | rfl | exact absurd rfl h) rfl
theorem sguSI_cover : Finset.univ.biUnion sguSI = Finset.univ :=
  Ring.lead_cover (s := S2x22x2816) (0 : Fin 3) 1 (fun s => slotOff s 0) S1x22x2816.size sguS_inb (fun b => (Nat.one_mul _).symm) (by intro b a h; fin_cases a <;> first | rfl | exact absurd rfl h) rfl
    (by intro a h; fin_cases a <;> first | rfl | exact absurd rfl h) rfl

omit [FloatOps F] in
theorem sgu_home {c : Dev nD} (X : Weights F c) : (((c : Thread nD τ).loc main_arg4) ↦{fullShare} X.sgu : sProp 𝕄) = bigSep Finset.univ (sguHomeP X) := by
  rw [Ring.pointsTo_blocks (ℓ := (c : Thread nD τ).loc main_arg4) sguEI sguEI_disjoint sguEI_cover]
  exact bigSep_congr fun b _ => by unfold sguHomeP; rw [← sguE_set]; rfl
omit [FloatOps F] in
theorem sgu_slot (c : Dev nD) (s : Fin 2) (f) : sguSlotP (F := F) (c := c) s f = (((c : Thread nD τ).loc cc0_scratch1) ↦[sguSI s]{fullShare} f : sProp 𝕄) :=
  congrArg (fun S => (_ ↦[S]{fullShare} f : sProp 𝕄)) (sguS_set s)
abbrev sguBufP (c : Dev nD) : sProp 𝕄 := iprop(∃ f : Buf (Elt F) ((c : Thread nD τ).loc cc0_scratch1), ((c : Thread nD τ).loc cc0_scratch1) ↦{fullShare} f)
omit [FloatOps F] in
theorem sgu_split (c : Dev nD) : sguBufP (F := F) c ⊢ iprop((∃ f, sguSlotP (F := F) (c := c) 0 f) ∗ ∃ f, sguSlotP (F := F) (c := c) 1 f) :=
  Ring.slots2_split (ℓ := (c : Thread nD τ).loc cc0_scratch1) sguSI sguSI_disjoint sguSI_cover _ _ (sgu_slot c 0) (sgu_slot c 1)
omit [FloatOps F] in
theorem sgu_join (c : Dev nD) : iprop((∃ f, sguSlotP (F := F) (c := c) 0 f) ∗ ∃ f, sguSlotP (F := F) (c := c) 1 f) ⊢ sguBufP (F := F) c :=
  Ring.slots2_join (ℓ := (c : Thread nD τ).loc cc0_scratch1) sguSI sguSI_disjoint sguSI_cover _ _ (sgu_slot c 0) (sgu_slot c 1)

abbrev dnEI (b : Fin 32) : Finset S32x704x2816.Idx := (Rect.unit (s := S32x704x2816) (expOff b) S1x704x2816.size (dnE_inb b)).set
abbrev dnSI (s : Fin 2) : Finset S2x704x2816.Idx := (Rect.unit (s := S2x704x2816) (slotOff s 0) S1x704x2816.size (dnS_inb s)).set
theorem dnE_set (b : Fin 32) : (dnE b).view.set = dnEI b := (View.set_reshape _ _).trans (View.set_slice_whole _ _)
theorem dnS_set (s : Fin 2) : (dnS s).view.set = dnSI s := (View.set_reshape _ _).trans (View.set_slice_whole _ _)
theorem dnEI_disjoint : ∀ b b' : Fin 32, b ≠ b' → Disjoint (dnEI b) (dnEI b') :=
  Ring.lead_disjoint (s := S32x704x2816) (0 : Fin 3) 1 expOff S1x704x2816.size dnE_inb (fun b => (Nat.one_mul _).symm) rfl
theorem dnSI_disjoint : ∀ b b' : Fin 2, b ≠ b' → Disjoint (dnSI b) (dnSI b') :=
  Ring.lead_disjoint (s := S2x704x2816) (0 : Fin 3) 1 (fun s => slotOff s 0) S1x704x2816.size dnS_inb (fun b => (Nat.one_mul _).symm) rfl
theorem dnEI_cover : Finset.univ.biUnion dnEI = Finset.univ :=
  Ring.lead_cover (s := S32x704x2816) (0 : Fin 3) 1 expOff S1x704x2816.size dnE_inb (fun b => (Nat.one_mul _).symm) (by intro b a h; fin_cases a <;> first | rfl | exact absurd rfl h) rfl
    (by intro a h; fin_cases a <;> first | rfl | exact absurd rfl h) rfl
theorem dnSI_cover : Finset.univ.biUnion dnSI = Finset.univ :=
  Ring.lead_cover (s := S2x704x2816) (0 : Fin 3) 1 (fun s => slotOff s 0) S1x704x2816.size dnS_inb (fun b => (Nat.one_mul _).symm) (by intro b a h; fin_cases a <;> first | rfl | exact absurd rfl h) rfl
    (by intro a h; fin_cases a <;> first | rfl | exact absurd rfl h) rfl

omit [FloatOps F] in
theorem dn_home {c : Dev nD} (X : Weights F c) : (((c : Thread nD τ).loc main_arg5) ↦{fullShare} X.dn : sProp 𝕄) = bigSep Finset.univ (dnHomeP X) := by
  rw [Ring.pointsTo_blocks (ℓ := (c : Thread nD τ).loc main_arg5) dnEI dnEI_disjoint dnEI_cover]
  exact bigSep_congr fun b _ => by unfold dnHomeP; rw [← dnE_set]; rfl
omit [FloatOps F] in
theorem dn_slot (c : Dev nD) (s : Fin 2) (f) : dnSlotP (F := F) (c := c) s f = (((c : Thread nD τ).loc cc0_scratch2) ↦[dnSI s]{fullShare} f : sProp 𝕄) :=
  congrArg (fun S => (_ ↦[S]{fullShare} f : sProp 𝕄)) (dnS_set s)
abbrev dnBufP (c : Dev nD) : sProp 𝕄 := iprop(∃ f : Buf (Elt F) ((c : Thread nD τ).loc cc0_scratch2), ((c : Thread nD τ).loc cc0_scratch2) ↦{fullShare} f)
omit [FloatOps F] in
theorem dn_split (c : Dev nD) : dnBufP (F := F) c ⊢ iprop((∃ f, dnSlotP (F := F) (c := c) 0 f) ∗ ∃ f, dnSlotP (F := F) (c := c) 1 f) :=
  Ring.slots2_split (ℓ := (c : Thread nD τ).loc cc0_scratch2) dnSI dnSI_disjoint dnSI_cover _ _ (dn_slot c 0) (dn_slot c 1)
omit [FloatOps F] in
theorem dn_join (c : Dev nD) : iprop((∃ f, dnSlotP (F := F) (c := c) 0 f) ∗ ∃ f, dnSlotP (F := F) (c := c) 1 f) ⊢ dnBufP (F := F) c :=
  Ring.slots2_join (ℓ := (c : Thread nD τ).loc cc0_scratch2) dnSI dnSI_disjoint dnSI_cover _ _ (dn_slot c 0) (dn_slot c 1)

abbrev sdnEI (b : Fin 32) : Finset S32x11x2816.Idx := (Rect.unit (s := S32x11x2816) (expOff b) S1x11x2816.size (sdnE_inb b)).set
abbrev sdnSI (s : Fin 2) : Finset S2x11x2816.Idx := (Rect.unit (s := S2x11x2816) (slotOff s 0) S1x11x2816.size (sdnS_inb s)).set
theorem sdnE_set (b : Fin 32) : (sdnE b).view.set = sdnEI b := (View.set_reshape _ _).trans (View.set_slice_whole _ _)
theorem sdnS_set (s : Fin 2) : (sdnS s).view.set = sdnSI s := (View.set_reshape _ _).trans (View.set_slice_whole _ _)
theorem sdnEI_disjoint : ∀ b b' : Fin 32, b ≠ b' → Disjoint (sdnEI b) (sdnEI b') :=
  Ring.lead_disjoint (s := S32x11x2816) (0 : Fin 3) 1 expOff S1x11x2816.size sdnE_inb (fun b => (Nat.one_mul _).symm) rfl
theorem sdnSI_disjoint : ∀ b b' : Fin 2, b ≠ b' → Disjoint (sdnSI b) (sdnSI b') :=
  Ring.lead_disjoint (s := S2x11x2816) (0 : Fin 3) 1 (fun s => slotOff s 0) S1x11x2816.size sdnS_inb (fun b => (Nat.one_mul _).symm) rfl
theorem sdnEI_cover : Finset.univ.biUnion sdnEI = Finset.univ :=
  Ring.lead_cover (s := S32x11x2816) (0 : Fin 3) 1 expOff S1x11x2816.size sdnE_inb (fun b => (Nat.one_mul _).symm) (by intro b a h; fin_cases a <;> first | rfl | exact absurd rfl h) rfl
    (by intro a h; fin_cases a <;> first | rfl | exact absurd rfl h) rfl
theorem sdnSI_cover : Finset.univ.biUnion sdnSI = Finset.univ :=
  Ring.lead_cover (s := S2x11x2816) (0 : Fin 3) 1 (fun s => slotOff s 0) S1x11x2816.size sdnS_inb (fun b => (Nat.one_mul _).symm) (by intro b a h; fin_cases a <;> first | rfl | exact absurd rfl h) rfl
    (by intro a h; fin_cases a <;> first | rfl | exact absurd rfl h) rfl

omit [FloatOps F] in
theorem sdn_home {c : Dev nD} (X : Weights F c) : (((c : Thread nD τ).loc main_arg6) ↦{fullShare} X.sdn : sProp 𝕄) = bigSep Finset.univ (sdnHomeP X) := by
  rw [Ring.pointsTo_blocks (ℓ := (c : Thread nD τ).loc main_arg6) sdnEI sdnEI_disjoint sdnEI_cover]
  exact bigSep_congr fun b _ => by unfold sdnHomeP; rw [← sdnE_set]; rfl
omit [FloatOps F] in
theorem sdn_slot (c : Dev nD) (s : Fin 2) (f) : sdnSlotP (F := F) (c := c) s f = (((c : Thread nD τ).loc cc0_scratch3) ↦[sdnSI s]{fullShare} f : sProp 𝕄) :=
  congrArg (fun S => (_ ↦[S]{fullShare} f : sProp 𝕄)) (sdnS_set s)
abbrev sdnBufP (c : Dev nD) : sProp 𝕄 := iprop(∃ f : Buf (Elt F) ((c : Thread nD τ).loc cc0_scratch3), ((c : Thread nD τ).loc cc0_scratch3) ↦{fullShare} f)
omit [FloatOps F] in
theorem sdn_split (c : Dev nD) : sdnBufP (F := F) c ⊢ iprop((∃ f, sdnSlotP (F := F) (c := c) 0 f) ∗ ∃ f, sdnSlotP (F := F) (c := c) 1 f) :=
  Ring.slots2_split (ℓ := (c : Thread nD τ).loc cc0_scratch3) sdnSI sdnSI_disjoint sdnSI_cover _ _ (sdn_slot c 0) (sdn_slot c 1)
omit [FloatOps F] in
theorem sdn_join (c : Dev nD) : iprop((∃ f, sdnSlotP (F := F) (c := c) 0 f) ∗ ∃ f, sdnSlotP (F := F) (c := c) 1 f) ⊢ sdnBufP (F := F) c :=
  Ring.slots2_join (ℓ := (c : Thread nD τ).loc cc0_scratch3) sdnSI sdnSI_disjoint sdnSI_cover _ _ (sdn_slot c 0) (sdn_slot c 1)

omit [FloatOps F] in
/-- The four arrays whole are the experts at home. -/
theorem homes_eq {c : Dev nD} (X : Weights F c) : bigSep Finset.univ (homeP X)
    = iprop(bigSep Finset.univ (guHomeP X) ∗ bigSep Finset.univ (sguHomeP X) ∗ bigSep Finset.univ (dnHomeP X) ∗ bigSep Finset.univ (sdnHomeP X)) := by
  rw [show homeP X = fun b => iprop(guHomeP X b ∗ sguHomeP X b ∗ dnHomeP X b ∗ sdnHomeP X b) from rfl, bigSep_sep', bigSep_sep', bigSep_sep']

/-- The kernel's own transfer counters. -/
abbrev osem : Fin 8 → SemLoc sig := fun j => (![SemLoc.dma 5, SemLoc.dma 6, SemLoc.dma 7, SemLoc.dma 8, SemLoc.dma 9, SemLoc.dma 10, SemLoc.dma 11, SemLoc.dma 12] : Fin 8 → SemLoc sig) j
theorem ownSemFacts : Pipeline.OwnSemFacts spec0 osem := by decide
abbrev cellsP (c : Dev nD) : sProp 𝕄 := iprop(cellP c 0 0 ∗ cellP c 0 1 ∗ cellP c 0 2 ∗ cellP c 0 3 ∗ cellP c 1 0 ∗ cellP c 1 1 ∗ cellP c 1 2 ∗ cellP c 1 3)
omit [FloatOps F] in
theorem ownSems0_eq (c : Dev nD) :
    (Pipeline.ownSems0 (Ix := Unit) (Name := ℕ) (U := UU nD τ) (Lvl := ℕ) (Val := Elt F) (τ := τ) osem c : sProp 𝕄) = cellsP (F := F) c := by
  rw [Pipeline.ownSems0_eq_of_list c osem [0, 1, 2, 3, 4, 5, 6, 7] (by decide) (by decide)]; rfl
/-- The arrays the kernel's transfers read. -/
def H0 : Finset (Ref sig .tc) := {main_arg3, main_arg4, main_arg5, main_arg6}
theorem H0_sub : H0 ⊆ Pipeline.restRefs sig spec0 := by decide

omit [FloatOps F] in
/-- The buffers and the counters are the two slots free. -/
theorem free_split (c : Dev nD) : iprop(guBufP (F := F) c ∗ sguBufP (F := F) c ∗ dnBufP (F := F) c ∗ sdnBufP (F := F) c ∗ cellsP (F := F) c) ⊢ iprop(freeP (F := F) c 0 ∗ freeP (F := F) c 1) := by
  iintro ⟨H0, H1, H2, H3, Ha, Hb, Hc, Hd, He, Hf, Hg, Hh⟩
  ihave H0' := (gu_split c) $$ H0
  ihave H1' := (sgu_split c) $$ H1
  ihave H2' := (dn_split c) $$ H2
  ihave H3' := (sdn_split c) $$ H3
  icases H0' with ⟨P0, Q0⟩
  icases H1' with ⟨P1, Q1⟩
  icases H2' with ⟨P2, Q2⟩
  icases H3' with ⟨P3, Q3⟩
  unfold freeP
  isplitl [P0 P1 P2 P3 Ha Hb Hc Hd]
  · isplitl [P0]; · iexact P0
    isplitl [P1]; · iexact P1
    isplitl [P2]; · iexact P2
    isplitl [P3]; · iexact P3
    isplitl [Ha]; · iexact Ha
    isplitl [Hb]; · iexact Hb
    isplitl [Hc]; · iexact Hc
    iexact Hd
  isplitl [Q0]; · iexact Q0
  isplitl [Q1]; · iexact Q1
  isplitl [Q2]; · iexact Q2
  isplitl [Q3]; · iexact Q3
  isplitl [He]; · iexact He
  isplitl [Hf]; · iexact Hf
  isplitl [Hg]; · iexact Hg
  iexact Hh
omit [FloatOps F] in
theorem free_join (c : Dev nD) : iprop(freeP (F := F) c 0 ∗ freeP (F := F) c 1) ⊢ iprop(guBufP (F := F) c ∗ sguBufP (F := F) c ∗ dnBufP (F := F) c ∗ sdnBufP (F := F) c ∗ cellsP (F := F) c) := by
  unfold freeP
  iintro ⟨⟨P0, P1, P2, P3, Ha, Hb, Hc, Hd⟩, Q0, Q1, Q2, Q3, He, Hf, Hg, Hh⟩
  isplitl [P0 Q0]; · iapply (gu_join c); isplitl [P0]; · iexact P0
                     iexact Q0
  isplitl [P1 Q1]; · iapply (sgu_join c); isplitl [P1]; · iexact P1
                     iexact Q1
  isplitl [P2 Q2]; · iapply (dn_join c); isplitl [P2]; · iexact P2
                     iexact Q2
  isplitl [P3 Q3]; · iapply (sdn_join c); isplitl [P3]; · iexact P3
                     iexact Q3
  isplitl [Ha]; · iexact Ha
  isplitl [Hb]; · iexact Hb
  isplitl [Hc]; · iexact Hc
  isplitl [Hd]; · iexact Hd
  isplitl [He]; · iexact He
  isplitl [Hf]; · iexact Hf
  isplitl [Hg]; · iexact Hg
  iexact Hh

/-! ## The proof data -/

variable (m : (ℓ : Loc nD τ sig) → Buf (Elt F) ℓ) (ρ : Dev nD → PrngReg)

/-- The weights at launch. -/
def wts (c : Dev nD) : Weights F c := ⟨V m c main_arg3, V m c main_arg4, V m c main_arg5, V m c main_arg6⟩

theorem hbmPts_eq (c : Dev nD) : (bigSep H0 (fun b => ((c : Thread nD τ).loc b) ↦{fullShare} V m c b) : sProp 𝕄) = bigSep Finset.univ (homeP (wts m c)) := by
  rw [homes_eq, ← gu_home, ← sgu_home, ← dn_home, ← sdn_home]
  exact BI.bigSep_eq_bigSepL_of_eq [main_arg3, main_arg4, main_arg5, main_arg6] (by decide) (by decide) _

/-- What stands between the kernel's points. -/
theorem Phi_eq (c : Dev nD) : (Pipeline.ΦD osem spec0 H0 (V m) c : sProp 𝕄)
    = iprop((guBufP (F := F) c ∗ sguBufP (F := F) c ∗ dnBufP (F := F) c ∗ sdnBufP (F := F) c ∗ (∃ f, hP (F := F) c f) ∗ (∃ f, accP (F := F) c f) ∗ ∃ f, elP (F := F) c f)
      ∗ (∃ r, prngReg c r) ∗ cellsP (F := F) c ∗ bigSep Finset.univ (homeP (wts m c))) := by
  rw [Pipeline.ΦD_eq, scopedRest0_eq, ownSems0_eq, hbmPts_eq]
  have e1 : ∀ f, hP (F := F) c f = (((c : Thread nD τ).loc cc0_scratch4) ↦{fullShare} f : sProp 𝕄) := fun f => congrArg (fun S => (_ ↦[S]{fullShare} f : sProp 𝕄)) (View.set_whole _)
  have e2 : ∀ f, accP (F := F) c f = (((c : Thread nD τ).loc cc0_scratch5) ↦{fullShare} f : sProp 𝕄) := fun f => congrArg (fun S => (_ ↦[S]{fullShare} f : sProp 𝕄)) (View.set_whole _)
  have e3 : ∀ f, elP (F := F) c f = (((c : Thread nD τ).loc cc0_scratch6) ↦{fullShare} f : sProp 𝕄) := fun f => congrArg (fun S => (_ ↦[S]{fullShare} f : sProp 𝕄)) (View.set_whole _)
  simp only [e1, e2, e3]

/-- The kernel's blocks at a point. -/
def blks (c : Dev nD) (t : Fin cfg0.N) : Blocks (st0_1 t) (st0_2 t) (st0_3 t) F c :=
  ⟨(st0_1 t).view.rep (iblk m c 1 t), (st0_2 t).view.rep (iblk m c 2 t), (st0_3 t).view.rep (iblk m c 3 t)⟩
theorem blks_x (c : Dev nD) (t : Fin cfg0.N) : (blks m c t).x = (st0_1 t).view.rep (iblk m c 1 t) := by dsimp only [blks]
theorem blks_ids (c : Dev nD) (t : Fin cfg0.N) : (blks m c t).ids = (st0_2 t).view.rep (iblk m c 2 t) := by dsimp only [blks]
theorem blks_rw (c : Dev nD) (t : Fin cfg0.N) : (blks m c t).rw = (st0_3 t).view.rep (iblk m c 3 t) := by dsimp only [blks]
/-- The list of ids the kernel reads. -/
abbrev idl (c : Dev nD) (t : Fin cfg0.N) : ℕ → BitVec 32 := idw (c := c) (st0_0 t) ((st0_0 t).view.rep (iblk m c 0 t))
/-- Every id names an expert. -/
def IdsOK : Prop := ∀ (c : Dev nD) (j), (m ((c : Thread nD τ).loc main_arg1) j).toNat < 32

theorem V_main_v2 (c : Dev nD) (j) : ∃ j', V m c main_v2 j = m ((c : Thread nD τ).loc main_arg1) j' := by
  have e : V m c main_v2 = shapeCast S144 (shapeCast S24x6 (m ((c : Thread nD τ).loc main_arg1)) shapeCasts_S24x1x6_S24x6) shapeCasts_S24x6_S144 := by
    show StableHlo.after hostOps0 _ (Proc.devRef .tc main_v2) = _
    after_results
    rfl
  rw [e]
  exact ⟨_, rfl⟩

theorem idl_lt (h : IdsOK m) (c : Dev nD) (t : Fin cfg0.N) (i : ℕ) : (idl m c t i).toNat < 32 := by
  unfold idl idw
  rw [View.read_rep]
  unfold iblk
  rw [View.read_apply]
  obtain ⟨j', e⟩ := V_main_v2 m c (((cfg0.win 0).blk t).view.emb (fun a => ⟨i % 144, by fin_cases a; exact Nat.mod_lt _ (by decide)⟩))
  show BitVec.toNat (V m c main_v2 (((cfg0.win 0).blk t).view.emb (fun a => ⟨i % 144, by fin_cases a; exact Nat.mod_lt _ (by decide)⟩))) < 32
  rw [e]
  exact h c j'

/-- What the kernel leaves in its result's block. -/
def outV (c : Dev nD) (t : Fin cfg0.N) : FVec F S24x2816 .bf16 :=
  outAt (wts m c) (st0_0 t) (hstage0_0 0) (st0_1 t) (hstage0_1 0) (st0_2 t) (hstage0_2 0) (st0_3 t) (hstage0_3 0) (st0_4 t) (hstage0_4 0) (blks m c t) (mask (idl m c t) 144)

def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outV m c t
  Φ _ := Pipeline.ΦD osem spec0 H0 (V m) c
  q _ := fullShare
  owed _ := 0

theorem A_eq (c : Dev nD) (w : Fin cfg0.W) : (dats m 0 c).A w = V m c (Pipeline.arrRef spec0 w) := by dsimp only [dats]
theorem before0 (c : Dev nD) (t : Fin cfg0.N) (d) : (dats m 0 c).before 0 t d = iblk m c 0 t := by
  unfold Dat.before; rw [if_pos (fetch0_0 t)]; unfold Dat.fetched Dat.blockOf iblk; dsimp only [dats]; rfl
theorem before1 (c : Dev nD) (t : Fin cfg0.N) (d) : (dats m 0 c).before 1 t d = iblk m c 1 t := by
  unfold Dat.before; rw [if_pos (fetch0_1 t)]; unfold Dat.fetched Dat.blockOf iblk; dsimp only [dats]; rfl
theorem before2 (c : Dev nD) (t : Fin cfg0.N) (d) : (dats m 0 c).before 2 t d = iblk m c 2 t := by
  unfold Dat.before; rw [if_pos (fetch0_2 t)]; unfold Dat.fetched Dat.blockOf iblk; dsimp only [dats]; rfl
theorem before3 (c : Dev nD) (t : Fin cfg0.N) (d) : (dats m 0 c).before 3 t d = iblk m c 3 t := by
  unfold Dat.before; rw [if_pos (fetch0_3 t)]; unfold Dat.fetched Dat.blockOf iblk; dsimp only [dats]; rfl
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outV m c t := by dsimp only [dats]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

set_option maxHeartbeats 1000000 in
theorem sound_body (h : IdsOK m) (c : Dev nD) (t : Fin cfg0.N) :
    bodyPre m c t ⊢ wp frame (wpE (defs₀ (F := F)) 𝒱₀ c none) Set.univ (bodyAt0 t) (fun _ => bodyPost m c t) := by
  unfold bodyPre bodyPost
  simp only [before0, before1, before2, before3, after0, after1, after2, after3, after4]
  rw [show (dats m 0 c).Φ t.succ = (dats m 0 c).Φ t.castSucc from rfl]
  rw [show (dats m 0 c).Φ t.castSucc = Pipeline.ΦD osem spec0 H0 (V m) c from rfl, Phi_eq]
  unfold Dat.owesAt Pipeline.owesWithin
  rw [show (dats m 0 c).owed t.castSucc = 0 from rfl, show (dats m 0 c).owed t.succ = 0 from rfl]
  rw [owns_eq_rep, owns_eq_rep, owns_eq_rep, owns_eq_rep]
  rw [← blks_x, ← blks_ids, ← blks_rw]
  unfold owns
  iintro ⟨⟨⟨Hb0, Hb1, Hb2, Hb3, ⟨%fh, Hh⟩, ⟨%fa, Ha⟩, ⟨%fe, HE⟩⟩, Hg, Hcl, Hhome⟩, ⟨%W, -, HW⟩, ⟨%d0, H0⟩, ⟨%d1, H1⟩, ⟨%d2, H2⟩, ⟨%d3, H3⟩, ⟨%d4, %fo, -, H4⟩⟩
  ihave Hfree := (free_split c) $$ [Hb0 Hb1 Hb2 Hb3 Hcl]
  · isplitl [Hb0]; · iexact Hb0
    isplitl [Hb1]; · iexact Hb1
    isplitl [Hb2]; · iexact Hb2
    isplitl [Hb3]; · iexact Hb3
    iexact Hcl
  icases Hfree with ⟨Hf0, Hf1⟩
  iapply (wp_wand_r Idealize.ShloMosaic.frame (wpE (defs₀ (F := F)) 𝒱₀ (c : Thread nD τ) none) Set.univ)
  isplitl [H0 H1 H2 H3 H4 Hh Ha HE HW Hhome Hf0 Hf1]
  · iapply (bodyRun (wts m c) (st0_0 t) (hstage0_0 0) (st0_1 t) (hstage0_1 0) (st0_2 t) (hstage0_2 0) (st0_3 t) (hstage0_3 0) (st0_4 t) (hstage0_4 0) (blks m c t) ((st0_0 t).view.rep (iblk m c 0 t)) (fun i _ => idl_lt m h c t i) fo fh fa fe W)
    isplitl [H0]; · iexact H0
    isplitl [H1 H2 H3]
    · isplitl [H1]; · iexact H1
      isplitl [H2]; · iexact H2
      iexact H3
    isplitl [H4]; · iexact H4
    isplitl [Hh]; · iexact Hh
    isplitl [Ha]; · iexact Ha
    isplitl [HE]; · iexact HE
    isplitl [HW]; · iexact HW
    isplitl [Hhome]; · iexact Hhome
    isplitl [Hf0]; · iexact Hf0
    iexact Hf1
  iintro %u ⟨H0, ⟨H1, H2, H3⟩, H4, Hh, Ha, HE, ⟨%W', HW⟩, Hhome, Hf0, Hf1⟩
  ihave Hb := (free_join c) $$ [Hf0 Hf1]
  · isplitl [Hf0]; · iexact Hf0
    iexact Hf1
  icases Hb with ⟨Hb0, Hb1, Hb2, Hb3, Hcl⟩
  isplitl [Hb0 Hb1 Hb2 Hb3 Hcl Hh Ha HE Hg Hhome]
  · isplitl [Hb0 Hb1 Hb2 Hb3 Hh Ha HE]
    · isplitl [Hb0]; · iexact Hb0
      isplitl [Hb1]; · iexact Hb1
      isplitl [Hb2]; · iexact Hb2
      isplitl [Hb3]; · iexact Hb3
      isplitl [Hh]; · iexact Hh
      isplitl [Ha]; · iexact Ha
      iexact HE
    isplitl [Hg]; · iexact Hg
    isplitl [Hcl]; · iexact Hcl
    iexact Hhome
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  iexists _; isplitr
  swap; · iexact H4
  ipureintro; exact View.read_writes_full _ _ _ _ _

theorem defs₀_row (t : Fin cfg0.N) :
    defs₀ (F := F) .tc cfg0.body (cfg0.bodyArgs t (cfg0.slots t)) = bodyAt0 t := by
  unfold defs₀; rw [Defs.onTc_tc]

theorem body_obligation (h : IdsOK m) (c : Dev nD) : BodyObligation (dats (F := F) m 0 c) (defs₀ (F := F)) 𝒱₀ () Set.univ := fun t => by
  rw [bigSep_W0, bigSep_W0, defs₀_row]
  exact triple_restated (sound_body m h c t) rfl .rfl fun _ => .rfl

/-! ## The run -/

theorem sfx_but : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  refine Pipeline.sub_tailRefsBut _ _ _ op ((List.forall_iff_forall_mem.mp hostOps1_sub) op hop) (fun k => k.elim0) ?_
  simp only [hostOps1, List.mem_cons, List.mem_nil_iff, or_false] at hop
  rcases hop with rfl
  intro b hb
  rw [StableHlo.reshape_bufs]
  simp only [H0, Finset.mem_insert, Finset.mem_singleton] at hb
  rcases hb with rfl | rfl | rfl | rfl <;> decide

theorem hmain' : Pipeline.HMainK (Ix := Unit) (Name := ℕ) (U := UU nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

set_option backward.isDefEq.respectTransparency.types false in
/-- The program runs to its end: every array as the lines after the kernel leave it, every counter at zero. -/
theorem run_main (h : IdsOK m) : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_dma_around (Q' := _) cfgs (dats m) (0 : Fin 1) launch0 osem defs₀ 𝒱₀ ownSemFacts H0 H0_sub m ρ main
    (hbody := fun c => (body_obligation m h c).loose) (hshare := fun c => (dats m 0 c).share_full fun _ => rfl)
    (howed := fun _ _ => rfl) (V₀ := V0 m) (opss := [hostOps1]) (hsub := sfx_but) (hfresh := sfx_fresh) (hkeep := sfx_keeps)
    (hmain := hmain' m) (hA := A_eq m) (hin := fun _ => .rfl) (hout := fun _ => .rfl)

/-- A buffer that is neither an array of the kernel nor the result ends as it was when the kernel started. -/
theorem W_rest (c : Dev nD) (b : Ref sig .tc) (h : b ≠ main_v5) (hb : ∀ w, Pipeline.arrRef spec0 w ≠ b) :
    Pipeline.afterTail₀ cfgs (dats m) 0 (V0 m) [hostOps1] c b = V m c b := by
  unfold Pipeline.afterTail₀
  rw [StableHlo.after_of_forall_not_mem (b := Proc.devRef .tc b) _ _ (List.forall_iff_forall_mem.mp (by
      simp only [hostOps1, List.flatten_cons, List.flatten_nil, List.append_nil, List.cons_append, List.nil_append, List.Forall, StableHlo.reshape_writes, Finset.mem_singleton]
      exact StableHlo.devRef_ne_of_ne h)),
    Pipeline.withArrays_of_ne _ c (V0 m c) _ b hb]

/-- The program leaves its arguments as they were, and every counter at zero. -/
theorem frame (h : IdsOK m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ hr => ⟨fun c => ⟨
      ((hr.1 c).2 main_arg0 (Pipeline.mem_restRefs_of main_arg0 (by decide) (by decide))).trans ((W_rest m c main_arg0 (by decide) (by decide)).trans (V_main_arg0 m c)),
      ((hr.1 c).2 main_arg1 (Pipeline.mem_restRefs_of main_arg1 (by decide) (by decide))).trans ((W_rest m c main_arg1 (by decide) (by decide)).trans (V_main_arg1 m c)),
      ((hr.1 c).2 main_arg2 (Pipeline.mem_restRefs_of main_arg2 (by decide) (by decide))).trans ((W_rest m c main_arg2 (by decide) (by decide)).trans (V_main_arg2 m c)),
      ((hr.1 c).2 main_arg3 (Pipeline.mem_restRefs_of main_arg3 (by decide) (by decide))).trans ((W_rest m c main_arg3 (by decide) (by decide)).trans (V_main_arg3 m c)),
      ((hr.1 c).2 main_arg4 (Pipeline.mem_restRefs_of main_arg4 (by decide) (by decide))).trans ((W_rest m c main_arg4 (by decide) (by decide)).trans (V_main_arg4 m c)),
      ((hr.1 c).2 main_arg5 (Pipeline.mem_restRefs_of main_arg5 (by decide) (by decide))).trans ((W_rest m c main_arg5 (by decide) (by decide)).trans (V_main_arg5 m c)),
      ((hr.1 c).2 main_arg6 (Pipeline.mem_restRefs_of main_arg6 (by decide) (by decide))).trans ((W_rest m c main_arg6 (by decide) (by decide)).trans (V_main_arg6 m c))⟩, hr.2⟩) (run_main m ρ h)

end Cert.Proof.Ideal

end
-- ==== Proof.Frames.lean ====
/- The frames: the kernel's in its two forms, and the reference's. -/
module

public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.Pre
public import proofs.«01_k».proof.Proof.Ideal.Launch

@[expose] public section

noncomputable section

namespace Cert.Proof

open Idealize.ShloMosaic Idealize.ShloMosaic.TcCoe Idealize.SL.Sem

attribute [local instance] Cert.Kernel.Gen.facts Cert.KernelIdeal.Gen.facts Cert.ReferenceIdeal.Gen.facts
  Cert.Pre_ids_in_range.Gen.facts Cert.Pre_ids_distinct.Gen.facts

variable {F : FTy → Type} [FloatOps F]

set_option maxRecDepth 100000 in
/-- The kernel and its ideal print are one program: what the one does the other does. -/
theorem run_eq (s) (Q) : θ_run (Cert.Kernel.defs (F := F)) (onTc (τ := Cert.Kernel.τ) (Cert.Kernel.main (F := F))) s Q
    = (θ_run (Cert.KernelIdeal.defs (F := F)) (onTc (τ := Cert.KernelIdeal.τ) (Cert.KernelIdeal.main (F := F))) s Q : Prop) := by
  sl_kernel_rfl

theorem frame_kernel : Cert.quiescent_Kernel := fun m g hpre => by
  rw [run_eq]
  exact Ideal.frame (F := Bits) m g fun c j => Pre.in_range _ _ _ _ _ _ _ (hpre c) j

theorem frame_ideal : Cert.quiescent_KernelIdeal := fun m g hpre =>
  Ideal.frame (F := Ideal) m g fun c j => Pre.in_range _ _ _ _ _ _ _ (hpre c) j

theorem frame_ideal_distinct : Cert.quiescent_KernelIdeal_pre_ids_distinct := fun m g hpre =>
  Ideal.frame (F := Ideal) m g fun c j => (Pre.distinct _ _ _ _ _ _ _ (hpre c)).1 j

/-- The reference runs from any memory. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

theorem frame_reference_distinct : Cert.quiescent_ReferenceIdeal_pre_ids_distinct := fun m g _ => frame_reference m g trivial

end Cert.Proof

end
-- ==== Proof.Spec.lean ====
/-
  The layer as plain mathematics: an expert's weights unpacked, its hidden layer, its output, and the sum over a token's experts.
-/
module

public import Idealize.ShloMosaic.Lib.Pointwise
public import proofs.«01_k».proof.Proof.Gen.KernelIdeal

@[expose] public section

noncomputable section

namespace Cert.Proof.Spec

open Cert.KernelIdeal
open Idealize.ShloMosaic

/-- The number of row `r` in its byte: the low four bits for an even row, the high four for an odd one, read as a signed number. -/
def code (p : BitVec 8) (r : ℕ) : BitVec 32 :=
  if r % 2 < 1 then IntOp.shrsi .vector (IntOp.shli .vector (p.setWidth 32) 28#32) 28#32
  else IntOp.shrsi .vector (IntOp.shli .vector (p.setWidth 32) 24#32) 28#32

/-- One weight: its number times the scale of its 128 rows. -/
def weight (p : BitVec 8) (s : EReal) (r : ℕ) : EReal := FloatOps.sitofp (F := Ideal) .bf16 (code p r) * s

/-- The arrays the layer reads. -/
structure Arrays where
  x : Fin 24 → Fin 2816 → EReal
  id : Fin 24 → Fin 6 → BitVec 32
  w : Fin 24 → Fin 6 → EReal
  gu : S32x1408x2816.Idx → BitVec 8
  sgu : S32x22x2816.Idx → EReal
  dn : S32x704x2816.Idx → BitVec 8
  sdn : S32x11x2816.Idx → EReal

variable (A : Arrays)

def wIn (e : Fin 32) (q n : Fin 2816) : EReal :=
  weight (A.gu (ix3 e ⟨q.val / 2, by omega⟩ n)) (A.sgu (ix3 e ⟨q.val / 128, by omega⟩ n)) q.val
def wOut (e : Fin 32) (q : Fin 1408) (n : Fin 2816) : EReal :=
  weight (A.dn (ix3 e ⟨q.val / 2, by omega⟩ n)) (A.sdn (ix3 e ⟨q.val / 128, by omega⟩ n)) q.val
def lin (e : Fin 32) (t : Fin 24) (n : Fin 2816) : EReal := ∑ q, A.x t q * wIn A e q n
/-- The hidden layer: the gate times its logistic, times the up projection. -/
def hid (e : Fin 32) (t : Fin 24) (n : Fin 1408) : EReal :=
  lin A e t ⟨n.val, by omega⟩ * Ideal.logistic (lin A e t ⟨n.val, by omega⟩) * lin A e t ⟨1408 + n.val, by omega⟩
/-- Expert `e`'s output for token `t`. -/
def out (e : Fin 32) (t : Fin 24) (n : Fin 2816) : EReal := ∑ q, hid A e t q * wOut A e q n

/-- The weight a token gives expert `e`, over its six places. -/
def cw (e : Fin 32) (t : Fin 24) : EReal := ∑ k, if (A.id t k).toNat = e.val then A.w t k else 0
/-- Whether a token asks for expert `e`. -/
def asks (e : Fin 32) (t : Fin 24) : Prop := ∃ k, (A.id t k).toNat = e.val

open Classical in
/-- What expert `e` adds to a token: its output times the token's weight, for a token that asks for it. -/
def share (e : Fin 32) (t : Fin 24) (n : Fin 2816) : EReal := if asks A e t then out A e t n * cw A e t else 0
/-- The expert a token names at place `k`. -/
def expert (t : Fin 24) (k : Fin 6) : Fin 32 := ⟨(A.id t k).toNat % 32, Nat.mod_lt _ (by decide)⟩
/-- The layer's result: over a token's six places, the named expert's output times the place's weight. -/
def result (t : Fin 24) (n : Fin 2816) : EReal := ∑ k, out A (expert A t k) t n * A.w t k

variable {A} (hlt : ∀ t k, (A.id t k).toNat < 32) (hd : ∀ t k l, A.id t k = A.id t l → k = l)
include hlt hd

theorem share_eq (e : Fin 32) (t : Fin 24) (n : Fin 2816) : share A e t n = ∑ k, if expert A t k = e then out A e t n * A.w t k else 0 := by
  have he : ∀ k, expert A t k = e ↔ (A.id t k).toNat = e.val := fun k => by
    rw [Fin.ext_iff]
    show (A.id t k).toNat % 32 = e.val ↔ _
    rw [Nat.mod_eq_of_lt (hlt t k)]
  unfold share
  by_cases h : asks A e t
  · rw [if_pos h]
    obtain ⟨k, hk⟩ := h
    have huniq : ∀ l, (A.id t l).toNat = e.val ↔ l = k := fun l => ⟨fun hl => hd t l k (BitVec.eq_of_toNat_eq (hl.trans hk.symm)), fun hl => hl ▸ hk⟩
    unfold cw
    simp only [he, huniq, Finset.sum_ite_eq', Finset.mem_univ, if_true]
  · rw [if_neg h]
    exact (Finset.sum_eq_zero fun k _ => if_neg fun hk => h ⟨k, (he k).mp hk⟩).symm

/-- The experts' shares add up to the layer's result. -/
theorem sum_share (t : Fin 24) (n : Fin 2816) : ∑ e, share A e t n = result A t n := by
  simp only [share_eq hlt hd]
  rw [Finset.sum_comm]
  unfold result
  refine Finset.sum_congr rfl fun k _ => ?_
  rw [Finset.sum_ite_eq]
  simp

omit hd in
/-- A list of different experts that has every expert a token asks for adds up the same. -/
theorem sum_list (ex : ℕ → Fin 32) (L : ℕ) (hinj : ∀ i < L, ∀ j < L, ex i = ex j → i = j) (t : Fin 24) (n : Fin 2816)
    (hall : ∀ e, asks A e t → ∃ j < L, ex j = e) : ∑ j ∈ Finset.range L, share A (ex j) t n = ∑ e, share A e t n := by
  rw [← Finset.sum_image (f := fun e => share A e t n) (s := Finset.range L) (g := ex)
    (fun i hi j hj h => hinj i (Finset.mem_range.mp hi) j (Finset.mem_range.mp hj) h)]
  refine Finset.sum_subset (Finset.subset_univ _) fun e _ he => ?_
  unfold share
  rw [if_neg]
  intro ha
  obtain ⟨j, hj, rfl⟩ := hall e ha
  exact he (Finset.mem_image.mpr ⟨j, Finset.mem_range.mpr hj, rfl⟩)
end Cert.Proof.Spec
-- ==== Proof.RefValue.lean ====
/-
  The reference read at an index: what the layer's result is as plain mathematics.
-/
module

public import proofs.«01_k».proof.Proof.Spec
public import proofs.«01_k».proof.Proof.Gen.ReferenceIdeal.Read

@[expose] public section

noncomputable section

namespace Cert.Proof.Ref

open Cert.ReferenceIdeal Cert.ReferenceIdeal.Gen Cert.ReferenceIdeal.Read
open Idealize.ShloMosaic Idealize.ShloMosaic.TcCoe
open Cert.Proof

local notation "𝕀" => Idealize.ShloMosaic.Ideal

/-- The low four bits of a byte, read as a signed number: minus 16 from eight on, or shifted up and down again. -/
theorem low_code : ∀ p : BitVec 8, Scalar.select (IntOp.cmpi .sge (IntOp.andi (p.setWidth 32) 15#32) 8#32) (IntOp.subi (IntOp.andi (p.setWidth 32) 15#32) 16#32) (IntOp.andi (p.setWidth 32) 15#32)
    = IntOp.shrsi .vector (IntOp.shli .vector (p.setWidth 32) 28#32) 28#32 := by decide +kernel
/-- The high four bits likewise. -/
theorem high_code : ∀ p : BitVec 8, Scalar.select (IntOp.cmpi .sge (IntOp.shrsi .host (p.setWidth 32) 4#32) 8#32) (IntOp.subi (IntOp.shrsi .host (p.setWidth 32) 4#32) 16#32) (IntOp.shrsi .host (p.setWidth 32) 4#32)
    = IntOp.shrsi .vector (IntOp.shli .vector (p.setWidth 32) 24#32) 28#32 := by decide +kernel

theorem code_eq (p : BitVec 8) (r r' : ℕ) (h : r' % 2 = r % 2) :
    Scalar.select (IntOp.cmpi .sge (if r' % 2 < 1 then IntOp.andi (p.setWidth 32) 15#32 else IntOp.shrsi .host (p.setWidth 32) 4#32) 8#32)
      (IntOp.subi (if r' % 2 < 1 then IntOp.andi (p.setWidth 32) 15#32 else IntOp.shrsi .host (p.setWidth 32) 4#32) 16#32)
      (if r' % 2 < 1 then IntOp.andi (p.setWidth 32) 15#32 else IntOp.shrsi .host (p.setWidth 32) 4#32) = Spec.code p r := by
  unfold Spec.code
  rw [h]
  split
  · exact low_code p
  · exact high_code p

/-- The gate and up weights of the reference. -/
theorem v18_apply (x3 : S32x1408x2816.Idx → BitVec 8) (x4 : S32x22x2816.Idx → EReal) (e : Fin 32) (q n : Fin 2816) :
    val_main_v18 (F := 𝕀) x3 x4 (ix3 e q n) = Spec.weight (x3 (ix3 e ⟨q.val / 2, by omega⟩ n)) (x4 (ix3 e ⟨q.val / 128, by omega⟩ n)) q.val := by
  pointwise [val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_c, val_main_c_0, val_main_c_1, val_main_c_2]
  have hq : (⟨q.val / 128 * 64 + q.val % 128 / 2, by omega⟩ : Fin 1408) = ⟨q.val / 2, by omega⟩ := Fin.ext (by show q.val / 128 * 64 + q.val % 128 / 2 = q.val / 2; omega)
  simp only [hq, dite_eq_ite]
  rw [code_eq _ q.val _ (by omega)]
  rfl
/-- Its down weights. -/
theorem v44_apply (x5 : S32x704x2816.Idx → BitVec 8) (x6 : S32x11x2816.Idx → EReal) (e : Fin 32) (q : Fin 1408) (n : Fin 2816) :
    val_main_v44 (F := 𝕀) x5 x6 (ix3 e q n) = Spec.weight (x5 (ix3 e ⟨q.val / 2, by omega⟩ n)) (x6 (ix3 e ⟨q.val / 128, by omega⟩ n)) q.val := by
  pointwise [val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_c_5, val_main_c_6, val_main_c_7, val_main_c_8]
  have hq : (⟨q.val / 128 * 64 + q.val % 128 / 2, by omega⟩ : Fin 704) = ⟨q.val / 2, by omega⟩ := Fin.ext (by show q.val / 128 * 64 + q.val % 128 / 2 = q.val / 2; omega)
  simp only [hq, dite_eq_ite]
  rw [code_eq _ q.val _ (by omega)]
  rfl

/-! ## The experts' weights taken by id -/

abbrev expDims (N P Q : Nat) (wf : GatherDims.WF ⟨3, ![N, P, Q]⟩ ⟨4, ![24, 1, 6, 1]⟩ ⟨5, ![24, 1, 6, P, Q]⟩ [3, 4] [0] [] [0] [] 3 ![1, P, Q]) :
    GatherDims ⟨3, ![N, P, Q]⟩ ⟨4, ![24, 1, 6, 1]⟩ ⟨5, ![24, 1, 6, P, Q]⟩ where
  offsetDims := [3, 4]
  collapsedSliceDims := [0]
  operandBatchingDims := []
  startIndicesBatchingDims := []
  startIndexMap := [0]
  indexVectorDim := 3
  sliceSizes := ![1, P, Q]
  wf := wf

theorem gather_exp {α : Type} {N P Q : Nat} (hN : 0 < N) (wf : GatherDims.WF ⟨3, ![N, P, Q]⟩ ⟨4, ![24, 1, 6, 1]⟩ ⟨5, ![24, 1, 6, P, Q]⟩ [3, 4] [0] [] [0] [] 3 ![1, P, Q])
    (x : (⟨3, ![N, P, Q]⟩ : Shape).Idx → α) (idx : IVec ⟨4, ![24, 1, 6, 1]⟩ 32) (t : Fin 24) (k : Fin 6) (p : Fin P) (q : Fin Q) (e : Fin N)
    (he : e.val = min (idx (ix4 t 0 k 0)).toInt.toNat (N - 1)) :
    Host.gather (expDims N P Q wf) x idx (ix5 t 0 k p q) = x (ix3 e p q) := by
  have hb : min (idx (ix4 t 0 k 0)).toInt.toNat (N - 1) < N := by clear he; omega
  obtain rfl : e = ⟨min (idx (ix4 t 0 k 0)).toInt.toNat (N - 1), hb⟩ := Fin.ext he
  unfold Host.gather
  congr 1
  funext a
  refine Fin.ext ?_
  show (expDims N P Q wf).start _ idx a + (expDims N P Q wf).batchCoord _ a + (expDims N P Q wf).offCoord _ a = _
  rw [GatherDims.batchCoord_eq_zero _ _ _ List.not_mem_nil]
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 3) ∈ (expDims N P Q wf).startIndexMap from List.mem_singleton.mpr rfl)]
    have hsi : (expDims N P Q wf).siIdx (ix5 t 0 k p q) ⟨List.idxOf (0 : Fin 3) (expDims N P Q wf).startIndexMap,
        List.idxOf_lt_length_iff.2 (List.mem_singleton.mpr rfl)⟩ = ix4 t 0 k 0 := by
      funext b; refine Fin.ext ?_
      match b with
      | ⟨0, _⟩ => rfl
      | ⟨1, _⟩ => rfl
      | ⟨2, _⟩ => rfl
      | ⟨3, _⟩ => rfl
    rw [hsi]
    rfl
  · unfold GatherDims.start
    rw [dif_neg (show (1 : Fin 3) ∉ (expDims N P Q wf).startIndexMap from fun h => by simp at h)]
    unfold GatherDims.offCoord
    rw [dif_pos (show (1 : Fin 3) ∈ (expDims N P Q wf).sKept from (GatherDims.mem_sKept _ _).mpr ⟨fun h => by simp at h, fun h => by simp at h⟩)]
    simp only [Nat.zero_add]
    rfl
  · unfold GatherDims.start
    rw [dif_neg (show (2 : Fin 3) ∉ (expDims N P Q wf).startIndexMap from fun h => by simp at h)]
    unfold GatherDims.offCoord
    rw [dif_pos (show (2 : Fin 3) ∈ (expDims N P Q wf).sKept from (GatherDims.mem_sKept _ _).mpr ⟨fun h => by simp at h, fun h => by simp at h⟩)]
    simp only [Nat.zero_add]
    rfl

theorem fold_id (w y : BitVec 32) (h : w.toNat < 32) : Scalar.select (IntOp.cmpi .slt w 0#32) y w = w := by
  have hi : w.toInt = w.toNat := BitVec.toInt_eq_toNat_of_lt (by omega)
  have hs : w.slt 0#32 = false := by
    rw [BitVec.slt, hi]
    simp
  simp [Scalar.select, IntOp.cmpi, hs]
theorem id_start (w : BitVec 32) (h : w.toNat < 32) : w.toNat % 32 = min w.toInt.toNat (32 - 1) := by
  have hi : w.toInt = w.toNat := BitVec.toInt_eq_toNat_of_lt (by omega)
  rw [hi]; simp; omega

/-- An id in range stays as it is where the reference folds negative ones back. -/
theorem v24_apply (x1 : S24x1x6.Idx → BitVec 32) (h : ∀ j, (x1 j).toNat < 32) (t : Fin 24) (k : Fin 6) : val_main_v24 (F := 𝕀) x1 (ix4 t 0 k 0) = x1 (ix3 t 0 k) := by
  pointwise [val_main_v24, val_main_v23, val_main_v22, val_main_v21, val_main_v20, val_main_v19, val_main_c_3, val_main_c_4]
  exact fold_id _ _ (h _)
theorem v50_apply (x1 : S24x1x6.Idx → BitVec 32) (h : ∀ j, (x1 j).toNat < 32) (t : Fin 24) (k : Fin 6) : val_main_v50 (F := 𝕀) x1 (ix4 t 0 k 0) = x1 (ix3 t 0 k) := by
  pointwise [val_main_v50, val_main_v49, val_main_v48, val_main_v47, val_main_v46, val_main_v45, val_main_c_9, val_main_c_10]
  exact fold_id _ _ (h _)

section Args
variable (x0 : S24x1x2816.Idx → EReal) (x1 : S24x1x6.Idx → BitVec 32) (x2 : S24x1x6.Idx → EReal) (x3 : S32x1408x2816.Idx → BitVec 8) (x4 : S32x22x2816.Idx → EReal)
  (x5 : S32x704x2816.Idx → BitVec 8) (x6 : S32x11x2816.Idx → EReal)
/-- The layer's arrays, of the program's seven arguments. -/
def arrays : Spec.Arrays where
  x t q := x0 (ix3 t 0 q)
  id t k := x1 (ix3 t 0 k)
  w t k := x2 (ix3 t 0 k)
  gu := x3
  sgu := x4
  dn := x5
  sdn := x6

variable (h : ∀ j, (x1 j).toNat < 32)
include h
theorem v25_apply (t : Fin 24) (k : Fin 6) (q n : Fin 2816) :
    val_main_v25 (F := 𝕀) x1 x3 x4 (ix5 t 0 k q n) = Spec.wIn (arrays x0 x1 x2 x3 x4 x5 x6) (Spec.expert (arrays x0 x1 x2 x3 x4 x5 x6) t k) q n := by
  unfold val_main_v25
  refine (gather_exp (by decide) gather_S32x2816x2816_S24x1x6x1_S24x1x6x2816x2816_34_0_n_n_0_3_128162816.wf _ _ t k q n
    (Spec.expert (arrays x0 x1 x2 x3 x4 x5 x6) t k) (by rw [v24_apply x1 h]; exact id_start _ (h _))).trans ?_
  rw [v18_apply]
  rfl
theorem v51_apply (t : Fin 24) (k : Fin 6) (q : Fin 1408) (n : Fin 2816) :
    val_main_v51 (F := 𝕀) x1 x5 x6 (ix5 t 0 k q n) = Spec.wOut (arrays x0 x1 x2 x3 x4 x5 x6) (Spec.expert (arrays x0 x1 x2 x3 x4 x5 x6) t k) q n := by
  unfold val_main_v51
  refine (gather_exp (by decide) gather_S32x1408x2816_S24x1x6x1_S24x1x6x1408x2816_34_0_n_n_0_3_114082816.wf _ _ t k q n
    (Spec.expert (arrays x0 x1 x2 x3 x4 x5 x6) t k) (by rw [v50_apply x1 h]; exact id_start _ (h _))).trans ?_
  rw [v44_apply]
  rfl

/-! ## The layers -/

theorem v52_apply (t : Fin 24) (k : Fin 6) (n : Fin 2816) :
    val_main_v52 (F := 𝕀) x0 x1 x3 x4 (ix4 t 0 k n) = Spec.lin (arrays x0 x1 x2 x3 x4 x5 x6) (Spec.expert (arrays x0 x1 x2 x3 x4 x5 x6) t k) t n := by
  pointwise [val_main_v52]
  exact Finset.sum_congr rfl fun q _ => by rw [v25_apply x0 x1 x2 x3 x4 x5 x6 h]; rfl
theorem v57_apply (t : Fin 24) (k : Fin 6) (n : Fin 1408) :
    val_main_v57 (F := 𝕀) x0 x1 x3 x4 (ix4 t 0 k n) = Spec.hid (arrays x0 x1 x2 x3 x4 x5 x6) (Spec.expert (arrays x0 x1 x2 x3 x4 x5 x6) t k) t n := by
  pointwise [val_main_v57, val_main_v56, val_main_v55, val_main_v54, val_main_v53, val_main_call2_v0, val_main_call2_v1, val_main_call2_v2, val_main_call2_v3, val_main_call2_v4, val_main_call2_v5, val_main_call2_cst, val_main_call2_cst_0]
  rw [v52_apply x0 x1 x2 x3 x4 x5 x6 h, v52_apply x0 x1 x2 x3 x4 x5 x6 h]
  rfl
/-- The reference's result is the layer's. -/
theorem v63_apply (t : Fin 24) (n : Fin 2816) :
    val_main_v63 (F := 𝕀) x0 x1 x2 x3 x4 x5 x6 (ix3 t 0 n) = Spec.result (arrays x0 x1 x2 x3 x4 x5 x6) t n := by
  pointwise [val_main_v63, val_main_v62, val_main_v61, val_main_v60, val_main_v59, val_main_v58, val_main_cst]
  refine Finset.sum_congr rfl fun k _ => ?_
  refine congrArg (· * _) (Finset.sum_congr rfl fun q _ => ?_)
  rw [v57_apply x0 x1 x2 x3 x4 x5 x6 h, v51_apply x0 x1 x2 x3 x4 x5 x6 h]
end Args

end Cert.Proof.Ref
-- ==== Proof.Ideal.Blocks.lean ====
/-
  One trip in closed form: the blocks of weights it reads out of its slot, the eleven blocks of its hidden layer, and the
  eleven blocks it adds to the accumulator.
-/
module
public import proofs.«01_k».proof.Proof.Ideal.Launch
public import Idealize.ShloMosaic.Lib.Pointwise
public import Idealize.ShloMosaic.Lib.ValueLayout
@[expose] public section
noncomputable section
namespace Cert.Proof.Ideal
open Cert.KernelIdeal Cert.KernelIdeal.Gen
open Idealize.ShloMosaic
open Idealize.ShloMosaic.TcCoe Idealize.ShloMosaic.Tactic
open Idealize.SL Idealize.SL.Sem

variable {F : FTy → Type} [FloatOps F]

section TripVal
variable {c : Dev nD} (X : Weights F c)
  (arg1 : Memref sig .tc .vmem S24x2816 .bf16) (arg2 : Memref sig .tc .vmem S24x6 .i32) (arg3 : Memref sig .tc .vmem S24x6 .f32)
  (v : BitVec 32) (hw : k0_chk3 v) (B : Blocks arg1 arg2 arg3 F c) (ex : ℕ → Fin 32) (k : Fin (k0_t3_loop v).trips)

/-- Where a load out of trip `k`'s slot starts, columns from `a` on, as the program computes it. -/
abbrev boxOff (a : Nat) : Fin 3 → Nat := ![(Scalar.indexCast (Scalar.remsi (Scf.iv 0#32 1#32 k.val) 2#32)).toNat, 0, a]

theorem boxOff_inb {P Q : Fin 3 → Nat} (a : Nat) (h : ∀ s : Fin 2, ∀ i, slotOff s a i + P i ≤ Q i) : ∀ i, boxOff v k a i + P i ≤ Q i := by
  rw [show boxOff v k a = slotOff (Ring.sl 2 k.val) a from slot_box v k a]; exact h _

theorem slot_inb {n w a : Nat} (h : a + w ≤ 2816) (s : Fin 2) : ∀ i, slotOff s a i + (![1, n, w] : Fin 3 → Nat) i ≤ (![2, n, 2816] : Fin 3 → Nat) i := by
  have := s.isLt
  intro i; fin_cases i <;> simp [slotOff] <;> omega

abbrev guV (a : Nat) (h : a + 128 ≤ 2816) : Vec F S1x1408x128 .i8 :=
  View.readAt (Elt F) guB.view (Rect.unit (s := S2x1408x2816) (boxOff v k a) S1x1408x128.size (boxOff_inb v k a (slot_inb h))).toLoadRect
    ((guS (Ring.sl 2 k.val)).view.writes (Elt F) (guS (Ring.sl 2 k.val)).view.junk [⟨Rect.whole S1408x2816, guLoad X (ex k.val)⟩])
abbrev sguV (a : Nat) (h : a + 128 ≤ 2816) : Vec F S1x22x128 .bf16 :=
  View.readAt (Elt F) sguB.view (Rect.unit (s := S2x22x2816) (boxOff v k a) S1x22x128.size (boxOff_inb v k a (slot_inb h))).toLoadRect
    ((sguS (Ring.sl 2 k.val)).view.writes (Elt F) (sguS (Ring.sl 2 k.val)).view.junk [⟨Rect.whole S22x2816, sguLoad X (ex k.val)⟩])
abbrev dnV (a : Nat) (h : a + 256 ≤ 2816) : Vec F S1x704x256 .i8 :=
  View.readAt (Elt F) dnB.view (Rect.unit (s := S2x704x2816) (boxOff v k a) S1x704x256.size (boxOff_inb v k a (slot_inb h))).toLoadRect
    ((dnS (Ring.sl 2 k.val)).view.writes (Elt F) (dnS (Ring.sl 2 k.val)).view.junk [⟨Rect.whole S704x2816, dnLoad X (ex k.val)⟩])
abbrev sdnV (a : Nat) (h : a + 256 ≤ 2816) : Vec F S1x11x256 .bf16 :=
  View.readAt (Elt F) sdnB.view (Rect.unit (s := S2x11x2816) (boxOff v k a) S1x11x256.size (boxOff_inb v k a (slot_inb h))).toLoadRect
    ((sdnS (Ring.sl 2 k.val)).view.writes (Elt F) (sdnS (Ring.sl 2 k.val)).view.junk [⟨Rect.whole S11x2816, sdnLoad X (ex k.val)⟩])

theorem casts_1ab (a b : Nat) : (⟨3, ![1, a, b]⟩ : Shape).ShapeCasts ⟨2, ![a, b]⟩ := by
  simp [Shape.ShapeCasts, Shape.numel, Fin.prod_univ_succ]

theorem slot_read {n w a : Nat} {e : EltTy} (M : Memref sig .tc .vmem ⟨3, ![2, n, 2816]⟩ e) (s : Fin 2) (hin) (hs) (hq)
    (hc : (⟨3, ![1, n, 2816]⟩ : Shape).ShapeCasts ⟨2, ![n, 2816]⟩)
    (ha : a + w ≤ 2816) {off : Fin 3 → Nat} (he : off = slotOff s a) (hin') (f : M.view.ty.Contents (Elt F)) (u : Fin 1) (p : Fin n) (q : Fin w) :
    View.readAt (Elt F) M.view (Rect.unit (s := ⟨3, ![2, n, 2816]⟩) off ![1, n, w] hin').toLoadRect f (ix3 u p q)
      = ((M.slice (Rect.unit (s := ⟨3, ![2, n, 2816]⟩) (slotOff s 0) ![1, n, 2816] hin) hs).squeeze ⟨2, ![n, 2816]⟩ hq).view.read (Elt F) f
          (ix2 p ⟨a + q.val, by omega⟩) := by
  subst he
  rw [Memref.read_squeeze_slice M _ hs hq hc]
  refine Eq.trans ?_ (ValueIdx.shapeCast_1ab_ab_apply _ hc _ _).symm
  refine congrArg (M.view.read (Elt F) f) ?_
  funext i
  have hu : u.val = 0 := by omega
  apply Fin.ext
  match i with
  | ⟨0, _⟩ => show s.val + 1 * u.val = s.val + 1 * 0; omega
  | ⟨1, _⟩ => show 0 + 1 * p.val = 0 + 1 * p.val; rfl
  | ⟨2, _⟩ => show a + 1 * q.val = 0 + 1 * (a + q.val); omega

theorem guV_apply (a : Nat) (h : a + 128 ≤ 2816) (u : Fin 1) (p : Fin 1408) (q : Fin 128) :
    guV X v ex k a h (ix3 u p q) = guLoad X (ex k.val) (ix2 p ⟨a + q.val, by omega⟩) := by
  refine (slot_read guB (Ring.sl 2 k.val) (guS_inb _) (fun _ => rfl) squeezes_S1x1408x2816_S1408x2816 (casts_1ab _ _) h (slot_box v k a) _ _ u p q).trans ?_
  exact congrFun (View.read_writes_whole (guS (Ring.sl 2 k.val)).view _ _) _
theorem sguV_apply (a : Nat) (h : a + 128 ≤ 2816) (u : Fin 1) (p : Fin 22) (q : Fin 128) :
    sguV X v ex k a h (ix3 u p q) = sguLoad X (ex k.val) (ix2 p ⟨a + q.val, by omega⟩) := by
  refine (slot_read sguB (Ring.sl 2 k.val) (sguS_inb _) (fun _ => rfl) squeezes_S1x22x2816_S22x2816 (casts_1ab _ _) h (slot_box v k a) _ _ u p q).trans ?_
  exact congrFun (View.read_writes_whole (sguS (Ring.sl 2 k.val)).view _ _) _
theorem dnV_apply (a : Nat) (h : a + 256 ≤ 2816) (u : Fin 1) (p : Fin 704) (q : Fin 256) :
    dnV X v ex k a h (ix3 u p q) = dnLoad X (ex k.val) (ix2 p ⟨a + q.val, by omega⟩) := by
  refine (slot_read dnB (Ring.sl 2 k.val) (dnS_inb _) (fun _ => rfl) squeezes_S1x704x2816_S704x2816 (casts_1ab _ _) h (slot_box v k a) _ _ u p q).trans ?_
  exact congrFun (View.read_writes_whole (dnS (Ring.sl 2 k.val)).view _ _) _
theorem sdnV_apply (a : Nat) (h : a + 256 ≤ 2816) (u : Fin 1) (p : Fin 11) (q : Fin 256) :
    sdnV X v ex k a h (ix3 u p q) = sdnLoad X (ex k.val) (ix2 p ⟨a + q.val, by omega⟩) := by
  refine (slot_read sdnB (Ring.sl 2 k.val) (sdnS_inb _) (fun _ => rfl) squeezes_S1x11x2816_S11x2816 (casts_1ab _ _) h (slot_box v k a) _ _ u p q).trans ?_
  exact congrFun (View.read_writes_whole (sdnS (Ring.sl 2 k.val)).view _ _) _

/-- One expert's block of an array over experts, as the array holds it. -/
theorem exp_read {n : Nat} {e : EltTy} (M : Memref sig .tc .hbm ⟨3, ![32, n, 2816]⟩ e) (b : Fin 32) (hin) (hs) (hq) (f : M.view.ty.Contents (Elt F)) (p : Fin n) (q : Fin 2816) :
    ((M.slice (Rect.unit (s := ⟨3, ![32, n, 2816]⟩) (expOff b) ![1, n, 2816] hin) hs).squeeze ⟨2, ![n, 2816]⟩ hq).view.read (Elt F) f (ix2 p q)
      = M.view.read (Elt F) f (ix3 b p q) := by
  rw [Memref.read_squeeze_slice M _ hs hq (casts_1ab _ _)]
  refine (ValueIdx.shapeCast_1ab_ab_apply _ (casts_1ab _ _) _ _).trans ?_
  refine congrArg (M.view.read (Elt F) f) ?_
  funext i
  apply Fin.ext
  match i with
  | ⟨0, _⟩ => show b.val + 1 * 0 = b.val; rfl
  | ⟨1, _⟩ => show 0 + 1 * p.val = p.val; omega
  | ⟨2, _⟩ => show 0 + 1 * q.val = q.val; omega

theorem guLoad_apply (b : Fin 32) (p : Fin 1408) (q : Fin 2816) : guLoad X b (ix2 p q) = X.gu (ix3 b p q) :=
  exp_read guA b (guE_inb b) (fun _ => rfl) squeezes_S1x1408x2816_S1408x2816 X.gu p q
theorem sguLoad_apply (b : Fin 32) (p : Fin 22) (q : Fin 2816) : sguLoad X b (ix2 p q) = X.sgu (ix3 b p q) :=
  exp_read sguA b (sguE_inb b) (fun _ => rfl) squeezes_S1x22x2816_S22x2816 X.sgu p q
theorem dnLoad_apply (b : Fin 32) (p : Fin 704) (q : Fin 2816) : dnLoad X b (ix2 p q) = X.dn (ix3 b p q) :=
  exp_read dnA b (dnE_inb b) (fun _ => rfl) squeezes_S1x704x2816_S704x2816 X.dn p q
theorem sdnLoad_apply (b : Fin 32) (p : Fin 11) (q : Fin 2816) : sdnLoad X b (ix2 p q) = X.sdn (ix3 b p q) :=
  exp_read sdnA b (sdnE_inb b) (fun _ => rfl) squeezes_S1x11x2816_S11x2816 X.sdn p q

/-! ## The blocks a trip writes -/

/-- One block of 128 columns of the expert's hidden layer: two blocks of packed weights and their scales, gate and up. -/
def hPay (x : FVec F S24x2816 .bf16) (pg : Vec F S1x1408x128 .i8) (sg : Vec F S1x22x128 .bf16) (pu : Vec F S1x1408x128 .i8) (su : Vec F S1x22x128 .bf16) : FVec F S24x128 .bf16 :=
  k0_pay13 x (k0_pay14 pg sg) (k0_pay12 pu su)

def xV : FVec F S24x2816 .bf16 := k0_pay6 (View.readAt (Elt F) arg1.view (Rect.unit ![0, 0] S24x2816.size inb_S24x2816_S24x2816_0_0).toLoadRect B.x)
def cwV : FVec F S24x1 .f32 := k0_pay4 (F := F) (wordOf (ex k.val)) (View.readAt (Elt F) arg2.view (Rect.unit ![0, 0] S24x6.size inb_S24x6_S24x6_0_0).toLoadRect B.ids) (View.readAt (Elt F) arg3.view (Rect.unit ![0, 0] S24x6.size inb_S24x6_S24x6_0_0).toLoadRect B.rw)
def selV : IVec S24x1 1 := k0_pay5 (F := F) (wordOf (ex k.val)) (View.readAt (Elt F) arg2.view (Rect.unit ![0, 0] S24x6.size inb_S24x6_S24x6_0_0).toLoadRect B.ids)

theorem hcol_inb (d : Fin 11) : ∀ i, (![0, 128 * d.val] : Fin 2 → Nat) i + S24x128.size i ≤ S24x1408.size i := by revert d; decide
theorem ocol_inb (d : Fin 11) : ∀ i, (![0, 256 * d.val] : Fin 2 → Nat) i + S24x256.size i ≤ S24x2816.size i := by revert d; decide

def hPiece (d : Fin 11) : View.Piece (Elt F) S24x1408 .bf16 :=
  ⟨Rect.unit (s := S24x1408) ![0, 128 * d.val] S24x128.size (hcol_inb d),
    hPay (xV arg1 arg2 arg3 B) (guV X v ex k (128 * d.val) (by omega)) (sguV X v ex k (128 * d.val) (by omega))
      (guV X v ex k (1408 + 128 * d.val) (by omega)) (sguV X v ex k (1408 + 128 * d.val) (by omega))⟩

def hList : List (View.Piece (Elt F) S24x1408 .bf16) :=
  [10, 9, 8, 7, 6, 5, 4, 3, 2, 1, 0].map (hPiece X arg1 arg2 arg3 v B ex k)

set_option maxHeartbeats 4000000 in
theorem hList_eq : tripRun.sl.Hh_11 X arg1 arg2 arg3 v hw B ex k = hList X arg1 arg2 arg3 v B ex k := by
  unfold tripRun.sl.Hh_11 hList
  simp only [List.map_cons, List.map_nil]
  refine congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ rfl))))))))))
  all_goals rfl

/-- The expert's hidden layer, its eleven blocks put together. -/
def hV : Vec F S24x1408 .bf16 :=
  hA.view.readCov (hList X arg1 arg2 arg3 v B ex k) (Rect.unit ![0, 0] S24x1408.size inb_S24x1408_S24x1408_0_0).toLoadRect

theorem hV_eq : tripRun.sl.v764 X arg1 arg2 arg3 v hw B ex k = hV X arg1 arg2 arg3 v B ex k := by
  unfold tripRun.sl.v764 hV
  rw [hList_eq]

variable (fa : Buf (Elt F) (accA.view.loc (c : Thread nD τ)))

def oPiece (d : Fin 11) : View.Piece (Elt F) S24x2816 .f32 :=
  ⟨Rect.unit (s := S24x2816) ![0, 256 * d.val] S24x256.size (ocol_inb d),
    k0_pay59 (cwV arg1 arg2 arg3 v B ex k) (selV arg1 arg2 arg3 v B ex k) (hV X arg1 arg2 arg3 v B ex k) (dnV X v ex k (256 * d.val) (by omega)) (sdnV X v ex k (256 * d.val) (by omega))
      (View.readAt (Elt F) accA.view (Rect.unit (s := S24x2816) ![0, 256 * d.val] S24x256.size (ocol_inb d)).toLoadRect fa)⟩
def oList : List (View.Piece (Elt F) S24x2816 .f32) :=
  [10, 9, 8, 7, 6, 5, 4, 3, 2, 1, 0].map (oPiece X arg1 arg2 arg3 v B ex k fa)

variable (arg0 : Memref sig .tc .smem S144 .i32) (harg0 : arg0.IsWhole) (harg1 : arg1.IsWhole) (harg2 : arg2.IsWhole) (harg3 : arg3.IsWhole)
  (arg8 : Memref sig .tc .vmem S24x2816 .bf16) (harg8 : arg8.IsWhole)

set_option maxHeartbeats 4000000 in
theorem oList_eq : (tripRun X arg0 harg0 arg1 harg1 arg2 harg2 arg3 harg3 arg8 harg8 v hw B ex k fa).1 = oList X arg1 arg2 arg3 v B ex k fa := by
  unfold tripRun oList
  dsimp only [List.map_cons, List.map_nil]
  simp only [tripRun.sl.r_38, tripRun.sl.r_39, tripRun.sl.r_47, tripRun.sl.r_48, hV_eq]
  refine congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ rfl))))))))))
  all_goals rfl
end TripVal
end Cert.Proof.Ideal
-- ==== Proof.Ideal.TripValue.lean ====
/-
  What one trip adds to the accumulator: its expert's output for every token that asks for it, times the token's weight.
-/
module

public import proofs.«01_k».proof.Proof.Ideal.Blocks
public import proofs.«01_k».proof.Proof.Spec

@[expose] public section

noncomputable section

namespace Cert.Proof.Ideal

open Cert.KernelIdeal Cert.KernelIdeal.Gen
open Idealize.ShloMosaic
open Idealize.ShloMosaic.TcCoe Idealize.ShloMosaic.Tactic
open Idealize.SL Idealize.SL.Sem

local notation "𝕀" => Idealize.ShloMosaic.Ideal

theorem pay14_apply (p : Vec 𝕀 S1x1408x128 .i8) (s : Vec 𝕀 S1x22x128 .bf16) (q : Fin 2816) (n : Fin 128) :
    k0_pay14 p s (ix2 q n) = Spec.weight (p (ix3 0 ⟨q.val / 2, by omega⟩ n)) (s (ix3 0 ⟨q.val / 128, by omega⟩ n)) q.val := by
  pointwise [k0_pay14]
  rfl
theorem pay12_apply (p : Vec 𝕀 S1x1408x128 .i8) (s : Vec 𝕀 S1x22x128 .bf16) (q : Fin 2816) (n : Fin 128) :
    k0_pay12 p s (ix3 ⟨q.val / 128, by omega⟩ ⟨q.val % 128, by omega⟩ n)
      = Spec.weight (p (ix3 0 ⟨q.val / 2, by omega⟩ n)) (s (ix3 0 ⟨q.val / 128, by omega⟩ n)) q.val := by
  have h : k0_pay12 p s (ix3 ⟨q.val / 128, by omega⟩ ⟨q.val % 128, by omega⟩ n) = k0_pay14 p s (ix2 q n) := by
    pointwise [k0_pay12, k0_pay14]
  rw [h, pay14_apply]
theorem pay13_apply (x : FVec 𝕀 S24x2816 .bf16) (g : FVec 𝕀 S2816x128 .bf16) (u : FVec 𝕀 S22x128x128 .bf16) (t : Fin 24) (n : Fin 128) :
    k0_pay13 x g u (ix2 t n) = (∑ q, x (ix2 t q) * g (ix2 q n)) * Ideal.logistic (∑ q, x (ix2 t q) * g (ix2 q n))
      * ∑ q : Fin 2816, x (ix2 t q) * u (ix3 ⟨q.val / 128, by omega⟩ ⟨q.val % 128, by omega⟩ n) := by
  pointwise [k0_pay13]
theorem pay59_apply (cw : FVec 𝕀 S24x1 .f32) (sel : IVec S24x1 1) (h : Vec 𝕀 S24x1408 .bf16) (p : Vec 𝕀 S1x704x256 .i8) (s : Vec 𝕀 S1x11x256 .bf16) (a : Vec 𝕀 S24x256 .f32) (t : Fin 24) (n : Fin 256) :
    k0_pay59 cw sel h p s a (ix2 t n) = a (ix2 t n) + Scalar.select (sel (ix2 t 0))
      ((∑ q : Fin 1408, h (ix2 t q) * Spec.weight (p (ix3 0 ⟨q.val / 2, by omega⟩ n)) (s (ix3 0 ⟨q.val / 128, by omega⟩ n)) q.val) * cw (ix2 t 0)) 0 := by
  pointwise [k0_pay59]
  rfl
theorem pay4_apply (e : BitVec 32) (id : Vec 𝕀 S24x6 .i32) (w : Vec 𝕀 S24x6 .f32) (t : Fin 24) :
    k0_pay4 (F := 𝕀) e id w (ix2 t 0) = ∑ k, Scalar.select (IntOp.cmpi .eq (id (ix2 t k)) e) (w (ix2 t k)) 0 := by
  pointwise [k0_pay4, k0_pay3]
theorem pay5_apply (e : BitVec 32) (id : Vec 𝕀 S24x6 .i32) (t : Fin 24) :
    k0_pay5 (F := 𝕀) e id (ix2 t 0) = BitVec.ofBool (decide ((0 : EReal) < ∑ k : Fin 6, Scalar.select (IntOp.cmpi .eq (id (ix2 t k)) e) 1 0)) := by
  pointwise [k0_pay5, k0_pay3]

/-- A select by a comparison with expert `b`'s word. -/
theorem select_eq {α : Type} (w : BitVec 32) (b : Fin 32) (x y : α) : Scalar.select (IntOp.cmpi .eq w (wordOf b)) x y = if w.toNat = b.val then x else y := by
  have h : (w = wordOf b) ↔ w.toNat = b.val := by
    refine ⟨fun h => ?_, wordOf_eq w b⟩
    rw [h]; unfold wordOf; rw [BitVec.toNat_ofNat, Nat.mod_eq_of_lt (b.isLt.trans (by decide))]
  simp only [Scalar.select, IntOp.cmpi]
  by_cases hw : w.toNat = b.val
  · rw [if_pos hw, h.mpr hw]; simp
  · have hn : w ≠ wordOf b := fun e => hw (h.mp e)
    simp [beq_eq_false_iff_ne.mpr hn, hw]

/-- Where column `n` of a block of columns lies. -/
theorem col_emb {M W a : Nat} (inb : ∀ i, (![0, a] : Fin 2 → Nat) i + (![24, W] : Fin 2 → Nat) i ≤ (⟨2, ![24, M]⟩ : Shape).size i) (t : Fin 24) (n : Fin W) (h : a + n.val < M) :
    (Rect.unit (s := ⟨2, ![24, M]⟩) ![0, a] ![24, W] inb).emb (ix2 t n) = ix2 t ⟨a + n.val, h⟩ := by
  funext i
  refine Fin.ext ?_
  show (![0, a] : Fin 2 → Nat) i + 1 * _ = _
  match i with
  | ⟨0, _⟩ => show 0 + 1 * t.val = t.val; omega
  | ⟨1, _⟩ => show a + 1 * n.val = a + n.val; omega
theorem col_mem {M W a : Nat} (inb : ∀ i, (![0, a] : Fin 2 → Nat) i + (![24, W] : Fin 2 → Nat) i ≤ (⟨2, ![24, M]⟩ : Shape).size i) (t : Fin 24) (n : Fin M) (h : a ≤ n.val) (h' : n.val < a + W) :
    (ix2 t n : (⟨2, ![24, M]⟩ : Shape).Idx) ∈ (Rect.unit (s := ⟨2, ![24, M]⟩) ![0, a] ![24, W] inb).set := by
  rw [Rect.mem_set_unit]
  intro i
  match i with
  | ⟨0, _⟩ => show 0 ≤ t.val ∧ t.val < 0 + 24; omega
  | ⟨1, _⟩ => exact ⟨h, h'⟩

theorem all_ix2 {n0 n1 : Nat} (P : (⟨2, ![n0, n1]⟩ : Shape).Idx → Prop) (h : ∀ t n, P (ix2 t n)) (x : (⟨2, ![n0, n1]⟩ : Shape).Idx) : P x := by
  rw [eq_ix2 x]; exact h _ _

section TripVal
variable {c : Dev nD} (X : Weights 𝕀 c)
  (arg1 : Memref sig .tc .vmem S24x2816 .bf16) (arg2 : Memref sig .tc .vmem S24x6 .i32) (arg3 : Memref sig .tc .vmem S24x6 .f32)
  (v : BitVec 32) (hw : k0_chk3 v) (B : Blocks arg1 arg2 arg3 𝕀 c) (ex : ℕ → Fin 32) (k : Fin (k0_t3_loop v).trips)
  (A : Spec.Arrays)

/-- The trip's blocks and the weights hold the layer's arrays. -/
structure Holds : Prop where
  x : ∀ t q, View.readAt (Elt 𝕀) arg1.view (Rect.unit ![0, 0] S24x2816.size inb_S24x2816_S24x2816_0_0).toLoadRect B.x (ix2 t q) = A.x t q
  id : ∀ t k, View.readAt (Elt 𝕀) arg2.view (Rect.unit ![0, 0] S24x6.size inb_S24x6_S24x6_0_0).toLoadRect B.ids (ix2 t k) = A.id t k
  w : ∀ t k, View.readAt (Elt 𝕀) arg3.view (Rect.unit ![0, 0] S24x6.size inb_S24x6_S24x6_0_0).toLoadRect B.rw (ix2 t k) = A.w t k
  gu : X.gu = A.gu
  sgu : X.sgu = A.sgu
  dn : X.dn = A.dn
  sdn : X.sdn = A.sdn
variable {X arg1 arg2 arg3 B A} (H : Holds X arg1 arg2 arg3 B A)
include H

theorem xV_apply (t : Fin 24) (q : Fin 2816) : xV arg1 arg2 arg3 B (ix2 t q) = A.x t q := by
  unfold xV
  pointwise [k0_pay6]
  exact H.x t q
theorem cwV_apply (t : Fin 24) : cwV arg1 arg2 arg3 v B ex k (ix2 t 0) = Spec.cw A (ex k.val) t := by
  unfold cwV Spec.cw
  rw [pay4_apply]
  refine Finset.sum_congr rfl fun j _ => ?_
  rw [select_eq, H.id, H.w]
theorem selV_apply {α : Type} (t : Fin 24) (x y : α) [Decidable (Spec.asks A (ex k.val) t)] : Scalar.select (selV arg1 arg2 arg3 v B ex k (ix2 t 0)) x y = if Spec.asks A (ex k.val) t then x else y := by
  unfold selV
  rw [pay5_apply]
  have hs : ((0 : EReal) < ∑ j : Fin 6, Scalar.select (IntOp.cmpi .eq (View.readAt (Elt 𝕀) arg2.view (Rect.unit ![0, 0] S24x6.size inb_S24x6_S24x6_0_0).toLoadRect B.ids (ix2 t j)) (wordOf (ex k.val))) 1 0) ↔ Spec.asks A (ex k.val) t := by
    simp only [select_eq, H.id]
    unfold Spec.asks
    constructor
    · intro h
      by_contra hn
      push Not at hn
      simp [hn] at h
    · rintro ⟨j, hj⟩
      refine lt_of_lt_of_le zero_lt_one ?_
      refine le_trans (le_of_eq ?_) (Finset.single_le_sum (f := fun j => if (A.id t j).toNat = (ex k.val).val then (1 : EReal) else 0) (fun i _ => ?_) (Finset.mem_univ j))
      · simp [hj]
      · split <;> simp
  by_cases ha : Spec.asks A (ex k.val) t
  · rw [if_pos ha, decide_eq_true (hs.mpr ha)]; simp [Scalar.select]
  · rw [if_neg ha, decide_eq_false (fun h => ha (hs.mp h))]; simp [Scalar.select]

theorem gate_apply (a : Nat) (h : a + 128 ≤ 2816) (q : Fin 2816) (n : Fin 128) :
    Spec.weight (guV X v ex k a h (ix3 0 ⟨q.val / 2, by omega⟩ n)) (sguV X v ex k a h (ix3 0 ⟨q.val / 128, by omega⟩ n)) q.val
      = Spec.wIn A (ex k.val) q ⟨a + n.val, by omega⟩ := by
  rw [guV_apply, sguV_apply, guLoad_apply, sguLoad_apply, H.gu, H.sgu]; rfl
theorem lin_apply (a : Nat) (h : a + 128 ≤ 2816) (t : Fin 24) (n : Fin 128) :
    (∑ q : Fin 2816, A.x t q * Spec.weight (guV X v ex k a h (ix3 0 ⟨q.val / 2, by omega⟩ n)) (sguV X v ex k a h (ix3 0 ⟨q.val / 128, by omega⟩ n)) q.val)
      = Spec.lin A (ex k.val) t ⟨a + n.val, by omega⟩ :=
  Finset.sum_congr rfl fun q _ => by rw [gate_apply v ex k H]
theorem down_apply (a : Nat) (h : a + 256 ≤ 2816) (q : Fin 1408) (n : Fin 256) :
    Spec.weight (dnV X v ex k a h (ix3 0 ⟨q.val / 2, by omega⟩ n)) (sdnV X v ex k a h (ix3 0 ⟨q.val / 128, by omega⟩ n)) q.val
      = Spec.wOut A (ex k.val) q ⟨a + n.val, by omega⟩ := by
  rw [dnV_apply, sdnV_apply, dnLoad_apply, sdnLoad_apply, H.dn, H.sdn]; rfl

theorem hPiece_apply (d : Fin 11) (t : Fin 24) (n : Fin 128) :
    (hPiece X arg1 arg2 arg3 v B ex k d).2 (ix2 t n) = Spec.hid A (ex k.val) t ⟨128 * d.val + n.val, by omega⟩ := by
  unfold hPiece hPay
  dsimp only
  rw [pay13_apply]
  simp only [pay14_apply, pay12_apply, xV_apply H]
  rw [lin_apply v ex k H, lin_apply v ex k H]
  unfold Spec.hid
  simp only [Nat.add_assoc]

/-- The hidden layer the trip reads back is the expert's. -/
theorem hV_apply (t : Fin 24) (n : Fin 1408) : hV X arg1 arg2 arg3 v B ex k (ix2 t n) = Spec.hid A (ex k.val) t n := by
  unfold hV
  rw [View.readCov_eq_canon']
  show View.canon _ ((Rect.unit ![0, 0] S24x1408.size inb_S24x1408_S24x1408_0_0).emb (ix2 t n)) = _
  have hi : (Rect.unit ![0, 0] S24x1408.size inb_S24x1408_S24x1408_0_0).emb (ix2 t n) = (ix2 t n : S24x1408.Idx) :=
    (col_emb (M := 1408) inb_S24x1408_S24x1408_0_0 t n (by omega)).trans (congrArg (ix2 t) (Fin.ext (by simp)))
  rw [hi]
  refine (View.canon_apply_of_pieces (fun y : S24x1408.Idx => Spec.hid A (ex k.val) (y 0) (y 1)) (hList X arg1 arg2 arg3 v B ex k) ?_ (ix2 t n) ?_).trans rfl
  · intro p hp x
    obtain ⟨d, -, rfl⟩ := List.mem_map.mp hp
    have key : ∀ (t : Fin 24) (n : Fin 128), (hPiece X arg1 arg2 arg3 v B ex k d).2 (ix2 t n : S24x128.Idx)
        = (fun y : S24x1408.Idx => Spec.hid A (ex k.val) (y 0) (y 1)) ((Rect.unit (s := S24x1408) ![0, 128 * d.val] S24x128.size (hcol_inb d)).emb (ix2 t n)) := fun t n => by
      refine (hPiece_apply v ex k H d t n).trans ?_
      exact (congrArg (fun y : S24x1408.Idx => Spec.hid A (ex k.val) (y 0) (y 1)) (col_emb (M := 1408) (hcol_inb d) t n (by omega))).symm
    exact all_ix2 (n0 := 24) (n1 := 128) (fun x : S24x128.Idx => (hPiece X arg1 arg2 arg3 v B ex k d).2 x
      = (fun y : S24x1408.Idx => Spec.hid A (ex k.val) (y 0) (y 1)) ((Rect.unit (s := S24x1408) ![0, 128 * d.val] S24x128.size (hcol_inb d)).emb x)) key x
  · refine ⟨_, List.mem_map.mpr ⟨⟨n.val / 128, by omega⟩, ?_, rfl⟩, col_mem (M := 1408) (hcol_inb _) t n ?_ ?_⟩
    · generalize (⟨n.val / 128, by omega⟩ : Fin 11) = d; revert d; decide
    · show 128 * (n.val / 128) ≤ _; omega
    · show _ < 128 * (n.val / 128) + 128; omega

open Classical in
set_option maxHeartbeats 1000000 in
theorem oPiece_apply (fa : Buf (Elt 𝕀) (accA.view.loc (c : Thread nD τ))) (d : Fin 11) (t : Fin 24) (n : Fin 256) :
    (oPiece X arg1 arg2 arg3 v B ex k fa d).2 (ix2 t n) = accA.view.read (Elt 𝕀) fa (ix2 t ⟨256 * d.val + n.val, by omega⟩)
      + if Spec.asks A (ex k.val) t then Spec.out A (ex k.val) t ⟨256 * d.val + n.val, by omega⟩ * Spec.cw A (ex k.val) t else 0 := by
  have ha : (View.readAt (Elt 𝕀) accA.view (Rect.unit (s := S24x2816) ![0, 256 * d.val] S24x256.size (ocol_inb d)).toLoadRect fa) (ix2 t n)
      = accA.view.read (Elt 𝕀) fa (ix2 t ⟨256 * d.val + n.val, by omega⟩) :=
    congrArg (accA.view.read (Elt 𝕀) fa) (col_emb (M := 2816) (ocol_inb d) t n (by omega))
  refine (pay59_apply (cwV arg1 arg2 arg3 v B ex k) (selV arg1 arg2 arg3 v B ex k) (hV X arg1 arg2 arg3 v B ex k) (dnV X v ex k (256 * d.val) (by omega)) (sdnV X v ex k (256 * d.val) (by omega)) _ t n).trans ?_
  rw [ha, selV_apply v ex k H, cwV_apply v ex k H]
  unfold Spec.out
  rw [Finset.sum_congr rfl fun q _ => by rw [hV_apply v ex k H, down_apply v ex k H]]

omit H in
open Classical in
variable (A) in
/-- The accumulator with expert `e`'s share added. -/
def accAfter (e : Fin 32) (fa : Buf (Elt 𝕀) (accA.view.loc (c : Thread nD τ))) (y : S24x2816.Idx) : EReal :=
  accA.view.read (Elt 𝕀) fa (ix2 (y 0) (y 1)) + if Spec.asks A e (y 0) then Spec.out A e (y 0) (y 1) * Spec.cw A e (y 0) else 0

open Classical in
/-- The accumulator after a trip. -/
theorem trip_apply (fa : Buf (Elt 𝕀) (accA.view.loc (c : Thread nD τ))) (t : Fin 24) (n : Fin 2816) :
    accA.view.read (Elt 𝕀) (accA.view.writes (Elt 𝕀) fa (oList X arg1 arg2 arg3 v B ex k fa)) (ix2 t n) = accA.view.read (Elt 𝕀) fa (ix2 t n)
      + if Spec.asks A (ex k.val) t then Spec.out A (ex k.val) t n * Spec.cw A (ex k.val) t else 0 := by
  refine (View.read_writes_apply_of_pieces accA.view fa (accAfter A (ex k.val) fa) _ ?_ (ix2 t n) ?_).trans rfl
  · intro p hp x
    obtain ⟨d, -, rfl⟩ := List.mem_map.mp hp
    have key : ∀ (t : Fin 24) (n : Fin 256), (oPiece X arg1 arg2 arg3 v B ex k fa d).2 (ix2 t n : S24x256.Idx)
        = accAfter A (ex k.val) fa ((Rect.unit (s := S24x2816) ![0, 256 * d.val] S24x256.size (ocol_inb d)).emb (ix2 t n)) := fun t n => by
      refine (oPiece_apply v ex k H fa d t n).trans ?_
      exact (congrArg (accAfter A (ex k.val) fa) (col_emb (M := 2816) (ocol_inb d) t n (by omega))).symm
    exact all_ix2 (n0 := 24) (n1 := 256) (fun x : S24x256.Idx => (oPiece X arg1 arg2 arg3 v B ex k fa d).2 x
      = accAfter A (ex k.val) fa ((Rect.unit (s := S24x2816) ![0, 256 * d.val] S24x256.size (ocol_inb d)).emb x)) key x
  · refine ⟨_, List.mem_map.mpr ⟨⟨n.val / 256, by omega⟩, ?_, rfl⟩, col_mem (M := 2816) (ocol_inb _) t n ?_ ?_⟩
    · generalize (⟨n.val / 256, by omega⟩ : Fin 11) = d; revert d; decide
    · show 256 * (n.val / 256) ≤ _; omega
    · show _ < 256 * (n.val / 256) + 256; omega

end TripVal
end Cert.Proof.Ideal
-- ==== Proof.Ideal.KernelValue.lean ====
/-
  The kernel body's result: the sum, over the experts it runs, of what each adds to a token.
-/
module
public import proofs.«01_k».proof.Proof.Ideal.TripValue
@[expose] public section
noncomputable section
namespace Cert.Proof.Ideal
open Cert.KernelIdeal Cert.KernelIdeal.Gen
open Idealize.ShloMosaic
open Idealize.ShloMosaic.TcCoe Idealize.ShloMosaic.Tactic
open Idealize.SL Idealize.SL.Sem
local notation "𝕀" => Idealize.ShloMosaic.Ideal

theorem pay1_apply (y : S24x2816.Idx) : k0_pay1 (F := 𝕀) y = 0 := by
  rw [eq_ix2 (n0 := 24) (n1 := 2816) y]
  pointwise [k0_pay1]
theorem pay2_apply (a : Vec 𝕀 S24x2816 .f32) (t : Fin 24) (n : Fin 2816) : k0_pay2 a (ix2 t n) = a (ix2 t n) := by
  pointwise [k0_pay2]

theorem acc0_apply {c : Dev nD} (t : Fin 24) (n : Fin 2816) : accA.view.read (Elt 𝕀) (acc0 c) (ix2 t n) = (0 : EReal) := by
  unfold acc0
  refine View.read_writes_apply_of_pieces (Val := Elt 𝕀) accA.view _ (fun _ : S24x2816.Idx => (0 : EReal)) _ ?_ (ix2 t n) ⟨_, List.mem_singleton.mpr rfl, ?_⟩
  · intro p hp x
    obtain rfl := List.mem_singleton.mp hp
    exact pay1_apply x
  · exact col_mem (M := 2816) (W := 2816) (a := 0) inb_S24x2816_S24x2816_0_0 t n (Nat.zero_le _) (by omega)

section Body
variable {c : Dev nD} {X : Weights 𝕀 c}
  (arg0 : Memref sig .tc .smem S144 .i32) (harg0 : arg0.IsWhole) {arg1 : Memref sig .tc .vmem S24x2816 .bf16} (harg1 : arg1.IsWhole) {arg2 : Memref sig .tc .vmem S24x6 .i32} (harg2 : arg2.IsWhole) {arg3 : Memref sig .tc .vmem S24x6 .f32} (harg3 : arg3.IsWhole)
  (arg8 : Memref sig .tc .vmem S24x2816 .bf16) (harg8 : arg8.IsWhole)
  {B : Blocks arg1 arg2 arg3 𝕀 c} (m : BitVec 32) {A : Spec.Arrays} (H : Holds X arg1 arg2 arg3 B A)
include H

/-- The accumulator before trip `k` is the sum of the shares of the experts of the trips before it. -/
theorem accAt_apply (t : Fin 24) (n : Fin 2816) (k : ℕ) (hk : k ≤ (act m).length) :
    accA.view.read (Elt 𝕀) (accAt X arg0 harg0 arg1 harg1 arg2 harg2 arg3 harg3 arg8 harg8 B m (acc0 c) k) (ix2 t n)
      = ∑ j ∈ Finset.range k, Spec.share A (exAt m j) t n := by
  induction k with
  | zero =>
    rw [Finset.range_zero, Finset.sum_empty, accAt]
    exact acc0_apply t n
  | succ k ih =>
    have hk' : k < (k0_t3_loop (cnt m)).trips := by rw [cnt_trips]; omega
    rw [accAt, dif_pos hk', oList_eq, trip_apply (cnt m) (exAt m) ⟨k, hk'⟩ H, ih (by omega), Finset.sum_range_succ]
    rfl

/-- The kernel's result is the sum of the shares of the experts it runs. -/
theorem outAt_apply (t : Fin 24) (n : Fin 2816) :
    outAt X arg0 harg0 arg1 harg1 arg2 harg2 arg3 harg3 arg8 harg8 B m (ix2 t n) = ∑ j ∈ Finset.range (act m).length, Spec.share A (exAt m j) t n := by
  unfold outAt
  rw [pay2_apply]
  refine Eq.trans ?_ (accAt_apply arg0 harg0 harg1 harg2 harg3 arg8 harg8 m H t n _ le_rfl)
  exact congrArg (accA.view.read (Elt 𝕀) _) ((col_emb (M := 2816) inb_S24x2816_S24x2816_0_0 t n (by omega)).trans (congrArg (ix2 t) (Fin.ext (by simp))))

end Body

/-- The experts the kernel runs are different, and every set bit is among them. -/
theorem exAt_inj (m : BitVec 32) : ∀ i < (act m).length, ∀ j < (act m).length, exAt m i = exAt m j → i = j := by
  intro i hi j hj h
  have h' := congrArg Fin.val h
  rw [exAt_val m hi, exAt_val m hj] at h'
  exact (List.Nodup.getElem_inj_iff (act_nodup m)).mp h'
theorem exAt_all (m : BitVec 32) (e : Fin 32) (h : m.getLsbD e = true) : ∃ j < (act m).length, exAt m j = e := by
  obtain ⟨j, hj, he⟩ := List.getElem_of_mem ((mem_act m e.val).mpr ⟨e.isLt, h⟩)
  exact ⟨j, hj, Fin.ext ((exAt_val m hj).trans he)⟩
end Cert.Proof.Ideal
-- ==== Proof.Ideal.RunValue.lean ====
/-
  The value of the run: the kernel's windows hold the layer's arrays, so what it leaves in its result array is the layer's result.
-/
module
public import proofs.«01_k».proof.Proof.Ideal.KernelValue
public import Idealize.ShloMosaic.Lib.Pipeline.ValueKit
@[expose] public section
noncomputable section
namespace Cert.Proof.Ideal
open Cert.KernelIdeal Cert.KernelIdeal.Gen
open Idealize.ShloMosaic
open Idealize.ShloMosaic.TcCoe Idealize.ShloMosaic.Tactic
open Idealize.SL Idealize.SL.Sem
open Idealize.ShloMosaic.Pipeline (Dat Cfg Window BodyObligation cellOf)
local notation "𝕀" => Idealize.ShloMosaic.Ideal

theorem cast_x (y : FVec 𝕀 S24x1x2816 .bf16) (t : Fin 24) (q : Fin 2816) : shapeCast S24x2816 y shapeCasts_S24x1x2816_S24x2816 (ix2 t q) = y (ix3 t 0 q) := by
  pointwise
theorem cast_out (y : FVec 𝕀 S24x2816 .bf16) (t : Fin 24) (q : Fin 2816) : shapeCast S24x1x2816 y shapeCasts_S24x2816_S24x1x2816 (ix3 t 0 q) = y (ix2 t q) := by
  pointwise

variable (m : (ℓ : Loc nD τ sig) → Buf (Elt 𝕀) ℓ) (ρ : Dev nD → PrngReg) (c : Dev nD)

theorem V_v3 (t : Fin 24) (q : Fin 2816) : V m c main_v3 (ix2 t q) = m ((c : Thread nD τ).loc main_arg0) (ix3 t 0 q) := by
  have e : V m c main_v3 = shapeCast S24x2816 (m ((c : Thread nD τ).loc main_arg0)) shapeCasts_S24x1x2816_S24x2816 := by
    show StableHlo.after hostOps0 _ (Proc.devRef .tc main_v3) = _
    after_results
    rfl
  rw [e]
  exact cast_x _ t q
theorem V_v0 (t : Fin 24) (q : Fin 6) : V m c main_v0 (ix2 t q) = m ((c : Thread nD τ).loc main_arg1) (ix3 t 0 q) := by
  have e : V m c main_v0 = shapeCast S24x6 (m ((c : Thread nD τ).loc main_arg1)) shapeCasts_S24x1x6_S24x6 := by
    show StableHlo.after hostOps0 _ (Proc.devRef .tc main_v0) = _
    after_results
    rfl
  rw [e]
  generalize m ((c : Thread nD τ).loc main_arg1) = y
  pointwise
theorem V_v1 (t : Fin 24) (q : Fin 6) : V m c main_v1 (ix2 t q) = m ((c : Thread nD τ).loc main_arg2) (ix3 t 0 q) := by
  have e : V m c main_v1 = shapeCast S24x6 (m ((c : Thread nD τ).loc main_arg2)) shapeCasts_S24x1x6_S24x6 := by
    show StableHlo.after hostOps0 _ (Proc.devRef .tc main_v1) = _
    after_results
    rfl
  rw [e]
  generalize m ((c : Thread nD τ).loc main_arg2) = y
  pointwise
theorem V_v2 (t : Fin 24) (q : Fin 6) : V m c main_v2 (ix1 ⟨6 * t.val + q.val, by omega⟩) = m ((c : Thread nD τ).loc main_arg1) (ix3 t 0 q) := by
  have e : V m c main_v2 = shapeCast S144 (shapeCast S24x6 (m ((c : Thread nD τ).loc main_arg1)) shapeCasts_S24x1x6_S24x6) shapeCasts_S24x6_S144 := by
    show StableHlo.after hostOps0 _ (Proc.devRef .tc main_v2) = _
    after_results
    rfl
  rw [e]
  generalize m ((c : Thread nD τ).loc main_arg1) = y
  pointwise

theorem index0 : ∀ t a, win0_0.index t a = 0 := by decide +kernel
theorem index1 : ∀ t a, win0_1.index t a = 0 := by decide +kernel
theorem index2 : ∀ t a, win0_2.index t a = 0 := by decide +kernel
theorem index3 : ∀ t a, win0_3.index t a = 0 := by decide +kernel

theorem iblk0_apply (t : Fin cfg0.N) (y : S144.Idx) : iblk m c 0 t y = V m c main_v2 y := by
  blk_simp [iblk]
  refine congrArg (V m c main_v2) (funext fun a => Fin.ext ?_)
  blk_simp
  rw [index0, Nat.zero_mul, Nat.zero_add]
theorem iblk1_apply (t : Fin cfg0.N) (y : S24x2816.Idx) : iblk m c 1 t y = V m c main_v3 y := by
  blk_simp [iblk]
  refine congrArg (V m c main_v3) (funext fun a => Fin.ext ?_)
  blk_simp
  rw [index1, Nat.zero_mul, Nat.zero_add]
theorem iblk2_apply (t : Fin cfg0.N) (y : S24x6.Idx) : iblk m c 2 t y = V m c main_v0 y := by
  blk_simp [iblk]
  refine congrArg (V m c main_v0) (funext fun a => Fin.ext ?_)
  blk_simp
  rw [index2, Nat.zero_mul, Nat.zero_add]
theorem iblk3_apply (t : Fin cfg0.N) (y : S24x6.Idx) : iblk m c 3 t y = V m c main_v1 y := by
  blk_simp [iblk]
  refine congrArg (V m c main_v1) (funext fun a => Fin.ext ?_)
  blk_simp
  rw [index3, Nat.zero_mul, Nat.zero_add]

/-- The layer's arrays, as the memory holds them. -/
def layer : Spec.Arrays where
  x t q := m ((c : Thread nD τ).loc main_arg0) (ix3 t 0 q)
  id t k := m ((c : Thread nD τ).loc main_arg1) (ix3 t 0 k)
  w t k := m ((c : Thread nD τ).loc main_arg2) (ix3 t 0 k)
  gu := m ((c : Thread nD τ).loc main_arg3)
  sgu := m ((c : Thread nD τ).loc main_arg4)
  dn := m ((c : Thread nD τ).loc main_arg5)
  sdn := m ((c : Thread nD τ).loc main_arg6)

theorem holds (t : Fin cfg0.N) : Holds (wts m c) (st0_1 t) (st0_2 t) (st0_3 t) (blks m c t) (layer m c) where
  x t' q := by
    rw [blks_x]
    exact (congrFun (View.readAt_rep_full _ _ _) _).trans ((iblk1_apply m c t _).trans (V_v3 m c t' q))
  id t' q := by
    rw [blks_ids]
    exact (congrFun (View.readAt_rep_full _ _ _) _).trans ((iblk2_apply m c t _).trans (V_v0 m c t' q))
  w t' q := by
    rw [blks_rw]
    exact (congrFun (View.readAt_rep_full _ _ _) _).trans ((iblk3_apply m c t _).trans (V_v1 m c t' q))
  gu := V_main_arg3 m c
  sgu := V_main_arg4 m c
  dn := V_main_arg5 m c
  sdn := V_main_arg6 m c

theorem idl_apply (t : Fin cfg0.N) (t' : Fin 24) (k : Fin 6) : idl m c t (6 * t'.val + k.val) = (layer m c).id t' k := by
  unfold idl idw
  rw [View.read_rep]
  refine (iblk0_apply m c t _).trans (Eq.trans (congrArg (V m c main_v2) (funext fun a => Fin.ext ?_)) (V_v2 m c t' k))
  fin_cases a
  show (6 * t'.val + k.val) % 144 = 6 * t'.val + k.val
  omega

variable (h : IdsOK m) (hd : ∀ (c : Dev nD) t k l, (layer m c).id t k = (layer m c).id t l → k = l)
include h

theorem asked (t : Fin cfg0.N) (e : Fin 32) (t' : Fin 24) (ha : Spec.asks (layer m c) e t') : (mask (idl m c t) 144).getLsbD e = true := by
  obtain ⟨k, hk⟩ := ha
  exact (mask_bit _ 144 (fun i _ => idl_lt m h c t i) e.val e.isLt).mpr ⟨6 * t'.val + k.val, by omega, by rw [idl_apply]; exact hk⟩

include hd

theorem outV_apply (t : Fin cfg0.N) (t' : Fin 24) (n : Fin 2816) : outV m c t (ix2 t' n) = Spec.result (layer m c) t' n := by
  unfold outV
  rw [outAt_apply (H := holds m c t)]
  exact (Spec.sum_list (fun t k => h c _) _ _ (exAt_inj _) t' n fun e ha => exAt_all _ e (asked m c h t e t' ha)).trans
    (Spec.sum_share (fun t k => h c _) (hd c) t' n)

theorem out_array : (dats m 0 c).arrAt 4 cfg0.N = fun j => Spec.result (layer m c) (j 0) (j 1) := by
  refine Dat.arrAt_eq_of_after_last (cfg := cfg0) (dats m 0 c) 4 ⟨0, Nat.one_pos⟩ (by decide +kernel) _ fun j => ?_
  rw [after4]
  refine (cast_eq _ _).trans ?_
  exact (congrArg (outV m c ⟨0, Nat.one_pos⟩) (funext fun a => by fin_cases a <;> rfl)).trans (outV_apply m c h hd _ (show Fin 24 from j 0) (show Fin 2816 from j 1))

theorem result_eq : Pipeline.afterTail₀ cfgs (dats m) 0 (V0 m) [hostOps1] c main_v5 = fun j => Spec.result (layer m c) (j 0) (j 2) := by
  have e : Pipeline.afterTail₀ cfgs (dats m) 0 (V0 m) [hostOps1] c main_v5 = shapeCast S24x1x2816 ((dats m 0 c).arrAt 4 cfg0.N) shapeCasts_S24x2816_S24x1x2816 := by
    unfold Pipeline.afterTail₀
    show StableHlo.after hostOps1 _ (Proc.devRef .tc main_v5) = _
    after_results
    exact congrArg (fun y => shapeCast S24x1x2816 y shapeCasts_S24x2816_S24x1x2816) (Pipeline.withArrays_arr spec0 (by decide) c (V0 m c) (fun w => (dats m 0 c).arrAt w cfg0.N) 4)
  rw [e, out_array m c h hd]
  funext j
  obtain ⟨t, z, n, rfl⟩ : ∃ t z n, j = ix3 t z n := ⟨j 0, j 1, j 2, by funext a; fin_cases a <;> rfl⟩
  obtain rfl : z = 0 := Subsingleton.elim _ _
  exact cast_out _ t n

/-- The program ends with the layer's result in its result array, and its arguments as they were. -/
theorem run_value : θ_run defs (onTc (τ := τ) (main (F := 𝕀))) ⟨m, fun _ => 0, ρ⟩ (fun r => ∀ c : Dev nD,
      r.2.mem ((c.tc : Thread nD τ).loc main_v5) = (fun j => Spec.result (layer m c) (j 0) (j 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r hr c => ⟨
    ((hr.1 c).2 main_v5 (Pipeline.mem_restRefs_of main_v5 (by decide) (by decide))).trans (result_eq m c h hd),
    ((hr.1 c).2 main_arg0 (Pipeline.mem_restRefs_of main_arg0 (by decide) (by decide))).trans ((W_rest m c main_arg0 (by decide) (by decide)).trans (V_main_arg0 m c)),
    ((hr.1 c).2 main_arg1 (Pipeline.mem_restRefs_of main_arg1 (by decide) (by decide))).trans ((W_rest m c main_arg1 (by decide) (by decide)).trans (V_main_arg1 m c)),
    ((hr.1 c).2 main_arg2 (Pipeline.mem_restRefs_of main_arg2 (by decide) (by decide))).trans ((W_rest m c main_arg2 (by decide) (by decide)).trans (V_main_arg2 m c)),
    ((hr.1 c).2 main_arg3 (Pipeline.mem_restRefs_of main_arg3 (by decide) (by decide))).trans ((W_rest m c main_arg3 (by decide) (by decide)).trans (V_main_arg3 m c)),
    ((hr.1 c).2 main_arg4 (Pipeline.mem_restRefs_of main_arg4 (by decide) (by decide))).trans ((W_rest m c main_arg4 (by decide) (by decide)).trans (V_main_arg4 m c)),
    ((hr.1 c).2 main_arg5 (Pipeline.mem_restRefs_of main_arg5 (by decide) (by decide))).trans ((W_rest m c main_arg5 (by decide) (by decide)).trans (V_main_arg5 m c)),
    ((hr.1 c).2 main_arg6 (Pipeline.mem_restRefs_of main_arg6 (by decide) (by decide))).trans ((W_rest m c main_arg6 (by decide) (by decide)).trans (V_main_arg6 m c))⟩) (run_main m ρ h)
end Cert.Proof.Ideal
-- ==== Proof.Algebraic.lean ====
/-
  The value: on ids that differ within a token, the kernel and the reference both end with the layer's result.
-/
module

public import proofs.«01_k».proof.Proof.Frames
public import proofs.«01_k».proof.Proof.RefValue
public import proofs.«01_k».proof.Proof.Ideal.RunValue

@[expose] public section

noncomputable section

namespace Cert.Proof

open Idealize.ShloMosaic Idealize.ShloMosaic.TcCoe Idealize.SL.Sem

attribute [local instance] Cert.KernelIdeal.Gen.facts Cert.ReferenceIdeal.Gen.facts Cert.Pre_ids_distinct.Gen.facts

/-- The reference's result is the layer's result of the arrays it is given. -/
theorem reference_result (m' : (ℓ : Loc Cert.ReferenceIdeal.nD Cert.ReferenceIdeal.τ Cert.ReferenceIdeal.sig) → Buf (Elt Ideal) ℓ)
    (m : (ℓ : Loc Cert.KernelIdeal.nD Cert.KernelIdeal.τ Cert.KernelIdeal.sig) → Buf (Elt Ideal) ℓ) (c : Dev Cert.KernelIdeal.nD)
    (h : Ideal.IdsOK m)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.ReferenceIdeal.Value.res_main_v63 (F := Ideal) m' c = fun j => Spec.result (Ideal.layer m c) (j 0) (j 2) := by
  rw [Cert.ReferenceIdeal.Read.val_main_v63_eq, h0, h1, h2, h3, h4, h5, h6]
  funext j
  obtain ⟨t, z, n, rfl⟩ : ∃ t z n, j = ix3 t z n := ⟨j 0, j 1, j 2, by funext a; fin_cases a <;> rfl⟩
  obtain rfl : z = 0 := Subsingleton.elim _ _
  exact Ref.v63_apply _ _ _ _ _ _ _ (h c) t n

theorem algebraic : Cert.algebraic_KernelIdeal_ReferenceIdeal_pre_ids_distinct := fun m g m' g' hpre hm => by
  have hids : Ideal.IdsOK m := fun c => (Pre.distinct _ _ _ _ _ _ _ (hpre c)).1
  have hd : ∀ (c : Dev Cert.KernelIdeal.nD) t k l, (Ideal.layer m c).id t k = (Ideal.layer m c).id t l → k = l :=
    fun c => (Pre.distinct _ _ _ _ _ _ _ (hpre c)).2
  refine ⟨fun c j => Spec.result (Ideal.layer m c) (j 0) (j 2), Ideal.run_value m g hids hd, ?_⟩
  refine (θ_run Cert.ReferenceIdeal.defs _ _).mono (fun r hr c => ?_) (Cert.ReferenceIdeal.Value.run (F := Ideal) m' g')
  obtain ⟨h0, h1, h2, h3, h4, h5, h6⟩ := hm c
  exact ⟨(hr c).1.trans (reference_result m' m c hids h0 h1 h2 h3 h4 h5 h6), (hr c).2⟩

end Cert.Proof

end
-- ==== Proof.lean ====
module

public import proofs.«01_k».proof.Defs
public import proofs.«01_k».proof.Proof.Gen.ReferenceIdeal.Read
public import proofs.«01_k».proof.Proof.Frames
public import proofs.«01_k».proof.Proof.Algebraic

@[expose] public section

noncomputable section

namespace Cert.Proof

theorem claim : Cert.Claim :=
  ⟨Cert.Kernel.Gen.facts, Cert.KernelIdeal.Gen.facts, Cert.ReferenceIdeal.Gen.facts, Cert.Pre_ids_in_range.Gen.facts,
    Cert.Pre_ids_distinct.Gen.facts, frame_kernel, frame_ideal, frame_ideal_distinct, frame_reference, frame_reference_distinct,
    trivial, algebraic⟩

end Cert.Proof

end
